-- ==== Defs.lean ====
def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_FfnRef0Ideal (m : (ℓ : Loc Cert.FfnRef0Ideal.nD Cert.FfnRef0Ideal.τ Cert.FfnRef0Ideal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_FfnRef1Ideal (m : (ℓ : Loc Cert.FfnRef1Ideal.nD Cert.FfnRef1Ideal.τ Cert.FfnRef1Ideal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_FfnRef2Ideal (m : (ℓ : Loc Cert.FfnRef2Ideal.nD Cert.FfnRef2Ideal.τ Cert.FfnRef2Ideal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_FfnRef3Ideal (m : (ℓ : Loc Cert.FfnRef3Ideal.nD Cert.FfnRef3Ideal.τ Cert.FfnRef3Ideal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_QkvRef0Ideal (m : (ℓ : Loc Cert.QkvRef0Ideal.nD Cert.QkvRef0Ideal.τ Cert.QkvRef0Ideal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_QkvRef1Ideal (m : (ℓ : Loc Cert.QkvRef1Ideal.nD Cert.QkvRef1Ideal.τ Cert.QkvRef1Ideal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_QkvRef2Ideal (m : (ℓ : Loc Cert.QkvRef2Ideal.nD Cert.QkvRef2Ideal.τ Cert.QkvRef2Ideal.sig) → Buf (Elt Ideal) ℓ) : Prop :=
  True

def Pre_Qkv3 (m : (ℓ : Loc Cert.Qkv3.nD Cert.Qkv3.τ Cert.Qkv3.sig) → Buf (Elt Bits) ℓ) : Prop :=
  True

def Pre_Qkv3Ideal (m : (ℓ : Loc Cert.Qkv3Ideal.nD Cert.Qkv3Ideal.τ Cert.Qkv3Ideal.sig) → Buf (Elt Ideal) ℓ) : Prop :=
  True

def Pre_QkvRef3Ideal (m : (ℓ : Loc Cert.QkvRef3Ideal.nD Cert.QkvRef3Ideal.τ Cert.QkvRef3Ideal.sig) → Buf (Elt Ideal) ℓ) : Prop :=
  True

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkRefIdeal (m : (ℓ : Loc Cert.ChunkRefIdeal.nD Cert.ChunkRefIdeal.τ Cert.ChunkRefIdeal.sig) → Buf (Elt Ideal) ℓ) : Prop :=
  True

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6)
      ∧ r.2.mem ((c.tc : Thread Cert.Ffn0.nD Cert.Ffn0.τ).loc Cert.Ffn0.main_arg7) = m ((c.tc : Thread Cert.Ffn0.nD Cert.Ffn0.τ).loc Cert.Ffn0.main_arg7)
      ∧ r.2.mem ((c.tc : Thread Cert.Ffn0.nD Cert.Ffn0.τ).loc Cert.Ffn0.main_arg8) = m ((c.tc : Thread Cert.Ffn0.nD Cert.Ffn0.τ).loc Cert.Ffn0.main_arg8))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
      ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8))
      ∧ r.2.sem = fun _ => 0)

def quiescent_FfnRef0Ideal [hFfnRef0Ideal : Cert.FfnRef0Ideal.Facts] : Prop :=
  ∀ (m : (ℓ : Loc Cert.FfnRef0Ideal.nD Cert.FfnRef0Ideal.τ Cert.FfnRef0Ideal.sig) → Buf (Elt Ideal) ℓ) (g : Dev Cert.FfnRef0Ideal.nD → PrngReg), Pre_FfnRef0Ideal m →
    θ_run (Cert.FfnRef0Ideal.defs (F := Ideal)) (onTc (τ := Cert.FfnRef0Ideal.τ) (Cert.FfnRef0Ideal.main (F := Ideal))) ⟨m, fun _ => 0, g⟩ (fun r => (∀ c : Dev Cert.FfnRef0Ideal.nD,
      r.2.mem ((c.tc : Thread Cert.FfnRef0Ideal.nD Cert.FfnRef0Ideal.τ).loc Cert.FfnRef0Ideal.main_arg0) = m ((c.tc : Thread Cert.FfnRef0Ideal.nD Cert.FfnRef0Ideal.τ).loc Cert.FfnRef0Ideal.main_arg0)
      ∧ r.2.mem ((c.tc : Thread Cert.FfnRef0Ideal.nD Cert.FfnRef0Ideal.τ).loc Cert.FfnRef0Ideal.main_arg1) = m ((c.tc : Thread Cert.FfnRef0Ideal.nD Cert.FfnRef0Ideal.τ).loc Cert.FfnRef0Ideal.main_arg1)
      ∧ r.2.mem ((c.tc : Thread Cert.FfnRef0Ideal.nD Cert.FfnRef0Ideal.τ).loc Cert.FfnRef0Ideal.main_arg2) = m ((c.tc : Thread Cert.FfnRef0Ideal.nD Cert.FfnRef0Ideal.τ).loc Cert.FfnRef0Ideal.main_arg2)
      ∧ r.2.mem ((c.tc : Thread Cert.FfnRef0Ideal.nD Cert.FfnRef0Ideal.τ).loc Cert.FfnRef0Ideal.main_arg3) = m ((c.tc : Thread Cert.FfnRef0Ideal.nD Cert.FfnRef0Ideal.τ).loc Cert.FfnRef0Ideal.main_arg3)
      ∧ r.2.mem ((c.tc : Thread Cert.FfnRef0Ideal.nD Cert.FfnRef0Ideal.τ).loc Cert.FfnRef0Ideal.main_arg4) = m ((c.tc : Thread Cert.FfnRef0Ideal.nD Cert.FfnRef0Ideal.τ).loc Cert.FfnRef0Ideal.main_arg4)
      ∧ r.2.mem ((c.tc : Thread Cert.FfnRef0Ideal.nD Cert.FfnRef0Ideal.τ).loc Cert.FfnRef0Ideal.main_arg5) = m ((c.tc : Thread Cert.FfnRef0Ideal.nD Cert.FfnRef0Ideal.τ).loc Cert.FfnRef0Ideal.main_arg5)
      ∧ r.2.mem ((c.tc : Thread Cert.FfnRef0Ideal.nD Cert.FfnRef0Ideal.τ).loc Cert.FfnRef0Ideal.main_arg6) = m ((c.tc : Thread Cert.FfnRef0Ideal.nD Cert.FfnRef0Ideal.τ).loc Cert.FfnRef0Ideal.main_arg6)
      ∧ r.2.mem ((c.tc : Thread Cert.FfnRef0Ideal.nD Cert.FfnRef0Ideal.τ).loc Cert.FfnRef0Ideal.main_arg7) = m ((c.tc : Thread Cert.FfnRef0Ideal.nD Cert.FfnRef0Ideal.τ).loc Cert.FfnRef0Ideal.main_arg7)
      ∧ r.2.mem ((c.tc : Thread Cert.FfnRef0Ideal.nD Cert.FfnRef0Ideal.τ).loc Cert.FfnRef0Ideal.main_arg8) = m ((c.tc : Thread Cert.FfnRef0Ideal.nD Cert.FfnRef0Ideal.τ).loc Cert.FfnRef0Ideal.main_arg8))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ r.2.sem = fun _ => 0)

def quiescent_FfnRef1Ideal [hFfnRef1Ideal : Cert.FfnRef1Ideal.Facts] : Prop :=
  ∀ (m : (ℓ : Loc Cert.FfnRef1Ideal.nD Cert.FfnRef1Ideal.τ Cert.FfnRef1Ideal.sig) → Buf (Elt Ideal) ℓ) (g : Dev Cert.FfnRef1Ideal.nD → PrngReg), Pre_FfnRef1Ideal m →
    θ_run (Cert.FfnRef1Ideal.defs (F := Ideal)) (onTc (τ := Cert.FfnRef1Ideal.τ) (Cert.FfnRef1Ideal.main (F := Ideal))) ⟨m, fun _ => 0, g⟩ (fun r => (∀ c : Dev Cert.FfnRef1Ideal.nD,
      r.2.mem ((c.tc : Thread Cert.FfnRef1Ideal.nD Cert.FfnRef1Ideal.τ).loc Cert.FfnRef1Ideal.main_arg0) = m ((c.tc : Thread Cert.FfnRef1Ideal.nD Cert.FfnRef1Ideal.τ).loc Cert.FfnRef1Ideal.main_arg0)
      ∧ r.2.mem ((c.tc : Thread Cert.FfnRef1Ideal.nD Cert.FfnRef1Ideal.τ).loc Cert.FfnRef1Ideal.main_arg1) = m ((c.tc : Thread Cert.FfnRef1Ideal.nD Cert.FfnRef1Ideal.τ).loc Cert.FfnRef1Ideal.main_arg1)
      ∧ r.2.mem ((c.tc : Thread Cert.FfnRef1Ideal.nD Cert.FfnRef1Ideal.τ).loc Cert.FfnRef1Ideal.main_arg2) = m ((c.tc : Thread Cert.FfnRef1Ideal.nD Cert.FfnRef1Ideal.τ).loc Cert.FfnRef1Ideal.main_arg2)
      ∧ r.2.mem ((c.tc : Thread Cert.FfnRef1Ideal.nD Cert.FfnRef1Ideal.τ).loc Cert.FfnRef1Ideal.main_arg3) = m ((c.tc : Thread Cert.FfnRef1Ideal.nD Cert.FfnRef1Ideal.τ).loc Cert.FfnRef1Ideal.main_arg3)
      ∧ r.2.mem ((c.tc : Thread Cert.FfnRef1Ideal.nD Cert.FfnRef1Ideal.τ).loc Cert.FfnRef1Ideal.main_arg4) = m ((c.tc : Thread Cert.FfnRef1Ideal.nD Cert.FfnRef1Ideal.τ).loc Cert.FfnRef1Ideal.main_arg4)
      ∧ r.2.mem ((c.tc : Thread Cert.FfnRef1Ideal.nD Cert.FfnRef1Ideal.τ).loc Cert.FfnRef1Ideal.main_arg5) = m ((c.tc : Thread Cert.FfnRef1Ideal.nD Cert.FfnRef1Ideal.τ).loc Cert.FfnRef1Ideal.main_arg5)
      ∧ r.2.mem ((c.tc : Thread Cert.FfnRef1Ideal.nD Cert.FfnRef1Ideal.τ).loc Cert.FfnRef1Ideal.main_arg6) = m ((c.tc : Thread Cert.FfnRef1Ideal.nD Cert.FfnRef1Ideal.τ).loc Cert.FfnRef1Ideal.main_arg6)
      ∧ r.2.mem ((c.tc : Thread Cert.FfnRef1Ideal.nD Cert.FfnRef1Ideal.τ).loc Cert.FfnRef1Ideal.main_arg7) = m ((c.tc : Thread Cert.FfnRef1Ideal.nD Cert.FfnRef1Ideal.τ).loc Cert.FfnRef1Ideal.main_arg7)
      ∧ r.2.mem ((c.tc : Thread Cert.FfnRef1Ideal.nD Cert.FfnRef1Ideal.τ).loc Cert.FfnRef1Ideal.main_arg8) = m ((c.tc : Thread Cert.FfnRef1Ideal.nD Cert.FfnRef1Ideal.τ).loc Cert.FfnRef1Ideal.main_arg8))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7)
      ∧ r.2.mem ((c.tc : Thread Cert.Ffn2.nD Cert.Ffn2.τ).loc Cert.Ffn2.main_arg8) = m ((c.tc : Thread Cert.Ffn2.nD Cert.Ffn2.τ).loc Cert.Ffn2.main_arg8))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
      ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ r.2.sem = fun _ => 0)

def quiescent_FfnRef2Ideal [hFfnRef2Ideal : Cert.FfnRef2Ideal.Facts] : Prop :=
  ∀ (m : (ℓ : Loc Cert.FfnRef2Ideal.nD Cert.FfnRef2Ideal.τ Cert.FfnRef2Ideal.sig) → Buf (Elt Ideal) ℓ) (g : Dev Cert.FfnRef2Ideal.nD → PrngReg), Pre_FfnRef2Ideal m →
    θ_run (Cert.FfnRef2Ideal.defs (F := Ideal)) (onTc (τ := Cert.FfnRef2Ideal.τ) (Cert.FfnRef2Ideal.main (F := Ideal))) ⟨m, fun _ => 0, g⟩ (fun r => (∀ c : Dev Cert.FfnRef2Ideal.nD,
      r.2.mem ((c.tc : Thread Cert.FfnRef2Ideal.nD Cert.FfnRef2Ideal.τ).loc Cert.FfnRef2Ideal.main_arg0) = m ((c.tc : Thread Cert.FfnRef2Ideal.nD Cert.FfnRef2Ideal.τ).loc Cert.FfnRef2Ideal.main_arg0)
      ∧ r.2.mem ((c.tc : Thread Cert.FfnRef2Ideal.nD Cert.FfnRef2Ideal.τ).loc Cert.FfnRef2Ideal.main_arg1) = m ((c.tc : Thread Cert.FfnRef2Ideal.nD Cert.FfnRef2Ideal.τ).loc Cert.FfnRef2Ideal.main_arg1)
      ∧ r.2.mem ((c.tc : Thread Cert.FfnRef2Ideal.nD Cert.FfnRef2Ideal.τ).loc Cert.FfnRef2Ideal.main_arg2) = m ((c.tc : Thread Cert.FfnRef2Ideal.nD Cert.FfnRef2Ideal.τ).loc Cert.FfnRef2Ideal.main_arg2)
      ∧ r.2.mem ((c.tc : Thread Cert.FfnRef2Ideal.nD Cert.FfnRef2Ideal.τ).loc Cert.FfnRef2Ideal.main_arg3) = m ((c.tc : Thread Cert.FfnRef2Ideal.nD Cert.FfnRef2Ideal.τ).loc Cert.FfnRef2Ideal.main_arg3)
      ∧ r.2.mem ((c.tc : Thread Cert.FfnRef2Ideal.nD Cert.FfnRef2Ideal.τ).loc Cert.FfnRef2Ideal.main_arg4) = m ((c.tc : Thread Cert.FfnRef2Ideal.nD Cert.FfnRef2Ideal.τ).loc Cert.FfnRef2Ideal.main_arg4)
      ∧ r.2.mem ((c.tc : Thread Cert.FfnRef2Ideal.nD Cert.FfnRef2Ideal.τ).loc Cert.FfnRef2Ideal.main_arg5) = m ((c.tc : Thread Cert.FfnRef2Ideal.nD Cert.FfnRef2Ideal.τ).loc Cert.FfnRef2Ideal.main_arg5)
      ∧ r.2.mem ((c.tc : Thread Cert.FfnRef2Ideal.nD Cert.FfnRef2Ideal.τ).loc Cert.FfnRef2Ideal.main_arg6) = m ((c.tc : Thread Cert.FfnRef2Ideal.nD Cert.FfnRef2Ideal.τ).loc Cert.FfnRef2Ideal.main_arg6)
      ∧ r.2.mem ((c.tc : Thread Cert.FfnRef2Ideal.nD Cert.FfnRef2Ideal.τ).loc Cert.FfnRef2Ideal.main_arg7) = m ((c.tc : Thread Cert.FfnRef2Ideal.nD Cert.FfnRef2Ideal.τ).loc Cert.FfnRef2Ideal.main_arg7)
      ∧ r.2.mem ((c.tc : Thread Cert.FfnRef2Ideal.nD Cert.FfnRef2Ideal.τ).loc Cert.FfnRef2Ideal.main_arg8) = m ((c.tc : Thread Cert.FfnRef2Ideal.nD Cert.FfnRef2Ideal.τ).loc Cert.FfnRef2Ideal.main_arg8))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3)
      ∧ r.2.mem ((c.tc : Thread Cert.Ffn3.nD Cert.Ffn3.τ).loc Cert.Ffn3.main_arg4) = m ((c.tc : Thread Cert.Ffn3.nD Cert.Ffn3.τ).loc Cert.Ffn3.main_arg4)
      ∧ r.2.mem ((c.tc : Thread Cert.Ffn3.nD Cert.Ffn3.τ).loc Cert.Ffn3.main_arg5) = m ((c.tc : Thread Cert.Ffn3.nD Cert.Ffn3.τ).loc Cert.Ffn3.main_arg5)
      ∧ r.2.mem ((c.tc : Thread Cert.Ffn3.nD Cert.Ffn3.τ).loc Cert.Ffn3.main_arg6) = m ((c.tc : Thread Cert.Ffn3.nD Cert.Ffn3.τ).loc Cert.Ffn3.main_arg6)
      ∧ r.2.mem ((c.tc : Thread Cert.Ffn3.nD Cert.Ffn3.τ).loc Cert.Ffn3.main_arg7) = m ((c.tc : Thread Cert.Ffn3.nD Cert.Ffn3.τ).loc Cert.Ffn3.main_arg7)
      ∧ r.2.mem ((c.tc : Thread Cert.Ffn3.nD Cert.Ffn3.τ).loc Cert.Ffn3.main_arg8) = m ((c.tc : Thread Cert.Ffn3.nD Cert.Ffn3.τ).loc Cert.Ffn3.main_arg8))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
      ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
      ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
      ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6)
      ∧ r.2.mem ((c.tc : Thread Cert.Ffn3Ideal.nD Cert.Ffn3Ideal.τ).loc Cert.Ffn3Ideal.main_arg7) = m ((c.tc : Thread Cert.Ffn3Ideal.nD Cert.Ffn3Ideal.τ).loc Cert.Ffn3Ideal.main_arg7)
      ∧ r.2.mem ((c.tc : Thread Cert.Ffn3Ideal.nD Cert.Ffn3Ideal.τ).loc Cert.Ffn3Ideal.main_arg8) = m ((c.tc : Thread Cert.Ffn3Ideal.nD Cert.Ffn3Ideal.τ).loc Cert.Ffn3Ideal.main_arg8))
      ∧ r.2.sem = fun _ => 0)

def quiescent_FfnRef3Ideal [hFfnRef3Ideal : Cert.FfnRef3Ideal.Facts] : Prop :=
  ∀ (m : (ℓ : Loc Cert.FfnRef3Ideal.nD Cert.FfnRef3Ideal.τ Cert.FfnRef3Ideal.sig) → Buf (Elt Ideal) ℓ) (g : Dev Cert.FfnRef3Ideal.nD → PrngReg), Pre_FfnRef3Ideal m →
    θ_run (Cert.FfnRef3Ideal.defs (F := Ideal)) (onTc (τ := Cert.FfnRef3Ideal.τ) (Cert.FfnRef3Ideal.main (F := Ideal))) ⟨m, fun _ => 0, g⟩ (fun r => (∀ c : Dev Cert.FfnRef3Ideal.nD,
      r.2.mem ((c.tc : Thread Cert.FfnRef3Ideal.nD Cert.FfnRef3Ideal.τ).loc Cert.FfnRef3Ideal.main_arg0) = m ((c.tc : Thread Cert.FfnRef3Ideal.nD Cert.FfnRef3Ideal.τ).loc Cert.FfnRef3Ideal.main_arg0)
      ∧ r.2.mem ((c.tc : Thread Cert.FfnRef3Ideal.nD Cert.FfnRef3Ideal.τ).loc Cert.FfnRef3Ideal.main_arg1) = m ((c.tc : Thread Cert.FfnRef3Ideal.nD Cert.FfnRef3Ideal.τ).loc Cert.FfnRef3Ideal.main_arg1)
      ∧ r.2.mem ((c.tc : Thread Cert.FfnRef3Ideal.nD Cert.FfnRef3Ideal.τ).loc Cert.FfnRef3Ideal.main_arg2) = m ((c.tc : Thread Cert.FfnRef3Ideal.nD Cert.FfnRef3Ideal.τ).loc Cert.FfnRef3Ideal.main_arg2)
      ∧ r.2.mem ((c.tc : Thread Cert.FfnRef3Ideal.nD Cert.FfnRef3Ideal.τ).loc Cert.FfnRef3Ideal.main_arg3) = m ((c.tc : Thread Cert.FfnRef3Ideal.nD Cert.FfnRef3Ideal.τ).loc Cert.FfnRef3Ideal.main_arg3)
      ∧ r.2.mem ((c.tc : Thread Cert.FfnRef3Ideal.nD Cert.FfnRef3Ideal.τ).loc Cert.FfnRef3Ideal.main_arg4) = m ((c.tc : Thread Cert.FfnRef3Ideal.nD Cert.FfnRef3Ideal.τ).loc Cert.FfnRef3Ideal.main_arg4)
      ∧ r.2.mem ((c.tc : Thread Cert.FfnRef3Ideal.nD Cert.FfnRef3Ideal.τ).loc Cert.FfnRef3Ideal.main_arg5) = m ((c.tc : Thread Cert.FfnRef3Ideal.nD Cert.FfnRef3Ideal.τ).loc Cert.FfnRef3Ideal.main_arg5)
      ∧ r.2.mem ((c.tc : Thread Cert.FfnRef3Ideal.nD Cert.FfnRef3Ideal.τ).loc Cert.FfnRef3Ideal.main_arg6) = m ((c.tc : Thread Cert.FfnRef3Ideal.nD Cert.FfnRef3Ideal.τ).loc Cert.FfnRef3Ideal.main_arg6)
      ∧ r.2.mem ((c.tc : Thread Cert.FfnRef3Ideal.nD Cert.FfnRef3Ideal.τ).loc Cert.FfnRef3Ideal.main_arg7) = m ((c.tc : Thread Cert.FfnRef3Ideal.nD Cert.FfnRef3Ideal.τ).loc Cert.FfnRef3Ideal.main_arg7)
      ∧ r.2.mem ((c.tc : Thread Cert.FfnRef3Ideal.nD Cert.FfnRef3Ideal.τ).loc Cert.FfnRef3Ideal.main_arg8) = m ((c.tc : Thread Cert.FfnRef3Ideal.nD Cert.FfnRef3Ideal.τ).loc Cert.FfnRef3Ideal.main_arg8))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1)
      ∧ r.2.mem ((c.tc : Thread Cert.Qkv0.nD Cert.Qkv0.τ).loc Cert.Qkv0.main_arg2) = m ((c.tc : Thread Cert.Qkv0.nD Cert.Qkv0.τ).loc Cert.Qkv0.main_arg2)
      ∧ r.2.mem ((c.tc : Thread Cert.Qkv0.nD Cert.Qkv0.τ).loc Cert.Qkv0.main_arg3) = m ((c.tc : Thread Cert.Qkv0.nD Cert.Qkv0.τ).loc Cert.Qkv0.main_arg3)
      ∧ r.2.mem ((c.tc : Thread Cert.Qkv0.nD Cert.Qkv0.τ).loc Cert.Qkv0.main_arg4) = m ((c.tc : Thread Cert.Qkv0.nD Cert.Qkv0.τ).loc Cert.Qkv0.main_arg4)
      ∧ r.2.mem ((c.tc : Thread Cert.Qkv0.nD Cert.Qkv0.τ).loc Cert.Qkv0.main_arg5) = m ((c.tc : Thread Cert.Qkv0.nD Cert.Qkv0.τ).loc Cert.Qkv0.main_arg5)
      ∧ r.2.mem ((c.tc : Thread Cert.Qkv0.nD Cert.Qkv0.τ).loc Cert.Qkv0.main_arg6) = m ((c.tc : Thread Cert.Qkv0.nD Cert.Qkv0.τ).loc Cert.Qkv0.main_arg6))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
      ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
      ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
      ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4)
      ∧ r.2.mem ((c.tc : Thread Cert.Qkv0Ideal.nD Cert.Qkv0Ideal.τ).loc Cert.Qkv0Ideal.main_arg5) = m ((c.tc : Thread Cert.Qkv0Ideal.nD Cert.Qkv0Ideal.τ).loc Cert.Qkv0Ideal.main_arg5)
      ∧ r.2.mem ((c.tc : Thread Cert.Qkv0Ideal.nD Cert.Qkv0Ideal.τ).loc Cert.Qkv0Ideal.main_arg6) = m ((c.tc : Thread Cert.Qkv0Ideal.nD Cert.Qkv0Ideal.τ).loc Cert.Qkv0Ideal.main_arg6))
      ∧ r.2.sem = fun _ => 0)

def quiescent_QkvRef0Ideal [hQkvRef0Ideal : Cert.QkvRef0Ideal.Facts] : Prop :=
  ∀ (m : (ℓ : Loc Cert.QkvRef0Ideal.nD Cert.QkvRef0Ideal.τ Cert.QkvRef0Ideal.sig) → Buf (Elt Ideal) ℓ) (g : Dev Cert.QkvRef0Ideal.nD → PrngReg), Pre_QkvRef0Ideal m →
    θ_run (Cert.QkvRef0Ideal.defs (F := Ideal)) (onTc (τ := Cert.QkvRef0Ideal.τ) (Cert.QkvRef0Ideal.main (F := Ideal))) ⟨m, fun _ => 0, g⟩ (fun r => (∀ c : Dev Cert.QkvRef0Ideal.nD,
      r.2.mem ((c.tc : Thread Cert.QkvRef0Ideal.nD Cert.QkvRef0Ideal.τ).loc Cert.QkvRef0Ideal.main_arg0) = m ((c.tc : Thread Cert.QkvRef0Ideal.nD Cert.QkvRef0Ideal.τ).loc Cert.QkvRef0Ideal.main_arg0)
      ∧ r.2.mem ((c.tc : Thread Cert.QkvRef0Ideal.nD Cert.QkvRef0Ideal.τ).loc Cert.QkvRef0Ideal.main_arg1) = m ((c.tc : Thread Cert.QkvRef0Ideal.nD Cert.QkvRef0Ideal.τ).loc Cert.QkvRef0Ideal.main_arg1)
      ∧ r.2.mem ((c.tc : Thread Cert.QkvRef0Ideal.nD Cert.QkvRef0Ideal.τ).loc Cert.QkvRef0Ideal.main_arg2) = m ((c.tc : Thread Cert.QkvRef0Ideal.nD Cert.QkvRef0Ideal.τ).loc Cert.QkvRef0Ideal.main_arg2)
      ∧ r.2.mem ((c.tc : Thread Cert.QkvRef0Ideal.nD Cert.QkvRef0Ideal.τ).loc Cert.QkvRef0Ideal.main_arg3) = m ((c.tc : Thread Cert.QkvRef0Ideal.nD Cert.QkvRef0Ideal.τ).loc Cert.QkvRef0Ideal.main_arg3)
      ∧ r.2.mem ((c.tc : Thread Cert.QkvRef0Ideal.nD Cert.QkvRef0Ideal.τ).loc Cert.QkvRef0Ideal.main_arg4) = m ((c.tc : Thread Cert.QkvRef0Ideal.nD Cert.QkvRef0Ideal.τ).loc Cert.QkvRef0Ideal.main_arg4)
      ∧ r.2.mem ((c.tc : Thread Cert.QkvRef0Ideal.nD Cert.QkvRef0Ideal.τ).loc Cert.QkvRef0Ideal.main_arg5) = m ((c.tc : Thread Cert.QkvRef0Ideal.nD Cert.QkvRef0Ideal.τ).loc Cert.QkvRef0Ideal.main_arg5)
      ∧ r.2.mem ((c.tc : Thread Cert.QkvRef0Ideal.nD Cert.QkvRef0Ideal.τ).loc Cert.QkvRef0Ideal.main_arg6) = m ((c.tc : Thread Cert.QkvRef0Ideal.nD Cert.QkvRef0Ideal.τ).loc Cert.QkvRef0Ideal.main_arg6))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4)
      ∧ r.2.mem ((c.tc : Thread Cert.Qkv1.nD Cert.Qkv1.τ).loc Cert.Qkv1.main_arg5) = m ((c.tc : Thread Cert.Qkv1.nD Cert.Qkv1.τ).loc Cert.Qkv1.main_arg5)
      ∧ r.2.mem ((c.tc : Thread Cert.Qkv1.nD Cert.Qkv1.τ).loc Cert.Qkv1.main_arg6) = m ((c.tc : Thread Cert.Qkv1.nD Cert.Qkv1.τ).loc Cert.Qkv1.main_arg6))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
      ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5)
      ∧ r.2.mem ((c.tc : Thread Cert.Qkv1Ideal.nD Cert.Qkv1Ideal.τ).loc Cert.Qkv1Ideal.main_arg6) = m ((c.tc : Thread Cert.Qkv1Ideal.nD Cert.Qkv1Ideal.τ).loc Cert.Qkv1Ideal.main_arg6))
      ∧ r.2.sem = fun _ => 0)

def quiescent_QkvRef1Ideal [hQkvRef1Ideal : Cert.QkvRef1Ideal.Facts] : Prop :=
  ∀ (m : (ℓ : Loc Cert.QkvRef1Ideal.nD Cert.QkvRef1Ideal.τ Cert.QkvRef1Ideal.sig) → Buf (Elt Ideal) ℓ) (g : Dev Cert.QkvRef1Ideal.nD → PrngReg), Pre_QkvRef1Ideal m →
    θ_run (Cert.QkvRef1Ideal.defs (F := Ideal)) (onTc (τ := Cert.QkvRef1Ideal.τ) (Cert.QkvRef1Ideal.main (F := Ideal))) ⟨m, fun _ => 0, g⟩ (fun r => (∀ c : Dev Cert.QkvRef1Ideal.nD,
      r.2.mem ((c.tc : Thread Cert.QkvRef1Ideal.nD Cert.QkvRef1Ideal.τ).loc Cert.QkvRef1Ideal.main_arg0) = m ((c.tc : Thread Cert.QkvRef1Ideal.nD Cert.QkvRef1Ideal.τ).loc Cert.QkvRef1Ideal.main_arg0)
      ∧ r.2.mem ((c.tc : Thread Cert.QkvRef1Ideal.nD Cert.QkvRef1Ideal.τ).loc Cert.QkvRef1Ideal.main_arg1) = m ((c.tc : Thread Cert.QkvRef1Ideal.nD Cert.QkvRef1Ideal.τ).loc Cert.QkvRef1Ideal.main_arg1)
      ∧ r.2.mem ((c.tc : Thread Cert.QkvRef1Ideal.nD Cert.QkvRef1Ideal.τ).loc Cert.QkvRef1Ideal.main_arg2) = m ((c.tc : Thread Cert.QkvRef1Ideal.nD Cert.QkvRef1Ideal.τ).loc Cert.QkvRef1Ideal.main_arg2)
      ∧ r.2.mem ((c.tc : Thread Cert.QkvRef1Ideal.nD Cert.QkvRef1Ideal.τ).loc Cert.QkvRef1Ideal.main_arg3) = m ((c.tc : Thread Cert.QkvRef1Ideal.nD Cert.QkvRef1Ideal.τ).loc Cert.QkvRef1Ideal.main_arg3)
      ∧ r.2.mem ((c.tc : Thread Cert.QkvRef1Ideal.nD Cert.QkvRef1Ideal.τ).loc Cert.QkvRef1Ideal.main_arg4) = m ((c.tc : Thread Cert.QkvRef1Ideal.nD Cert.QkvRef1Ideal.τ).loc Cert.QkvRef1Ideal.main_arg4)
      ∧ r.2.mem ((c.tc : Thread Cert.QkvRef1Ideal.nD Cert.QkvRef1Ideal.τ).loc Cert.QkvRef1Ideal.main_arg5) = m ((c.tc : Thread Cert.QkvRef1Ideal.nD Cert.QkvRef1Ideal.τ).loc Cert.QkvRef1Ideal.main_arg5)
      ∧ r.2.mem ((c.tc : Thread Cert.QkvRef1Ideal.nD Cert.QkvRef1Ideal.τ).loc Cert.QkvRef1Ideal.main_arg6) = m ((c.tc : Thread Cert.QkvRef1Ideal.nD Cert.QkvRef1Ideal.τ).loc Cert.QkvRef1Ideal.main_arg6))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1)
      ∧ r.2.mem ((c.tc : Thread Cert.Qkv2.nD Cert.Qkv2.τ).loc Cert.Qkv2.main_arg2) = m ((c.tc : Thread Cert.Qkv2.nD Cert.Qkv2.τ).loc Cert.Qkv2.main_arg2)
      ∧ r.2.mem ((c.tc : Thread Cert.Qkv2.nD Cert.Qkv2.τ).loc Cert.Qkv2.main_arg3) = m ((c.tc : Thread Cert.Qkv2.nD Cert.Qkv2.τ).loc Cert.Qkv2.main_arg3)
      ∧ r.2.mem ((c.tc : Thread Cert.Qkv2.nD Cert.Qkv2.τ).loc Cert.Qkv2.main_arg4) = m ((c.tc : Thread Cert.Qkv2.nD Cert.Qkv2.τ).loc Cert.Qkv2.main_arg4)
      ∧ r.2.mem ((c.tc : Thread Cert.Qkv2.nD Cert.Qkv2.τ).loc Cert.Qkv2.main_arg5) = m ((c.tc : Thread Cert.Qkv2.nD Cert.Qkv2.τ).loc Cert.Qkv2.main_arg5)
      ∧ r.2.mem ((c.tc : Thread Cert.Qkv2.nD Cert.Qkv2.τ).loc Cert.Qkv2.main_arg6) = m ((c.tc : Thread Cert.Qkv2.nD Cert.Qkv2.τ).loc Cert.Qkv2.main_arg6))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
      ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
      ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
      ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4)
      ∧ r.2.mem ((c.tc : Thread Cert.Qkv2Ideal.nD Cert.Qkv2Ideal.τ).loc Cert.Qkv2Ideal.main_arg5) = m ((c.tc : Thread Cert.Qkv2Ideal.nD Cert.Qkv2Ideal.τ).loc Cert.Qkv2Ideal.main_arg5)
      ∧ r.2.mem ((c.tc : Thread Cert.Qkv2Ideal.nD Cert.Qkv2Ideal.τ).loc Cert.Qkv2Ideal.main_arg6) = m ((c.tc : Thread Cert.Qkv2Ideal.nD Cert.Qkv2Ideal.τ).loc Cert.Qkv2Ideal.main_arg6))
      ∧ r.2.sem = fun _ => 0)

def quiescent_QkvRef2Ideal [hQkvRef2Ideal : Cert.QkvRef2Ideal.Facts] : Prop :=
  ∀ (m : (ℓ : Loc Cert.QkvRef2Ideal.nD Cert.QkvRef2Ideal.τ Cert.QkvRef2Ideal.sig) → Buf (Elt Ideal) ℓ) (g : Dev Cert.QkvRef2Ideal.nD → PrngReg), Pre_QkvRef2Ideal m →
    θ_run (Cert.QkvRef2Ideal.defs (F := Ideal)) (onTc (τ := Cert.QkvRef2Ideal.τ) (Cert.QkvRef2Ideal.main (F := Ideal))) ⟨m, fun _ => 0, g⟩ (fun r => (∀ c : Dev Cert.QkvRef2Ideal.nD,
      r.2.mem ((c.tc : Thread Cert.QkvRef2Ideal.nD Cert.QkvRef2Ideal.τ).loc Cert.QkvRef2Ideal.main_arg0) = m ((c.tc : Thread Cert.QkvRef2Ideal.nD Cert.QkvRef2Ideal.τ).loc Cert.QkvRef2Ideal.main_arg0)
      ∧ r.2.mem ((c.tc : Thread Cert.QkvRef2Ideal.nD Cert.QkvRef2Ideal.τ).loc Cert.QkvRef2Ideal.main_arg1) = m ((c.tc : Thread Cert.QkvRef2Ideal.nD Cert.QkvRef2Ideal.τ).loc Cert.QkvRef2Ideal.main_arg1)
      ∧ r.2.mem ((c.tc : Thread Cert.QkvRef2Ideal.nD Cert.QkvRef2Ideal.τ).loc Cert.QkvRef2Ideal.main_arg2) = m ((c.tc : Thread Cert.QkvRef2Ideal.nD Cert.QkvRef2Ideal.τ).loc Cert.QkvRef2Ideal.main_arg2)
      ∧ r.2.mem ((c.tc : Thread Cert.QkvRef2Ideal.nD Cert.QkvRef2Ideal.τ).loc Cert.QkvRef2Ideal.main_arg3) = m ((c.tc : Thread Cert.QkvRef2Ideal.nD Cert.QkvRef2Ideal.τ).loc Cert.QkvRef2Ideal.main_arg3)
      ∧ r.2.mem ((c.tc : Thread Cert.QkvRef2Ideal.nD Cert.QkvRef2Ideal.τ).loc Cert.QkvRef2Ideal.main_arg4) = m ((c.tc : Thread Cert.QkvRef2Ideal.nD Cert.QkvRef2Ideal.τ).loc Cert.QkvRef2Ideal.main_arg4)
      ∧ r.2.mem ((c.tc : Thread Cert.QkvRef2Ideal.nD Cert.QkvRef2Ideal.τ).loc Cert.QkvRef2Ideal.main_arg5) = m ((c.tc : Thread Cert.QkvRef2Ideal.nD Cert.QkvRef2Ideal.τ).loc Cert.QkvRef2Ideal.main_arg5)
      ∧ r.2.mem ((c.tc : Thread Cert.QkvRef2Ideal.nD Cert.QkvRef2Ideal.τ).loc Cert.QkvRef2Ideal.main_arg6) = m ((c.tc : Thread Cert.QkvRef2Ideal.nD Cert.QkvRef2Ideal.τ).loc Cert.QkvRef2Ideal.main_arg6))
      ∧ r.2.sem = fun _ => 0)

def quiescent_Qkv3 [hQkv3 : Cert.Qkv3.Facts] : Prop :=
  ∀ (m : (ℓ : Loc Cert.Qkv3.nD Cert.Qkv3.τ Cert.Qkv3.sig) → Buf (Elt Bits) ℓ) (g : Dev Cert.Qkv3.nD → PrngReg), Pre_Qkv3 m →
    θ_run (Cert.Qkv3.defs (F := Bits)) (onTc (τ := Cert.Qkv3.τ) (Cert.Qkv3.main (F := Bits))) ⟨m, fun _ => 0, g⟩ (fun r => (∀ c : Dev Cert.Qkv3.nD,
      r.2.mem ((c.tc : Thread Cert.Qkv3.nD Cert.Qkv3.τ).loc Cert.Qkv3.main_arg0) = m ((c.tc : Thread Cert.Qkv3.nD Cert.Qkv3.τ).loc Cert.Qkv3.main_arg0)
      ∧ r.2.mem ((c.tc : Thread Cert.Qkv3.nD Cert.Qkv3.τ).loc Cert.Qkv3.main_arg1) = m ((c.tc : Thread Cert.Qkv3.nD Cert.Qkv3.τ).loc Cert.Qkv3.main_arg1)
      ∧ r.2.mem ((c.tc : Thread Cert.Qkv3.nD Cert.Qkv3.τ).loc Cert.Qkv3.main_arg2) = m ((c.tc : Thread Cert.Qkv3.nD Cert.Qkv3.τ).loc Cert.Qkv3.main_arg2)
      ∧ r.2.mem ((c.tc : Thread Cert.Qkv3.nD Cert.Qkv3.τ).loc Cert.Qkv3.main_arg3) = m ((c.tc : Thread Cert.Qkv3.nD Cert.Qkv3.τ).loc Cert.Qkv3.main_arg3)
      ∧ r.2.mem ((c.tc : Thread Cert.Qkv3.nD Cert.Qkv3.τ).loc Cert.Qkv3.main_arg4) = m ((c.tc : Thread Cert.Qkv3.nD Cert.Qkv3.τ).loc Cert.Qkv3.main_arg4)
      ∧ r.2.mem ((c.tc : Thread Cert.Qkv3.nD Cert.Qkv3.τ).loc Cert.Qkv3.main_arg5) = m ((c.tc : Thread Cert.Qkv3.nD Cert.Qkv3.τ).loc Cert.Qkv3.main_arg5)
      ∧ r.2.mem ((c.tc : Thread Cert.Qkv3.nD Cert.Qkv3.τ).loc Cert.Qkv3.main_arg6) = m ((c.tc : Thread Cert.Qkv3.nD Cert.Qkv3.τ).loc Cert.Qkv3.main_arg6))
      ∧ r.2.sem = fun _ => 0)

def quiescent_Qkv3Ideal [hQkv3Ideal : Cert.Qkv3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg), Pre_Qkv3Ideal m →
    θ_run (Cert.Qkv3Ideal.defs (F := Ideal)) (onTc (τ := Cert.Qkv3Ideal.τ) (Cert.Qkv3Ideal.main (F := Ideal))) ⟨m, fun _ => 0, g⟩ (fun r => (∀ c : Dev Cert.Qkv3Ideal.nD,
      r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
      ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
      ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2)
      ∧ r.2.mem ((c.tc : Thread Cert.Qkv3Ideal.nD Cert.Qkv3Ideal.τ).loc Cert.Qkv3Ideal.main_arg3) = m ((c.tc : Thread Cert.Qkv3Ideal.nD Cert.Qkv3Ideal.τ).loc Cert.Qkv3Ideal.main_arg3)
      ∧ r.2.mem ((c.tc : Thread Cert.Qkv3Ideal.nD Cert.Qkv3Ideal.τ).loc Cert.Qkv3Ideal.main_arg4) = m ((c.tc : Thread Cert.Qkv3Ideal.nD Cert.Qkv3Ideal.τ).loc Cert.Qkv3Ideal.main_arg4)
      ∧ r.2.mem ((c.tc : Thread Cert.Qkv3Ideal.nD Cert.Qkv3Ideal.τ).loc Cert.Qkv3Ideal.main_arg5) = m ((c.tc : Thread Cert.Qkv3Ideal.nD Cert.Qkv3Ideal.τ).loc Cert.Qkv3Ideal.main_arg5)
      ∧ r.2.mem ((c.tc : Thread Cert.Qkv3Ideal.nD Cert.Qkv3Ideal.τ).loc Cert.Qkv3Ideal.main_arg6) = m ((c.tc : Thread Cert.Qkv3Ideal.nD Cert.Qkv3Ideal.τ).loc Cert.Qkv3Ideal.main_arg6))
      ∧ r.2.sem = fun _ => 0)

def quiescent_QkvRef3Ideal [hQkvRef3Ideal : Cert.QkvRef3Ideal.Facts] : Prop :=
  ∀ (m : (ℓ : Loc Cert.QkvRef3Ideal.nD Cert.QkvRef3Ideal.τ Cert.QkvRef3Ideal.sig) → Buf (Elt Ideal) ℓ) (g : Dev Cert.QkvRef3Ideal.nD → PrngReg), Pre_QkvRef3Ideal m →
    θ_run (Cert.QkvRef3Ideal.defs (F := Ideal)) (onTc (τ := Cert.QkvRef3Ideal.τ) (Cert.QkvRef3Ideal.main (F := Ideal))) ⟨m, fun _ => 0, g⟩ (fun r => (∀ c : Dev Cert.QkvRef3Ideal.nD,
      r.2.mem ((c.tc : Thread Cert.QkvRef3Ideal.nD Cert.QkvRef3Ideal.τ).loc Cert.QkvRef3Ideal.main_arg0) = m ((c.tc : Thread Cert.QkvRef3Ideal.nD Cert.QkvRef3Ideal.τ).loc Cert.QkvRef3Ideal.main_arg0)
      ∧ r.2.mem ((c.tc : Thread Cert.QkvRef3Ideal.nD Cert.QkvRef3Ideal.τ).loc Cert.QkvRef3Ideal.main_arg1) = m ((c.tc : Thread Cert.QkvRef3Ideal.nD Cert.QkvRef3Ideal.τ).loc Cert.QkvRef3Ideal.main_arg1)
      ∧ r.2.mem ((c.tc : Thread Cert.QkvRef3Ideal.nD Cert.QkvRef3Ideal.τ).loc Cert.QkvRef3Ideal.main_arg2) = m ((c.tc : Thread Cert.QkvRef3Ideal.nD Cert.QkvRef3Ideal.τ).loc Cert.QkvRef3Ideal.main_arg2)
      ∧ r.2.mem ((c.tc : Thread Cert.QkvRef3Ideal.nD Cert.QkvRef3Ideal.τ).loc Cert.QkvRef3Ideal.main_arg3) = m ((c.tc : Thread Cert.QkvRef3Ideal.nD Cert.QkvRef3Ideal.τ).loc Cert.QkvRef3Ideal.main_arg3)
      ∧ r.2.mem ((c.tc : Thread Cert.QkvRef3Ideal.nD Cert.QkvRef3Ideal.τ).loc Cert.QkvRef3Ideal.main_arg4) = m ((c.tc : Thread Cert.QkvRef3Ideal.nD Cert.QkvRef3Ideal.τ).loc Cert.QkvRef3Ideal.main_arg4)
      ∧ r.2.mem ((c.tc : Thread Cert.QkvRef3Ideal.nD Cert.QkvRef3Ideal.τ).loc Cert.QkvRef3Ideal.main_arg5) = m ((c.tc : Thread Cert.QkvRef3Ideal.nD Cert.QkvRef3Ideal.τ).loc Cert.QkvRef3Ideal.main_arg5)
      ∧ r.2.mem ((c.tc : Thread Cert.QkvRef3Ideal.nD Cert.QkvRef3Ideal.τ).loc Cert.QkvRef3Ideal.main_arg6) = m ((c.tc : Thread Cert.QkvRef3Ideal.nD Cert.QkvRef3Ideal.τ).loc Cert.QkvRef3Ideal.main_arg6))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1)
      ∧ r.2.mem ((c.tc : Thread Cert.Chunk.nD Cert.Chunk.τ).loc Cert.Chunk.main_arg2) = m ((c.tc : Thread Cert.Chunk.nD Cert.Chunk.τ).loc Cert.Chunk.main_arg2)
      ∧ r.2.mem ((c.tc : Thread Cert.Chunk.nD Cert.Chunk.τ).loc Cert.Chunk.main_arg3) = m ((c.tc : Thread Cert.Chunk.nD Cert.Chunk.τ).loc Cert.Chunk.main_arg3)
      ∧ r.2.mem ((c.tc : Thread Cert.Chunk.nD Cert.Chunk.τ).loc Cert.Chunk.main_arg4) = m ((c.tc : Thread Cert.Chunk.nD Cert.Chunk.τ).loc Cert.Chunk.main_arg4)
      ∧ r.2.mem ((c.tc : Thread Cert.Chunk.nD Cert.Chunk.τ).loc Cert.Chunk.main_arg5) = m ((c.tc : Thread Cert.Chunk.nD Cert.Chunk.τ).loc Cert.Chunk.main_arg5)
      ∧ r.2.mem ((c.tc : Thread Cert.Chunk.nD Cert.Chunk.τ).loc Cert.Chunk.main_arg6) = m ((c.tc : Thread Cert.Chunk.nD Cert.Chunk.τ).loc Cert.Chunk.main_arg6)
      ∧ r.2.mem ((c.tc : Thread Cert.Chunk.nD Cert.Chunk.τ).loc Cert.Chunk.main_arg7) = m ((c.tc : Thread Cert.Chunk.nD Cert.Chunk.τ).loc Cert.Chunk.main_arg7)
      ∧ r.2.mem ((c.tc : Thread Cert.Chunk.nD Cert.Chunk.τ).loc Cert.Chunk.main_arg8) = m ((c.tc : Thread Cert.Chunk.nD Cert.Chunk.τ).loc Cert.Chunk.main_arg8)
      ∧ r.2.mem ((c.tc : Thread Cert.Chunk.nD Cert.Chunk.τ).loc Cert.Chunk.main_arg9) = m ((c.tc : Thread Cert.Chunk.nD Cert.Chunk.τ).loc Cert.Chunk.main_arg9))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
      ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
      ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4)
      ∧ r.2.mem ((c.tc : Thread Cert.ChunkIdeal.nD Cert.ChunkIdeal.τ).loc Cert.ChunkIdeal.main_arg5) = m ((c.tc : Thread Cert.ChunkIdeal.nD Cert.ChunkIdeal.τ).loc Cert.ChunkIdeal.main_arg5)
      ∧ r.2.mem ((c.tc : Thread Cert.ChunkIdeal.nD Cert.ChunkIdeal.τ).loc Cert.ChunkIdeal.main_arg6) = m ((c.tc : Thread Cert.ChunkIdeal.nD Cert.ChunkIdeal.τ).loc Cert.ChunkIdeal.main_arg6)
      ∧ r.2.mem ((c.tc : Thread Cert.ChunkIdeal.nD Cert.ChunkIdeal.τ).loc Cert.ChunkIdeal.main_arg7) = m ((c.tc : Thread Cert.ChunkIdeal.nD Cert.ChunkIdeal.τ).loc Cert.ChunkIdeal.main_arg7)
      ∧ r.2.mem ((c.tc : Thread Cert.ChunkIdeal.nD Cert.ChunkIdeal.τ).loc Cert.ChunkIdeal.main_arg8) = m ((c.tc : Thread Cert.ChunkIdeal.nD Cert.ChunkIdeal.τ).loc Cert.ChunkIdeal.main_arg8)
      ∧ r.2.mem ((c.tc : Thread Cert.ChunkIdeal.nD Cert.ChunkIdeal.τ).loc Cert.ChunkIdeal.main_arg9) = m ((c.tc : Thread Cert.ChunkIdeal.nD Cert.ChunkIdeal.τ).loc Cert.ChunkIdeal.main_arg9))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2)
      ∧ r.2.mem ((c.tc : Thread Cert.ChunkRefIdeal.nD Cert.ChunkRefIdeal.τ).loc Cert.ChunkRefIdeal.main_arg3) = m ((c.tc : Thread Cert.ChunkRefIdeal.nD Cert.ChunkRefIdeal.τ).loc Cert.ChunkRefIdeal.main_arg3)
      ∧ r.2.mem ((c.tc : Thread Cert.ChunkRefIdeal.nD Cert.ChunkRefIdeal.τ).loc Cert.ChunkRefIdeal.main_arg4) = m ((c.tc : Thread Cert.ChunkRefIdeal.nD Cert.ChunkRefIdeal.τ).loc Cert.ChunkRefIdeal.main_arg4)
      ∧ r.2.mem ((c.tc : Thread Cert.ChunkRefIdeal.nD Cert.ChunkRefIdeal.τ).loc Cert.ChunkRefIdeal.main_arg5) = m ((c.tc : Thread Cert.ChunkRefIdeal.nD Cert.ChunkRefIdeal.τ).loc Cert.ChunkRefIdeal.main_arg5)
      ∧ r.2.mem ((c.tc : Thread Cert.ChunkRefIdeal.nD Cert.ChunkRefIdeal.τ).loc Cert.ChunkRefIdeal.main_arg6) = m ((c.tc : Thread Cert.ChunkRefIdeal.nD Cert.ChunkRefIdeal.τ).loc Cert.ChunkRefIdeal.main_arg6)
      ∧ r.2.mem ((c.tc : Thread Cert.ChunkRefIdeal.nD Cert.ChunkRefIdeal.τ).loc Cert.ChunkRefIdeal.main_arg7) = m ((c.tc : Thread Cert.ChunkRefIdeal.nD Cert.ChunkRefIdeal.τ).loc Cert.ChunkRefIdeal.main_arg7)
      ∧ r.2.mem ((c.tc : Thread Cert.ChunkRefIdeal.nD Cert.ChunkRefIdeal.τ).loc Cert.ChunkRefIdeal.main_arg8) = m ((c.tc : Thread Cert.ChunkRefIdeal.nD Cert.ChunkRefIdeal.τ).loc Cert.ChunkRefIdeal.main_arg8)
      ∧ r.2.mem ((c.tc : Thread Cert.ChunkRefIdeal.nD Cert.ChunkRefIdeal.τ).loc Cert.ChunkRefIdeal.main_arg9) = m ((c.tc : Thread Cert.ChunkRefIdeal.nD Cert.ChunkRefIdeal.τ).loc Cert.ChunkRefIdeal.main_arg9))
      ∧ r.2.sem = fun _ => 0)

def preserves_Ffn0_Ffn0Ideal : Prop :=
  True

def algebraic_Ffn0Ideal_FfnRef0Ideal [hFfn0Ideal : Cert.Ffn0Ideal.Facts] [hFfnRef0Ideal : Cert.FfnRef0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.FfnRef0Ideal.nD Cert.FfnRef0Ideal.τ Cert.FfnRef0Ideal.sig) → Buf (Elt Ideal) ℓ) (g' : Dev Cert.FfnRef0Ideal.nD → PrngReg), Pre_Ffn0Ideal m →
    (∀ c : Dev Cert.Ffn0Ideal.nD,
      m' ((c.tc : Thread Cert.FfnRef0Ideal.nD Cert.FfnRef0Ideal.τ).loc Cert.FfnRef0Ideal.main_arg0) = m ((c.tc : Thread Cert.Ffn0Ideal.nD Cert.Ffn0Ideal.τ).loc Cert.Ffn0Ideal.main_arg0)
      ∧ m' ((c.tc : Thread Cert.FfnRef0Ideal.nD Cert.FfnRef0Ideal.τ).loc Cert.FfnRef0Ideal.main_arg1) = m ((c.tc : Thread Cert.Ffn0Ideal.nD Cert.Ffn0Ideal.τ).loc Cert.Ffn0Ideal.main_arg1)
      ∧ m' ((c.tc : Thread Cert.FfnRef0Ideal.nD Cert.FfnRef0Ideal.τ).loc Cert.FfnRef0Ideal.main_arg2) = m ((c.tc : Thread Cert.Ffn0Ideal.nD Cert.Ffn0Ideal.τ).loc Cert.Ffn0Ideal.main_arg2)
      ∧ m' ((c.tc : Thread Cert.FfnRef0Ideal.nD Cert.FfnRef0Ideal.τ).loc Cert.FfnRef0Ideal.main_arg3) = m ((c.tc : Thread Cert.Ffn0Ideal.nD Cert.Ffn0Ideal.τ).loc Cert.Ffn0Ideal.main_arg3)
      ∧ m' ((c.tc : Thread Cert.FfnRef0Ideal.nD Cert.FfnRef0Ideal.τ).loc Cert.FfnRef0Ideal.main_arg4) = m ((c.tc : Thread Cert.Ffn0Ideal.nD Cert.Ffn0Ideal.τ).loc Cert.Ffn0Ideal.main_arg4)
      ∧ m' ((c.tc : Thread Cert.FfnRef0Ideal.nD Cert.FfnRef0Ideal.τ).loc Cert.FfnRef0Ideal.main_arg5) = m ((c.tc : Thread Cert.Ffn0Ideal.nD Cert.Ffn0Ideal.τ).loc Cert.Ffn0Ideal.main_arg5)
      ∧ m' ((c.tc : Thread Cert.FfnRef0Ideal.nD Cert.FfnRef0Ideal.τ).loc Cert.FfnRef0Ideal.main_arg6) = m ((c.tc : Thread Cert.Ffn0Ideal.nD Cert.Ffn0Ideal.τ).loc Cert.Ffn0Ideal.main_arg6)
      ∧ m' ((c.tc : Thread Cert.FfnRef0Ideal.nD Cert.FfnRef0Ideal.τ).loc Cert.FfnRef0Ideal.main_arg7) = m ((c.tc : Thread Cert.Ffn0Ideal.nD Cert.Ffn0Ideal.τ).loc Cert.Ffn0Ideal.main_arg7)
      ∧ m' ((c.tc : Thread Cert.FfnRef0Ideal.nD Cert.FfnRef0Ideal.τ).loc Cert.FfnRef0Ideal.main_arg8) = m ((c.tc : Thread Cert.Ffn0Ideal.nD Cert.Ffn0Ideal.τ).loc Cert.Ffn0Ideal.main_arg8)) →
    ∃ (v0 : (c : Dev Cert.Ffn0Ideal.nD) → Buf (Elt Ideal) ((c.tc : Thread Cert.Ffn0Ideal.nD Cert.Ffn0Ideal.τ).loc Cert.Ffn0Ideal.main_v2)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v2) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
          ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
          ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8))
      ∧ θ_run (Cert.FfnRef0Ideal.defs (F := Ideal)) (onTc (τ := Cert.FfnRef0Ideal.τ) (Cert.FfnRef0Ideal.main (F := Ideal))) ⟨m', fun _ => 0, g'⟩ (fun r => ∀ c : Dev Cert.FfnRef0Ideal.nD,
          r.2.mem ((c.tc : Thread Cert.FfnRef0Ideal.nD Cert.FfnRef0Ideal.τ).loc Cert.FfnRef0Ideal.main_v2) = v0 c
          ∧ r.2.mem ((c.tc : Thread Cert.FfnRef0Ideal.nD Cert.FfnRef0Ideal.τ).loc Cert.FfnRef0Ideal.main_arg0) = m' ((c.tc : Thread Cert.FfnRef0Ideal.nD Cert.FfnRef0Ideal.τ).loc Cert.FfnRef0Ideal.main_arg0)
          ∧ r.2.mem ((c.tc : Thread Cert.FfnRef0Ideal.nD Cert.FfnRef0Ideal.τ).loc Cert.FfnRef0Ideal.main_arg1) = m' ((c.tc : Thread Cert.FfnRef0Ideal.nD Cert.FfnRef0Ideal.τ).loc Cert.FfnRef0Ideal.main_arg1)
          ∧ r.2.mem ((c.tc : Thread Cert.FfnRef0Ideal.nD Cert.FfnRef0Ideal.τ).loc Cert.FfnRef0Ideal.main_arg2) = m' ((c.tc : Thread Cert.FfnRef0Ideal.nD Cert.FfnRef0Ideal.τ).loc Cert.FfnRef0Ideal.main_arg2)
          ∧ r.2.mem ((c.tc : Thread Cert.FfnRef0Ideal.nD Cert.FfnRef0Ideal.τ).loc Cert.FfnRef0Ideal.main_arg3) = m' ((c.tc : Thread Cert.FfnRef0Ideal.nD Cert.FfnRef0Ideal.τ).loc Cert.FfnRef0Ideal.main_arg3)
          ∧ r.2.mem ((c.tc : Thread Cert.FfnRef0Ideal.nD Cert.FfnRef0Ideal.τ).loc Cert.FfnRef0Ideal.main_arg4) = m' ((c.tc : Thread Cert.FfnRef0Ideal.nD Cert.FfnRef0Ideal.τ).loc Cert.FfnRef0Ideal.main_arg4)
          ∧ r.2.mem ((c.tc : Thread Cert.FfnRef0Ideal.nD Cert.FfnRef0Ideal.τ).loc Cert.FfnRef0Ideal.main_arg5) = m' ((c.tc : Thread Cert.FfnRef0Ideal.nD Cert.FfnRef0Ideal.τ).loc Cert.FfnRef0Ideal.main_arg5)
          ∧ r.2.mem ((c.tc : Thread Cert.FfnRef0Ideal.nD Cert.FfnRef0Ideal.τ).loc Cert.FfnRef0Ideal.main_arg6) = m' ((c.tc : Thread Cert.FfnRef0Ideal.nD Cert.FfnRef0Ideal.τ).loc Cert.FfnRef0Ideal.main_arg6)
          ∧ r.2.mem ((c.tc : Thread Cert.FfnRef0Ideal.nD Cert.FfnRef0Ideal.τ).loc Cert.FfnRef0Ideal.main_arg7) = m' ((c.tc : Thread Cert.FfnRef0Ideal.nD Cert.FfnRef0Ideal.τ).loc Cert.FfnRef0Ideal.main_arg7)
          ∧ r.2.mem ((c.tc : Thread Cert.FfnRef0Ideal.nD Cert.FfnRef0Ideal.τ).loc Cert.FfnRef0Ideal.main_arg8) = m' ((c.tc : Thread Cert.FfnRef0Ideal.nD Cert.FfnRef0Ideal.τ).loc Cert.FfnRef0Ideal.main_arg8))

def preserves_Ffn1_Ffn1Ideal : Prop :=
  True

def algebraic_Ffn1Ideal_FfnRef1Ideal [hFfn1Ideal : Cert.Ffn1Ideal.Facts] [hFfnRef1Ideal : Cert.FfnRef1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.FfnRef1Ideal.nD Cert.FfnRef1Ideal.τ Cert.FfnRef1Ideal.sig) → Buf (Elt Ideal) ℓ) (g' : Dev Cert.FfnRef1Ideal.nD → PrngReg), Pre_Ffn1Ideal m →
    (∀ c : Dev Cert.Ffn1Ideal.nD,
      m' ((c.tc : Thread Cert.FfnRef1Ideal.nD Cert.FfnRef1Ideal.τ).loc Cert.FfnRef1Ideal.main_arg0) = m ((c.tc : Thread Cert.Ffn1Ideal.nD Cert.Ffn1Ideal.τ).loc Cert.Ffn1Ideal.main_arg0)
      ∧ m' ((c.tc : Thread Cert.FfnRef1Ideal.nD Cert.FfnRef1Ideal.τ).loc Cert.FfnRef1Ideal.main_arg1) = m ((c.tc : Thread Cert.Ffn1Ideal.nD Cert.Ffn1Ideal.τ).loc Cert.Ffn1Ideal.main_arg1)
      ∧ m' ((c.tc : Thread Cert.FfnRef1Ideal.nD Cert.FfnRef1Ideal.τ).loc Cert.FfnRef1Ideal.main_arg2) = m ((c.tc : Thread Cert.Ffn1Ideal.nD Cert.Ffn1Ideal.τ).loc Cert.Ffn1Ideal.main_arg2)
      ∧ m' ((c.tc : Thread Cert.FfnRef1Ideal.nD Cert.FfnRef1Ideal.τ).loc Cert.FfnRef1Ideal.main_arg3) = m ((c.tc : Thread Cert.Ffn1Ideal.nD Cert.Ffn1Ideal.τ).loc Cert.Ffn1Ideal.main_arg3)
      ∧ m' ((c.tc : Thread Cert.FfnRef1Ideal.nD Cert.FfnRef1Ideal.τ).loc Cert.FfnRef1Ideal.main_arg4) = m ((c.tc : Thread Cert.Ffn1Ideal.nD Cert.Ffn1Ideal.τ).loc Cert.Ffn1Ideal.main_arg4)
      ∧ m' ((c.tc : Thread Cert.FfnRef1Ideal.nD Cert.FfnRef1Ideal.τ).loc Cert.FfnRef1Ideal.main_arg5) = m ((c.tc : Thread Cert.Ffn1Ideal.nD Cert.Ffn1Ideal.τ).loc Cert.Ffn1Ideal.main_arg5)
      ∧ m' ((c.tc : Thread Cert.FfnRef1Ideal.nD Cert.FfnRef1Ideal.τ).loc Cert.FfnRef1Ideal.main_arg6) = m ((c.tc : Thread Cert.Ffn1Ideal.nD Cert.Ffn1Ideal.τ).loc Cert.Ffn1Ideal.main_arg6)
      ∧ m' ((c.tc : Thread Cert.FfnRef1Ideal.nD Cert.FfnRef1Ideal.τ).loc Cert.FfnRef1Ideal.main_arg7) = m ((c.tc : Thread Cert.Ffn1Ideal.nD Cert.Ffn1Ideal.τ).loc Cert.Ffn1Ideal.main_arg7)
      ∧ m' ((c.tc : Thread Cert.FfnRef1Ideal.nD Cert.FfnRef1Ideal.τ).loc Cert.FfnRef1Ideal.main_arg8) = m ((c.tc : Thread Cert.Ffn1Ideal.nD Cert.Ffn1Ideal.τ).loc Cert.Ffn1Ideal.main_arg8)) →
    ∃ (v0 : (c : Dev Cert.Ffn1Ideal.nD) → Buf (Elt Ideal) ((c.tc : Thread Cert.Ffn1Ideal.nD Cert.Ffn1Ideal.τ).loc Cert.Ffn1Ideal.main_v2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v2) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ θ_run (Cert.FfnRef1Ideal.defs (F := Ideal)) (onTc (τ := Cert.FfnRef1Ideal.τ) (Cert.FfnRef1Ideal.main (F := Ideal))) ⟨m', fun _ => 0, g'⟩ (fun r => ∀ c : Dev Cert.FfnRef1Ideal.nD,
          r.2.mem ((c.tc : Thread Cert.FfnRef1Ideal.nD Cert.FfnRef1Ideal.τ).loc Cert.FfnRef1Ideal.main_v2) = v0 c
          ∧ r.2.mem ((c.tc : Thread Cert.FfnRef1Ideal.nD Cert.FfnRef1Ideal.τ).loc Cert.FfnRef1Ideal.main_arg0) = m' ((c.tc : Thread Cert.FfnRef1Ideal.nD Cert.FfnRef1Ideal.τ).loc Cert.FfnRef1Ideal.main_arg0)
          ∧ r.2.mem ((c.tc : Thread Cert.FfnRef1Ideal.nD Cert.FfnRef1Ideal.τ).loc Cert.FfnRef1Ideal.main_arg1) = m' ((c.tc : Thread Cert.FfnRef1Ideal.nD Cert.FfnRef1Ideal.τ).loc Cert.FfnRef1Ideal.main_arg1)
          ∧ r.2.mem ((c.tc : Thread Cert.FfnRef1Ideal.nD Cert.FfnRef1Ideal.τ).loc Cert.FfnRef1Ideal.main_arg2) = m' ((c.tc : Thread Cert.FfnRef1Ideal.nD Cert.FfnRef1Ideal.τ).loc Cert.FfnRef1Ideal.main_arg2)
          ∧ r.2.mem ((c.tc : Thread Cert.FfnRef1Ideal.nD Cert.FfnRef1Ideal.τ).loc Cert.FfnRef1Ideal.main_arg3) = m' ((c.tc : Thread Cert.FfnRef1Ideal.nD Cert.FfnRef1Ideal.τ).loc Cert.FfnRef1Ideal.main_arg3)
          ∧ r.2.mem ((c.tc : Thread Cert.FfnRef1Ideal.nD Cert.FfnRef1Ideal.τ).loc Cert.FfnRef1Ideal.main_arg4) = m' ((c.tc : Thread Cert.FfnRef1Ideal.nD Cert.FfnRef1Ideal.τ).loc Cert.FfnRef1Ideal.main_arg4)
          ∧ r.2.mem ((c.tc : Thread Cert.FfnRef1Ideal.nD Cert.FfnRef1Ideal.τ).loc Cert.FfnRef1Ideal.main_arg5) = m' ((c.tc : Thread Cert.FfnRef1Ideal.nD Cert.FfnRef1Ideal.τ).loc Cert.FfnRef1Ideal.main_arg5)
          ∧ r.2.mem ((c.tc : Thread Cert.FfnRef1Ideal.nD Cert.FfnRef1Ideal.τ).loc Cert.FfnRef1Ideal.main_arg6) = m' ((c.tc : Thread Cert.FfnRef1Ideal.nD Cert.FfnRef1Ideal.τ).loc Cert.FfnRef1Ideal.main_arg6)
          ∧ r.2.mem ((c.tc : Thread Cert.FfnRef1Ideal.nD Cert.FfnRef1Ideal.τ).loc Cert.FfnRef1Ideal.main_arg7) = m' ((c.tc : Thread Cert.FfnRef1Ideal.nD Cert.FfnRef1Ideal.τ).loc Cert.FfnRef1Ideal.main_arg7)
          ∧ r.2.mem ((c.tc : Thread Cert.FfnRef1Ideal.nD Cert.FfnRef1Ideal.τ).loc Cert.FfnRef1Ideal.main_arg8) = m' ((c.tc : Thread Cert.FfnRef1Ideal.nD Cert.FfnRef1Ideal.τ).loc Cert.FfnRef1Ideal.main_arg8))

def preserves_Ffn2_Ffn2Ideal : Prop :=
  True

def algebraic_Ffn2Ideal_FfnRef2Ideal [hFfn2Ideal : Cert.Ffn2Ideal.Facts] [hFfnRef2Ideal : Cert.FfnRef2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.FfnRef2Ideal.nD Cert.FfnRef2Ideal.τ Cert.FfnRef2Ideal.sig) → Buf (Elt Ideal) ℓ) (g' : Dev Cert.FfnRef2Ideal.nD → PrngReg), Pre_Ffn2Ideal m →
    (∀ c : Dev Cert.Ffn2Ideal.nD,
      m' ((c.tc : Thread Cert.FfnRef2Ideal.nD Cert.FfnRef2Ideal.τ).loc Cert.FfnRef2Ideal.main_arg0) = m ((c.tc : Thread Cert.Ffn2Ideal.nD Cert.Ffn2Ideal.τ).loc Cert.Ffn2Ideal.main_arg0)
      ∧ m' ((c.tc : Thread Cert.FfnRef2Ideal.nD Cert.FfnRef2Ideal.τ).loc Cert.FfnRef2Ideal.main_arg1) = m ((c.tc : Thread Cert.Ffn2Ideal.nD Cert.Ffn2Ideal.τ).loc Cert.Ffn2Ideal.main_arg1)
      ∧ m' ((c.tc : Thread Cert.FfnRef2Ideal.nD Cert.FfnRef2Ideal.τ).loc Cert.FfnRef2Ideal.main_arg2) = m ((c.tc : Thread Cert.Ffn2Ideal.nD Cert.Ffn2Ideal.τ).loc Cert.Ffn2Ideal.main_arg2)
      ∧ m' ((c.tc : Thread Cert.FfnRef2Ideal.nD Cert.FfnRef2Ideal.τ).loc Cert.FfnRef2Ideal.main_arg3) = m ((c.tc : Thread Cert.Ffn2Ideal.nD Cert.Ffn2Ideal.τ).loc Cert.Ffn2Ideal.main_arg3)
      ∧ m' ((c.tc : Thread Cert.FfnRef2Ideal.nD Cert.FfnRef2Ideal.τ).loc Cert.FfnRef2Ideal.main_arg4) = m ((c.tc : Thread Cert.Ffn2Ideal.nD Cert.Ffn2Ideal.τ).loc Cert.Ffn2Ideal.main_arg4)
      ∧ m' ((c.tc : Thread Cert.FfnRef2Ideal.nD Cert.FfnRef2Ideal.τ).loc Cert.FfnRef2Ideal.main_arg5) = m ((c.tc : Thread Cert.Ffn2Ideal.nD Cert.Ffn2Ideal.τ).loc Cert.Ffn2Ideal.main_arg5)
      ∧ m' ((c.tc : Thread Cert.FfnRef2Ideal.nD Cert.FfnRef2Ideal.τ).loc Cert.FfnRef2Ideal.main_arg6) = m ((c.tc : Thread Cert.Ffn2Ideal.nD Cert.Ffn2Ideal.τ).loc Cert.Ffn2Ideal.main_arg6)
      ∧ m' ((c.tc : Thread Cert.FfnRef2Ideal.nD Cert.FfnRef2Ideal.τ).loc Cert.FfnRef2Ideal.main_arg7) = m ((c.tc : Thread Cert.Ffn2Ideal.nD Cert.Ffn2Ideal.τ).loc Cert.Ffn2Ideal.main_arg7)
      ∧ m' ((c.tc : Thread Cert.FfnRef2Ideal.nD Cert.FfnRef2Ideal.τ).loc Cert.FfnRef2Ideal.main_arg8) = m ((c.tc : Thread Cert.Ffn2Ideal.nD Cert.Ffn2Ideal.τ).loc Cert.Ffn2Ideal.main_arg8)) →
    ∃ (v0 : (c : Dev Cert.Ffn2Ideal.nD) → Buf (Elt Ideal) ((c.tc : Thread Cert.Ffn2Ideal.nD Cert.Ffn2Ideal.τ).loc Cert.Ffn2Ideal.main_v2)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v2) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
          ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ θ_run (Cert.FfnRef2Ideal.defs (F := Ideal)) (onTc (τ := Cert.FfnRef2Ideal.τ) (Cert.FfnRef2Ideal.main (F := Ideal))) ⟨m', fun _ => 0, g'⟩ (fun r => ∀ c : Dev Cert.FfnRef2Ideal.nD,
          r.2.mem ((c.tc : Thread Cert.FfnRef2Ideal.nD Cert.FfnRef2Ideal.τ).loc Cert.FfnRef2Ideal.main_v2) = v0 c
          ∧ r.2.mem ((c.tc : Thread Cert.FfnRef2Ideal.nD Cert.FfnRef2Ideal.τ).loc Cert.FfnRef2Ideal.main_arg0) = m' ((c.tc : Thread Cert.FfnRef2Ideal.nD Cert.FfnRef2Ideal.τ).loc Cert.FfnRef2Ideal.main_arg0)
          ∧ r.2.mem ((c.tc : Thread Cert.FfnRef2Ideal.nD Cert.FfnRef2Ideal.τ).loc Cert.FfnRef2Ideal.main_arg1) = m' ((c.tc : Thread Cert.FfnRef2Ideal.nD Cert.FfnRef2Ideal.τ).loc Cert.FfnRef2Ideal.main_arg1)
          ∧ r.2.mem ((c.tc : Thread Cert.FfnRef2Ideal.nD Cert.FfnRef2Ideal.τ).loc Cert.FfnRef2Ideal.main_arg2) = m' ((c.tc : Thread Cert.FfnRef2Ideal.nD Cert.FfnRef2Ideal.τ).loc Cert.FfnRef2Ideal.main_arg2)
          ∧ r.2.mem ((c.tc : Thread Cert.FfnRef2Ideal.nD Cert.FfnRef2Ideal.τ).loc Cert.FfnRef2Ideal.main_arg3) = m' ((c.tc : Thread Cert.FfnRef2Ideal.nD Cert.FfnRef2Ideal.τ).loc Cert.FfnRef2Ideal.main_arg3)
          ∧ r.2.mem ((c.tc : Thread Cert.FfnRef2Ideal.nD Cert.FfnRef2Ideal.τ).loc Cert.FfnRef2Ideal.main_arg4) = m' ((c.tc : Thread Cert.FfnRef2Ideal.nD Cert.FfnRef2Ideal.τ).loc Cert.FfnRef2Ideal.main_arg4)
          ∧ r.2.mem ((c.tc : Thread Cert.FfnRef2Ideal.nD Cert.FfnRef2Ideal.τ).loc Cert.FfnRef2Ideal.main_arg5) = m' ((c.tc : Thread Cert.FfnRef2Ideal.nD Cert.FfnRef2Ideal.τ).loc Cert.FfnRef2Ideal.main_arg5)
          ∧ r.2.mem ((c.tc : Thread Cert.FfnRef2Ideal.nD Cert.FfnRef2Ideal.τ).loc Cert.FfnRef2Ideal.main_arg6) = m' ((c.tc : Thread Cert.FfnRef2Ideal.nD Cert.FfnRef2Ideal.τ).loc Cert.FfnRef2Ideal.main_arg6)
          ∧ r.2.mem ((c.tc : Thread Cert.FfnRef2Ideal.nD Cert.FfnRef2Ideal.τ).loc Cert.FfnRef2Ideal.main_arg7) = m' ((c.tc : Thread Cert.FfnRef2Ideal.nD Cert.FfnRef2Ideal.τ).loc Cert.FfnRef2Ideal.main_arg7)
          ∧ r.2.mem ((c.tc : Thread Cert.FfnRef2Ideal.nD Cert.FfnRef2Ideal.τ).loc Cert.FfnRef2Ideal.main_arg8) = m' ((c.tc : Thread Cert.FfnRef2Ideal.nD Cert.FfnRef2Ideal.τ).loc Cert.FfnRef2Ideal.main_arg8))

def preserves_Ffn3_Ffn3Ideal : Prop :=
  True

def algebraic_Ffn3Ideal_FfnRef3Ideal [hFfn3Ideal : Cert.Ffn3Ideal.Facts] [hFfnRef3Ideal : Cert.FfnRef3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.FfnRef3Ideal.nD Cert.FfnRef3Ideal.τ Cert.FfnRef3Ideal.sig) → Buf (Elt Ideal) ℓ) (g' : Dev Cert.FfnRef3Ideal.nD → PrngReg), Pre_Ffn3Ideal m →
    (∀ c : Dev Cert.Ffn3Ideal.nD,
      m' ((c.tc : Thread Cert.FfnRef3Ideal.nD Cert.FfnRef3Ideal.τ).loc Cert.FfnRef3Ideal.main_arg0) = m ((c.tc : Thread Cert.Ffn3Ideal.nD Cert.Ffn3Ideal.τ).loc Cert.Ffn3Ideal.main_arg0)
      ∧ m' ((c.tc : Thread Cert.FfnRef3Ideal.nD Cert.FfnRef3Ideal.τ).loc Cert.FfnRef3Ideal.main_arg1) = m ((c.tc : Thread Cert.Ffn3Ideal.nD Cert.Ffn3Ideal.τ).loc Cert.Ffn3Ideal.main_arg1)
      ∧ m' ((c.tc : Thread Cert.FfnRef3Ideal.nD Cert.FfnRef3Ideal.τ).loc Cert.FfnRef3Ideal.main_arg2) = m ((c.tc : Thread Cert.Ffn3Ideal.nD Cert.Ffn3Ideal.τ).loc Cert.Ffn3Ideal.main_arg2)
      ∧ m' ((c.tc : Thread Cert.FfnRef3Ideal.nD Cert.FfnRef3Ideal.τ).loc Cert.FfnRef3Ideal.main_arg3) = m ((c.tc : Thread Cert.Ffn3Ideal.nD Cert.Ffn3Ideal.τ).loc Cert.Ffn3Ideal.main_arg3)
      ∧ m' ((c.tc : Thread Cert.FfnRef3Ideal.nD Cert.FfnRef3Ideal.τ).loc Cert.FfnRef3Ideal.main_arg4) = m ((c.tc : Thread Cert.Ffn3Ideal.nD Cert.Ffn3Ideal.τ).loc Cert.Ffn3Ideal.main_arg4)
      ∧ m' ((c.tc : Thread Cert.FfnRef3Ideal.nD Cert.FfnRef3Ideal.τ).loc Cert.FfnRef3Ideal.main_arg5) = m ((c.tc : Thread Cert.Ffn3Ideal.nD Cert.Ffn3Ideal.τ).loc Cert.Ffn3Ideal.main_arg5)
      ∧ m' ((c.tc : Thread Cert.FfnRef3Ideal.nD Cert.FfnRef3Ideal.τ).loc Cert.FfnRef3Ideal.main_arg6) = m ((c.tc : Thread Cert.Ffn3Ideal.nD Cert.Ffn3Ideal.τ).loc Cert.Ffn3Ideal.main_arg6)
      ∧ m' ((c.tc : Thread Cert.FfnRef3Ideal.nD Cert.FfnRef3Ideal.τ).loc Cert.FfnRef3Ideal.main_arg7) = m ((c.tc : Thread Cert.Ffn3Ideal.nD Cert.Ffn3Ideal.τ).loc Cert.Ffn3Ideal.main_arg7)
      ∧ m' ((c.tc : Thread Cert.FfnRef3Ideal.nD Cert.FfnRef3Ideal.τ).loc Cert.FfnRef3Ideal.main_arg8) = m ((c.tc : Thread Cert.Ffn3Ideal.nD Cert.Ffn3Ideal.τ).loc Cert.Ffn3Ideal.main_arg8)) →
    ∃ (v0 : (c : Dev Cert.Ffn3Ideal.nD) → Buf (Elt Ideal) ((c.tc : Thread Cert.Ffn3Ideal.nD Cert.Ffn3Ideal.τ).loc Cert.Ffn3Ideal.main_v2)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v2) = v0 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
          ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
          ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
          ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6)
          ∧ r.2.mem ((c.tc : Thread Cert.Ffn3Ideal.nD Cert.Ffn3Ideal.τ).loc Cert.Ffn3Ideal.main_arg7) = m ((c.tc : Thread Cert.Ffn3Ideal.nD Cert.Ffn3Ideal.τ).loc Cert.Ffn3Ideal.main_arg7)
          ∧ r.2.mem ((c.tc : Thread Cert.Ffn3Ideal.nD Cert.Ffn3Ideal.τ).loc Cert.Ffn3Ideal.main_arg8) = m ((c.tc : Thread Cert.Ffn3Ideal.nD Cert.Ffn3Ideal.τ).loc Cert.Ffn3Ideal.main_arg8))
      ∧ θ_run (Cert.FfnRef3Ideal.defs (F := Ideal)) (onTc (τ := Cert.FfnRef3Ideal.τ) (Cert.FfnRef3Ideal.main (F := Ideal))) ⟨m', fun _ => 0, g'⟩ (fun r => ∀ c : Dev Cert.FfnRef3Ideal.nD,
          r.2.mem ((c.tc : Thread Cert.FfnRef3Ideal.nD Cert.FfnRef3Ideal.τ).loc Cert.FfnRef3Ideal.main_v2) = v0 c
          ∧ r.2.mem ((c.tc : Thread Cert.FfnRef3Ideal.nD Cert.FfnRef3Ideal.τ).loc Cert.FfnRef3Ideal.main_arg0) = m' ((c.tc : Thread Cert.FfnRef3Ideal.nD Cert.FfnRef3Ideal.τ).loc Cert.FfnRef3Ideal.main_arg0)
          ∧ r.2.mem ((c.tc : Thread Cert.FfnRef3Ideal.nD Cert.FfnRef3Ideal.τ).loc Cert.FfnRef3Ideal.main_arg1) = m' ((c.tc : Thread Cert.FfnRef3Ideal.nD Cert.FfnRef3Ideal.τ).loc Cert.FfnRef3Ideal.main_arg1)
          ∧ r.2.mem ((c.tc : Thread Cert.FfnRef3Ideal.nD Cert.FfnRef3Ideal.τ).loc Cert.FfnRef3Ideal.main_arg2) = m' ((c.tc : Thread Cert.FfnRef3Ideal.nD Cert.FfnRef3Ideal.τ).loc Cert.FfnRef3Ideal.main_arg2)
          ∧ r.2.mem ((c.tc : Thread Cert.FfnRef3Ideal.nD Cert.FfnRef3Ideal.τ).loc Cert.FfnRef3Ideal.main_arg3) = m' ((c.tc : Thread Cert.FfnRef3Ideal.nD Cert.FfnRef3Ideal.τ).loc Cert.FfnRef3Ideal.main_arg3)
          ∧ r.2.mem ((c.tc : Thread Cert.FfnRef3Ideal.nD Cert.FfnRef3Ideal.τ).loc Cert.FfnRef3Ideal.main_arg4) = m' ((c.tc : Thread Cert.FfnRef3Ideal.nD Cert.FfnRef3Ideal.τ).loc Cert.FfnRef3Ideal.main_arg4)
          ∧ r.2.mem ((c.tc : Thread Cert.FfnRef3Ideal.nD Cert.FfnRef3Ideal.τ).loc Cert.FfnRef3Ideal.main_arg5) = m' ((c.tc : Thread Cert.FfnRef3Ideal.nD Cert.FfnRef3Ideal.τ).loc Cert.FfnRef3Ideal.main_arg5)
          ∧ r.2.mem ((c.tc : Thread Cert.FfnRef3Ideal.nD Cert.FfnRef3Ideal.τ).loc Cert.FfnRef3Ideal.main_arg6) = m' ((c.tc : Thread Cert.FfnRef3Ideal.nD Cert.FfnRef3Ideal.τ).loc Cert.FfnRef3Ideal.main_arg6)
          ∧ r.2.mem ((c.tc : Thread Cert.FfnRef3Ideal.nD Cert.FfnRef3Ideal.τ).loc Cert.FfnRef3Ideal.main_arg7) = m' ((c.tc : Thread Cert.FfnRef3Ideal.nD Cert.FfnRef3Ideal.τ).loc Cert.FfnRef3Ideal.main_arg7)
          ∧ r.2.mem ((c.tc : Thread Cert.FfnRef3Ideal.nD Cert.FfnRef3Ideal.τ).loc Cert.FfnRef3Ideal.main_arg8) = m' ((c.tc : Thread Cert.FfnRef3Ideal.nD Cert.FfnRef3Ideal.τ).loc Cert.FfnRef3Ideal.main_arg8))

def preserves_Qkv0_Qkv0Ideal : Prop :=
  True

def algebraic_Qkv0Ideal_QkvRef0Ideal [hQkv0Ideal : Cert.Qkv0Ideal.Facts] [hQkvRef0Ideal : Cert.QkvRef0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.QkvRef0Ideal.nD Cert.QkvRef0Ideal.τ Cert.QkvRef0Ideal.sig) → Buf (Elt Ideal) ℓ) (g' : Dev Cert.QkvRef0Ideal.nD → PrngReg), Pre_Qkv0Ideal m →
    (∀ c : Dev Cert.Qkv0Ideal.nD,
      m' ((c.tc : Thread Cert.QkvRef0Ideal.nD Cert.QkvRef0Ideal.τ).loc Cert.QkvRef0Ideal.main_arg0) = m ((c.tc : Thread Cert.Qkv0Ideal.nD Cert.Qkv0Ideal.τ).loc Cert.Qkv0Ideal.main_arg0)
      ∧ m' ((c.tc : Thread Cert.QkvRef0Ideal.nD Cert.QkvRef0Ideal.τ).loc Cert.QkvRef0Ideal.main_arg1) = m ((c.tc : Thread Cert.Qkv0Ideal.nD Cert.Qkv0Ideal.τ).loc Cert.Qkv0Ideal.main_arg1)
      ∧ m' ((c.tc : Thread Cert.QkvRef0Ideal.nD Cert.QkvRef0Ideal.τ).loc Cert.QkvRef0Ideal.main_arg2) = m ((c.tc : Thread Cert.Qkv0Ideal.nD Cert.Qkv0Ideal.τ).loc Cert.Qkv0Ideal.main_arg2)
      ∧ m' ((c.tc : Thread Cert.QkvRef0Ideal.nD Cert.QkvRef0Ideal.τ).loc Cert.QkvRef0Ideal.main_arg3) = m ((c.tc : Thread Cert.Qkv0Ideal.nD Cert.Qkv0Ideal.τ).loc Cert.Qkv0Ideal.main_arg3)
      ∧ m' ((c.tc : Thread Cert.QkvRef0Ideal.nD Cert.QkvRef0Ideal.τ).loc Cert.QkvRef0Ideal.main_arg4) = m ((c.tc : Thread Cert.Qkv0Ideal.nD Cert.Qkv0Ideal.τ).loc Cert.Qkv0Ideal.main_arg4)
      ∧ m' ((c.tc : Thread Cert.QkvRef0Ideal.nD Cert.QkvRef0Ideal.τ).loc Cert.QkvRef0Ideal.main_arg5) = m ((c.tc : Thread Cert.Qkv0Ideal.nD Cert.Qkv0Ideal.τ).loc Cert.Qkv0Ideal.main_arg5)
      ∧ m' ((c.tc : Thread Cert.QkvRef0Ideal.nD Cert.QkvRef0Ideal.τ).loc Cert.QkvRef0Ideal.main_arg6) = m ((c.tc : Thread Cert.Qkv0Ideal.nD Cert.Qkv0Ideal.τ).loc Cert.Qkv0Ideal.main_arg6)) →
    ∃ (v0 : (c : Dev Cert.Qkv0Ideal.nD) → Buf (Elt Ideal) ((c.tc : Thread Cert.Qkv0Ideal.nD Cert.Qkv0Ideal.τ).loc Cert.Qkv0Ideal.main_v2_0)) (v1 : (c : Dev Cert.Qkv0Ideal.nD) → Buf (Elt Ideal) ((c.tc : Thread Cert.Qkv0Ideal.nD Cert.Qkv0Ideal.τ).loc Cert.Qkv0Ideal.main_v2_1)) (v2 : (c : Dev Cert.Qkv0Ideal.nD) → Buf (Elt Ideal) ((c.tc : Thread Cert.Qkv0Ideal.nD Cert.Qkv0Ideal.τ).loc Cert.Qkv0Ideal.main_v2_2)) (v3 : (c : Dev Cert.Qkv0Ideal.nD) → Buf (Elt Ideal) ((c.tc : Thread Cert.Qkv0Ideal.nD Cert.Qkv0Ideal.τ).loc Cert.Qkv0Ideal.main_v2_3)) (v4 : (c : Dev Cert.Qkv0Ideal.nD) → Buf (Elt Ideal) ((c.tc : Thread Cert.Qkv0Ideal.nD Cert.Qkv0Ideal.τ).loc Cert.Qkv0Ideal.main_v2_4)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v2_0) = v0 c
          ∧ r.2.mem ((c.tc : Thread Cert.Qkv0Ideal.nD Cert.Qkv0Ideal.τ).loc Cert.Qkv0Ideal.main_v2_1) = v1 c
          ∧ r.2.mem ((c.tc : Thread Cert.Qkv0Ideal.nD Cert.Qkv0Ideal.τ).loc Cert.Qkv0Ideal.main_v2_2) = v2 c
          ∧ r.2.mem ((c.tc : Thread Cert.Qkv0Ideal.nD Cert.Qkv0Ideal.τ).loc Cert.Qkv0Ideal.main_v2_3) = v3 c
          ∧ r.2.mem ((c.tc : Thread Cert.Qkv0Ideal.nD Cert.Qkv0Ideal.τ).loc Cert.Qkv0Ideal.main_v2_4) = v4 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
          ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2)
          ∧ r.2.mem ((c.tc : Thread Cert.Qkv0Ideal.nD Cert.Qkv0Ideal.τ).loc Cert.Qkv0Ideal.main_arg3) = m ((c.tc : Thread Cert.Qkv0Ideal.nD Cert.Qkv0Ideal.τ).loc Cert.Qkv0Ideal.main_arg3)
          ∧ r.2.mem ((c.tc : Thread Cert.Qkv0Ideal.nD Cert.Qkv0Ideal.τ).loc Cert.Qkv0Ideal.main_arg4) = m ((c.tc : Thread Cert.Qkv0Ideal.nD Cert.Qkv0Ideal.τ).loc Cert.Qkv0Ideal.main_arg4)
          ∧ r.2.mem ((c.tc : Thread Cert.Qkv0Ideal.nD Cert.Qkv0Ideal.τ).loc Cert.Qkv0Ideal.main_arg5) = m ((c.tc : Thread Cert.Qkv0Ideal.nD Cert.Qkv0Ideal.τ).loc Cert.Qkv0Ideal.main_arg5)
          ∧ r.2.mem ((c.tc : Thread Cert.Qkv0Ideal.nD Cert.Qkv0Ideal.τ).loc Cert.Qkv0Ideal.main_arg6) = m ((c.tc : Thread Cert.Qkv0Ideal.nD Cert.Qkv0Ideal.τ).loc Cert.Qkv0Ideal.main_arg6))
      ∧ θ_run (Cert.QkvRef0Ideal.defs (F := Ideal)) (onTc (τ := Cert.QkvRef0Ideal.τ) (Cert.QkvRef0Ideal.main (F := Ideal))) ⟨m', fun _ => 0, g'⟩ (fun r => ∀ c : Dev Cert.QkvRef0Ideal.nD,
          r.2.mem ((c.tc : Thread Cert.QkvRef0Ideal.nD Cert.QkvRef0Ideal.τ).loc Cert.QkvRef0Ideal.main_v0_0) = v0 c
          ∧ r.2.mem ((c.tc : Thread Cert.QkvRef0Ideal.nD Cert.QkvRef0Ideal.τ).loc Cert.QkvRef0Ideal.main_v0_1) = v1 c
          ∧ r.2.mem ((c.tc : Thread Cert.QkvRef0Ideal.nD Cert.QkvRef0Ideal.τ).loc Cert.QkvRef0Ideal.main_v0_2) = v2 c
          ∧ r.2.mem ((c.tc : Thread Cert.QkvRef0Ideal.nD Cert.QkvRef0Ideal.τ).loc Cert.QkvRef0Ideal.main_v0_3) = v3 c
          ∧ r.2.mem ((c.tc : Thread Cert.QkvRef0Ideal.nD Cert.QkvRef0Ideal.τ).loc Cert.QkvRef0Ideal.main_v0_4) = v4 c
          ∧ r.2.mem ((c.tc : Thread Cert.QkvRef0Ideal.nD Cert.QkvRef0Ideal.τ).loc Cert.QkvRef0Ideal.main_arg0) = m' ((c.tc : Thread Cert.QkvRef0Ideal.nD Cert.QkvRef0Ideal.τ).loc Cert.QkvRef0Ideal.main_arg0)
          ∧ r.2.mem ((c.tc : Thread Cert.QkvRef0Ideal.nD Cert.QkvRef0Ideal.τ).loc Cert.QkvRef0Ideal.main_arg1) = m' ((c.tc : Thread Cert.QkvRef0Ideal.nD Cert.QkvRef0Ideal.τ).loc Cert.QkvRef0Ideal.main_arg1)
          ∧ r.2.mem ((c.tc : Thread Cert.QkvRef0Ideal.nD Cert.QkvRef0Ideal.τ).loc Cert.QkvRef0Ideal.main_arg2) = m' ((c.tc : Thread Cert.QkvRef0Ideal.nD Cert.QkvRef0Ideal.τ).loc Cert.QkvRef0Ideal.main_arg2)
          ∧ r.2.mem ((c.tc : Thread Cert.QkvRef0Ideal.nD Cert.QkvRef0Ideal.τ).loc Cert.QkvRef0Ideal.main_arg3) = m' ((c.tc : Thread Cert.QkvRef0Ideal.nD Cert.QkvRef0Ideal.τ).loc Cert.QkvRef0Ideal.main_arg3)
          ∧ r.2.mem ((c.tc : Thread Cert.QkvRef0Ideal.nD Cert.QkvRef0Ideal.τ).loc Cert.QkvRef0Ideal.main_arg4) = m' ((c.tc : Thread Cert.QkvRef0Ideal.nD Cert.QkvRef0Ideal.τ).loc Cert.QkvRef0Ideal.main_arg4)
          ∧ r.2.mem ((c.tc : Thread Cert.QkvRef0Ideal.nD Cert.QkvRef0Ideal.τ).loc Cert.QkvRef0Ideal.main_arg5) = m' ((c.tc : Thread Cert.QkvRef0Ideal.nD Cert.QkvRef0Ideal.τ).loc Cert.QkvRef0Ideal.main_arg5)
          ∧ r.2.mem ((c.tc : Thread Cert.QkvRef0Ideal.nD Cert.QkvRef0Ideal.τ).loc Cert.QkvRef0Ideal.main_arg6) = m' ((c.tc : Thread Cert.QkvRef0Ideal.nD Cert.QkvRef0Ideal.τ).loc Cert.QkvRef0Ideal.main_arg6))

def preserves_Qkv1_Qkv1Ideal : Prop :=
  True

def algebraic_Qkv1Ideal_QkvRef1Ideal [hQkv1Ideal : Cert.Qkv1Ideal.Facts] [hQkvRef1Ideal : Cert.QkvRef1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.QkvRef1Ideal.nD Cert.QkvRef1Ideal.τ Cert.QkvRef1Ideal.sig) → Buf (Elt Ideal) ℓ) (g' : Dev Cert.QkvRef1Ideal.nD → PrngReg), Pre_Qkv1Ideal m →
    (∀ c : Dev Cert.Qkv1Ideal.nD,
      m' ((c.tc : Thread Cert.QkvRef1Ideal.nD Cert.QkvRef1Ideal.τ).loc Cert.QkvRef1Ideal.main_arg0) = m ((c.tc : Thread Cert.Qkv1Ideal.nD Cert.Qkv1Ideal.τ).loc Cert.Qkv1Ideal.main_arg0)
      ∧ m' ((c.tc : Thread Cert.QkvRef1Ideal.nD Cert.QkvRef1Ideal.τ).loc Cert.QkvRef1Ideal.main_arg1) = m ((c.tc : Thread Cert.Qkv1Ideal.nD Cert.Qkv1Ideal.τ).loc Cert.Qkv1Ideal.main_arg1)
      ∧ m' ((c.tc : Thread Cert.QkvRef1Ideal.nD Cert.QkvRef1Ideal.τ).loc Cert.QkvRef1Ideal.main_arg2) = m ((c.tc : Thread Cert.Qkv1Ideal.nD Cert.Qkv1Ideal.τ).loc Cert.Qkv1Ideal.main_arg2)
      ∧ m' ((c.tc : Thread Cert.QkvRef1Ideal.nD Cert.QkvRef1Ideal.τ).loc Cert.QkvRef1Ideal.main_arg3) = m ((c.tc : Thread Cert.Qkv1Ideal.nD Cert.Qkv1Ideal.τ).loc Cert.Qkv1Ideal.main_arg3)
      ∧ m' ((c.tc : Thread Cert.QkvRef1Ideal.nD Cert.QkvRef1Ideal.τ).loc Cert.QkvRef1Ideal.main_arg4) = m ((c.tc : Thread Cert.Qkv1Ideal.nD Cert.Qkv1Ideal.τ).loc Cert.Qkv1Ideal.main_arg4)
      ∧ m' ((c.tc : Thread Cert.QkvRef1Ideal.nD Cert.QkvRef1Ideal.τ).loc Cert.QkvRef1Ideal.main_arg5) = m ((c.tc : Thread Cert.Qkv1Ideal.nD Cert.Qkv1Ideal.τ).loc Cert.Qkv1Ideal.main_arg5)
      ∧ m' ((c.tc : Thread Cert.QkvRef1Ideal.nD Cert.QkvRef1Ideal.τ).loc Cert.QkvRef1Ideal.main_arg6) = m ((c.tc : Thread Cert.Qkv1Ideal.nD Cert.Qkv1Ideal.τ).loc Cert.Qkv1Ideal.main_arg6)) →
    ∃ (v0 : (c : Dev Cert.Qkv1Ideal.nD) → Buf (Elt Ideal) ((c.tc : Thread Cert.Qkv1Ideal.nD Cert.Qkv1Ideal.τ).loc Cert.Qkv1Ideal.main_v2_0)) (v1 : (c : Dev Cert.Qkv1Ideal.nD) → Buf (Elt Ideal) ((c.tc : Thread Cert.Qkv1Ideal.nD Cert.Qkv1Ideal.τ).loc Cert.Qkv1Ideal.main_v2_1)) (v2 : (c : Dev Cert.Qkv1Ideal.nD) → Buf (Elt Ideal) ((c.tc : Thread Cert.Qkv1Ideal.nD Cert.Qkv1Ideal.τ).loc Cert.Qkv1Ideal.main_v2_2)) (v3 : (c : Dev Cert.Qkv1Ideal.nD) → Buf (Elt Ideal) ((c.tc : Thread Cert.Qkv1Ideal.nD Cert.Qkv1Ideal.τ).loc Cert.Qkv1Ideal.main_v2_3)) (v4 : (c : Dev Cert.Qkv1Ideal.nD) → Buf (Elt Ideal) ((c.tc : Thread Cert.Qkv1Ideal.nD Cert.Qkv1Ideal.τ).loc Cert.Qkv1Ideal.main_v2_4)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v2_0) = v0 c
          ∧ r.2.mem ((c.tc : Thread Cert.Qkv1Ideal.nD Cert.Qkv1Ideal.τ).loc Cert.Qkv1Ideal.main_v2_1) = v1 c
          ∧ r.2.mem ((c.tc : Thread Cert.Qkv1Ideal.nD Cert.Qkv1Ideal.τ).loc Cert.Qkv1Ideal.main_v2_2) = v2 c
          ∧ r.2.mem ((c.tc : Thread Cert.Qkv1Ideal.nD Cert.Qkv1Ideal.τ).loc Cert.Qkv1Ideal.main_v2_3) = v3 c
          ∧ r.2.mem ((c.tc : Thread Cert.Qkv1Ideal.nD Cert.Qkv1Ideal.τ).loc Cert.Qkv1Ideal.main_v2_4) = v4 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
          ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5)
          ∧ r.2.mem ((c.tc : Thread Cert.Qkv1Ideal.nD Cert.Qkv1Ideal.τ).loc Cert.Qkv1Ideal.main_arg6) = m ((c.tc : Thread Cert.Qkv1Ideal.nD Cert.Qkv1Ideal.τ).loc Cert.Qkv1Ideal.main_arg6))
      ∧ θ_run (Cert.QkvRef1Ideal.defs (F := Ideal)) (onTc (τ := Cert.QkvRef1Ideal.τ) (Cert.QkvRef1Ideal.main (F := Ideal))) ⟨m', fun _ => 0, g'⟩ (fun r => ∀ c : Dev Cert.QkvRef1Ideal.nD,
          r.2.mem ((c.tc : Thread Cert.QkvRef1Ideal.nD Cert.QkvRef1Ideal.τ).loc Cert.QkvRef1Ideal.main_v0_0) = v0 c
          ∧ r.2.mem ((c.tc : Thread Cert.QkvRef1Ideal.nD Cert.QkvRef1Ideal.τ).loc Cert.QkvRef1Ideal.main_v0_1) = v1 c
          ∧ r.2.mem ((c.tc : Thread Cert.QkvRef1Ideal.nD Cert.QkvRef1Ideal.τ).loc Cert.QkvRef1Ideal.main_v0_2) = v2 c
          ∧ r.2.mem ((c.tc : Thread Cert.QkvRef1Ideal.nD Cert.QkvRef1Ideal.τ).loc Cert.QkvRef1Ideal.main_v0_3) = v3 c
          ∧ r.2.mem ((c.tc : Thread Cert.QkvRef1Ideal.nD Cert.QkvRef1Ideal.τ).loc Cert.QkvRef1Ideal.main_v0_4) = v4 c
          ∧ r.2.mem ((c.tc : Thread Cert.QkvRef1Ideal.nD Cert.QkvRef1Ideal.τ).loc Cert.QkvRef1Ideal.main_arg0) = m' ((c.tc : Thread Cert.QkvRef1Ideal.nD Cert.QkvRef1Ideal.τ).loc Cert.QkvRef1Ideal.main_arg0)
          ∧ r.2.mem ((c.tc : Thread Cert.QkvRef1Ideal.nD Cert.QkvRef1Ideal.τ).loc Cert.QkvRef1Ideal.main_arg1) = m' ((c.tc : Thread Cert.QkvRef1Ideal.nD Cert.QkvRef1Ideal.τ).loc Cert.QkvRef1Ideal.main_arg1)
          ∧ r.2.mem ((c.tc : Thread Cert.QkvRef1Ideal.nD Cert.QkvRef1Ideal.τ).loc Cert.QkvRef1Ideal.main_arg2) = m' ((c.tc : Thread Cert.QkvRef1Ideal.nD Cert.QkvRef1Ideal.τ).loc Cert.QkvRef1Ideal.main_arg2)
          ∧ r.2.mem ((c.tc : Thread Cert.QkvRef1Ideal.nD Cert.QkvRef1Ideal.τ).loc Cert.QkvRef1Ideal.main_arg3) = m' ((c.tc : Thread Cert.QkvRef1Ideal.nD Cert.QkvRef1Ideal.τ).loc Cert.QkvRef1Ideal.main_arg3)
          ∧ r.2.mem ((c.tc : Thread Cert.QkvRef1Ideal.nD Cert.QkvRef1Ideal.τ).loc Cert.QkvRef1Ideal.main_arg4) = m' ((c.tc : Thread Cert.QkvRef1Ideal.nD Cert.QkvRef1Ideal.τ).loc Cert.QkvRef1Ideal.main_arg4)
          ∧ r.2.mem ((c.tc : Thread Cert.QkvRef1Ideal.nD Cert.QkvRef1Ideal.τ).loc Cert.QkvRef1Ideal.main_arg5) = m' ((c.tc : Thread Cert.QkvRef1Ideal.nD Cert.QkvRef1Ideal.τ).loc Cert.QkvRef1Ideal.main_arg5)
          ∧ r.2.mem ((c.tc : Thread Cert.QkvRef1Ideal.nD Cert.QkvRef1Ideal.τ).loc Cert.QkvRef1Ideal.main_arg6) = m' ((c.tc : Thread Cert.QkvRef1Ideal.nD Cert.QkvRef1Ideal.τ).loc Cert.QkvRef1Ideal.main_arg6))

def preserves_Qkv2_Qkv2Ideal : Prop :=
  True

def algebraic_Qkv2Ideal_QkvRef2Ideal [hQkv2Ideal : Cert.Qkv2Ideal.Facts] [hQkvRef2Ideal : Cert.QkvRef2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.QkvRef2Ideal.nD Cert.QkvRef2Ideal.τ Cert.QkvRef2Ideal.sig) → Buf (Elt Ideal) ℓ) (g' : Dev Cert.QkvRef2Ideal.nD → PrngReg), Pre_Qkv2Ideal m →
    (∀ c : Dev Cert.Qkv2Ideal.nD,
      m' ((c.tc : Thread Cert.QkvRef2Ideal.nD Cert.QkvRef2Ideal.τ).loc Cert.QkvRef2Ideal.main_arg0) = m ((c.tc : Thread Cert.Qkv2Ideal.nD Cert.Qkv2Ideal.τ).loc Cert.Qkv2Ideal.main_arg0)
      ∧ m' ((c.tc : Thread Cert.QkvRef2Ideal.nD Cert.QkvRef2Ideal.τ).loc Cert.QkvRef2Ideal.main_arg1) = m ((c.tc : Thread Cert.Qkv2Ideal.nD Cert.Qkv2Ideal.τ).loc Cert.Qkv2Ideal.main_arg1)
      ∧ m' ((c.tc : Thread Cert.QkvRef2Ideal.nD Cert.QkvRef2Ideal.τ).loc Cert.QkvRef2Ideal.main_arg2) = m ((c.tc : Thread Cert.Qkv2Ideal.nD Cert.Qkv2Ideal.τ).loc Cert.Qkv2Ideal.main_arg2)
      ∧ m' ((c.tc : Thread Cert.QkvRef2Ideal.nD Cert.QkvRef2Ideal.τ).loc Cert.QkvRef2Ideal.main_arg3) = m ((c.tc : Thread Cert.Qkv2Ideal.nD Cert.Qkv2Ideal.τ).loc Cert.Qkv2Ideal.main_arg3)
      ∧ m' ((c.tc : Thread Cert.QkvRef2Ideal.nD Cert.QkvRef2Ideal.τ).loc Cert.QkvRef2Ideal.main_arg4) = m ((c.tc : Thread Cert.Qkv2Ideal.nD Cert.Qkv2Ideal.τ).loc Cert.Qkv2Ideal.main_arg4)
      ∧ m' ((c.tc : Thread Cert.QkvRef2Ideal.nD Cert.QkvRef2Ideal.τ).loc Cert.QkvRef2Ideal.main_arg5) = m ((c.tc : Thread Cert.Qkv2Ideal.nD Cert.Qkv2Ideal.τ).loc Cert.Qkv2Ideal.main_arg5)
      ∧ m' ((c.tc : Thread Cert.QkvRef2Ideal.nD Cert.QkvRef2Ideal.τ).loc Cert.QkvRef2Ideal.main_arg6) = m ((c.tc : Thread Cert.Qkv2Ideal.nD Cert.Qkv2Ideal.τ).loc Cert.Qkv2Ideal.main_arg6)) →
    ∃ (v0 : (c : Dev Cert.Qkv2Ideal.nD) → Buf (Elt Ideal) ((c.tc : Thread Cert.Qkv2Ideal.nD Cert.Qkv2Ideal.τ).loc Cert.Qkv2Ideal.main_v2_0)) (v1 : (c : Dev Cert.Qkv2Ideal.nD) → Buf (Elt Ideal) ((c.tc : Thread Cert.Qkv2Ideal.nD Cert.Qkv2Ideal.τ).loc Cert.Qkv2Ideal.main_v2_1)) (v2 : (c : Dev Cert.Qkv2Ideal.nD) → Buf (Elt Ideal) ((c.tc : Thread Cert.Qkv2Ideal.nD Cert.Qkv2Ideal.τ).loc Cert.Qkv2Ideal.main_v2_2)) (v3 : (c : Dev Cert.Qkv2Ideal.nD) → Buf (Elt Ideal) ((c.tc : Thread Cert.Qkv2Ideal.nD Cert.Qkv2Ideal.τ).loc Cert.Qkv2Ideal.main_v2_3)) (v4 : (c : Dev Cert.Qkv2Ideal.nD) → Buf (Elt Ideal) ((c.tc : Thread Cert.Qkv2Ideal.nD Cert.Qkv2Ideal.τ).loc Cert.Qkv2Ideal.main_v2_4)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v2_0) = v0 c
          ∧ r.2.mem ((c.tc : Thread Cert.Qkv2Ideal.nD Cert.Qkv2Ideal.τ).loc Cert.Qkv2Ideal.main_v2_1) = v1 c
          ∧ r.2.mem ((c.tc : Thread Cert.Qkv2Ideal.nD Cert.Qkv2Ideal.τ).loc Cert.Qkv2Ideal.main_v2_2) = v2 c
          ∧ r.2.mem ((c.tc : Thread Cert.Qkv2Ideal.nD Cert.Qkv2Ideal.τ).loc Cert.Qkv2Ideal.main_v2_3) = v3 c
          ∧ r.2.mem ((c.tc : Thread Cert.Qkv2Ideal.nD Cert.Qkv2Ideal.τ).loc Cert.Qkv2Ideal.main_v2_4) = v4 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
          ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
          ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
          ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4)
          ∧ r.2.mem ((c.tc : Thread Cert.Qkv2Ideal.nD Cert.Qkv2Ideal.τ).loc Cert.Qkv2Ideal.main_arg5) = m ((c.tc : Thread Cert.Qkv2Ideal.nD Cert.Qkv2Ideal.τ).loc Cert.Qkv2Ideal.main_arg5)
          ∧ r.2.mem ((c.tc : Thread Cert.Qkv2Ideal.nD Cert.Qkv2Ideal.τ).loc Cert.Qkv2Ideal.main_arg6) = m ((c.tc : Thread Cert.Qkv2Ideal.nD Cert.Qkv2Ideal.τ).loc Cert.Qkv2Ideal.main_arg6))
      ∧ θ_run (Cert.QkvRef2Ideal.defs (F := Ideal)) (onTc (τ := Cert.QkvRef2Ideal.τ) (Cert.QkvRef2Ideal.main (F := Ideal))) ⟨m', fun _ => 0, g'⟩ (fun r => ∀ c : Dev Cert.QkvRef2Ideal.nD,
          r.2.mem ((c.tc : Thread Cert.QkvRef2Ideal.nD Cert.QkvRef2Ideal.τ).loc Cert.QkvRef2Ideal.main_v0_0) = v0 c
          ∧ r.2.mem ((c.tc : Thread Cert.QkvRef2Ideal.nD Cert.QkvRef2Ideal.τ).loc Cert.QkvRef2Ideal.main_v0_1) = v1 c
          ∧ r.2.mem ((c.tc : Thread Cert.QkvRef2Ideal.nD Cert.QkvRef2Ideal.τ).loc Cert.QkvRef2Ideal.main_v0_2) = v2 c
          ∧ r.2.mem ((c.tc : Thread Cert.QkvRef2Ideal.nD Cert.QkvRef2Ideal.τ).loc Cert.QkvRef2Ideal.main_v0_3) = v3 c
          ∧ r.2.mem ((c.tc : Thread Cert.QkvRef2Ideal.nD Cert.QkvRef2Ideal.τ).loc Cert.QkvRef2Ideal.main_v0_4) = v4 c
          ∧ r.2.mem ((c.tc : Thread Cert.QkvRef2Ideal.nD Cert.QkvRef2Ideal.τ).loc Cert.QkvRef2Ideal.main_arg0) = m' ((c.tc : Thread Cert.QkvRef2Ideal.nD Cert.QkvRef2Ideal.τ).loc Cert.QkvRef2Ideal.main_arg0)
          ∧ r.2.mem ((c.tc : Thread Cert.QkvRef2Ideal.nD Cert.QkvRef2Ideal.τ).loc Cert.QkvRef2Ideal.main_arg1) = m' ((c.tc : Thread Cert.QkvRef2Ideal.nD Cert.QkvRef2Ideal.τ).loc Cert.QkvRef2Ideal.main_arg1)
          ∧ r.2.mem ((c.tc : Thread Cert.QkvRef2Ideal.nD Cert.QkvRef2Ideal.τ).loc Cert.QkvRef2Ideal.main_arg2) = m' ((c.tc : Thread Cert.QkvRef2Ideal.nD Cert.QkvRef2Ideal.τ).loc Cert.QkvRef2Ideal.main_arg2)
          ∧ r.2.mem ((c.tc : Thread Cert.QkvRef2Ideal.nD Cert.QkvRef2Ideal.τ).loc Cert.QkvRef2Ideal.main_arg3) = m' ((c.tc : Thread Cert.QkvRef2Ideal.nD Cert.QkvRef2Ideal.τ).loc Cert.QkvRef2Ideal.main_arg3)
          ∧ r.2.mem ((c.tc : Thread Cert.QkvRef2Ideal.nD Cert.QkvRef2Ideal.τ).loc Cert.QkvRef2Ideal.main_arg4) = m' ((c.tc : Thread Cert.QkvRef2Ideal.nD Cert.QkvRef2Ideal.τ).loc Cert.QkvRef2Ideal.main_arg4)
          ∧ r.2.mem ((c.tc : Thread Cert.QkvRef2Ideal.nD Cert.QkvRef2Ideal.τ).loc Cert.QkvRef2Ideal.main_arg5) = m' ((c.tc : Thread Cert.QkvRef2Ideal.nD Cert.QkvRef2Ideal.τ).loc Cert.QkvRef2Ideal.main_arg5)
          ∧ r.2.mem ((c.tc : Thread Cert.QkvRef2Ideal.nD Cert.QkvRef2Ideal.τ).loc Cert.QkvRef2Ideal.main_arg6) = m' ((c.tc : Thread Cert.QkvRef2Ideal.nD Cert.QkvRef2Ideal.τ).loc Cert.QkvRef2Ideal.main_arg6))

def preserves_Qkv3_Qkv3Ideal : Prop :=
  True

def algebraic_Qkv3Ideal_QkvRef3Ideal [hQkv3Ideal : Cert.Qkv3Ideal.Facts] [hQkvRef3Ideal : Cert.QkvRef3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg)
    (m' : (ℓ : Loc Cert.QkvRef3Ideal.nD Cert.QkvRef3Ideal.τ Cert.QkvRef3Ideal.sig) → Buf (Elt Ideal) ℓ) (g' : Dev Cert.QkvRef3Ideal.nD → PrngReg), Pre_Qkv3Ideal m →
    (∀ c : Dev Cert.Qkv3Ideal.nD,
      m' ((c.tc : Thread Cert.QkvRef3Ideal.nD Cert.QkvRef3Ideal.τ).loc Cert.QkvRef3Ideal.main_arg0) = m ((c.tc : Thread Cert.Qkv3Ideal.nD Cert.Qkv3Ideal.τ).loc Cert.Qkv3Ideal.main_arg0)
      ∧ m' ((c.tc : Thread Cert.QkvRef3Ideal.nD Cert.QkvRef3Ideal.τ).loc Cert.QkvRef3Ideal.main_arg1) = m ((c.tc : Thread Cert.Qkv3Ideal.nD Cert.Qkv3Ideal.τ).loc Cert.Qkv3Ideal.main_arg1)
      ∧ m' ((c.tc : Thread Cert.QkvRef3Ideal.nD Cert.QkvRef3Ideal.τ).loc Cert.QkvRef3Ideal.main_arg2) = m ((c.tc : Thread Cert.Qkv3Ideal.nD Cert.Qkv3Ideal.τ).loc Cert.Qkv3Ideal.main_arg2)
      ∧ m' ((c.tc : Thread Cert.QkvRef3Ideal.nD Cert.QkvRef3Ideal.τ).loc Cert.QkvRef3Ideal.main_arg3) = m ((c.tc : Thread Cert.Qkv3Ideal.nD Cert.Qkv3Ideal.τ).loc Cert.Qkv3Ideal.main_arg3)
      ∧ m' ((c.tc : Thread Cert.QkvRef3Ideal.nD Cert.QkvRef3Ideal.τ).loc Cert.QkvRef3Ideal.main_arg4) = m ((c.tc : Thread Cert.Qkv3Ideal.nD Cert.Qkv3Ideal.τ).loc Cert.Qkv3Ideal.main_arg4)
      ∧ m' ((c.tc : Thread Cert.QkvRef3Ideal.nD Cert.QkvRef3Ideal.τ).loc Cert.QkvRef3Ideal.main_arg5) = m ((c.tc : Thread Cert.Qkv3Ideal.nD Cert.Qkv3Ideal.τ).loc Cert.Qkv3Ideal.main_arg5)
      ∧ m' ((c.tc : Thread Cert.QkvRef3Ideal.nD Cert.QkvRef3Ideal.τ).loc Cert.QkvRef3Ideal.main_arg6) = m ((c.tc : Thread Cert.Qkv3Ideal.nD Cert.Qkv3Ideal.τ).loc Cert.Qkv3Ideal.main_arg6)) →
    ∃ (v0 : (c : Dev Cert.Qkv3Ideal.nD) → Buf (Elt Ideal) ((c.tc : Thread Cert.Qkv3Ideal.nD Cert.Qkv3Ideal.τ).loc Cert.Qkv3Ideal.main_v2_0)) (v1 : (c : Dev Cert.Qkv3Ideal.nD) → Buf (Elt Ideal) ((c.tc : Thread Cert.Qkv3Ideal.nD Cert.Qkv3Ideal.τ).loc Cert.Qkv3Ideal.main_v2_1)) (v2 : (c : Dev Cert.Qkv3Ideal.nD) → Buf (Elt Ideal) ((c.tc : Thread Cert.Qkv3Ideal.nD Cert.Qkv3Ideal.τ).loc Cert.Qkv3Ideal.main_v2_2)) (v3 : (c : Dev Cert.Qkv3Ideal.nD) → Buf (Elt Ideal) ((c.tc : Thread Cert.Qkv3Ideal.nD Cert.Qkv3Ideal.τ).loc Cert.Qkv3Ideal.main_v2_3)) (v4 : (c : Dev Cert.Qkv3Ideal.nD) → Buf (Elt Ideal) ((c.tc : Thread Cert.Qkv3Ideal.nD Cert.Qkv3Ideal.τ).loc Cert.Qkv3Ideal.main_v2_4)),
      θ_run (Cert.Qkv3Ideal.defs (F := Ideal)) (onTc (τ := Cert.Qkv3Ideal.τ) (Cert.Qkv3Ideal.main (F := Ideal))) ⟨m, fun _ => 0, g⟩ (fun r => ∀ c : Dev Cert.Qkv3Ideal.nD,
          r.2.mem ((c.tc : Thread Cert.Qkv3Ideal.nD Cert.Qkv3Ideal.τ).loc Cert.Qkv3Ideal.main_v2_0) = v0 c
          ∧ r.2.mem ((c.tc : Thread Cert.Qkv3Ideal.nD Cert.Qkv3Ideal.τ).loc Cert.Qkv3Ideal.main_v2_1) = v1 c
          ∧ r.2.mem ((c.tc : Thread Cert.Qkv3Ideal.nD Cert.Qkv3Ideal.τ).loc Cert.Qkv3Ideal.main_v2_2) = v2 c
          ∧ r.2.mem ((c.tc : Thread Cert.Qkv3Ideal.nD Cert.Qkv3Ideal.τ).loc Cert.Qkv3Ideal.main_v2_3) = v3 c
          ∧ r.2.mem ((c.tc : Thread Cert.Qkv3Ideal.nD Cert.Qkv3Ideal.τ).loc Cert.Qkv3Ideal.main_v2_4) = v4 c
          ∧ r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
          ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
          ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2)
          ∧ r.2.mem ((c.tc : Thread Cert.Qkv3Ideal.nD Cert.Qkv3Ideal.τ).loc Cert.Qkv3Ideal.main_arg3) = m ((c.tc : Thread Cert.Qkv3Ideal.nD Cert.Qkv3Ideal.τ).loc Cert.Qkv3Ideal.main_arg3)
          ∧ r.2.mem ((c.tc : Thread Cert.Qkv3Ideal.nD Cert.Qkv3Ideal.τ).loc Cert.Qkv3Ideal.main_arg4) = m ((c.tc : Thread Cert.Qkv3Ideal.nD Cert.Qkv3Ideal.τ).loc Cert.Qkv3Ideal.main_arg4)
          ∧ r.2.mem ((c.tc : Thread Cert.Qkv3Ideal.nD Cert.Qkv3Ideal.τ).loc Cert.Qkv3Ideal.main_arg5) = m ((c.tc : Thread Cert.Qkv3Ideal.nD Cert.Qkv3Ideal.τ).loc Cert.Qkv3Ideal.main_arg5)
          ∧ r.2.mem ((c.tc : Thread Cert.Qkv3Ideal.nD Cert.Qkv3Ideal.τ).loc Cert.Qkv3Ideal.main_arg6) = m ((c.tc : Thread Cert.Qkv3Ideal.nD Cert.Qkv3Ideal.τ).loc Cert.Qkv3Ideal.main_arg6))
      ∧ θ_run (Cert.QkvRef3Ideal.defs (F := Ideal)) (onTc (τ := Cert.QkvRef3Ideal.τ) (Cert.QkvRef3Ideal.main (F := Ideal))) ⟨m', fun _ => 0, g'⟩ (fun r => ∀ c : Dev Cert.QkvRef3Ideal.nD,
          r.2.mem ((c.tc : Thread Cert.QkvRef3Ideal.nD Cert.QkvRef3Ideal.τ).loc Cert.QkvRef3Ideal.main_v0_0) = v0 c
          ∧ r.2.mem ((c.tc : Thread Cert.QkvRef3Ideal.nD Cert.QkvRef3Ideal.τ).loc Cert.QkvRef3Ideal.main_v0_1) = v1 c
          ∧ r.2.mem ((c.tc : Thread Cert.QkvRef3Ideal.nD Cert.QkvRef3Ideal.τ).loc Cert.QkvRef3Ideal.main_v0_2) = v2 c
          ∧ r.2.mem ((c.tc : Thread Cert.QkvRef3Ideal.nD Cert.QkvRef3Ideal.τ).loc Cert.QkvRef3Ideal.main_v0_3) = v3 c
          ∧ r.2.mem ((c.tc : Thread Cert.QkvRef3Ideal.nD Cert.QkvRef3Ideal.τ).loc Cert.QkvRef3Ideal.main_v0_4) = v4 c
          ∧ r.2.mem ((c.tc : Thread Cert.QkvRef3Ideal.nD Cert.QkvRef3Ideal.τ).loc Cert.QkvRef3Ideal.main_arg0) = m' ((c.tc : Thread Cert.QkvRef3Ideal.nD Cert.QkvRef3Ideal.τ).loc Cert.QkvRef3Ideal.main_arg0)
          ∧ r.2.mem ((c.tc : Thread Cert.QkvRef3Ideal.nD Cert.QkvRef3Ideal.τ).loc Cert.QkvRef3Ideal.main_arg1) = m' ((c.tc : Thread Cert.QkvRef3Ideal.nD Cert.QkvRef3Ideal.τ).loc Cert.QkvRef3Ideal.main_arg1)
          ∧ r.2.mem ((c.tc : Thread Cert.QkvRef3Ideal.nD Cert.QkvRef3Ideal.τ).loc Cert.QkvRef3Ideal.main_arg2) = m' ((c.tc : Thread Cert.QkvRef3Ideal.nD Cert.QkvRef3Ideal.τ).loc Cert.QkvRef3Ideal.main_arg2)
          ∧ r.2.mem ((c.tc : Thread Cert.QkvRef3Ideal.nD Cert.QkvRef3Ideal.τ).loc Cert.QkvRef3Ideal.main_arg3) = m' ((c.tc : Thread Cert.QkvRef3Ideal.nD Cert.QkvRef3Ideal.τ).loc Cert.QkvRef3Ideal.main_arg3)
          ∧ r.2.mem ((c.tc : Thread Cert.QkvRef3Ideal.nD Cert.QkvRef3Ideal.τ).loc Cert.QkvRef3Ideal.main_arg4) = m' ((c.tc : Thread Cert.QkvRef3Ideal.nD Cert.QkvRef3Ideal.τ).loc Cert.QkvRef3Ideal.main_arg4)
          ∧ r.2.mem ((c.tc : Thread Cert.QkvRef3Ideal.nD Cert.QkvRef3Ideal.τ).loc Cert.QkvRef3Ideal.main_arg5) = m' ((c.tc : Thread Cert.QkvRef3Ideal.nD Cert.QkvRef3Ideal.τ).loc Cert.QkvRef3Ideal.main_arg5)
          ∧ r.2.mem ((c.tc : Thread Cert.QkvRef3Ideal.nD Cert.QkvRef3Ideal.τ).loc Cert.QkvRef3Ideal.main_arg6) = m' ((c.tc : Thread Cert.QkvRef3Ideal.nD Cert.QkvRef3Ideal.τ).loc Cert.QkvRef3Ideal.main_arg6))

def preserves_Chunk_ChunkIdeal : Prop :=
  True

def algebraic_ChunkIdeal_ChunkRefIdeal [hChunkIdeal : Cert.ChunkIdeal.Facts] [hChunkRefIdeal : Cert.ChunkRefIdeal.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)
      ∧ m' ((c.tc : Thread Cert.ChunkRefIdeal.nD Cert.ChunkRefIdeal.τ).loc Cert.ChunkRefIdeal.main_arg2) = m ((c.tc : Thread Cert.ChunkIdeal.nD Cert.ChunkIdeal.τ).loc Cert.ChunkIdeal.main_arg2)
      ∧ m' ((c.tc : Thread Cert.ChunkRefIdeal.nD Cert.ChunkRefIdeal.τ).loc Cert.ChunkRefIdeal.main_arg3) = m ((c.tc : Thread Cert.ChunkIdeal.nD Cert.ChunkIdeal.τ).loc Cert.ChunkIdeal.main_arg3)
      ∧ m' ((c.tc : Thread Cert.ChunkRefIdeal.nD Cert.ChunkRefIdeal.τ).loc Cert.ChunkRefIdeal.main_arg4) = m ((c.tc : Thread Cert.ChunkIdeal.nD Cert.ChunkIdeal.τ).loc Cert.ChunkIdeal.main_arg4)
      ∧ m' ((c.tc : Thread Cert.ChunkRefIdeal.nD Cert.ChunkRefIdeal.τ).loc Cert.ChunkRefIdeal.main_arg5) = m ((c.tc : Thread Cert.ChunkIdeal.nD Cert.ChunkIdeal.τ).loc Cert.ChunkIdeal.main_arg5)
      ∧ m' ((c.tc : Thread Cert.ChunkRefIdeal.nD Cert.ChunkRefIdeal.τ).loc Cert.ChunkRefIdeal.main_arg6) = m ((c.tc : Thread Cert.ChunkIdeal.nD Cert.ChunkIdeal.τ).loc Cert.ChunkIdeal.main_arg6)
      ∧ m' ((c.tc : Thread Cert.ChunkRefIdeal.nD Cert.ChunkRefIdeal.τ).loc Cert.ChunkRefIdeal.main_arg7) = m ((c.tc : Thread Cert.ChunkIdeal.nD Cert.ChunkIdeal.τ).loc Cert.ChunkIdeal.main_arg7)
      ∧ m' ((c.tc : Thread Cert.ChunkRefIdeal.nD Cert.ChunkRefIdeal.τ).loc Cert.ChunkRefIdeal.main_arg8) = m ((c.tc : Thread Cert.ChunkIdeal.nD Cert.ChunkIdeal.τ).loc Cert.ChunkIdeal.main_arg8)
      ∧ m' ((c.tc : Thread Cert.ChunkRefIdeal.nD Cert.ChunkRefIdeal.τ).loc Cert.ChunkRefIdeal.main_arg9) = m ((c.tc : Thread Cert.ChunkIdeal.nD Cert.ChunkIdeal.τ).loc Cert.ChunkIdeal.main_arg9)) →
    ∃ (v0 : (c : Dev Cert.ChunkIdeal.nD) → Buf (Elt Ideal) ((c.tc : Thread Cert.ChunkIdeal.nD Cert.ChunkIdeal.τ).loc Cert.ChunkIdeal.main_v21)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v21) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
          ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2)
          ∧ r.2.mem ((c.tc : Thread Cert.ChunkIdeal.nD Cert.ChunkIdeal.τ).loc Cert.ChunkIdeal.main_arg3) = m ((c.tc : Thread Cert.ChunkIdeal.nD Cert.ChunkIdeal.τ).loc Cert.ChunkIdeal.main_arg3)
          ∧ r.2.mem ((c.tc : Thread Cert.ChunkIdeal.nD Cert.ChunkIdeal.τ).loc Cert.ChunkIdeal.main_arg4) = m ((c.tc : Thread Cert.ChunkIdeal.nD Cert.ChunkIdeal.τ).loc Cert.ChunkIdeal.main_arg4)
          ∧ r.2.mem ((c.tc : Thread Cert.ChunkIdeal.nD Cert.ChunkIdeal.τ).loc Cert.ChunkIdeal.main_arg5) = m ((c.tc : Thread Cert.ChunkIdeal.nD Cert.ChunkIdeal.τ).loc Cert.ChunkIdeal.main_arg5)
          ∧ r.2.mem ((c.tc : Thread Cert.ChunkIdeal.nD Cert.ChunkIdeal.τ).loc Cert.ChunkIdeal.main_arg6) = m ((c.tc : Thread Cert.ChunkIdeal.nD Cert.ChunkIdeal.τ).loc Cert.ChunkIdeal.main_arg6)
          ∧ r.2.mem ((c.tc : Thread Cert.ChunkIdeal.nD Cert.ChunkIdeal.τ).loc Cert.ChunkIdeal.main_arg7) = m ((c.tc : Thread Cert.ChunkIdeal.nD Cert.ChunkIdeal.τ).loc Cert.ChunkIdeal.main_arg7)
          ∧ r.2.mem ((c.tc : Thread Cert.ChunkIdeal.nD Cert.ChunkIdeal.τ).loc Cert.ChunkIdeal.main_arg8) = m ((c.tc : Thread Cert.ChunkIdeal.nD Cert.ChunkIdeal.τ).loc Cert.ChunkIdeal.main_arg8)
          ∧ r.2.mem ((c.tc : Thread Cert.ChunkIdeal.nD Cert.ChunkIdeal.τ).loc Cert.ChunkIdeal.main_arg9) = m ((c.tc : Thread Cert.ChunkIdeal.nD Cert.ChunkIdeal.τ).loc Cert.ChunkIdeal.main_arg9))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v40) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1)
          ∧ r.2.mem ((c.tc : Thread Cert.ChunkRefIdeal.nD Cert.ChunkRefIdeal.τ).loc Cert.ChunkRefIdeal.main_arg2) = m' ((c.tc : Thread Cert.ChunkRefIdeal.nD Cert.ChunkRefIdeal.τ).loc Cert.ChunkRefIdeal.main_arg2)
          ∧ r.2.mem ((c.tc : Thread Cert.ChunkRefIdeal.nD Cert.ChunkRefIdeal.τ).loc Cert.ChunkRefIdeal.main_arg3) = m' ((c.tc : Thread Cert.ChunkRefIdeal.nD Cert.ChunkRefIdeal.τ).loc Cert.ChunkRefIdeal.main_arg3)
          ∧ r.2.mem ((c.tc : Thread Cert.ChunkRefIdeal.nD Cert.ChunkRefIdeal.τ).loc Cert.ChunkRefIdeal.main_arg4) = m' ((c.tc : Thread Cert.ChunkRefIdeal.nD Cert.ChunkRefIdeal.τ).loc Cert.ChunkRefIdeal.main_arg4)
          ∧ r.2.mem ((c.tc : Thread Cert.ChunkRefIdeal.nD Cert.ChunkRefIdeal.τ).loc Cert.ChunkRefIdeal.main_arg5) = m' ((c.tc : Thread Cert.ChunkRefIdeal.nD Cert.ChunkRefIdeal.τ).loc Cert.ChunkRefIdeal.main_arg5)
          ∧ r.2.mem ((c.tc : Thread Cert.ChunkRefIdeal.nD Cert.ChunkRefIdeal.τ).loc Cert.ChunkRefIdeal.main_arg6) = m' ((c.tc : Thread Cert.ChunkRefIdeal.nD Cert.ChunkRefIdeal.τ).loc Cert.ChunkRefIdeal.main_arg6)
          ∧ r.2.mem ((c.tc : Thread Cert.ChunkRefIdeal.nD Cert.ChunkRefIdeal.τ).loc Cert.ChunkRefIdeal.main_arg7) = m' ((c.tc : Thread Cert.ChunkRefIdeal.nD Cert.ChunkRefIdeal.τ).loc Cert.ChunkRefIdeal.main_arg7)
          ∧ r.2.mem ((c.tc : Thread Cert.ChunkRefIdeal.nD Cert.ChunkRefIdeal.τ).loc Cert.ChunkRefIdeal.main_arg8) = m' ((c.tc : Thread Cert.ChunkRefIdeal.nD Cert.ChunkRefIdeal.τ).loc Cert.ChunkRefIdeal.main_arg8)
          ∧ r.2.mem ((c.tc : Thread Cert.ChunkRefIdeal.nD Cert.ChunkRefIdeal.τ).loc Cert.ChunkRefIdeal.main_arg9) = m' ((c.tc : Thread Cert.ChunkRefIdeal.nD Cert.ChunkRefIdeal.τ).loc Cert.ChunkRefIdeal.main_arg9))

def Claim : Prop :=
  ∃ (hFfn0 : Cert.Ffn0.Facts) (hFfn0Ideal : Cert.Ffn0Ideal.Facts) (hFfnRef0Ideal : Cert.FfnRef0Ideal.Facts) (hFfn1 : Cert.Ffn1.Facts) (hFfn1Ideal : Cert.Ffn1Ideal.Facts) (hFfnRef1Ideal : Cert.FfnRef1Ideal.Facts) (hFfn2 : Cert.Ffn2.Facts) (hFfn2Ideal : Cert.Ffn2Ideal.Facts) (hFfnRef2Ideal : Cert.FfnRef2Ideal.Facts) (hFfn3 : Cert.Ffn3.Facts) (hFfn3Ideal : Cert.Ffn3Ideal.Facts) (hFfnRef3Ideal : Cert.FfnRef3Ideal.Facts) (hQkv0 : Cert.Qkv0.Facts) (hQkv0Ideal : Cert.Qkv0Ideal.Facts) (hQkvRef0Ideal : Cert.QkvRef0Ideal.Facts) (hQkv1 : Cert.Qkv1.Facts) (hQkv1Ideal : Cert.Qkv1Ideal.Facts) (hQkvRef1Ideal : Cert.QkvRef1Ideal.Facts) (hQkv2 : Cert.Qkv2.Facts) (hQkv2Ideal : Cert.Qkv2Ideal.Facts) (hQkvRef2Ideal : Cert.QkvRef2Ideal.Facts) (hQkv3 : Cert.Qkv3.Facts) (hQkv3Ideal : Cert.Qkv3Ideal.Facts) (hQkvRef3Ideal : Cert.QkvRef3Ideal.Facts) (hChunk : Cert.Chunk.Facts) (hChunkIdeal : Cert.ChunkIdeal.Facts) (hChunkRefIdeal : Cert.ChunkRefIdeal.Facts),
    quiescent_Ffn0 (hFfn0 := hFfn0)
    ∧ quiescent_Ffn0Ideal (hFfn0Ideal := hFfn0Ideal)
    ∧ quiescent_FfnRef0Ideal (hFfnRef0Ideal := hFfnRef0Ideal)
    ∧ quiescent_Ffn1 (hFfn1 := hFfn1)
    ∧ quiescent_Ffn1Ideal (hFfn1Ideal := hFfn1Ideal)
    ∧ quiescent_FfnRef1Ideal (hFfnRef1Ideal := hFfnRef1Ideal)
    ∧ quiescent_Ffn2 (hFfn2 := hFfn2)
    ∧ quiescent_Ffn2Ideal (hFfn2Ideal := hFfn2Ideal)
    ∧ quiescent_FfnRef2Ideal (hFfnRef2Ideal := hFfnRef2Ideal)
    ∧ quiescent_Ffn3 (hFfn3 := hFfn3)
    ∧ quiescent_Ffn3Ideal (hFfn3Ideal := hFfn3Ideal)
    ∧ quiescent_FfnRef3Ideal (hFfnRef3Ideal := hFfnRef3Ideal)
    ∧ quiescent_Qkv0 (hQkv0 := hQkv0)
    ∧ quiescent_Qkv0Ideal (hQkv0Ideal := hQkv0Ideal)
    ∧ quiescent_QkvRef0Ideal (hQkvRef0Ideal := hQkvRef0Ideal)
    ∧ quiescent_Qkv1 (hQkv1 := hQkv1)
    ∧ quiescent_Qkv1Ideal (hQkv1Ideal := hQkv1Ideal)
    ∧ quiescent_QkvRef1Ideal (hQkvRef1Ideal := hQkvRef1Ideal)
    ∧ quiescent_Qkv2 (hQkv2 := hQkv2)
    ∧ quiescent_Qkv2Ideal (hQkv2Ideal := hQkv2Ideal)
    ∧ quiescent_QkvRef2Ideal (hQkvRef2Ideal := hQkvRef2Ideal)
    ∧ quiescent_Qkv3 (hQkv3 := hQkv3)
    ∧ quiescent_Qkv3Ideal (hQkv3Ideal := hQkv3Ideal)
    ∧ quiescent_QkvRef3Ideal (hQkvRef3Ideal := hQkvRef3Ideal)
    ∧ quiescent_Chunk (hChunk := hChunk)
    ∧ quiescent_ChunkIdeal (hChunkIdeal := hChunkIdeal)
    ∧ quiescent_ChunkRefIdeal (hChunkRefIdeal := hChunkRefIdeal)
    ∧ preserves_Ffn0_Ffn0Ideal
    ∧ algebraic_Ffn0Ideal_FfnRef0Ideal (hFfn0Ideal := hFfn0Ideal) (hFfnRef0Ideal := hFfnRef0Ideal)
    ∧ preserves_Ffn1_Ffn1Ideal
    ∧ algebraic_Ffn1Ideal_FfnRef1Ideal (hFfn1Ideal := hFfn1Ideal) (hFfnRef1Ideal := hFfnRef1Ideal)
    ∧ preserves_Ffn2_Ffn2Ideal
    ∧ algebraic_Ffn2Ideal_FfnRef2Ideal (hFfn2Ideal := hFfn2Ideal) (hFfnRef2Ideal := hFfnRef2Ideal)
    ∧ preserves_Ffn3_Ffn3Ideal
    ∧ algebraic_Ffn3Ideal_FfnRef3Ideal (hFfn3Ideal := hFfn3Ideal) (hFfnRef3Ideal := hFfnRef3Ideal)
    ∧ preserves_Qkv0_Qkv0Ideal
    ∧ algebraic_Qkv0Ideal_QkvRef0Ideal (hQkv0Ideal := hQkv0Ideal) (hQkvRef0Ideal := hQkvRef0Ideal)
    ∧ preserves_Qkv1_Qkv1Ideal
    ∧ algebraic_Qkv1Ideal_QkvRef1Ideal (hQkv1Ideal := hQkv1Ideal) (hQkvRef1Ideal := hQkvRef1Ideal)
    ∧ preserves_Qkv2_Qkv2Ideal
    ∧ algebraic_Qkv2Ideal_QkvRef2Ideal (hQkv2Ideal := hQkv2Ideal) (hQkvRef2Ideal := hQkvRef2Ideal)
    ∧ preserves_Qkv3_Qkv3Ideal
    ∧ algebraic_Qkv3Ideal_QkvRef3Ideal (hQkv3Ideal := hQkv3Ideal) (hQkvRef3Ideal := hQkvRef3Ideal)
    ∧ preserves_Chunk_ChunkIdeal
    ∧ algebraic_ChunkIdeal_ChunkRefIdeal (hChunkIdeal := hChunkIdeal) (hChunkRefIdeal := hChunkRefIdeal)
-- ==== Ffn0.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn0Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRef0Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S896x896 : Shape := ⟨2, ![896, 896]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x9728 : Shape := ⟨3, ![1, 896, 9728]⟩
abbrev S896x9728 : Shape := ⟨2, ![896, 9728]⟩
abbrev S1x9728 : Shape := ⟨2, ![1, 9728]⟩
abbrev S9728 : Shape := ⟨1, ![9728]⟩
abbrev S336x9728 : Shape := ⟨2, ![336, 9728]⟩
abbrev S336x4864 : Shape := ⟨2, ![336, 4864]⟩
abbrev S1x4864x896 : Shape := ⟨3, ![1, 4864, 896]⟩
abbrev S4864x896 : Shape := ⟨2, ![4864, 896]⟩

abbrev nBuf : Space → Nat
  | .hbm => 12
  | .vmem => 10
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S336x896, .bf16⟩
  | .hbm, ⟨10, _⟩ => ⟨S4x896x896, .i8⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S4x896x896, .i8⟩
  | .local _ .vmem, ⟨3, _⟩ => ⟨S4x896, .f32⟩
  | .local _ .vmem, ⟨4, _⟩ => ⟨S4x896, .f32⟩
  | .local _ .vmem, ⟨5, _⟩ => ⟨S4x896x9728, .i8⟩
  | .local _ .vmem, ⟨6, _⟩ => ⟨S4x9728, .f32⟩
  | .local _ .vmem, ⟨7, _⟩ => ⟨S4x4864x896, .i8⟩
  | .local _ .vmem, ⟨8, _⟩ => ⟨S4x896, .f32⟩
  | .local _ .vmem, ⟨9, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x896x9728 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4864x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S336x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Ffn1.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn1Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRef1Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S896x896 : Shape := ⟨2, ![896, 896]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x9728 : Shape := ⟨3, ![1, 896, 9728]⟩
abbrev S896x9728 : Shape := ⟨2, ![896, 9728]⟩
abbrev S1x9728 : Shape := ⟨2, ![1, 9728]⟩
abbrev S9728 : Shape := ⟨1, ![9728]⟩
abbrev S336x9728 : Shape := ⟨2, ![336, 9728]⟩
abbrev S336x4864 : Shape := ⟨2, ![336, 4864]⟩
abbrev S1x4864x896 : Shape := ⟨3, ![1, 4864, 896]⟩
abbrev S4864x896 : Shape := ⟨2, ![4864, 896]⟩

abbrev nBuf : Space → Nat
  | .hbm => 12
  | .vmem => 10
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S336x896, .bf16⟩
  | .hbm, ⟨10, _⟩ => ⟨S4x896x896, .i8⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S4x896x896, .i8⟩
  | .local _ .vmem, ⟨3, _⟩ => ⟨S4x896, .f32⟩
  | .local _ .vmem, ⟨4, _⟩ => ⟨S4x896, .f32⟩
  | .local _ .vmem, ⟨5, _⟩ => ⟨S4x896x9728, .i8⟩
  | .local _ .vmem, ⟨6, _⟩ => ⟨S4x9728, .f32⟩
  | .local _ .vmem, ⟨7, _⟩ => ⟨S4x4864x896, .i8⟩
  | .local _ .vmem, ⟨8, _⟩ => ⟨S4x896, .f32⟩
  | .local _ .vmem, ⟨9, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x896x9728 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4864x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S336x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Ffn2.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c2_i32 : BitVec 32 := 2#32
  let c0_i32 : BitVec 32 := 0#32
  let c0_i32_0 : BitVec 32 := 0#32
  ![c2_i32.toNat, c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn2Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c2_i32 : BitVec 32 := 2#32
  let c0_i32 : BitVec 32 := 0#32
  let c0_i32_0 : BitVec 32 := 0#32
  ![c2_i32.toNat, c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRef2Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S896x896 : Shape := ⟨2, ![896, 896]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x9728 : Shape := ⟨3, ![1, 896, 9728]⟩
abbrev S896x9728 : Shape := ⟨2, ![896, 9728]⟩
abbrev S1x9728 : Shape := ⟨2, ![1, 9728]⟩
abbrev S9728 : Shape := ⟨1, ![9728]⟩
abbrev S336x9728 : Shape := ⟨2, ![336, 9728]⟩
abbrev S336x4864 : Shape := ⟨2, ![336, 4864]⟩
abbrev S1x4864x896 : Shape := ⟨3, ![1, 4864, 896]⟩
abbrev S4864x896 : Shape := ⟨2, ![4864, 896]⟩

abbrev nBuf : Space → Nat
  | .hbm => 12
  | .vmem => 10
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S336x896, .bf16⟩
  | .hbm, ⟨10, _⟩ => ⟨S4x896x896, .i8⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S4x896x896, .i8⟩
  | .local _ .vmem, ⟨3, _⟩ => ⟨S4x896, .f32⟩
  | .local _ .vmem, ⟨4, _⟩ => ⟨S4x896, .f32⟩
  | .local _ .vmem, ⟨5, _⟩ => ⟨S4x896x9728, .i8⟩
  | .local _ .vmem, ⟨6, _⟩ => ⟨S4x9728, .f32⟩
  | .local _ .vmem, ⟨7, _⟩ => ⟨S4x4864x896, .i8⟩
  | .local _ .vmem, ⟨8, _⟩ => ⟨S4x896, .f32⟩
  | .local _ .vmem, ⟨9, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x896x9728 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4864x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S336x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Ffn3.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S1x896x256 : Shape := ⟨3, ![1, 896, 256]⟩
abbrev S4x256 : Shape := ⟨2, ![4, 256]⟩
abbrev S1x256x896 : Shape := ⟨3, ![1, 256, 896]⟩
abbrev S896x896 : Shape := ⟨2, ![896, 896]⟩
abbrev S1x896 : Shape := ⟨2, ![1, 896]⟩
abbrev S336 : Shape := ⟨1, ![336]⟩
abbrev S336x1 : Shape := ⟨2, ![336, 1]⟩
abbrev S896x256 : Shape := ⟨2, ![896, 256]⟩
abbrev S336x256 : Shape := ⟨2, ![336, 256]⟩
abbrev S1x256 : Shape := ⟨2, ![1, 256]⟩
abbrev S256x896 : Shape := ⟨2, ![256, 896]⟩

abbrev nBuf : Space → Nat
  | .hbm => 12
  | .vmem => 20
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S4x896x896, .i8⟩
  | .hbm, ⟨10, _⟩ => ⟨S336x896, .bf16⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S1x896x896, .i8⟩
  | .local _ .vmem, ⟨3, _⟩ => ⟨S4x896, .f32⟩
  | .local _ .vmem, ⟨4, _⟩ => ⟨S4x896, .f32⟩
  | .local _ .vmem, ⟨5, _⟩ => ⟨S1x896x256, .i8⟩
  | .local _ .vmem, ⟨6, _⟩ => ⟨S1x896x256, .i8⟩
  | .local _ .vmem, ⟨7, _⟩ => ⟨S1x896x256, .i8⟩
  | .local _ .vmem, ⟨8, _⟩ => ⟨S1x896x256, .i8⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S1x256x896, .i8⟩
  | .local _ .vmem, ⟨14, _⟩ => ⟨S1x256x896, .i8⟩
  | .local _ .vmem, ⟨15, _⟩ => ⟨S4x896, .f32⟩
  | .local _ .vmem, ⟨16, _⟩ => ⟨S336x896, .f32⟩
  | .local _ .vmem, ⟨17, _⟩ => ⟨S336x896, .f32⟩
  | .local _ .vmem, ⟨18, _⟩ => ⟨S336x896, .bf16⟩
  | .local _ .vmem, ⟨19, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v35 : BitVec 1 := Scalar.cmpi .eq arg0 c18_i32
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_6 (i : grid0.Coords) : Fin 3 → Nat :=
  let arg0 : BitVec 32 := BitVec.ofNat 32 (i 0).val
  let c19_i32 : BitVec 32 := 19#32
  let v0 : BitVec 32 := Scalar.addi c19_i32 arg0
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x896x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S336x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRef3Ideal.lean ====
abbrev S336x896 : Shape := ⟨2, ![336, 896]⟩
abbrev S336x14x64 : Shape := ⟨3, ![336, 14, 64]⟩
abbrev S4x14x64x896 : Shape := ⟨4, ![4, 14, 64, 896]⟩
abbrev S4x896 : Shape := ⟨2, ![4, 896]⟩
abbrev S4x896x9728 : Shape := ⟨3, ![4, 896, 9728]⟩
abbrev S4x9728 : Shape := ⟨2, ![4, 9728]⟩
abbrev S4x4864x896 : Shape := ⟨3, ![4, 4864, 896]⟩
abbrev S4x896x896 : Shape := ⟨3, ![4, 896, 896]⟩
abbrev S1x896x896 : Shape := ⟨3, ![1, 896, 896]⟩
abbrev S896x896 : Shape := ⟨2, ![896, 896]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x9728 : Shape := ⟨3, ![1, 896, 9728]⟩
abbrev S896x9728 : Shape := ⟨2, ![896, 9728]⟩
abbrev S1x9728 : Shape := ⟨2, ![1, 9728]⟩
abbrev S9728 : Shape := ⟨1, ![9728]⟩
abbrev S336x9728 : Shape := ⟨2, ![336, 9728]⟩
abbrev S336x4864 : Shape := ⟨2, ![336, 4864]⟩
abbrev S1x4864x896 : Shape := ⟨3, ![1, 4864, 896]⟩
abbrev S4864x896 : Shape := ⟨2, ![4864, 896]⟩

abbrev nBuf : Space → Nat
  | .hbm => 12
  | .vmem => 10
  | .smem => 0
  | _ => 0

abbrev bufTy : (tb : Table) → Fin (tcTables nBuf tb) → BufTy
  | .hbm, ⟨0, _⟩ => ⟨S336x896, .f32⟩
  | .hbm, ⟨1, _⟩ => ⟨S336x14x64, .bf16⟩
  | .hbm, ⟨2, _⟩ => ⟨S4x14x64x896, .i8⟩
  | .hbm, ⟨3, _⟩ => ⟨S4x896, .f32⟩
  | .hbm, ⟨4, _⟩ => ⟨S4x896, .f32⟩
  | .hbm, ⟨5, _⟩ => ⟨S4x896x9728, .i8⟩
  | .hbm, ⟨6, _⟩ => ⟨S4x9728, .f32⟩
  | .hbm, ⟨7, _⟩ => ⟨S4x4864x896, .i8⟩
  | .hbm, ⟨8, _⟩ => ⟨S4x896, .f32⟩
  | .hbm, ⟨9, _⟩ => ⟨S336x896, .bf16⟩
  | .hbm, ⟨10, _⟩ => ⟨S4x896x896, .i8⟩
  | .hbm, ⟨11, _⟩ => ⟨S336x896, .f32⟩
  | .local _ .vmem, ⟨0, _⟩ => ⟨S336x896, .f32⟩
  | .local _ .vmem, ⟨1, _⟩ => ⟨S336x896, .bf16⟩
  | .local _ .vmem, ⟨2, _⟩ => ⟨S4x896x896, .i8⟩
  | .local _ .vmem, ⟨3, _⟩ => ⟨S4x896, .f32⟩
  | .local _ .vmem, ⟨4, _⟩ => ⟨S4x896, .f32⟩
  | .local _ .vmem, ⟨5, _⟩ => ⟨S4x896x9728, .i8⟩
  | .local _ .vmem, ⟨6, _⟩ => ⟨S4x9728, .f32⟩
  | .local _ .vmem, ⟨7, _⟩ => ⟨S4x4864x896, .i8⟩
  | .local _ .vmem, ⟨8, _⟩ => ⟨S4x896, .f32⟩
  | .local _ .vmem, ⟨9, _⟩ => ⟨S336x896, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S336x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x896x9728 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x9728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4864x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S336x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv0.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S32x336 : Shape := ⟨2, ![32, 336]⟩
abbrev S896x336 : Shape := ⟨2, ![896, 336]⟩
abbrev S128x336 : Shape := ⟨2, ![128, 336]⟩
abbrev S2x336 : Shape := ⟨2, ![2, 336]⟩
abbrev S1x896x1152 : Shape := ⟨3, ![1, 896, 1152]⟩
abbrev S1x896 : Shape := ⟨2, ![1, 896]⟩
abbrev S336 : Shape := ⟨1, ![336]⟩
abbrev S336x1 : Shape := ⟨2, ![336, 1]⟩
abbrev S896x1152 : Shape := ⟨2, ![896, 1152]⟩
abbrev S336x1152 : Shape := ⟨2, ![336, 1152]⟩
abbrev S1x1152 : Shape := ⟨2, ![1, 1152]⟩
abbrev S48x1152 : Shape := ⟨2, ![48, 1152]⟩
abbrev S384x1152 : Shape := ⟨2, ![384, 1152]⟩
abbrev S1152x384 : Shape := ⟨2, ![1152, 384]⟩
abbrev S1152x336 : Shape := ⟨2, ![1152, 336]⟩
abbrev S64x336 : Shape := ⟨2, ![64, 336]⟩
abbrev S1x336 : Shape := ⟨2, ![1, 336]⟩

abbrev nBuf : Space → Nat
  | .hbm => 14
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S32x336, .f32⟩
  | .hbm, ⟨8, _⟩ => ⟨S32x336, .f32⟩
  | .hbm, ⟨9, _⟩ => ⟨S896x336, .bf16⟩
  | .hbm, ⟨10, _⟩ => ⟨S128x336, .i8⟩
  | .hbm, ⟨11, _⟩ => ⟨S2x336, .f32⟩
  | .hbm, ⟨12, _⟩ => ⟨S128x336, .i8⟩
  | .hbm, ⟨13, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S1x896x1152, .i8⟩
  | .local _ .vmem, ⟨3, _⟩ => ⟨S4x1152, .f32⟩
  | .local _ .vmem, ⟨4, _⟩ => ⟨S4x1152, .f32⟩
  | .local _ .vmem, ⟨5, _⟩ => ⟨S32x336, .f32⟩
  | .local _ .vmem, ⟨6, _⟩ => ⟨S32x336, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Qkv0Ideal.lean ====
  let c0_i32_2 : BitVec 32 := 0#32
  ![c0_i32.toNat, c0_i32_0.toNat, c0_i32_1.toNat]
-- ==== QkvRef0Ideal.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S896x336 : Shape := ⟨2, ![896, 336]⟩
abbrev S128x336 : Shape := ⟨2, ![128, 336]⟩
abbrev S2x336 : Shape := ⟨2, ![2, 336]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x1152 : Shape := ⟨3, ![1, 896, 1152]⟩
abbrev S896x1152 : Shape := ⟨2, ![896, 1152]⟩
abbrev S1x1152 : Shape := ⟨2, ![1, 1152]⟩
abbrev S1152 : Shape := ⟨1, ![1152]⟩
abbrev S336x1152 : Shape := ⟨2, ![336, 1152]⟩
abbrev S336x14x64 : Shape := ⟨3, ![336, 14, 64]⟩
abbrev S336x14x32 : Shape := ⟨3, ![336, 14, 32]⟩
abbrev S336x1x32 : Shape := ⟨3, ![336, 1, 32]⟩
abbrev S336x128 : Shape := ⟨2, ![336, 128]⟩
abbrev S336x2x64 : Shape := ⟨3, ![336, 2, 64]⟩
abbrev S336x2x32 : Shape := ⟨3, ![336, 2, 32]⟩
abbrev S336x2 : Shape := ⟨2, ![336, 2]⟩
abbrev S336x2x1 : Shape := ⟨3, ![336, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S896x336, .bf16⟩
  | .hbm, ⟨8, _⟩ => ⟨S128x336, .i8⟩
  | .hbm, ⟨9, _⟩ => ⟨S2x336, .f32⟩
  | .hbm, ⟨10, _⟩ => ⟨S128x336, .i8⟩
  | .hbm, ⟨11, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S4x896x1152, .i8⟩
  | .local _ .vmem, ⟨3, _⟩ => ⟨S4x1152, .f32⟩
  | .local _ .vmem, ⟨4, _⟩ => ⟨S4x1152, .f32⟩
  | .local _ .vmem, ⟨5, _⟩ => ⟨S336x32, .f32⟩
  | .local _ .vmem, ⟨6, _⟩ => ⟨S336x32, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S336x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S336x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv1.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S32x336 : Shape := ⟨2, ![32, 336]⟩
abbrev S896x336 : Shape := ⟨2, ![896, 336]⟩
abbrev S128x336 : Shape := ⟨2, ![128, 336]⟩
abbrev S2x336 : Shape := ⟨2, ![2, 336]⟩
abbrev S1x896x1152 : Shape := ⟨3, ![1, 896, 1152]⟩
abbrev S1x896 : Shape := ⟨2, ![1, 896]⟩
abbrev S336 : Shape := ⟨1, ![336]⟩
abbrev S336x1 : Shape := ⟨2, ![336, 1]⟩
abbrev S896x1152 : Shape := ⟨2, ![896, 1152]⟩
abbrev S336x1152 : Shape := ⟨2, ![336, 1152]⟩
abbrev S1x1152 : Shape := ⟨2, ![1, 1152]⟩
abbrev S48x1152 : Shape := ⟨2, ![48, 1152]⟩
abbrev S384x1152 : Shape := ⟨2, ![384, 1152]⟩
abbrev S1152x384 : Shape := ⟨2, ![1152, 384]⟩
abbrev S1152x336 : Shape := ⟨2, ![1152, 336]⟩
abbrev S64x336 : Shape := ⟨2, ![64, 336]⟩
abbrev S1x336 : Shape := ⟨2, ![1, 336]⟩

abbrev nBuf : Space → Nat
  | .hbm => 14
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S32x336, .f32⟩
  | .hbm, ⟨8, _⟩ => ⟨S32x336, .f32⟩
  | .hbm, ⟨9, _⟩ => ⟨S896x336, .bf16⟩
  | .hbm, ⟨10, _⟩ => ⟨S128x336, .i8⟩
  | .hbm, ⟨11, _⟩ => ⟨S2x336, .f32⟩
  | .hbm, ⟨12, _⟩ => ⟨S128x336, .i8⟩
  | .hbm, ⟨13, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S1x896x1152, .i8⟩
  | .local _ .vmem, ⟨3, _⟩ => ⟨S4x1152, .f32⟩
  | .local _ .vmem, ⟨4, _⟩ => ⟨S4x1152, .f32⟩
  | .local _ .vmem, ⟨5, _⟩ => ⟨S32x336, .f32⟩
  | .local _ .vmem, ⟨6, _⟩ => ⟨S32x336, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Qkv1Ideal.lean ====
  let c1_i32 : BitVec 32 := 1#32
  ![c1_i32.toNat, c0_i32.toNat, c0_i32_0.toNat]
-- ==== QkvRef1Ideal.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S896x336 : Shape := ⟨2, ![896, 336]⟩
abbrev S128x336 : Shape := ⟨2, ![128, 336]⟩
abbrev S2x336 : Shape := ⟨2, ![2, 336]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x1152 : Shape := ⟨3, ![1, 896, 1152]⟩
abbrev S896x1152 : Shape := ⟨2, ![896, 1152]⟩
abbrev S1x1152 : Shape := ⟨2, ![1, 1152]⟩
abbrev S1152 : Shape := ⟨1, ![1152]⟩
abbrev S336x1152 : Shape := ⟨2, ![336, 1152]⟩
abbrev S336x14x64 : Shape := ⟨3, ![336, 14, 64]⟩
abbrev S336x14x32 : Shape := ⟨3, ![336, 14, 32]⟩
abbrev S336x1x32 : Shape := ⟨3, ![336, 1, 32]⟩
abbrev S336x128 : Shape := ⟨2, ![336, 128]⟩
abbrev S336x2x64 : Shape := ⟨3, ![336, 2, 64]⟩
abbrev S336x2x32 : Shape := ⟨3, ![336, 2, 32]⟩
abbrev S336x2 : Shape := ⟨2, ![336, 2]⟩
abbrev S336x2x1 : Shape := ⟨3, ![336, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S896x336, .bf16⟩
  | .hbm, ⟨8, _⟩ => ⟨S128x336, .i8⟩
  | .hbm, ⟨9, _⟩ => ⟨S2x336, .f32⟩
  | .hbm, ⟨10, _⟩ => ⟨S128x336, .i8⟩
  | .hbm, ⟨11, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S4x896x1152, .i8⟩
  | .local _ .vmem, ⟨3, _⟩ => ⟨S4x1152, .f32⟩
  | .local _ .vmem, ⟨4, _⟩ => ⟨S4x1152, .f32⟩
  | .local _ .vmem, ⟨5, _⟩ => ⟨S336x32, .f32⟩
  | .local _ .vmem, ⟨6, _⟩ => ⟨S336x32, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S336x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S336x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv2.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S32x336 : Shape := ⟨2, ![32, 336]⟩
abbrev S896x336 : Shape := ⟨2, ![896, 336]⟩
abbrev S128x336 : Shape := ⟨2, ![128, 336]⟩
abbrev S2x336 : Shape := ⟨2, ![2, 336]⟩
abbrev S1x896x1152 : Shape := ⟨3, ![1, 896, 1152]⟩
abbrev S1x896 : Shape := ⟨2, ![1, 896]⟩
abbrev S336 : Shape := ⟨1, ![336]⟩
abbrev S336x1 : Shape := ⟨2, ![336, 1]⟩
abbrev S896x1152 : Shape := ⟨2, ![896, 1152]⟩
abbrev S336x1152 : Shape := ⟨2, ![336, 1152]⟩
abbrev S1x1152 : Shape := ⟨2, ![1, 1152]⟩
abbrev S48x1152 : Shape := ⟨2, ![48, 1152]⟩
abbrev S384x1152 : Shape := ⟨2, ![384, 1152]⟩
abbrev S1152x384 : Shape := ⟨2, ![1152, 384]⟩
abbrev S1152x336 : Shape := ⟨2, ![1152, 336]⟩
abbrev S64x336 : Shape := ⟨2, ![64, 336]⟩
abbrev S1x336 : Shape := ⟨2, ![1, 336]⟩

abbrev nBuf : Space → Nat
  | .hbm => 14
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S32x336, .f32⟩
  | .hbm, ⟨8, _⟩ => ⟨S32x336, .f32⟩
  | .hbm, ⟨9, _⟩ => ⟨S896x336, .bf16⟩
  | .hbm, ⟨10, _⟩ => ⟨S128x336, .i8⟩
  | .hbm, ⟨11, _⟩ => ⟨S2x336, .f32⟩
  | .hbm, ⟨12, _⟩ => ⟨S128x336, .i8⟩
  | .hbm, ⟨13, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S1x896x1152, .i8⟩
  | .local _ .vmem, ⟨3, _⟩ => ⟨S4x1152, .f32⟩
  | .local _ .vmem, ⟨4, _⟩ => ⟨S4x1152, .f32⟩
  | .local _ .vmem, ⟨5, _⟩ => ⟨S32x336, .f32⟩
  | .local _ .vmem, ⟨6, _⟩ => ⟨S32x336, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Qkv2Ideal.lean ====
  let c2_i32 : BitVec 32 := 2#32
  ![c2_i32.toNat, c0_i32.toNat, c0_i32_0.toNat]
-- ==== QkvRef2Ideal.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S896x336 : Shape := ⟨2, ![896, 336]⟩
abbrev S128x336 : Shape := ⟨2, ![128, 336]⟩
abbrev S2x336 : Shape := ⟨2, ![2, 336]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x1152 : Shape := ⟨3, ![1, 896, 1152]⟩
abbrev S896x1152 : Shape := ⟨2, ![896, 1152]⟩
abbrev S1x1152 : Shape := ⟨2, ![1, 1152]⟩
abbrev S1152 : Shape := ⟨1, ![1152]⟩
abbrev S336x1152 : Shape := ⟨2, ![336, 1152]⟩
abbrev S336x14x64 : Shape := ⟨3, ![336, 14, 64]⟩
abbrev S336x14x32 : Shape := ⟨3, ![336, 14, 32]⟩
abbrev S336x1x32 : Shape := ⟨3, ![336, 1, 32]⟩
abbrev S336x128 : Shape := ⟨2, ![336, 128]⟩
abbrev S336x2x64 : Shape := ⟨3, ![336, 2, 64]⟩
abbrev S336x2x32 : Shape := ⟨3, ![336, 2, 32]⟩
abbrev S336x2 : Shape := ⟨2, ![336, 2]⟩
abbrev S336x2x1 : Shape := ⟨3, ![336, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S896x336, .bf16⟩
  | .hbm, ⟨8, _⟩ => ⟨S128x336, .i8⟩
  | .hbm, ⟨9, _⟩ => ⟨S2x336, .f32⟩
  | .hbm, ⟨10, _⟩ => ⟨S128x336, .i8⟩
  | .hbm, ⟨11, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S4x896x1152, .i8⟩
  | .local _ .vmem, ⟨3, _⟩ => ⟨S4x1152, .f32⟩
  | .local _ .vmem, ⟨4, _⟩ => ⟨S4x1152, .f32⟩
  | .local _ .vmem, ⟨5, _⟩ => ⟨S336x32, .f32⟩
  | .local _ .vmem, ⟨6, _⟩ => ⟨S336x32, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S336x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S336x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv3.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S32x336 : Shape := ⟨2, ![32, 336]⟩
abbrev S896x336 : Shape := ⟨2, ![896, 336]⟩
abbrev S128x336 : Shape := ⟨2, ![128, 336]⟩
abbrev S2x336 : Shape := ⟨2, ![2, 336]⟩
abbrev S1x896x1152 : Shape := ⟨3, ![1, 896, 1152]⟩
abbrev S1x896 : Shape := ⟨2, ![1, 896]⟩
abbrev S336 : Shape := ⟨1, ![336]⟩
abbrev S336x1 : Shape := ⟨2, ![336, 1]⟩
abbrev S896x1152 : Shape := ⟨2, ![896, 1152]⟩
abbrev S336x1152 : Shape := ⟨2, ![336, 1152]⟩
abbrev S1x1152 : Shape := ⟨2, ![1, 1152]⟩
abbrev S48x1152 : Shape := ⟨2, ![48, 1152]⟩
abbrev S384x1152 : Shape := ⟨2, ![384, 1152]⟩
abbrev S1152x384 : Shape := ⟨2, ![1152, 384]⟩
abbrev S1152x336 : Shape := ⟨2, ![1152, 336]⟩
abbrev S64x336 : Shape := ⟨2, ![64, 336]⟩
abbrev S1x336 : Shape := ⟨2, ![1, 336]⟩

abbrev nBuf : Space → Nat
  | .hbm => 14
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S32x336, .f32⟩
  | .hbm, ⟨8, _⟩ => ⟨S32x336, .f32⟩
  | .hbm, ⟨9, _⟩ => ⟨S896x336, .bf16⟩
  | .hbm, ⟨10, _⟩ => ⟨S128x336, .i8⟩
  | .hbm, ⟨11, _⟩ => ⟨S2x336, .f32⟩
  | .hbm, ⟨12, _⟩ => ⟨S128x336, .i8⟩
  | .hbm, ⟨13, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S1x896x1152, .i8⟩
  | .local _ .vmem, ⟨3, _⟩ => ⟨S4x1152, .f32⟩
  | .local _ .vmem, ⟨4, _⟩ => ⟨S4x1152, .f32⟩
  | .local _ .vmem, ⟨5, _⟩ => ⟨S32x336, .f32⟩
  | .local _ .vmem, ⟨6, _⟩ => ⟨S32x336, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkvRef3Ideal.lean ====
abbrev S336x896 : Shape := ⟨2, ![336, 896]⟩
abbrev S4x896 : Shape := ⟨2, ![4, 896]⟩
abbrev S4x896x1152 : Shape := ⟨3, ![4, 896, 1152]⟩
abbrev S4x1152 : Shape := ⟨2, ![4, 1152]⟩
abbrev S336x32 : Shape := ⟨2, ![336, 32]⟩
abbrev S896x336 : Shape := ⟨2, ![896, 336]⟩
abbrev S128x336 : Shape := ⟨2, ![128, 336]⟩
abbrev S2x336 : Shape := ⟨2, ![2, 336]⟩
abbrev S1x896 : Shape := ⟨2, ![1, 896]⟩
abbrev S896 : Shape := ⟨1, ![896]⟩
abbrev S336 : Shape := ⟨1, ![336]⟩
abbrev S336x1 : Shape := ⟨2, ![336, 1]⟩
abbrev S1x896x1152 : Shape := ⟨3, ![1, 896, 1152]⟩
abbrev S896x1152 : Shape := ⟨2, ![896, 1152]⟩
abbrev S1x1152 : Shape := ⟨2, ![1, 1152]⟩
abbrev S1152 : Shape := ⟨1, ![1152]⟩
abbrev S336x1152 : Shape := ⟨2, ![336, 1152]⟩
abbrev S336x14x64 : Shape := ⟨3, ![336, 14, 64]⟩
abbrev S336x14x32 : Shape := ⟨3, ![336, 14, 32]⟩
abbrev S336x1x32 : Shape := ⟨3, ![336, 1, 32]⟩
abbrev S336x128 : Shape := ⟨2, ![336, 128]⟩
abbrev S336x2x64 : Shape := ⟨3, ![336, 2, 64]⟩
abbrev S336x2x32 : Shape := ⟨3, ![336, 2, 32]⟩
abbrev S336x2 : Shape := ⟨2, ![336, 2]⟩
abbrev S336x2x1 : Shape := ⟨3, ![336, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S336x896, .f32⟩
  | .hbm, ⟨1, _⟩ => ⟨S4x896, .f32⟩
  | .hbm, ⟨2, _⟩ => ⟨S4x896x1152, .i8⟩
  | .hbm, ⟨3, _⟩ => ⟨S4x1152, .f32⟩
  | .hbm, ⟨4, _⟩ => ⟨S4x1152, .f32⟩
  | .hbm, ⟨5, _⟩ => ⟨S336x32, .f32⟩
  | .hbm, ⟨6, _⟩ => ⟨S336x32, .f32⟩
  | .hbm, ⟨7, _⟩ => ⟨S896x336, .bf16⟩
  | .hbm, ⟨8, _⟩ => ⟨S128x336, .i8⟩
  | .hbm, ⟨9, _⟩ => ⟨S2x336, .f32⟩
  | .hbm, ⟨10, _⟩ => ⟨S128x336, .i8⟩
  | .hbm, ⟨11, _⟩ => ⟨S2x336, .f32⟩
  | .local _ .vmem, ⟨0, _⟩ => ⟨S336x896, .f32⟩
  | .local _ .vmem, ⟨1, _⟩ => ⟨S4x896, .f32⟩
  | .local _ .vmem, ⟨2, _⟩ => ⟨S4x896x1152, .i8⟩
  | .local _ .vmem, ⟨3, _⟩ => ⟨S4x1152, .f32⟩
  | .local _ .vmem, ⟨4, _⟩ => ⟨S4x1152, .f32⟩
  | .local _ .vmem, ⟨5, _⟩ => ⟨S336x32, .f32⟩
  | .local _ .vmem, ⟨6, _⟩ => ⟨S336x32, .f32⟩
  | .local _ .vmem, ⟨7, _⟩ => ⟨S896x336, .bf16⟩
  | .local _ .vmem, ⟨8, _⟩ => ⟨S128x336, .i8⟩
  | .local _ .vmem, ⟨9, _⟩ => ⟨S2x336, .f32⟩
  | .local _ .vmem, ⟨10, _⟩ => ⟨S128x336, .i8⟩
  | .local _ .vmem, ⟨11, _⟩ => ⟨S2x336, .f32⟩
  | _, _ => ⟨S336x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S336x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x896x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S336x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S336x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S896x336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x336 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x336 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Chunk.lean ====
abbrev S1 : Shape := ⟨1, ![1]⟩
abbrev S896x336 : Shape := ⟨2, ![896, 336]⟩
abbrev S2x64x4096 : Shape := ⟨3, ![2, 64, 4096]⟩
abbrev S2x32x128 : Shape := ⟨3, ![2, 32, 128]⟩
abbrev S128x336 : Shape := ⟨2, ![128, 336]⟩
abbrev S2x336 : Shape := ⟨2, ![2, 336]⟩
abbrev S2x7x64x336 : Shape := ⟨4, ![2, 7, 64, 336]⟩
abbrev S2x7x64x320 : Shape := ⟨4, ![2, 7, 64, 320]⟩
abbrev S2x64x7x320 : Shape := ⟨4, ![2, 64, 7, 320]⟩
abbrev S2x64x2240 : Shape := ⟨3, ![2, 64, 2240]⟩
abbrev S_ : Shape := ⟨0, ![]⟩
abbrev S2x64x2304 : Shape := ⟨3, ![2, 64, 2304]⟩
abbrev S2x64x336 : Shape := ⟨3, ![2, 64, 336]⟩
abbrev S2x64x320 : Shape := ⟨3, ![2, 64, 320]⟩
abbrev S2x64x384 : Shape := ⟨3, ![2, 64, 384]⟩
abbrev S2x1x336 : Shape := ⟨3, ![2, 1, 336]⟩
abbrev S2x1x320 : Shape := ⟨3, ![2, 1, 320]⟩
abbrev S2x1x384 : Shape := ⟨3, ![2, 1, 384]⟩
abbrev S1x64x256 : Shape := ⟨3, ![1, 64, 256]⟩
abbrev S1x64x4096 : Shape := ⟨3, ![1, 64, 4096]⟩
abbrev S1x32x128 : Shape := ⟨3, ![1, 32, 128]⟩
abbrev S1x64x384 : Shape := ⟨3, ![1, 64, 384]⟩
abbrev S1x1x384 : Shape := ⟨3, ![1, 1, 384]⟩
abbrev S4480x128 : Shape := ⟨2, ![4480, 128]⟩
abbrev S4480x256 : Shape := ⟨2, ![4480, 256]⟩
abbrev S1x1x128 : Shape := ⟨3, ![1, 1, 128]⟩
abbrev S1x128 : Shape := ⟨2, ![1, 128]⟩
abbrev S128x128 : Shape := ⟨2, ![128, 128]⟩
abbrev S64x256 : Shape := ⟨2, ![64, 256]⟩
abbrev S128x256 : Shape := ⟨2, ![128, 256]⟩
abbrev S8x256 : Shape := ⟨2, ![8, 256]⟩
abbrev S1x64x128 : Shape := ⟨3, ![1, 64, 128]⟩
abbrev S64x128 : Shape := ⟨2, ![64, 128]⟩
abbrev S16x8x256 : Shape := ⟨3, ![16, 8, 256]⟩
abbrev S256 : Shape := ⟨1, ![256]⟩
abbrev S1x256 : Shape := ⟨2, ![1, 256]⟩
abbrev S320x2x7x64 : Shape := ⟨4, ![320, 2, 7, 64]⟩
abbrev S320x14x64 : Shape := ⟨3, ![320, 14, 64]⟩

abbrev nBuf : Space → Nat
  | .hbm => 41
  | .vmem => 23
  | .smem => 1
  | _ => 0

abbrev bufTy : (tb : Table) → Fin (tcTables nBuf tb) → BufTy
  | .hbm, ⟨0, _⟩ => ⟨S896x336, .bf16⟩
  | .hbm, ⟨1, _⟩ => ⟨S2x64x4096, .bf16⟩
  | .hbm, ⟨2, _⟩ => ⟨S2x64x4096, .bf16⟩
  | .hbm, ⟨3, _⟩ => ⟨S2x32x128, .f32⟩
  | .hbm, ⟨4, _⟩ => ⟨S2x32x128, .f32⟩
  | .hbm, ⟨5, _⟩ => ⟨S128x336, .bf16⟩
  | .hbm, ⟨6, _⟩ => ⟨S2x336, .f32⟩
  | .hbm, ⟨7, _⟩ => ⟨S128x336, .bf16⟩
  | .hbm, ⟨8, _⟩ => ⟨S2x336, .f32⟩
  | .hbm, ⟨9, _⟩ => ⟨S2x7x64x336, .bf16⟩
  | .hbm, ⟨10, _⟩ => ⟨S2x7x64x320, .bf16⟩
  | .hbm, ⟨11, _⟩ => ⟨S2x64x7x320, .bf16⟩
  | .hbm, ⟨12, _⟩ => ⟨S2x64x2240, .bf16⟩
  | .hbm, ⟨13, _⟩ => ⟨S_, .i32⟩
  | .hbm, ⟨14, _⟩ => ⟨S_, .bf16⟩
  | .hbm, ⟨15, _⟩ => ⟨S2x64x2304, .bf16⟩
  | .hbm, ⟨16, _⟩ => ⟨S2x64x336, .bf16⟩
  | .hbm, ⟨17, _⟩ => ⟨S2x64x320, .bf16⟩
  | .hbm, ⟨18, _⟩ => ⟨S_, .i32⟩
  | .hbm, ⟨19, _⟩ => ⟨S_, .bf16⟩
  | .hbm, ⟨20, _⟩ => ⟨S2x64x384, .bf16⟩
  | .hbm, ⟨21, _⟩ => ⟨S2x64x336, .bf16⟩
  | .hbm, ⟨22, _⟩ => ⟨S2x64x320, .bf16⟩
  | .hbm, ⟨23, _⟩ => ⟨S_, .i32⟩
  | .hbm, ⟨24, _⟩ => ⟨S_, .bf16⟩
  | .hbm, ⟨25, _⟩ => ⟨S2x64x384, .bf16⟩
  | .hbm, ⟨26, _⟩ => ⟨S2x1x336, .f32⟩
  | .hbm, ⟨27, _⟩ => ⟨S2x1x320, .f32⟩
  | .hbm, ⟨28, _⟩ => ⟨S_, .i32⟩
  | .hbm, ⟨29, _⟩ => ⟨S_, .f32⟩
  | .hbm, ⟨30, _⟩ => ⟨S2x1x384, .f32⟩
  | .hbm, ⟨31, _⟩ => ⟨S2x1x336, .f32⟩
  | .hbm, ⟨32, _⟩ => ⟨S2x1x320, .f32⟩
  | .hbm, ⟨33, _⟩ => ⟨S_, .i32⟩
  | .hbm, ⟨34, _⟩ => ⟨S_, .f32⟩
  | .hbm, ⟨35, _⟩ => ⟨S2x1x384, .f32⟩
  | .hbm, ⟨36, _⟩ => ⟨S2x64x2304, .bf16⟩
  | .hbm, ⟨37, _⟩ => ⟨S2x64x2240, .bf16⟩
  | .hbm, ⟨38, _⟩ => ⟨S2x64x7x320, .bf16⟩
  | .hbm, ⟨39, _⟩ => ⟨S320x2x7x64, .bf16⟩
  | .hbm, ⟨40, _⟩ => ⟨S320x14x64, .bf16⟩
  | .local _ .vmem, ⟨0, _⟩ => ⟨S1x64x256, .bf16⟩
  | .local _ .vmem, ⟨1, _⟩ => ⟨S1x64x256, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x64x384, .bf16⟩
  | .local _ .vmem, ⟨11, _⟩ => ⟨S1x64x384, .bf16⟩
  | .local _ .vmem, ⟨12, _⟩ => ⟨S1x64x384, .bf16⟩
  | .local _ .vmem, ⟨13, _⟩ => ⟨S1x64x384, .bf16⟩
  | .local _ .vmem, ⟨14, _⟩ => ⟨S1x1x384, .f32⟩
  | .local _ .vmem, ⟨15, _⟩ => ⟨S1x1x384, .f32⟩
  | .local _ .vmem, ⟨16, _⟩ => ⟨S1x1x384, .f32⟩
  | .local _ .vmem, ⟨17, _⟩ => ⟨S1x1x384, .f32⟩
  | .local _ .vmem, ⟨18, _⟩ => ⟨S1x64x256, .bf16⟩
  | .local _ .vmem, ⟨19, _⟩ => ⟨S1x64x256, .bf16⟩
  | .local _ .vmem, ⟨20, _⟩ => ⟨S4480x128, .f32⟩
  | .local _ .vmem, ⟨21, _⟩ => ⟨S4480x128, .f32⟩
  | .local _ .vmem, ⟨22, _⟩ => ⟨S4480x256, .f32⟩
  | .local _ .smem, ⟨0, _⟩ => ⟨S1, .i32⟩
  | _, _ => ⟨S896x336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_call3_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_call4_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 9], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_81 : BitVec 32 := 0#32
  let c32_i32_82 : BitVec 32 := 32#32
  let v166 : BitVec 32 := Scalar.addi c0_i32_81 c32_i32_82
  let c1_i32_83 : BitVec 32 := 1#32
  ⟨c0_i32_81, v166, c1_i32_83⟩
def k0_mult1 (k0_t1 : Fin k0_t1_loop.trips) : BitVec 32 :=
  let c0_i32_81 : BitVec 32 := 0#32
  let c1_i32_83 : BitVec 32 := 1#32
  let arg16 : BitVec 32 := Scf.iv c0_i32_81 c1_i32_83 k0_t1
  let c128_i32_115 : BitVec 32 := 128#32
  let v215 : BitVec 32 := Scalar.muli arg16 c128_i32_115
  v215
def k0_off1 (k0_t1 : Fin k0_t1_loop.trips) : Fin 3 → Nat :=
  let c0_116 : Index := 0#32
  let c0_i32_81 : BitVec 32 := 0#32
  let c1_i32_83 : BitVec 32 := 1#32
  let arg16 : BitVec 32 := Scf.iv c0_i32_81 c1_i32_83 k0_t1
  let v217 : Index := Scalar.indexCast arg16
  let c0_117 : Index := 0#32
  ![0, v217.toNat, 0]
def k0_off2 (k0_t1 : Fin k0_t1_loop.trips) : Fin 2 → Nat :=
  let c0_i32_81 : BitVec 32 := 0#32
  let c1_i32_83 : BitVec 32 := 1#32
  let arg16 : BitVec 32 := Scf.iv c0_i32_81 c1_i32_83 k0_t1
  let c128_i32_115 : BitVec 32 := 128#32
  let v215 : BitVec 32 := Scalar.muli arg16 c128_i32_115
  let v216 : BitVec 32 := v215
  let v223 : Index := Scalar.indexCast v216
  let c0_118 : Index := 0#32
  ![v223.toNat, 0]
@[reducible] def k0_t2_loop : Scf.Loop 32 :=
  let c0_i32_11 : BitVec 32 := 0#32
  let c32_i32 : BitVec 32 := 32#32
  let v47 : BitVec 32 := Scalar.addi c0_i32_11 c32_i32
  let c1_i32 : BitVec 32 := 1#32
  ⟨c0_i32_11, v47, c1_i32⟩
def k0_mult2 (k0_t2 : Fin k0_t2_loop.trips) : BitVec 32 :=
  let c0_i32_11 : BitVec 32 := 0#32
  let c1_i32 : BitVec 32 := 1#32
  let arg16 : BitVec 32 := Scf.iv c0_i32_11 c1_i32 k0_t2
  let c128_i32_81 : BitVec 32 := 128#32
  let v166 : BitVec 32 := Scalar.muli arg16 c128_i32_81
  v166
def k0_off3 (k0_t2 : Fin k0_t2_loop.trips) : Fin 3 → Nat :=
  let c0_82 : Index := 0#32
  let c0_83 : Index := 0#32
  let c0_i32_11 : BitVec 32 := 0#32
  let c1_i32 : BitVec 32 := 1#32
  let arg16 : BitVec 32 := Scf.iv c0_i32_11 c1_i32 k0_t2
  let c128_i32_81 : BitVec 32 := 128#32
  let v166 : BitVec 32 := Scalar.muli arg16 c128_i32_81
  let v167 : BitVec 32 := v166
  let v168 : Index := Scalar.indexCast v167
  ![0, 0, v168.toNat]
def k0_off4 (k0_t2 : Fin k0_t2_loop.trips) : Fin 2 → Nat :=
  let c0_i32_11 : BitVec 32 := 0#32
  let c1_i32 : BitVec 32 := 1#32
  let arg16 : BitVec 32 := Scf.iv c0_i32_11 c1_i32 k0_t2
  let c128_i32_81 : BitVec 32 := 128#32
  let v166 : BitVec 32 := Scalar.muli arg16 c128_i32_81
  let v167 : BitVec 32 := v166
  let v178 : Index := Scalar.indexCast v167
  let c0_86 : Index := 0#32
  ![v178.toNat, 0]
def k0_off5 (k0_t2 : Fin k0_t2_loop.trips) : Fin 2 → Nat :=
  let c0_i32_11 : BitVec 32 := 0#32
  let c1_i32 : BitVec 32 := 1#32
  let arg16 : BitVec 32 := Scf.iv c0_i32_11 c1_i32 k0_t2
  let c128_i32_81 : BitVec 32 := 128#32
  let v166 : BitVec 32 := Scalar.muli arg16 c128_i32_81
  let v167 : BitVec 32 := v166
  let v186 : Index := Scalar.indexCast v167
  let c0_89 : Index := 0#32
  ![v186.toNat, 0]
@[reducible] def k0_t3_loop : Scf.Loop 32 :=
  let c0_i32_46 : BitVec 32 := 0#32
  let c32_i32_47 : BitVec 32 := 32#32
  let v111 : BitVec 32 := Scalar.addi c0_i32_46 c32_i32_47
  let c1_i32_48 : BitVec 32 := 1#32
  ⟨c0_i32_46, v111, c1_i32_48⟩
def k0_mult3 (k0_t3 : Fin k0_t3_loop.trips) : BitVec 32 :=
  let c0_i32_46 : BitVec 32 := 0#32
  let c1_i32_48 : BitVec 32 := 1#32
  let arg16 : BitVec 32 := Scf.iv c0_i32_46 c1_i32_48 k0_t3
  let c128_i32_81 : BitVec 32 := 128#32
  let v166 : BitVec 32 := Scalar.muli arg16 c128_i32_81
  v166
def k0_off6 (k0_t3 : Fin k0_t3_loop.trips) : Fin 3 → Nat :=
  let c0_82 : Index := 0#32
  let c0_83 : Index := 0#32
  let c0_i32_46 : BitVec 32 := 0#32
  let c1_i32_48 : BitVec 32 := 1#32
  let arg16 : BitVec 32 := Scf.iv c0_i32_46 c1_i32_48 k0_t3
  let c128_i32_81 : BitVec 32 := 128#32
  let v166 : BitVec 32 := Scalar.muli arg16 c128_i32_81
  let v167 : BitVec 32 := v166
  let v168 : Index := Scalar.indexCast v167
  ![0, 0, v168.toNat]
def k0_off7 (k0_t3 : Fin k0_t3_loop.trips) : Fin 2 → Nat :=
  let c0_i32_46 : BitVec 32 := 0#32
  let c1_i32_48 : BitVec 32 := 1#32
  let arg16 : BitVec 32 := Scf.iv c0_i32_46 c1_i32_48 k0_t3
  let c128_i32_81 : BitVec 32 := 128#32
  let v166 : BitVec 32 := Scalar.muli arg16 c128_i32_81
  let v167 : BitVec 32 := v166
  let v171 : Index := Scalar.indexCast v167
  let c0_84 : Index := 0#32
  ![v171.toNat, 0]
def k0_off8 (k0_t3 : Fin k0_t3_loop.trips) : Fin 2 → Nat :=
  let c0_i32_46 : BitVec 32 := 0#32
  let c1_i32_48 : BitVec 32 := 1#32
  let arg16 : BitVec 32 := Scf.iv c0_i32_46 c1_i32_48 k0_t3
  let c128_i32_81 : BitVec 32 := 128#32
  let v166 : BitVec 32 := Scalar.muli arg16 c128_i32_81
  let v167 : BitVec 32 := v166
  let v179 : Index := Scalar.indexCast v167
  let c0_86 : Index := 0#32
  ![v179.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ChunkRefIdeal.lean ====
abbrev S1 : Shape := ⟨1, ![1]⟩
abbrev S896x336 : Shape := ⟨2, ![896, 336]⟩
abbrev S2x64x4096 : Shape := ⟨3, ![2, 64, 4096]⟩
abbrev S2x32x128 : Shape := ⟨3, ![2, 32, 128]⟩
abbrev S128x336 : Shape := ⟨2, ![128, 336]⟩
abbrev S2x336 : Shape := ⟨2, ![2, 336]⟩
abbrev S1x1x1 : Shape := ⟨3, ![1, 1, 1]⟩
abbrev S14x64x336 : Shape := ⟨3, ![14, 64, 336]⟩
abbrev S14x64x320 : Shape := ⟨3, ![14, 64, 320]⟩
abbrev S14x320x64 : Shape := ⟨3, ![14, 320, 64]⟩
abbrev S2x64x336 : Shape := ⟨3, ![2, 64, 336]⟩
abbrev S2x64x320 : Shape := ⟨3, ![2, 64, 320]⟩
abbrev S2x320x64 : Shape := ⟨3, ![2, 320, 64]⟩
abbrev S2x7x320x64 : Shape := ⟨4, ![2, 7, 320, 64]⟩
abbrev S2x320 : Shape := ⟨2, ![2, 320]⟩
abbrev S2x1x320 : Shape := ⟨3, ![2, 1, 320]⟩
abbrev S2x7x1x320 : Shape := ⟨4, ![2, 7, 1, 320]⟩
abbrev S14x1x320 : Shape := ⟨3, ![14, 1, 320]⟩
abbrev S2x64x32x128 : Shape := ⟨4, ![2, 64, 32, 128]⟩
abbrev S2x128x32x64 : Shape := ⟨4, ![2, 128, 32, 64]⟩
abbrev S2x4096x64 : Shape := ⟨3, ![2, 4096, 64]⟩
abbrev S2x7x4096x64 : Shape := ⟨4, ![2, 7, 4096, 64]⟩
abbrev S14x4096x64 : Shape := ⟨3, ![14, 4096, 64]⟩
abbrev S2x128x32 : Shape := ⟨3, ![2, 128, 32]⟩
abbrev S2x1x4096 : Shape := ⟨3, ![2, 1, 4096]⟩
abbrev S2x7x1x4096 : Shape := ⟨4, ![2, 7, 1, 4096]⟩
abbrev S14x1x4096 : Shape := ⟨3, ![14, 1, 4096]⟩
abbrev S320x14x64 : Shape := ⟨3, ![320, 14, 64]⟩
abbrev S14x320x4096 : Shape := ⟨3, ![14, 320, 4096]⟩
abbrev S14x320x320 : Shape := ⟨3, ![14, 320, 320]⟩
abbrev S14x320 : Shape := ⟨2, ![14, 320]⟩
abbrev S14x320x1 : Shape := ⟨3, ![14, 320, 1]⟩

abbrev nBuf : Space → Nat
  | .hbm => 51
  | .vmem => 11
  | .smem => 0
  | _ => 0

abbrev bufTy : (tb : Table) → Fin (tcTables nBuf tb) → BufTy
  | .hbm, ⟨0, _⟩ => ⟨S1, .i32⟩
  | .hbm, ⟨1, _⟩ => ⟨S896x336, .bf16⟩
  | .hbm, ⟨2, _⟩ => ⟨S2x64x4096, .bf16⟩
  | .hbm, ⟨3, _⟩ => ⟨S2x64x4096, .bf16⟩
  | .hbm, ⟨4, _⟩ => ⟨S2x32x128, .f32⟩
  | .hbm, ⟨5, _⟩ => ⟨S2x32x128, .f32⟩
  | .hbm, ⟨6, _⟩ => ⟨S128x336, .bf16⟩
  | .hbm, ⟨7, _⟩ => ⟨S2x336, .f32⟩
  | .hbm, ⟨8, _⟩ => ⟨S128x336, .bf16⟩
  | .hbm, ⟨9, _⟩ => ⟨S2x336, .f32⟩
  | .hbm, ⟨10, _⟩ => ⟨S1x1x1, .i32⟩
  | .hbm, ⟨11, _⟩ => ⟨S14x64x336, .bf16⟩
  | .hbm, ⟨12, _⟩ => ⟨S14x64x320, .bf16⟩
  | .hbm, ⟨13, _⟩ => ⟨S14x320x64, .bf16⟩
  | .hbm, ⟨14, _⟩ => ⟨S2x64x336, .bf16⟩
  | .hbm, ⟨15, _⟩ => ⟨S2x64x320, .bf16⟩
  | .hbm, ⟨16, _⟩ => ⟨S2x320x64, .bf16⟩
  | .hbm, ⟨17, _⟩ => ⟨S2x7x320x64, .bf16⟩
  | .hbm, ⟨18, _⟩ => ⟨S14x320x64, .bf16⟩
  | .hbm, ⟨19, _⟩ => ⟨S2x320, .f32⟩
  | .hbm, ⟨20, _⟩ => ⟨S2x1x320, .f32⟩
  | .hbm, ⟨21, _⟩ => ⟨S2x7x1x320, .f32⟩
  | .hbm, ⟨22, _⟩ => ⟨S14x1x320, .f32⟩
  | .hbm, ⟨23, _⟩ => ⟨S2x64x336, .bf16⟩
  | .hbm, ⟨24, _⟩ => ⟨S2x64x320, .bf16⟩
  | .hbm, ⟨25, _⟩ => ⟨S2x320x64, .bf16⟩
  | .hbm, ⟨26, _⟩ => ⟨S2x7x320x64, .bf16⟩
  | .hbm, ⟨27, _⟩ => ⟨S14x320x64, .bf16⟩
  | .hbm, ⟨28, _⟩ => ⟨S2x320, .f32⟩
  | .hbm, ⟨29, _⟩ => ⟨S2x1x320, .f32⟩
  | .hbm, ⟨30, _⟩ => ⟨S2x7x1x320, .f32⟩
  | .hbm, ⟨31, _⟩ => ⟨S14x1x320, .f32⟩
  | .hbm, ⟨32, _⟩ => ⟨S2x64x32x128, .bf16⟩
  | .hbm, ⟨33, _⟩ => ⟨S2x128x32x64, .bf16⟩
  | .hbm, ⟨34, _⟩ => ⟨S2x4096x64, .bf16⟩
  | .hbm, ⟨35, _⟩ => ⟨S2x7x4096x64, .bf16⟩
  | .hbm, ⟨36, _⟩ => ⟨S14x4096x64, .bf16⟩
  | .hbm, ⟨37, _⟩ => ⟨S2x128x32, .f32⟩
  | .hbm, ⟨38, _⟩ => ⟨S2x1x4096, .f32⟩
  | .hbm, ⟨39, _⟩ => ⟨S2x7x1x4096, .f32⟩
  | .hbm, ⟨40, _⟩ => ⟨S14x1x4096, .f32⟩
  | .hbm, ⟨41, _⟩ => ⟨S2x64x32x128, .bf16⟩
  | .hbm, ⟨42, _⟩ => ⟨S2x128x32x64, .bf16⟩
  | .hbm, ⟨43, _⟩ => ⟨S2x4096x64, .bf16⟩
  | .hbm, ⟨44, _⟩ => ⟨S2x7x4096x64, .bf16⟩
  | .hbm, ⟨45, _⟩ => ⟨S14x4096x64, .bf16⟩
  | .hbm, ⟨46, _⟩ => ⟨S2x128x32, .f32⟩
  | .hbm, ⟨47, _⟩ => ⟨S2x1x4096, .f32⟩
  | .hbm, ⟨48, _⟩ => ⟨S2x7x1x4096, .f32⟩
  | .hbm, ⟨49, _⟩ => ⟨S14x1x4096, .f32⟩
  | .hbm, ⟨50, _⟩ => ⟨S320x14x64, .bf16⟩
  | .local _ .vmem, ⟨0, _⟩ => ⟨S1x1x1, .i32⟩
  | .local _ .vmem, ⟨1, _⟩ => ⟨S14x320x64, .bf16⟩
  | .local _ .vmem, ⟨2, _⟩ => ⟨S14x320x64, .bf16⟩
  | .local _ .vmem, ⟨3, _⟩ => ⟨S14x1x320, .f32⟩
  | .local _ .vmem, ⟨4, _⟩ => ⟨S14x320x64, .bf16⟩
  | .local _ .vmem, ⟨5, _⟩ => ⟨S14x1x320, .f32⟩
  | .local _ .vmem, ⟨6, _⟩ => ⟨S14x4096x64, .bf16⟩
  | .local _ .vmem, ⟨7, _⟩ => ⟨S14x1x4096, .f32⟩
  | .local _ .vmem, ⟨8, _⟩ => ⟨S14x4096x64, .bf16⟩
  | .local _ .vmem, ⟨9, _⟩ => ⟨S14x1x4096, .f32⟩
  | .local _ .vmem, ⟨10, _⟩ => ⟨S320x14x64, .bf16⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14x320x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x320x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14x1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14x320x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14x1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x4096x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14x4096x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14x1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x14x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.FfnMath.lean ====
/-
  The feed-forward part of a layer as one function of its arrays, entry by entry over the extended reals: the
  attention output's projection added to the residual stream, the root-mean-square norm, the gated product and the
  down projection. And the two facts of summation that the kernel's order of work rests on: a sum over 4864 columns is
  the sum over 19 blocks of 256, and an accumulator that starts at its first block and adds one block per step holds
  the sum of the blocks seen.
-/
module

public import Idealize.ShloMosaic.Lib.Pointwise
public import Idealize.ShloMosaic.Lib.Pipeline.ValueKit.Acc

@[expose] public section

noncomputable section
namespace Cert.Proof.Ffn
open Idealize.ShloMosaic

/-- The residual stream after the attention output's projection: `h + (attn · wo) * so`. -/
def mid (h attn : Fin 336 → Fin 896 → EReal) (wo : Fin 896 → Fin 896 → EReal) (so : Fin 896 → EReal)
    (i : Fin 336) (j : Fin 896) : EReal :=
  h i j + (∑ k, attn i k * wo k j) * so j

/-- The root-mean-square norm of a row, times the gain. -/
def normed (x : Fin 336 → Fin 896 → EReal) (g : Fin 896 → EReal) (i : Fin 336) (j : Fin 896) : EReal :=
  Ideal.div (x i j) (Ideal.sqrt (Ideal.div (∑ k, x i k * x i k) (Ideal.ofBits .f32 1147142144#32)
    + Ideal.ofBits .f32 897988541#32)) * g j

/-- A column of a product with dequantised weights: `(x · w) * s`. -/
def col (x : Fin 336 → Fin 896 → EReal) (w : Fin 896 → EReal) (s : EReal) (i : Fin 336) : EReal :=
  (∑ k, x i k * w k) * s

/-- The gate's swish times the up projection. -/
def act (a b : EReal) : EReal := Ideal.div a (1 + Ideal.exp (0 - a)) * b

/-- What the feed-forward call returns. Columns `f` and `4864 + f` of `wgu` are the gate and the up projection. -/
def out (h attn : Fin 336 → Fin 896 → EReal) (wo : Fin 896 → Fin 896 → EReal) (so g : Fin 896 → EReal)
    (wgu : Fin 896 → Fin 9728 → EReal) (sgu : Fin 9728 → EReal) (wd : Fin 4864 → Fin 896 → EReal)
    (sd : Fin 896 → EReal) (i : Fin 336) (j : Fin 896) : EReal :=
  mid h attn wo so i j + (∑ f : Fin 4864,
    act (col (normed (mid h attn wo so) g) (fun k => wgu k ⟨f, by omega⟩) (sgu ⟨f, by omega⟩) i)
      (col (normed (mid h attn wo so) g) (fun k => wgu k ⟨4864 + f, by omega⟩) (sgu ⟨4864 + f, by omega⟩) i)
      * wd f j) * sd j

/-! ## The same over the arrays of the call, for layer `l` -/

/-- A matrix. -/
def mat {a b : ℕ} (x : Vec Ideal ⟨2, ![a, b]⟩ .f32) (i : Fin a) (j : Fin b) : EReal := x (ix2 i j)

/-- The attention output with its heads side by side. -/
def heads (x : Vec Ideal ⟨3, ![336, 14, 64]⟩ .bf16) (i : Fin 336) (k : Fin 896) : EReal :=
  x (ix3 i ⟨k / 64, by omega⟩ ⟨k % 64, by omega⟩)

/-- The output projection of layer `l`, its heads one below the other. -/
def proj (l : Fin 4) (x : Vec Ideal ⟨4, ![4, 14, 64, 896]⟩ .i8) (k j : Fin 896) : EReal :=
  FloatOps.sitofp (F := Ideal) .bf16 (x (ix4 l ⟨k / 64, by omega⟩ ⟨k % 64, by omega⟩ j))

/-- A layer's weights. -/
def wts {a b : ℕ} (l : Fin 4) (x : Vec Ideal ⟨3, ![4, a, b]⟩ .i8) (k : Fin a) (f : Fin b) : EReal :=
  FloatOps.sitofp (F := Ideal) .bf16 (x (ix3 l k f))

/-- What the feed-forward call of layer `l` returns, over the nine arrays it is given. -/
def call (l : Fin 4) (x0 : Vec Ideal ⟨2, ![336, 896]⟩ .f32) (x1 : Vec Ideal ⟨3, ![336, 14, 64]⟩ .bf16)
    (x2 : Vec Ideal ⟨4, ![4, 14, 64, 896]⟩ .i8) (x3 x4 : Vec Ideal ⟨2, ![4, 896]⟩ .f32)
    (x5 : Vec Ideal ⟨3, ![4, 896, 9728]⟩ .i8) (x6 : Vec Ideal ⟨2, ![4, 9728]⟩ .f32)
    (x7 : Vec Ideal ⟨3, ![4, 4864, 896]⟩ .i8) (x8 : Vec Ideal ⟨2, ![4, 896]⟩ .f32) :
    Vec Ideal ⟨2, ![336, 896]⟩ .f32 := fun y =>
  out (mat x0) (heads x1) (proj l x2) (mat x3 l) (mat x4 l) (wts l x5) (mat x6 l) (wts l x7) (mat x8 l) (y 0) (y 1)

/-! ## Sums -/

/-- A sum over 4864 columns is the sum over 19 blocks of the sums over their 256 columns. -/
theorem sum_blocks (F : Fin 4864 → EReal) :
    ∑ s : Fin 19, ∑ r : Fin 256, F ⟨256 * s + r, by omega⟩ = ∑ f, F f := by
  rw [← Fintype.sum_prod_type']
  refine Fintype.sum_equiv (finProdFinEquiv (m := 19) (n := 256)) _ _ fun p => ?_
  congr 1
  apply Fin.ext
  show 256 * p.1.val + p.2.val = p.2.val + 256 * p.1.val
  omega

/-- Three quantities carried from step to step: `H` and `X` are set at step 0 and kept, `A` is the running sum of the
    terms that the steps add. After step `n` it holds the sum of the terms of steps 0 to `n`. -/
theorem carried {α β ι : Type} {N : ℕ} (H : ∀ n, n < N → α) (X : ∀ n, n < N → β) (A : ∀ n, n < N → ι → EReal)
    (h : α) (x : β) (term : β → ∀ n, n < N → ι → EReal)
    (hH : ∀ h0, H 0 h0 = h) (hX : ∀ h0, X 0 h0 = x) (hA : ∀ h0 i, A 0 h0 i = term x 0 h0 i)
    (sH : ∀ n hn, H (n + 1) hn = H n (by omega)) (sX : ∀ n hn, X (n + 1) hn = X n (by omega))
    (sA : ∀ n hn i, A (n + 1) hn i = A n (by omega) i + term (X n (by omega)) (n + 1) hn i) :
    ∀ n (hn : n < N), H n hn = h ∧ X n hn = x
      ∧ ∀ i, A n hn i = ∑ s : Fin (n + 1), term x s (by omega) i
  | 0, hn => ⟨hH hn, hX hn, fun i => by rw [hA]; simp⟩
  | n + 1, hn => by
    obtain ⟨eH, eX, eA⟩ := carried H X A h x term hH hX hA sH sX sA n (by omega)
    refine ⟨(sH n hn).trans eH, (sX n hn).trans eX, fun i => ?_⟩
    rw [sA, eA, eX, Fin.sum_univ_castSucc (n := n + 1)]
    rfl

/-! ## The order in which the grid's points add up the call -/

section Points
variable (l : Fin 4) (x0 : Vec Ideal ⟨2, ![336, 896]⟩ .f32) (x1 : Vec Ideal ⟨3, ![336, 14, 64]⟩ .bf16)
  (x2 : Vec Ideal ⟨4, ![4, 14, 64, 896]⟩ .i8) (x3 x4 : Vec Ideal ⟨2, ![4, 896]⟩ .f32)
  (x5 : Vec Ideal ⟨3, ![4, 896, 9728]⟩ .i8) (x6 : Vec Ideal ⟨2, ![4, 9728]⟩ .f32)
  (x7 : Vec Ideal ⟨3, ![4, 4864, 896]⟩ .i8) (x8 : Vec Ideal ⟨2, ![4, 896]⟩ .f32)

/-- The residual stream after the projection, of layer `l`. -/
def stream : Fin 336 → Fin 896 → EReal := mid (mat x0) (heads x1) (proj l x2) (mat x3 l)

/-- Its norm. -/
def norm : Fin 336 → Fin 896 → EReal := normed (stream l x0 x1 x2 x3) (mat x4 l)

/-- The part of the down projection that comes from block `s` of 256 columns, given the norm `x`. -/
def term (x : Fin 336 → Fin 896 → EReal) (s : Fin 19) (i : Fin 336) (j : Fin 896) : EReal :=
  ∑ r : Fin 256, act
    (col x (fun k => wts l x5 k ⟨256 * s + r, by omega⟩) (mat x6 l ⟨256 * s + r, by omega⟩) i)
    (col x (fun k => wts l x5 k ⟨4864 + (256 * s + r), by omega⟩) (mat x6 l ⟨4864 + (256 * s + r), by omega⟩) i)
    * wts l x7 ⟨256 * s + r, by omega⟩ j

/-- Nineteen points that hold a result, the residual stream, its norm and a running sum. The first forms the stream,
    the norm and its own block's sum; the later ones keep the first two and add their block; the last one's result is
    the stream plus the scaled sum. Then that result is the call. -/
theorem call_of_points {N : ℕ} (hN : N = 19) (h18 : 18 < N)
    (outs : ∀ n, n < N → Vec Ideal ⟨2, ![336, 896]⟩ .f32 × Vec Ideal ⟨2, ![336, 896]⟩ .f32
      × Vec Ideal ⟨2, ![336, 896]⟩ .bf16 × Vec Ideal ⟨2, ![336, 896]⟩ .f32)
    (first : ∀ h0 (i : Fin 336) (j : Fin 896), (outs 0 h0).2.1 (ix2 i j) = stream l x0 x1 x2 x3 i j
      ∧ (outs 0 h0).2.2.1 (ix2 i j) = norm l x0 x1 x2 x3 x4 i j
      ∧ (outs 0 h0).2.2.2 (ix2 i j) = term l x5 x6 x7 (norm l x0 x1 x2 x3 x4) 0 i j)
    (next : ∀ n hn, (outs (n + 1) hn).2.1 = (outs n (by omega)).2.1
      ∧ (outs (n + 1) hn).2.2.1 = (outs n (by omega)).2.2.1
      ∧ ∀ (i : Fin 336) (j : Fin 896), (outs (n + 1) hn).2.2.2 (ix2 i j) = (outs n (by omega)).2.2.2 (ix2 i j)
        + term l x5 x6 x7 (fun i k => (outs n (by omega)).2.2.1 (ix2 i k)) ⟨n + 1, by omega⟩ i j)
    (last : ∀ (i : Fin 336) (j : Fin 896), (outs 18 h18).1 (ix2 i j)
      = (outs 18 h18).2.1 (ix2 i j) + (outs 18 h18).2.2.2 (ix2 i j) * mat x8 l j) :
    (outs 18 h18).1 = call l x0 x1 x2 x3 x4 x5 x6 x7 x8 := by
  have key := carried (fun n hn (p : Fin 336 × Fin 896) => (outs n hn).2.1 (ix2 p.1 p.2))
    (fun n hn (p : Fin 336 × Fin 896) => (outs n hn).2.2.1 (ix2 p.1 p.2))
    (fun n hn (p : Fin 336 × Fin 896) => (outs n hn).2.2.2 (ix2 p.1 p.2))
    (fun p => stream l x0 x1 x2 x3 p.1 p.2) (fun p => norm l x0 x1 x2 x3 x4 p.1 p.2)
    (fun x n hn p => term l x5 x6 x7 (fun i k => x (i, k)) ⟨n, by omega⟩ p.1 p.2)
    (fun h0 => funext fun p => (first h0 p.1 p.2).1) (fun h0 => funext fun p => (first h0 p.1 p.2).2.1)
    (fun h0 p => (first h0 p.1 p.2).2.2) (fun n hn => funext fun p => congrFun (next n hn).1 _)
    (fun n hn => funext fun p => congrFun (next n hn).2.1 _) (fun n hn p => (next n hn).2.2 p.1 p.2) 18 h18
  obtain ⟨eH, -, eA⟩ := key
  funext y
  obtain ⟨i, j, rfl⟩ : ∃ (i : Fin 336) (j : Fin 896), y = ix2 i j := ⟨y 0, y 1, eq_ix2 y⟩
  rw [last i j, show (outs 18 h18).2.1 (ix2 i j) = _ from congrFun eH (i, j),
    show (outs 18 h18).2.2.2 (ix2 i j) = _ from eA (i, j)]
  dsimp only [call, out]
  rw [← sum_blocks]
  rfl

end Points

end Cert.Proof.Ffn
end
-- ==== Proof.Ffn0Kernel.lean ====
/-
  The value of the feed-forward kernel of layer 0. The grid's 19 points each take 256 columns of the gate and the up
  projection. The first point also forms the residual stream and its norm, which the later points keep; every point adds
  its block of the down projection to a running sum; the last point writes the result.
-/
module

public import proofs.«01_k».proof.Proof.Gen.Ffn0Ideal.Value
public import proofs.«01_k».proof.Proof.FfnMath
public import Idealize.ShloMosaic.Lib.Pipeline.ValueKit
public import Idealize.ShloMosaic.Lib.Pipeline.ReadBack

@[expose] public section

set_option maxRecDepth 16384

noncomputable section
namespace Cert.Proof.Ffn0
open Idealize.ShloMosaic Idealize.SL.Sem Idealize.ShloMosaic.Pipeline Idealize.ShloMosaic.TcCoe
open Cert.Ffn0Ideal Cert.Ffn0Ideal.Gen

variable (m : (ℓ : Loc nD τ sig) → Buf (Elt Ideal) ℓ) (c : Dev nD) (t : Fin cfg0.N)

/-! ## What the grid points leave, as the body's expressions of the blocks -/

/-- The residual stream, as the first point forms it. -/
def H : FVec Ideal S336x896 .f32 :=
  k0_pay4 (iblk m c 1 t) (iblk m c 2 t) (iblk m c 0 t)
    (View.ld (iblk m c 3 t) (Rect.unit ![0, 0] ![1, 896] inb_S4x896_S1x896_0_0))

/-- Its norm, as the first point forms it. -/
def X : FVec Ideal S336x896 .bf16 :=
  k0_pay5 (iblk m c 1 t) (iblk m c 2 t) (iblk m c 0 t)
    (View.ld (iblk m c 3 t) (Rect.unit ![0, 0] ![1, 896] inb_S4x896_S1x896_0_0))
    (View.ld (iblk m c 4 t) (Rect.unit ![0, 0] ![1, 896] inb_S4x896_S1x896_0_0))

/-- The running sum `a` after point `t`, given the norm `x`. -/
def step (x : FVec Ideal S336x896 .bf16) (a : FVec Ideal S336x896 .f32) : FVec Ideal S336x896 .f32 :=
  k0_pay1 (k0_pay7 x (iblk m c 5 t) (View.ld (iblk m c 7 t) (Rect.unit ![0, 0] ![1, 256] inb_S4x256_S1x256_0_0))
    (iblk m c 6 t) (View.ld (iblk m c 8 t) (Rect.unit ![0, 0] ![1, 256] inb_S4x256_S1x256_0_0)) a (iblk m c 9 t))

/-- What the last point writes, from the residual stream and the running sum. -/
def last (h a : FVec Ideal S336x896 .f32) : FVec Ideal S336x896 .f32 :=
  k0_pay2 h a (View.ld (iblk m c 10 t) (Rect.unit ![0, 0] ![1, 896] inb_S4x896_S1x896_0_0))

/-- The first point leaves the residual stream, its norm, and its own block's sum. -/
theorem outs_A (h0 : t.val % 19 = 0) :
    (outsAt0 m c t.val t.isLt).2 = (H m c t, X m c t, step m c t (X m c t) k0_pay6) := by
  rw [outsAt0_A m c t h0 (by omega)]
  frame_out
  rfl

/-- A later point keeps the first two and adds its block to the sum. -/
theorem outs_B (h0 : ¬t.val % 19 = 0) (h1 : ¬t.val % 19 = 18) (p)
    (hp : p = outsAt0 m c (t.val - 1) (Nat.lt_of_le_of_lt (Nat.sub_le _ _) t.isLt)) :
    (outsAt0 m c t.val t.isLt).2 = (p.2.1, p.2.2.1, step m c t p.2.2.1 p.2.2.2) := by
  subst hp
  rw [outsAt0_B m c t h0 h1]
  frame_out
  simp only [read_unread_whole]
  rfl

/-- So does the last point, which writes the result besides. -/
theorem outs_C (h0 : ¬t.val % 19 = 0) (h1 : t.val % 19 = 18) (p)
    (hp : p = outsAt0 m c (t.val - 1) (Nat.lt_of_le_of_lt (Nat.sub_le _ _) t.isLt)) :
    outsAt0 m c t.val t.isLt = (last m c t p.2.1 (step m c t p.2.2.1 p.2.2.2), p.2.1, p.2.2.1,
      step m c t p.2.2.1 p.2.2.2) := by
  subst hp
  rw [outsAt0_C m c t h0 h1]
  frame_out
  simp only [read_unread_whole]
  rfl

/-! ## The same entry by entry, over the argument arrays -/

theorem lt19 : t.val < 19 := lt_of_lt_of_eq t.isLt N_0

/-- Which block of its array each input window holds at point `t`. -/
theorem idx (t : Fin cfg0.N) : win0_0.index t = ![0, 0] ∧ win0_1.index t = ![0, 0] ∧ win0_2.index t = ![0, 0, 0]
    ∧ win0_3.index t = ![0, 0] ∧ win0_4.index t = ![0, 0] ∧ win0_5.index t = ![0, 0, t.val]
    ∧ win0_6.index t = ![0, 0, t.val + 19] ∧ win0_7.index t = ![0, t.val] ∧ win0_8.index t = ![0, t.val + 19]
    ∧ win0_9.index t = ![0, t.val, 0] ∧ win0_10.index t = ![0, 0] := by
  decide +kernel +revert

theorem H_apply (i : Fin 336) (j : Fin 896) : H m c t (ix2 i j) = Ffn.stream 0 (m (c.tc.loc main_arg0))
    (m (c.tc.loc main_arg1)) (m (c.tc.loc main_arg2)) (m (c.tc.loc main_arg3)) i j := by
  unfold H
  dsimp only [Ffn.stream, Ffn.mid, Ffn.mat, Ffn.heads, Ffn.proj]
  pointwise [k0_pay4, k0_pay3]
  blk_point [iblk, V, idx t]

theorem X_apply (i : Fin 336) (j : Fin 896) : X m c t (ix2 i j) = Ffn.norm 0 (m (c.tc.loc main_arg0))
    (m (c.tc.loc main_arg1)) (m (c.tc.loc main_arg2)) (m (c.tc.loc main_arg3)) (m (c.tc.loc main_arg4)) i j := by
  unfold X
  dsimp only [Ffn.norm, Ffn.normed, Ffn.stream, Ffn.mid, Ffn.mat, Ffn.heads, Ffn.proj]
  pointwise [k0_pay5, k0_pay3]
  blk_point [iblk, V, idx t]

theorem step_apply (x : FVec Ideal S336x896 .bf16) (a : FVec Ideal S336x896 .f32) (i : Fin 336) (j : Fin 896) :
    step m c t x a (ix2 i j) = a (ix2 i j) + Ffn.term 0 (m (c.tc.loc main_arg5)) (m (c.tc.loc main_arg6))
      (m (c.tc.loc main_arg7)) (fun i k => x (ix2 i k)) ⟨t, lt19 t⟩ i j := by
  have := lt19 t
  unfold step
  dsimp only [Ffn.term, Ffn.act, Ffn.col, Ffn.mat, Ffn.wts]
  pointwise [k0_pay1, k0_pay7]
  blk_point [iblk, V, idx t]

theorem last_apply (h a : FVec Ideal S336x896 .f32) (i : Fin 336) (j : Fin 896) :
    last m c t h a (ix2 i j) = h (ix2 i j) + a (ix2 i j) * Ffn.mat (m (c.tc.loc main_arg8)) 0 j := by
  unfold last
  dsimp only [Ffn.mat]
  pointwise [k0_pay2]
  blk_point [iblk, V, idx t]

/-! ## The result -/

theorem later (n : ℕ) (hn : n + 1 < cfg0.N) (p) (hp : p = outsAt0 m c n (by omega)) :
    (outsAt0 m c (n + 1) hn).2 = (p.2.1, p.2.2.1, step m c ⟨n + 1, hn⟩ p.2.2.1 p.2.2.2) := by
  have h19 := lt19 ⟨n + 1, hn⟩
  by_cases h : n + 1 = 18
  · exact congrArg Prod.snd (outs_C m c ⟨n + 1, hn⟩ (by simp only at *; omega) (by simp only at *; omega) p hp)
  · exact outs_B m c ⟨n + 1, hn⟩ (by simp only at *; omega) (by simp only at *; omega) p hp

/-- The result array after the run is the feed-forward formula of the arguments. -/
theorem result : (dats m 0 c).arrAt 11 cfg0.N
    = Ffn.call 0 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  have h18 : (18 : ℕ) < cfg0.N := lt_of_lt_of_eq (by decide) N_0.symm
  rw [Value.final11, Value.G11_last, ← Value.outsAt0_sweep m c 18 h18]
  refine Ffn.call_of_points 0 _ _ _ _ _ _ _ _ _ N_0 h18 (outsAt0 m c) (fun h0 i j => ?_) (fun n hn => ?_)
    (fun i j => ?_)
  · have e := outs_A m c ⟨0, h0⟩ rfl
    have eX : (fun i k => X m c ⟨0, h0⟩ (ix2 i k)) = Ffn.norm 0 _ _ _ _ _ :=
      funext fun i => funext fun k => X_apply m c ⟨0, h0⟩ i k
    rw [e]
    refine ⟨H_apply m c _ i j, X_apply m c _ i j, (step_apply m c _ _ _ i j).trans ?_⟩
    rw [eX]
    pointwise [k0_pay6]
  · rw [later m c n hn _ rfl]
    exact ⟨rfl, rfl, fun i j => step_apply m c _ _ _ i j⟩
  · have e := outs_C m c ⟨18, h18⟩ (by norm_num) rfl _ rfl
    have e1 := congrArg (fun q => q.1) e
    have e2 := congrArg (fun q => q.2.1) e
    have e3 := congrArg (fun q => q.2.2.2) e
    dsimp only at e1 e2 e3
    rw [e1, e2, e3]
    exact last_apply m c _ _ _ i j

end Cert.Proof.Ffn0
end
-- ==== Proof.Ffn0Reference.lean ====
/-
  The value of the feed-forward formula of layer 0, as the reference program computes it: one point, whole arrays.
-/
module

public import proofs.«01_k».proof.Proof.Gen.FfnRef0Ideal.Value
public import proofs.«01_k».proof.Proof.FfnMath
public import Idealize.ShloMosaic.Lib.Pipeline.ValueKit

@[expose] public section

set_option maxRecDepth 16384

noncomputable section
namespace Cert.Proof.FfnRef0
open Idealize.ShloMosaic Idealize.SL.Sem Idealize.ShloMosaic.Pipeline Idealize.ShloMosaic.TcCoe
open Cert.FfnRef0Ideal Cert.FfnRef0Ideal.Gen

variable (m : (ℓ : Loc nD τ sig) → Buf (Elt Ideal) ℓ) (c : Dev nD)

/-- The result array after the run is the feed-forward formula of the arguments. -/
theorem result : (dats m 0 c).arrAt 9 cfg0.N
    = Ffn.call 0 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  refine (dats m 0 c).arrAt_eq_of_covers 9 _ (by decide +kernel) fun t hf y => ?_
  blk_simp
  rw [after0_9]
  frame_out
  dsimp only [Ffn.call, Ffn.out, Ffn.normed, Ffn.mid, Ffn.act, Ffn.col, Ffn.mat, Ffn.heads, Ffn.proj, Ffn.wts]
  pointwise [k0_pay1, k0_pay2, k0_pay3, k0_pay4]
  blk_point [iblk, V, (by decide +kernel : ∀ t : Fin grid0.N, (win0_0.index t = ![0, 0] ∧ win0_1.index t = ![0, 0]
    ∧ win0_2.index t = ![0, 0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0])) t]

end Cert.Proof.FfnRef0
end
-- ==== Proof.Ffn1Kernel.lean ====
/-
  The value of the feed-forward kernel of layer 1. The grid's 19 points each take 256 columns of the gate and the up
  projection. The first point also forms the residual stream and its norm, which the later points keep; every point adds
  its block of the down projection to a running sum; the last point writes the result.
-/
module

public import proofs.«01_k».proof.Proof.Gen.Ffn1Ideal.Value
public import proofs.«01_k».proof.Proof.FfnMath
public import Idealize.ShloMosaic.Lib.Pipeline.ValueKit
public import Idealize.ShloMosaic.Lib.Pipeline.ReadBack

@[expose] public section

set_option maxRecDepth 16384

noncomputable section
namespace Cert.Proof.Ffn1
open Idealize.ShloMosaic Idealize.SL.Sem Idealize.ShloMosaic.Pipeline Idealize.ShloMosaic.TcCoe
open Cert.Ffn1Ideal Cert.Ffn1Ideal.Gen

variable (m : (ℓ : Loc nD τ sig) → Buf (Elt Ideal) ℓ) (c : Dev nD) (t : Fin cfg0.N)

/-! ## What the grid points leave, as the body's expressions of the blocks -/

/-- The residual stream, as the first point forms it. -/
def H : FVec Ideal S336x896 .f32 :=
  k0_pay4 (iblk m c 1 t) (iblk m c 2 t) (iblk m c 0 t)
    (View.ld (iblk m c 3 t) (Rect.unit ![1, 0] ![1, 896] inb_S4x896_S1x896_1_0))

/-- Its norm, as the first point forms it. -/
def X : FVec Ideal S336x896 .bf16 :=
  k0_pay5 (iblk m c 1 t) (iblk m c 2 t) (iblk m c 0 t)
    (View.ld (iblk m c 3 t) (Rect.unit ![1, 0] ![1, 896] inb_S4x896_S1x896_1_0))
    (View.ld (iblk m c 4 t) (Rect.unit ![1, 0] ![1, 896] inb_S4x896_S1x896_1_0))

/-- The running sum `a` after point `t`, given the norm `x`. -/
def step (x : FVec Ideal S336x896 .bf16) (a : FVec Ideal S336x896 .f32) : FVec Ideal S336x896 .f32 :=
  k0_pay1 (k0_pay7 x (iblk m c 5 t) (View.ld (iblk m c 7 t) (Rect.unit ![1, 0] ![1, 256] inb_S4x256_S1x256_1_0))
    (iblk m c 6 t) (View.ld (iblk m c 8 t) (Rect.unit ![1, 0] ![1, 256] inb_S4x256_S1x256_1_0)) a (iblk m c 9 t))

/-- What the last point writes, from the residual stream and the running sum. -/
def last (h a : FVec Ideal S336x896 .f32) : FVec Ideal S336x896 .f32 :=
  k0_pay2 h a (View.ld (iblk m c 10 t) (Rect.unit ![1, 0] ![1, 896] inb_S4x896_S1x896_1_0))

/-- The first point leaves the residual stream, its norm, and its own block's sum. -/
theorem outs_A (h0 : t.val % 19 = 0) :
    (outsAt0 m c t.val t.isLt).2 = (H m c t, X m c t, step m c t (X m c t) k0_pay6) := by
  rw [outsAt0_A m c t h0 (by omega)]
  frame_out
  rfl

/-- A later point keeps the first two and adds its block to the sum. -/
theorem outs_B (h0 : ¬t.val % 19 = 0) (h1 : ¬t.val % 19 = 18) (p)
    (hp : p = outsAt0 m c (t.val - 1) (Nat.lt_of_le_of_lt (Nat.sub_le _ _) t.isLt)) :
    (outsAt0 m c t.val t.isLt).2 = (p.2.1, p.2.2.1, step m c t p.2.2.1 p.2.2.2) := by
  subst hp
  rw [outsAt0_B m c t h0 h1]
  frame_out
  simp only [read_unread_whole]
  rfl

/-- So does the last point, which writes the result besides. -/
theorem outs_C (h0 : ¬t.val % 19 = 0) (h1 : t.val % 19 = 18) (p)
    (hp : p = outsAt0 m c (t.val - 1) (Nat.lt_of_le_of_lt (Nat.sub_le _ _) t.isLt)) :
    outsAt0 m c t.val t.isLt = (last m c t p.2.1 (step m c t p.2.2.1 p.2.2.2), p.2.1, p.2.2.1,
      step m c t p.2.2.1 p.2.2.2) := by
  subst hp
  rw [outsAt0_C m c t h0 h1]
  frame_out
  simp only [read_unread_whole]
  rfl

/-! ## The same entry by entry, over the argument arrays -/

theorem lt19 : t.val < 19 := lt_of_lt_of_eq t.isLt N_0

/-- Which block of its array each input window holds at point `t`. -/
theorem idx (t : Fin cfg0.N) : win0_0.index t = ![0, 0] ∧ win0_1.index t = ![0, 0] ∧ win0_2.index t = ![1, 0, 0]
    ∧ win0_3.index t = ![0, 0] ∧ win0_4.index t = ![0, 0] ∧ win0_5.index t = ![1, 0, t.val]
    ∧ win0_6.index t = ![1, 0, t.val + 19] ∧ win0_7.index t = ![0, t.val] ∧ win0_8.index t = ![0, t.val + 19]
    ∧ win0_9.index t = ![1, t.val, 0] ∧ win0_10.index t = ![0, 0] := by
  decide +kernel +revert

theorem H_apply (i : Fin 336) (j : Fin 896) : H m c t (ix2 i j) = Ffn.stream 1 (m (c.tc.loc main_arg0))
    (m (c.tc.loc main_arg1)) (m (c.tc.loc main_arg2)) (m (c.tc.loc main_arg3)) i j := by
  unfold H
  dsimp only [Ffn.stream, Ffn.mid, Ffn.mat, Ffn.heads, Ffn.proj]
  pointwise [k0_pay4, k0_pay3]
  blk_point [iblk, V, idx t]

theorem X_apply (i : Fin 336) (j : Fin 896) : X m c t (ix2 i j) = Ffn.norm 1 (m (c.tc.loc main_arg0))
    (m (c.tc.loc main_arg1)) (m (c.tc.loc main_arg2)) (m (c.tc.loc main_arg3)) (m (c.tc.loc main_arg4)) i j := by
  unfold X
  dsimp only [Ffn.norm, Ffn.normed, Ffn.stream, Ffn.mid, Ffn.mat, Ffn.heads, Ffn.proj]
  pointwise [k0_pay5, k0_pay3]
  blk_point [iblk, V, idx t]

theorem step_apply (x : FVec Ideal S336x896 .bf16) (a : FVec Ideal S336x896 .f32) (i : Fin 336) (j : Fin 896) :
    step m c t x a (ix2 i j) = a (ix2 i j) + Ffn.term 1 (m (c.tc.loc main_arg5)) (m (c.tc.loc main_arg6))
      (m (c.tc.loc main_arg7)) (fun i k => x (ix2 i k)) ⟨t, lt19 t⟩ i j := by
  have := lt19 t
  unfold step
  dsimp only [Ffn.term, Ffn.act, Ffn.col, Ffn.mat, Ffn.wts]
  pointwise [k0_pay1, k0_pay7]
  blk_point [iblk, V, idx t]

theorem last_apply (h a : FVec Ideal S336x896 .f32) (i : Fin 336) (j : Fin 896) :
    last m c t h a (ix2 i j) = h (ix2 i j) + a (ix2 i j) * Ffn.mat (m (c.tc.loc main_arg8)) 1 j := by
  unfold last
  dsimp only [Ffn.mat]
  pointwise [k0_pay2]
  blk_point [iblk, V, idx t]

/-! ## The result -/

theorem later (n : ℕ) (hn : n + 1 < cfg0.N) (p) (hp : p = outsAt0 m c n (by omega)) :
    (outsAt0 m c (n + 1) hn).2 = (p.2.1, p.2.2.1, step m c ⟨n + 1, hn⟩ p.2.2.1 p.2.2.2) := by
  have h19 := lt19 ⟨n + 1, hn⟩
  by_cases h : n + 1 = 18
  · exact congrArg Prod.snd (outs_C m c ⟨n + 1, hn⟩ (by simp only at *; omega) (by simp only at *; omega) p hp)
  · exact outs_B m c ⟨n + 1, hn⟩ (by simp only at *; omega) (by simp only at *; omega) p hp

/-- The result array after the run is the feed-forward formula of the arguments. -/
theorem result : (dats m 0 c).arrAt 11 cfg0.N
    = Ffn.call 1 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  have h18 : (18 : ℕ) < cfg0.N := lt_of_lt_of_eq (by decide) N_0.symm
  rw [Value.final11, Value.G11_last, ← Value.outsAt0_sweep m c 18 h18]
  refine Ffn.call_of_points 1 _ _ _ _ _ _ _ _ _ N_0 h18 (outsAt0 m c) (fun h0 i j => ?_) (fun n hn => ?_)
    (fun i j => ?_)
  · have e := outs_A m c ⟨0, h0⟩ rfl
    have eX : (fun i k => X m c ⟨0, h0⟩ (ix2 i k)) = Ffn.norm 1 _ _ _ _ _ :=
      funext fun i => funext fun k => X_apply m c ⟨0, h0⟩ i k
    rw [e]
    refine ⟨H_apply m c _ i j, X_apply m c _ i j, (step_apply m c _ _ _ i j).trans ?_⟩
    rw [eX]
    pointwise [k0_pay6]
  · rw [later m c n hn _ rfl]
    exact ⟨rfl, rfl, fun i j => step_apply m c _ _ _ i j⟩
  · have e := outs_C m c ⟨18, h18⟩ (by norm_num) rfl _ rfl
    have e1 := congrArg (fun q => q.1) e
    have e2 := congrArg (fun q => q.2.1) e
    have e3 := congrArg (fun q => q.2.2.2) e
    dsimp only at e1 e2 e3
    rw [e1, e2, e3]
    exact last_apply m c _ _ _ i j

end Cert.Proof.Ffn1
end
-- ==== Proof.Ffn1Reference.lean ====
/-
  The value of the feed-forward formula of layer 1, as the reference program computes it: one point, whole arrays.
-/
module

public import proofs.«01_k».proof.Proof.Gen.FfnRef1Ideal.Value
public import proofs.«01_k».proof.Proof.FfnMath
public import Idealize.ShloMosaic.Lib.Pipeline.ValueKit

@[expose] public section

set_option maxRecDepth 16384

noncomputable section
namespace Cert.Proof.FfnRef1
open Idealize.ShloMosaic Idealize.SL.Sem Idealize.ShloMosaic.Pipeline Idealize.ShloMosaic.TcCoe
open Cert.FfnRef1Ideal Cert.FfnRef1Ideal.Gen

variable (m : (ℓ : Loc nD τ sig) → Buf (Elt Ideal) ℓ) (c : Dev nD)

/-- The result array after the run is the feed-forward formula of the arguments. -/
theorem result : (dats m 0 c).arrAt 9 cfg0.N
    = Ffn.call 1 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  refine (dats m 0 c).arrAt_eq_of_covers 9 _ (by decide +kernel) fun t hf y => ?_
  blk_simp
  rw [after0_9]
  frame_out
  dsimp only [Ffn.call, Ffn.out, Ffn.normed, Ffn.mid, Ffn.act, Ffn.col, Ffn.mat, Ffn.heads, Ffn.proj, Ffn.wts]
  pointwise [k0_pay1, k0_pay2, k0_pay3, k0_pay4]
  blk_point [iblk, V, (by decide +kernel : ∀ t : Fin grid0.N, (win0_0.index t = ![0, 0] ∧ win0_1.index t = ![0, 0]
    ∧ win0_2.index t = ![0, 0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0])) t]

end Cert.Proof.FfnRef1
end
-- ==== Proof.Ffn2Kernel.lean ====
/-
  The value of the feed-forward kernel of layer 2. The grid's 19 points each take 256 columns of the gate and the up
  projection. The first point also forms the residual stream and its norm, which the later points keep; every point adds
  its block of the down projection to a running sum; the last point writes the result.
-/
module

public import proofs.«01_k».proof.Proof.Gen.Ffn2Ideal.Value
public import proofs.«01_k».proof.Proof.FfnMath
public import Idealize.ShloMosaic.Lib.Pipeline.ValueKit
public import Idealize.ShloMosaic.Lib.Pipeline.ReadBack

@[expose] public section

set_option maxRecDepth 16384

noncomputable section
namespace Cert.Proof.Ffn2
open Idealize.ShloMosaic Idealize.SL.Sem Idealize.ShloMosaic.Pipeline Idealize.ShloMosaic.TcCoe
open Cert.Ffn2Ideal Cert.Ffn2Ideal.Gen

variable (m : (ℓ : Loc nD τ sig) → Buf (Elt Ideal) ℓ) (c : Dev nD) (t : Fin cfg0.N)

/-! ## What the grid points leave, as the body's expressions of the blocks -/

/-- The residual stream, as the first point forms it. -/
def H : FVec Ideal S336x896 .f32 :=
  k0_pay4 (iblk m c 1 t) (iblk m c 2 t) (iblk m c 0 t)
    (View.ld (iblk m c 3 t) (Rect.unit ![2, 0] ![1, 896] inb_S4x896_S1x896_2_0))

/-- Its norm, as the first point forms it. -/
def X : FVec Ideal S336x896 .bf16 :=
  k0_pay5 (iblk m c 1 t) (iblk m c 2 t) (iblk m c 0 t)
    (View.ld (iblk m c 3 t) (Rect.unit ![2, 0] ![1, 896] inb_S4x896_S1x896_2_0))
    (View.ld (iblk m c 4 t) (Rect.unit ![2, 0] ![1, 896] inb_S4x896_S1x896_2_0))

/-- The running sum `a` after point `t`, given the norm `x`. -/
def step (x : FVec Ideal S336x896 .bf16) (a : FVec Ideal S336x896 .f32) : FVec Ideal S336x896 .f32 :=
  k0_pay1 (k0_pay7 x (iblk m c 5 t) (View.ld (iblk m c 7 t) (Rect.unit ![2, 0] ![1, 256] inb_S4x256_S1x256_2_0))
    (iblk m c 6 t) (View.ld (iblk m c 8 t) (Rect.unit ![2, 0] ![1, 256] inb_S4x256_S1x256_2_0)) a (iblk m c 9 t))

/-- What the last point writes, from the residual stream and the running sum. -/
def last (h a : FVec Ideal S336x896 .f32) : FVec Ideal S336x896 .f32 :=
  k0_pay2 h a (View.ld (iblk m c 10 t) (Rect.unit ![2, 0] ![1, 896] inb_S4x896_S1x896_2_0))

/-- The first point leaves the residual stream, its norm, and its own block's sum. -/
theorem outs_A (h0 : t.val % 19 = 0) :
    (outsAt0 m c t.val t.isLt).2 = (H m c t, X m c t, step m c t (X m c t) k0_pay6) := by
  rw [outsAt0_A m c t h0 (by omega)]
  frame_out
  rfl

/-- A later point keeps the first two and adds its block to the sum. -/
theorem outs_B (h0 : ¬t.val % 19 = 0) (h1 : ¬t.val % 19 = 18) (p)
    (hp : p = outsAt0 m c (t.val - 1) (Nat.lt_of_le_of_lt (Nat.sub_le _ _) t.isLt)) :
    (outsAt0 m c t.val t.isLt).2 = (p.2.1, p.2.2.1, step m c t p.2.2.1 p.2.2.2) := by
  subst hp
  rw [outsAt0_B m c t h0 h1]
  frame_out
  simp only [read_unread_whole]
  rfl

/-- So does the last point, which writes the result besides. -/
theorem outs_C (h0 : ¬t.val % 19 = 0) (h1 : t.val % 19 = 18) (p)
    (hp : p = outsAt0 m c (t.val - 1) (Nat.lt_of_le_of_lt (Nat.sub_le _ _) t.isLt)) :
    outsAt0 m c t.val t.isLt = (last m c t p.2.1 (step m c t p.2.2.1 p.2.2.2), p.2.1, p.2.2.1,
      step m c t p.2.2.1 p.2.2.2) := by
  subst hp
  rw [outsAt0_C m c t h0 h1]
  frame_out
  simp only [read_unread_whole]
  rfl

/-! ## The same entry by entry, over the argument arrays -/

theorem lt19 : t.val < 19 := lt_of_lt_of_eq t.isLt N_0

/-- Which block of its array each input window holds at point `t`. -/
theorem idx (t : Fin cfg0.N) : win0_0.index t = ![0, 0] ∧ win0_1.index t = ![0, 0] ∧ win0_2.index t = ![2, 0, 0]
    ∧ win0_3.index t = ![0, 0] ∧ win0_4.index t = ![0, 0] ∧ win0_5.index t = ![2, 0, t.val]
    ∧ win0_6.index t = ![2, 0, t.val + 19] ∧ win0_7.index t = ![0, t.val] ∧ win0_8.index t = ![0, t.val + 19]
    ∧ win0_9.index t = ![2, t.val, 0] ∧ win0_10.index t = ![0, 0] := by
  decide +kernel +revert

theorem H_apply (i : Fin 336) (j : Fin 896) : H m c t (ix2 i j) = Ffn.stream 2 (m (c.tc.loc main_arg0))
    (m (c.tc.loc main_arg1)) (m (c.tc.loc main_arg2)) (m (c.tc.loc main_arg3)) i j := by
  unfold H
  dsimp only [Ffn.stream, Ffn.mid, Ffn.mat, Ffn.heads, Ffn.proj]
  pointwise [k0_pay4, k0_pay3]
  blk_point [iblk, V, idx t]

theorem X_apply (i : Fin 336) (j : Fin 896) : X m c t (ix2 i j) = Ffn.norm 2 (m (c.tc.loc main_arg0))
    (m (c.tc.loc main_arg1)) (m (c.tc.loc main_arg2)) (m (c.tc.loc main_arg3)) (m (c.tc.loc main_arg4)) i j := by
  unfold X
  dsimp only [Ffn.norm, Ffn.normed, Ffn.stream, Ffn.mid, Ffn.mat, Ffn.heads, Ffn.proj]
  pointwise [k0_pay5, k0_pay3]
  blk_point [iblk, V, idx t]

theorem step_apply (x : FVec Ideal S336x896 .bf16) (a : FVec Ideal S336x896 .f32) (i : Fin 336) (j : Fin 896) :
    step m c t x a (ix2 i j) = a (ix2 i j) + Ffn.term 2 (m (c.tc.loc main_arg5)) (m (c.tc.loc main_arg6))
      (m (c.tc.loc main_arg7)) (fun i k => x (ix2 i k)) ⟨t, lt19 t⟩ i j := by
  have := lt19 t
  unfold step
  dsimp only [Ffn.term, Ffn.act, Ffn.col, Ffn.mat, Ffn.wts]
  pointwise [k0_pay1, k0_pay7]
  blk_point [iblk, V, idx t]

theorem last_apply (h a : FVec Ideal S336x896 .f32) (i : Fin 336) (j : Fin 896) :
    last m c t h a (ix2 i j) = h (ix2 i j) + a (ix2 i j) * Ffn.mat (m (c.tc.loc main_arg8)) 2 j := by
  unfold last
  dsimp only [Ffn.mat]
  pointwise [k0_pay2]
  blk_point [iblk, V, idx t]

/-! ## The result -/

theorem later (n : ℕ) (hn : n + 1 < cfg0.N) (p) (hp : p = outsAt0 m c n (by omega)) :
    (outsAt0 m c (n + 1) hn).2 = (p.2.1, p.2.2.1, step m c ⟨n + 1, hn⟩ p.2.2.1 p.2.2.2) := by
  have h19 := lt19 ⟨n + 1, hn⟩
  by_cases h : n + 1 = 18
  · exact congrArg Prod.snd (outs_C m c ⟨n + 1, hn⟩ (by simp only at *; omega) (by simp only at *; omega) p hp)
  · exact outs_B m c ⟨n + 1, hn⟩ (by simp only at *; omega) (by simp only at *; omega) p hp

/-- The result array after the run is the feed-forward formula of the arguments. -/
theorem result : (dats m 0 c).arrAt 11 cfg0.N
    = Ffn.call 2 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  have h18 : (18 : ℕ) < cfg0.N := lt_of_lt_of_eq (by decide) N_0.symm
  rw [Value.final11, Value.G11_last, ← Value.outsAt0_sweep m c 18 h18]
  refine Ffn.call_of_points 2 _ _ _ _ _ _ _ _ _ N_0 h18 (outsAt0 m c) (fun h0 i j => ?_) (fun n hn => ?_)
    (fun i j => ?_)
  · have e := outs_A m c ⟨0, h0⟩ rfl
    have eX : (fun i k => X m c ⟨0, h0⟩ (ix2 i k)) = Ffn.norm 2 _ _ _ _ _ :=
      funext fun i => funext fun k => X_apply m c ⟨0, h0⟩ i k
    rw [e]
    refine ⟨H_apply m c _ i j, X_apply m c _ i j, (step_apply m c _ _ _ i j).trans ?_⟩
    rw [eX]
    pointwise [k0_pay6]
  · rw [later m c n hn _ rfl]
    exact ⟨rfl, rfl, fun i j => step_apply m c _ _ _ i j⟩
  · have e := outs_C m c ⟨18, h18⟩ (by norm_num) rfl _ rfl
    have e1 := congrArg (fun q => q.1) e
    have e2 := congrArg (fun q => q.2.1) e
    have e3 := congrArg (fun q => q.2.2.2) e
    dsimp only at e1 e2 e3
    rw [e1, e2, e3]
    exact last_apply m c _ _ _ i j

end Cert.Proof.Ffn2
end
-- ==== Proof.Ffn2Reference.lean ====
/-
  The value of the feed-forward formula of layer 2, as the reference program computes it: one point, whole arrays.
-/
module

public import proofs.«01_k».proof.Proof.Gen.FfnRef2Ideal.Value
public import proofs.«01_k».proof.Proof.FfnMath
public import Idealize.ShloMosaic.Lib.Pipeline.ValueKit

@[expose] public section

set_option maxRecDepth 16384

noncomputable section
namespace Cert.Proof.FfnRef2
open Idealize.ShloMosaic Idealize.SL.Sem Idealize.ShloMosaic.Pipeline Idealize.ShloMosaic.TcCoe
open Cert.FfnRef2Ideal Cert.FfnRef2Ideal.Gen

variable (m : (ℓ : Loc nD τ sig) → Buf (Elt Ideal) ℓ) (c : Dev nD)

/-- The result array after the run is the feed-forward formula of the arguments. -/
theorem result : (dats m 0 c).arrAt 9 cfg0.N
    = Ffn.call 2 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  refine (dats m 0 c).arrAt_eq_of_covers 9 _ (by decide +kernel) fun t hf y => ?_
  blk_simp
  rw [after0_9]
  frame_out
  dsimp only [Ffn.call, Ffn.out, Ffn.normed, Ffn.mid, Ffn.act, Ffn.col, Ffn.mat, Ffn.heads, Ffn.proj, Ffn.wts]
  pointwise [k0_pay1, k0_pay2, k0_pay3, k0_pay4]
  blk_point [iblk, V, (by decide +kernel : ∀ t : Fin grid0.N, (win0_0.index t = ![0, 0] ∧ win0_1.index t = ![0, 0]
    ∧ win0_2.index t = ![0, 0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0])) t]

end Cert.Proof.FfnRef2
end
-- ==== Proof.Ffn3Kernel.lean ====
/-
  The value of the feed-forward kernel of layer 3. The grid's 19 points each take 256 columns of the gate and the up
  projection. The first point also forms the residual stream and its norm, which the later points keep; every point adds
  its block of the down projection to a running sum; the last point writes the result.
-/
module

public import proofs.«01_k».proof.Proof.Gen.Ffn3Ideal.Value
public import proofs.«01_k».proof.Proof.FfnMath
public import Idealize.ShloMosaic.Lib.Pipeline.ValueKit
public import Idealize.ShloMosaic.Lib.Pipeline.ReadBack

@[expose] public section

set_option maxRecDepth 16384

noncomputable section
namespace Cert.Proof.Ffn3
open Idealize.ShloMosaic Idealize.SL.Sem Idealize.ShloMosaic.Pipeline Idealize.ShloMosaic.TcCoe
open Cert.Ffn3Ideal Cert.Ffn3Ideal.Gen

variable (m : (ℓ : Loc nD τ sig) → Buf (Elt Ideal) ℓ) (c : Dev nD) (t : Fin cfg0.N)

/-! ## What the grid points leave, as the body's expressions of the blocks -/

/-- The residual stream, as the first point forms it. -/
def H : FVec Ideal S336x896 .f32 :=
  k0_pay4 (iblk m c 1 t) (iblk m c 2 t) (iblk m c 0 t)
    (View.ld (iblk m c 3 t) (Rect.unit ![3, 0] ![1, 896] inb_S4x896_S1x896_3_0))

/-- Its norm, as the first point forms it. -/
def X : FVec Ideal S336x896 .bf16 :=
  k0_pay5 (iblk m c 1 t) (iblk m c 2 t) (iblk m c 0 t)
    (View.ld (iblk m c 3 t) (Rect.unit ![3, 0] ![1, 896] inb_S4x896_S1x896_3_0))
    (View.ld (iblk m c 4 t) (Rect.unit ![3, 0] ![1, 896] inb_S4x896_S1x896_3_0))

/-- The running sum `a` after point `t`, given the norm `x`. -/
def step (x : FVec Ideal S336x896 .bf16) (a : FVec Ideal S336x896 .f32) : FVec Ideal S336x896 .f32 :=
  k0_pay1 (k0_pay7 x (iblk m c 5 t) (View.ld (iblk m c 7 t) (Rect.unit ![3, 0] ![1, 256] inb_S4x256_S1x256_3_0))
    (iblk m c 6 t) (View.ld (iblk m c 8 t) (Rect.unit ![3, 0] ![1, 256] inb_S4x256_S1x256_3_0)) a (iblk m c 9 t))

/-- What the last point writes, from the residual stream and the running sum. -/
def last (h a : FVec Ideal S336x896 .f32) : FVec Ideal S336x896 .f32 :=
  k0_pay2 h a (View.ld (iblk m c 10 t) (Rect.unit ![3, 0] ![1, 896] inb_S4x896_S1x896_3_0))

/-- The first point leaves the residual stream, its norm, and its own block's sum. -/
theorem outs_A (h0 : t.val % 19 = 0) :
    (outsAt0 m c t.val t.isLt).2 = (H m c t, X m c t, step m c t (X m c t) k0_pay6) := by
  rw [outsAt0_A m c t h0 (by omega)]
  frame_out
  rfl

/-- A later point keeps the first two and adds its block to the sum. -/
theorem outs_B (h0 : ¬t.val % 19 = 0) (h1 : ¬t.val % 19 = 18) (p)
    (hp : p = outsAt0 m c (t.val - 1) (Nat.lt_of_le_of_lt (Nat.sub_le _ _) t.isLt)) :
    (outsAt0 m c t.val t.isLt).2 = (p.2.1, p.2.2.1, step m c t p.2.2.1 p.2.2.2) := by
  subst hp
  rw [outsAt0_B m c t h0 h1]
  frame_out
  simp only [read_unread_whole]
  rfl

/-- So does the last point, which writes the result besides. -/
theorem outs_C (h0 : ¬t.val % 19 = 0) (h1 : t.val % 19 = 18) (p)
    (hp : p = outsAt0 m c (t.val - 1) (Nat.lt_of_le_of_lt (Nat.sub_le _ _) t.isLt)) :
    outsAt0 m c t.val t.isLt = (last m c t p.2.1 (step m c t p.2.2.1 p.2.2.2), p.2.1, p.2.2.1,
      step m c t p.2.2.1 p.2.2.2) := by
  subst hp
  rw [outsAt0_C m c t h0 h1]
  frame_out
  simp only [read_unread_whole]
  rfl

/-! ## The same entry by entry, over the argument arrays -/

theorem lt19 : t.val < 19 := lt_of_lt_of_eq t.isLt N_0

/-- Which block of its array each input window holds at point `t`. -/
theorem idx (t : Fin cfg0.N) : win0_0.index t = ![0, 0] ∧ win0_1.index t = ![0, 0] ∧ win0_2.index t = ![3, 0, 0]
    ∧ win0_3.index t = ![0, 0] ∧ win0_4.index t = ![0, 0] ∧ win0_5.index t = ![3, 0, t.val]
    ∧ win0_6.index t = ![3, 0, t.val + 19] ∧ win0_7.index t = ![0, t.val] ∧ win0_8.index t = ![0, t.val + 19]
    ∧ win0_9.index t = ![3, t.val, 0] ∧ win0_10.index t = ![0, 0] := by
  decide +kernel +revert

theorem H_apply (i : Fin 336) (j : Fin 896) : H m c t (ix2 i j) = Ffn.stream 3 (m (c.tc.loc main_arg0))
    (m (c.tc.loc main_arg1)) (m (c.tc.loc main_arg2)) (m (c.tc.loc main_arg3)) i j := by
  unfold H
  dsimp only [Ffn.stream, Ffn.mid, Ffn.mat, Ffn.heads, Ffn.proj]
  pointwise [k0_pay4, k0_pay3]
  blk_point [iblk, V, idx t]

theorem X_apply (i : Fin 336) (j : Fin 896) : X m c t (ix2 i j) = Ffn.norm 3 (m (c.tc.loc main_arg0))
    (m (c.tc.loc main_arg1)) (m (c.tc.loc main_arg2)) (m (c.tc.loc main_arg3)) (m (c.tc.loc main_arg4)) i j := by
  unfold X
  dsimp only [Ffn.norm, Ffn.normed, Ffn.stream, Ffn.mid, Ffn.mat, Ffn.heads, Ffn.proj]
  pointwise [k0_pay5, k0_pay3]
  blk_point [iblk, V, idx t]

theorem step_apply (x : FVec Ideal S336x896 .bf16) (a : FVec Ideal S336x896 .f32) (i : Fin 336) (j : Fin 896) :
    step m c t x a (ix2 i j) = a (ix2 i j) + Ffn.term 3 (m (c.tc.loc main_arg5)) (m (c.tc.loc main_arg6))
      (m (c.tc.loc main_arg7)) (fun i k => x (ix2 i k)) ⟨t, lt19 t⟩ i j := by
  have := lt19 t
  unfold step
  dsimp only [Ffn.term, Ffn.act, Ffn.col, Ffn.mat, Ffn.wts]
  pointwise [k0_pay1, k0_pay7]
  blk_point [iblk, V, idx t]

theorem last_apply (h a : FVec Ideal S336x896 .f32) (i : Fin 336) (j : Fin 896) :
    last m c t h a (ix2 i j) = h (ix2 i j) + a (ix2 i j) * Ffn.mat (m (c.tc.loc main_arg8)) 3 j := by
  unfold last
  dsimp only [Ffn.mat]
  pointwise [k0_pay2]
  blk_point [iblk, V, idx t]

/-! ## The result -/

theorem later (n : ℕ) (hn : n + 1 < cfg0.N) (p) (hp : p = outsAt0 m c n (by omega)) :
    (outsAt0 m c (n + 1) hn).2 = (p.2.1, p.2.2.1, step m c ⟨n + 1, hn⟩ p.2.2.1 p.2.2.2) := by
  have h19 := lt19 ⟨n + 1, hn⟩
  by_cases h : n + 1 = 18
  · exact congrArg Prod.snd (outs_C m c ⟨n + 1, hn⟩ (by simp only at *; omega) (by simp only at *; omega) p hp)
  · exact outs_B m c ⟨n + 1, hn⟩ (by simp only at *; omega) (by simp only at *; omega) p hp

/-- The result array after the run is the feed-forward formula of the arguments. -/
theorem result : (dats m 0 c).arrAt 11 cfg0.N
    = Ffn.call 3 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  have h18 : (18 : ℕ) < cfg0.N := lt_of_lt_of_eq (by decide) N_0.symm
  rw [Value.final11, Value.G11_last, ← Value.outsAt0_sweep m c 18 h18]
  refine Ffn.call_of_points 3 _ _ _ _ _ _ _ _ _ N_0 h18 (outsAt0 m c) (fun h0 i j => ?_) (fun n hn => ?_)
    (fun i j => ?_)
  · have e := outs_A m c ⟨0, h0⟩ rfl
    have eX : (fun i k => X m c ⟨0, h0⟩ (ix2 i k)) = Ffn.norm 3 _ _ _ _ _ :=
      funext fun i => funext fun k => X_apply m c ⟨0, h0⟩ i k
    rw [e]
    refine ⟨H_apply m c _ i j, X_apply m c _ i j, (step_apply m c _ _ _ i j).trans ?_⟩
    rw [eX]
    pointwise [k0_pay6]
  · rw [later m c n hn _ rfl]
    exact ⟨rfl, rfl, fun i j => step_apply m c _ _ _ i j⟩
  · have e := outs_C m c ⟨18, h18⟩ (by norm_num) rfl _ rfl
    have e1 := congrArg (fun q => q.1) e
    have e2 := congrArg (fun q => q.2.1) e
    have e3 := congrArg (fun q => q.2.2.2) e
    dsimp only at e1 e2 e3
    rw [e1, e2, e3]
    exact last_apply m c _ _ _ i j

end Cert.Proof.Ffn3
end
-- ==== Proof.Ffn3Reference.lean ====
/-
  The value of the feed-forward formula of layer 3, as the reference program computes it: one point, whole arrays.
-/
module

public import proofs.«01_k».proof.Proof.Gen.FfnRef3Ideal.Value
public import proofs.«01_k».proof.Proof.FfnMath
public import Idealize.ShloMosaic.Lib.Pipeline.ValueKit

@[expose] public section

set_option maxRecDepth 16384

noncomputable section
namespace Cert.Proof.FfnRef3
open Idealize.ShloMosaic Idealize.SL.Sem Idealize.ShloMosaic.Pipeline Idealize.ShloMosaic.TcCoe
open Cert.FfnRef3Ideal Cert.FfnRef3Ideal.Gen

variable (m : (ℓ : Loc nD τ sig) → Buf (Elt Ideal) ℓ) (c : Dev nD)

/-- The result array after the run is the feed-forward formula of the arguments. -/
theorem result : (dats m 0 c).arrAt 9 cfg0.N
    = Ffn.call 3 (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) := by
  refine (dats m 0 c).arrAt_eq_of_covers 9 _ (by decide +kernel) fun t hf y => ?_
  blk_simp
  rw [after0_9]
  frame_out
  dsimp only [Ffn.call, Ffn.out, Ffn.normed, Ffn.mid, Ffn.act, Ffn.col, Ffn.mat, Ffn.heads, Ffn.proj, Ffn.wts]
  pointwise [k0_pay1, k0_pay2, k0_pay3, k0_pay4]
  blk_point [iblk, V, (by decide +kernel : ∀ t : Fin grid0.N, (win0_0.index t = ![0, 0] ∧ win0_1.index t = ![0, 0]
    ∧ win0_2.index t = ![0, 0, 0] ∧ win0_3.index t = ![0, 0] ∧ win0_4.index t = ![0, 0] ∧ win0_5.index t = ![0, 0, 0]
    ∧ win0_6.index t = ![0, 0] ∧ win0_7.index t = ![0, 0, 0] ∧ win0_8.index t = ![0, 0] ∧ win0_9.index t = ![0, 0])) t]

end Cert.Proof.FfnRef3
end
-- ==== Proof.QkvMath.lean ====
/-
  The projection part of a layer as functions of its arrays, entry by entry over the extended reals: the
  root-mean-square norm, the product with the dequantised weights and the bias, the rotation of each query and key
  head by the position's angles, and the quantiser of a key or value head: its scale is its largest magnitude over
  127, its codes the rounded quotients.
-/
module

public import Idealize.ShloMosaic.Lib.Pointwise

@[expose] public section

noncomputable section
namespace Cert.Proof.Qkv
open Idealize.ShloMosaic

/-- The root-mean-square norm of a row, times the gain. -/
def normed (x : Fin 336 → Fin 896 → EReal) (g : Fin 896 → EReal) (i : Fin 336) (j : Fin 896) : EReal :=
  Ideal.div (x i j) (Ideal.sqrt (Ideal.div (∑ k, x i k * x i k) (Ideal.ofBits .f32 1147142144#32)
    + Ideal.ofBits .f32 897988541#32)) * g j

/-- The rotation of a head with the lower half `lo` and the upper half `hi` by the angles with cosines `c` and sines
    `s`. -/
def rot (lo hi c s : Fin 32 → EReal) (d : Fin 64) : EReal :=
  if h : d.val < 32 then lo ⟨d, h⟩ * c ⟨d, h⟩ - hi ⟨d, h⟩ * s ⟨d, h⟩
  else hi ⟨d - 32, by omega⟩ * c ⟨d - 32, by omega⟩ + lo ⟨d - 32, by omega⟩ * s ⟨d - 32, by omega⟩

/-- The largest magnitude of a head. -/
def big (z : Fin 64 → EReal) : EReal :=
  Finset.fold max (Ideal.ofBits .f32 4286578688#32) (fun d => FloatOps.absf (F := Ideal) (φ := .f32) (z d)) Finset.univ

/-- The scale of a head: its largest magnitude over 127, or 1 for a head of zeros. -/
def scale (z : Fin 64 → EReal) : EReal :=
  if big z = 0 then 1 else Ideal.div (big z) (Ideal.ofBits .f32 1123942400#32)

/-- The code of a head's feature: its quotient by the scale, rounded to the nearest integer and clipped to ±127. -/
def code (z : Fin 64 → EReal) (d : Fin 64) : BitVec 8 :=
  FloatOps.fptosi (F := Ideal) (φ := .f32) 8 (min (((127#32).toInt : ℝ) : EReal) (max (((4294967169#32).toInt : ℝ) : EReal)
    (Ideal.liftRound Ideal.roundHalfEven (Ideal.div (z d) (scale z)))))

section Call
variable (l : Fin 4) (x0 : Vec Ideal ⟨2, ![336, 896]⟩ .f32) (x1 : Vec Ideal ⟨2, ![4, 896]⟩ .f32)
  (x2 : Vec Ideal ⟨3, ![4, 896, 1152]⟩ .i8) (x3 x4 : Vec Ideal ⟨2, ![4, 1152]⟩ .f32)
  (x5 x6 : Vec Ideal ⟨2, ![336, 32]⟩ .f32)

/-- Column `f` of the projection of token `i`, in layer `l`. -/
def lin (f : Fin 1152) (i : Fin 336) : EReal :=
  (∑ k, normed (fun i k => x0 (ix2 i k)) (fun k => x1 (ix2 l k)) i k
    * FloatOps.sitofp (F := Ideal) .bf16 (x2 (ix3 l k f))) * x3 (ix2 l f) + x4 (ix2 l f)

/-- The rotated head whose features are the columns from `o` on. -/
def head (o : ℕ) (ho : o + 64 ≤ 1152) (i : Fin 336) : Fin 64 → EReal :=
  rot (fun e => lin l x0 x1 x2 x3 x4 ⟨o + e, by omega⟩ i) (fun e => lin l x0 x1 x2 x3 x4 ⟨o + 32 + e, by omega⟩ i)
    (fun e => x5 (ix2 i e)) (fun e => x6 (ix2 i e))

/-- Value head `n` of token `i`. -/
def value (n : Fin 2) (i : Fin 336) (d : Fin 64) : EReal := lin l x0 x1 x2 x3 x4 ⟨1024 + n * 64 + d, by omega⟩ i

/-- The queries: feature `d` of head `n` in row `n * 64 + d`. -/
def q : Vec Ideal ⟨2, ![896, 336]⟩ .bf16 := fun y =>
  head l x0 x1 x2 x3 x4 x5 x6 ((y 0).val / 64 * 64) (by have : (y 0).val < 896 := (y 0).isLt; omega) (y 1)
    ⟨(y 0).val % 64, by omega⟩

/-- Key head `n` of token `i`. -/
def key (n : Fin 2) (i : Fin 336) : Fin 64 → EReal :=
  head l x0 x1 x2 x3 x4 x5 x6 (896 + n.val * 64) (by omega) i

/-- The codes of the keys. -/
def kc : Vec Ideal ⟨2, ![128, 336]⟩ .i8 := fun y =>
  code (key l x0 x1 x2 x3 x4 x5 x6 ⟨(y 0).val / 64, by have : (y 0).val < 128 := (y 0).isLt; omega⟩ (y 1))
    ⟨(y 0).val % 64, by omega⟩

/-- The scales of the keys. -/
def ks : Vec Ideal ⟨2, ![2, 336]⟩ .f32 := fun y => scale (key l x0 x1 x2 x3 x4 x5 x6 (y 0) (y 1))

/-- The codes of the values. -/
def vc : Vec Ideal ⟨2, ![128, 336]⟩ .i8 := fun y =>
  code (value l x0 x1 x2 x3 x4 ⟨(y 0).val / 64, by have : (y 0).val < 128 := (y 0).isLt; omega⟩ (y 1))
    ⟨(y 0).val % 64, by omega⟩

/-- The scales of the values. -/
def vs : Vec Ideal ⟨2, ![2, 336]⟩ .f32 := fun y => scale (value l x0 x1 x2 x3 x4 (y 0) (y 1))

end Call

/-! ## The arrays piece by piece

The queries lie in 14 pieces of 64 rows, a head each; the codes in two pieces of 64 rows; the scales in two rows. -/

section At
variable (l : Fin 4) (x0 : Vec Ideal ⟨2, ![336, 896]⟩ .f32) (x1 : Vec Ideal ⟨2, ![4, 896]⟩ .f32)
  (x2 : Vec Ideal ⟨3, ![4, 896, 1152]⟩ .i8) (x3 x4 : Vec Ideal ⟨2, ![4, 1152]⟩ .f32)
  (x5 x6 : Vec Ideal ⟨2, ![336, 32]⟩ .f32) (d : Fin 64) (i : Fin 336)

/-- Feature `d` of the query head that starts at row `o`. -/
theorem q_at (o : ℕ) (hd : o % 64 = 0) (ho : o + 64 ≤ 896) (y : (⟨2, ![896, 336]⟩ : Shape).Idx)
    (h0 : (y 0).val = o + d.val) (h1 : (y 1).val = i.val) :
    q l x0 x1 x2 x3 x4 x5 x6 y = head l x0 x1 x2 x3 x4 x5 x6 o (by omega) i d := by
  obtain rfl : y 1 = i := Fin.ext h1
  dsimp only [q]
  simp only [show (y 0).val / 64 * 64 = o from by omega, show (y 0).val % 64 = d.val from by omega]

/-- Feature `d` of key head `n`. -/
theorem kc_at (n : Fin 2) (y : (⟨2, ![128, 336]⟩ : Shape).Idx) (h0 : (y 0).val = n.val * 64 + d.val)
    (h1 : (y 1).val = i.val) :
    kc l x0 x1 x2 x3 x4 x5 x6 y = code (key l x0 x1 x2 x3 x4 x5 x6 n i) d := by
  obtain rfl : y 1 = i := Fin.ext h1
  dsimp only [kc]
  simp only [show (y 0).val / 64 = n.val from by omega, show (y 0).val % 64 = d.val from by omega]

/-- Feature `d` of value head `n`. -/
theorem vc_at (n : Fin 2) (y : (⟨2, ![128, 336]⟩ : Shape).Idx) (h0 : (y 0).val = n.val * 64 + d.val)
    (h1 : (y 1).val = i.val) :
    vc l x0 x1 x2 x3 x4 y = code (value l x0 x1 x2 x3 x4 n i) d := by
  obtain rfl : y 1 = i := Fin.ext h1
  dsimp only [vc]
  simp only [show (y 0).val / 64 = n.val from by omega, show (y 0).val % 64 = d.val from by omega]

/-- The scale of key head `n`. -/
theorem ks_at (n : Fin 2) (y : (⟨2, ![2, 336]⟩ : Shape).Idx) (h0 : (y 0).val = n.val) (h1 : (y 1).val = i.val) :
    ks l x0 x1 x2 x3 x4 x5 x6 y = scale (key l x0 x1 x2 x3 x4 x5 x6 n i) := by
  obtain rfl : y 1 = i := Fin.ext h1
  obtain rfl : y 0 = n := Fin.ext h0
  rfl

/-- The scale of value head `n`. -/
theorem vs_at (n : Fin 2) (y : (⟨2, ![2, 336]⟩ : Shape).Idx) (h0 : (y 0).val = n.val) (h1 : (y 1).val = i.val) :
    vs l x0 x1 x2 x3 x4 y = scale (value l x0 x1 x2 x3 x4 n i) := by
  obtain rfl : y 1 = i := Fin.ext h1
  obtain rfl : y 0 = n := Fin.ext h0
  rfl

end At

end Cert.Proof.Qkv
end
-- ==== Proof.Qkv0Kernel.lean ====
/-
  The value of the projection kernel of layer 0: one point, which stores the queries, the codes and their scales head
  by head.
-/
module

public import proofs.«01_k».proof.Proof.Gen.Qkv0Ideal.Value
public import proofs.«01_k».proof.Proof.QkvMath
public import Idealize.ShloMosaic.Lib.Pipeline.ValueKit
public import Idealize.ShloMosaic.Lib.Pipeline.ReadBack

@[expose] public section

set_option maxRecDepth 16384

noncomputable section
namespace Cert.Proof.Qkv0
open Idealize.ShloMosaic Idealize.SL.Sem Idealize.ShloMosaic.Pipeline Idealize.ShloMosaic.TcCoe
open Cert.Qkv0Ideal Cert.Qkv0Ideal.Gen

variable (m : (ℓ : Loc nD τ sig) → Buf (Elt Ideal) ℓ) (c : Dev nD) (t : Fin cfg0.N)

/-- The one point's blocks are whole arrays, except the weights', which are those of layer 0. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, feature by token. -/
theorem b40 (f : Fin 1152) (i : Fin 336) :
    k0_pay40 (iblk m c 0 t) (iblk m c 1 t) (iblk m c 2 t) (iblk m c 3 t) (iblk m c 4 t) (iblk m c 5 t) (iblk m c 6 t)
      (ix2 f i) = Qkv.lin 0 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay40, k0_pay4]
  blk_point [iblk, V, idx t]

/-- The same, as the first head's code states it. -/
theorem b4 (f : Fin 1152) (i : Fin 336) :
    k0_pay4 (iblk m c 0 t) (View.ld (iblk m c 1 t) r0_1) (iblk m c 2 t) (View.ld (iblk m c 3 t) r0_3)
      (View.ld (iblk m c 4 t) r0_3) (ix2 f i) = Qkv.lin 0 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay4]
  blk_point [iblk, V, idx t]

/-- The cosines, transposed. -/
theorem v0 (e : Fin 32) (i : Fin 336) : V m c main_v0 (ix2 e i) = m (c.tc.loc main_arg5) (ix2 i e) := by
  entry_read; pointwise; blk_ext

/-- The sines, transposed. -/
theorem v1 (e : Fin 32) (i : Fin 336) : V m c main_v1 (ix2 e i) = m (c.tc.loc main_arg6) (ix2 i e) := by
  entry_read; pointwise; blk_ext

/-- The block of the cosines is the whole array. -/
theorem w5 : iblk m c 5 t = V m c main_v0 := by blk_ext! [iblk, idx t]
/-- The block of the sines is the whole array. -/
theorem w6 : iblk m c 6 t = V m c main_v1 := by blk_ext! [iblk, idx t]

/-- Its entries. -/
theorem b5 (e : Fin 32) (i : Fin 336) : (iblk m c 5 t : Vec Ideal S32x336 .f32) (ix2 e i) = m (c.tc.loc main_arg5) (ix2 i e) := by
  rw [w5]
  exact v0 e i

/-- Its entries. -/
theorem b6 (e : Fin 32) (i : Fin 336) : (iblk m c 6 t : Vec Ideal S32x336 .f32) (ix2 e i) = m (c.tc.loc main_arg6) (ix2 i e) := by
  rw [w6]
  exact v1 e i

/-- The cosines as the body binds them. -/
theorem b41 (e : Fin 32) (i : Fin 336) :
    k0_pay41 (iblk m c 0 t) (iblk m c 1 t) (iblk m c 2 t) (iblk m c 3 t) (iblk m c 4 t) (iblk m c 5 t) (iblk m c 6 t)
      (ix2 e i) = m (c.tc.loc main_arg5) (ix2 i e) := by
  pointwise [k0_pay41, k0_pay5]
  exact b5 e i

/-- The sines as the body binds them. -/
theorem b42 (e : Fin 32) (i : Fin 336) :
    k0_pay42 (iblk m c 0 t) (iblk m c 1 t) (iblk m c 2 t) (iblk m c 3 t) (iblk m c 4 t) (iblk m c 5 t) (iblk m c 6 t)
      (ix2 e i) = m (c.tc.loc main_arg6) (ix2 i e) := by
  pointwise [k0_pay42, k0_pay6]
  exact b6 e i

/-- The queries after the point. -/
theorem after7 : (dats m 0 c).after 7 t
    = Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  canon_tiles x h using cover0_7 ..
  all_goals
    obtain ⟨d, i, rfl⟩ : ∃ (d : Fin 64) (i : Fin 336), x = ix2 d i := ⟨x 0, x 1, eq_ix2 x⟩
    refine Eq.trans ?_ (by
      first
      | exact (Qkv.q_at (d := d) (i := i) (h0 := h0) (h1 := h1) (hd := by norm_num) (ho := by norm_num) ..).symm
      | exact (Qkv.q_at (o := 0) (d := d) (i := i) (h0 := h0.trans (Nat.zero_add _).symm) (h1 := h1) (hd := by norm_num)
          (ho := by norm_num) ..).symm)
    dsimp only [Qkv.head, Qkv.rot]
    pointwise [k0_pay11, k0_pay7, k0_pay9, k0_pay10, k0_pay8, k0_pay5, k0_pay6, k0_pay12, k0_pay13, k0_pay14, k0_pay15,
      k0_pay16, k0_pay17, k0_pay18, k0_pay19, k0_pay20, k0_pay21, k0_pay22, k0_pay23, k0_pay24, k0_pay25, k0_pay26, k0_pay27,
      k0_pay28]
    simp only [b40, b41, b42, b5, b6]
    try split <;> exact congrArg₂ _ (congrArg (· * _) (b4 _ _)) (congrArg (· * _) (b4 _ _))

/-- The codes of the keys after the point. -/
theorem after8 : (dats m 0 c).after 8 t
    = Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  canon_tiles x h using cover0_8 ..
  · obtain ⟨d, i, rfl⟩ : ∃ (d : Fin 64) (i : Fin 336), x = ix2 d i := ⟨x 0, x 1, eq_ix2 x⟩
    refine Eq.trans ?_ (Qkv.kc_at (n := 1) (h0 := h0) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]
  · obtain ⟨d, i, rfl⟩ : ∃ (d : Fin 64) (i : Fin 336), x = ix2 d i := ⟨x 0, x 1, eq_ix2 x⟩
    refine Eq.trans ?_ (Qkv.kc_at (n := 0) (h0 := h0.trans (Nat.zero_add _).symm) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]

/-- The scales of the keys after the point. -/
theorem after9 : (dats m 0 c).after 9 t
    = Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  canon_tiles x h using cover0_9 ..
  · obtain ⟨d, i, rfl⟩ : ∃ (d : Fin 1) (i : Fin 336), x = ix2 d i := ⟨x 0, x 1, eq_ix2 x⟩
    refine Eq.trans ?_ (Qkv.ks_at (n := 1) (h0 := h0.trans (show 1 + d.val = 1 by omega)) (h1 := h1) ..).symm
    dsimp only [Qkv.code, Qkv.scale, Qkv.big, Qkv.key, Qkv.head, Qkv.rot]
    pointwise [k0_pay38, k0_pay37, k0_pay30, k0_pay29]
    simp only [b40, b41, b42]
  · obtain ⟨d, i, rfl⟩ : ∃ (d : Fin 1) (i : Fin 336), x = ix2 d i := ⟨x 0, x 1, eq_ix2 x⟩
    refine Eq.trans ?_ (Qkv.ks_at (n := 0) (h0 := h0.trans (show d.val = 0 by omega)) (h1 := h1) ..).symm
    dsimp only [Qkv.code, Qkv.scale, Qkv.big, Qkv.key, Qkv.head, Qkv.rot]
    pointwise [k0_pay38, k0_pay37, k0_pay30, k0_pay29]
    simp only [b40, b41, b42]

/-- The codes of the values after the point. -/
theorem after10 : (dats m 0 c).after 10 t
    = Qkv.vc 0 (m (c.tc.loc main_arg0)) (m (c.tc.loc main_arg1)) (m (c.tc.loc main_arg2))
      (m (c.tc.loc main_arg3)) (m (c.tc.loc main_arg4)) := by
  rw [after0_10]
  frame_out
  funext y
  canon_tiles x h using cover0_10 ..
  · obtain ⟨d, i, rfl⟩ : ∃ (d : Fin 64) (i : Fin 336), x = ix2 d i := ⟨x 0, x 1, eq_ix2 x⟩
    refine Eq.trans ?_ (Qkv.vc_at (n := 1) (h0 := h0) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]
  · obtain ⟨d, i, rfl⟩ : ∃ (d : Fin 64) (i : Fin 336), x = ix2 d i := ⟨x 0, x 1, eq_ix2 x⟩
    refine Eq.trans ?_ (Qkv.vc_at (n := 0) (h0 := h0.trans (Nat.zero_add _).symm) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]

/-- The scales of the values after the point. -/
theorem after11 : (dats m 0 c).after 11 t
    = Qkv.vs 0 (m (c.tc.loc main_arg0)) (m (c.tc.loc main_arg1)) (m (c.tc.loc main_arg2))
      (m (c.tc.loc main_arg3)) (m (c.tc.loc main_arg4)) := by
  rw [after0_11]
  frame_out
  funext y
  canon_tiles x h using cover0_11 ..
  · obtain ⟨d, i, rfl⟩ : ∃ (d : Fin 1) (i : Fin 336), x = ix2 d i := ⟨x 0, x 1, eq_ix2 x⟩
    refine Eq.trans ?_ (Qkv.vs_at (n := 1) (h0 := h0.trans (show 1 + d.val = 1 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]
  · obtain ⟨d, i, rfl⟩ : ∃ (d : Fin 1) (i : Fin 336), x = ix2 d i := ⟨x 0, x 1, eq_ix2 x⟩
    refine Eq.trans ?_ (Qkv.vs_at (n := 0) (h0 := h0.trans (show d.val = 0 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]

section
variable (m c)

/-- The queries after the run. -/
theorem result7 : (dats m 0 c).arrAt 7 cfg0.N
    = Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 0 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 0 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 0 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 0 (m (c.tc.loc main_arg0)) (m (c.tc.loc main_arg1)) (m (c.tc.loc main_arg2))
      (m (c.tc.loc main_arg3)) (m (c.tc.loc main_arg4)) = G
  blk_ext! [idx t]

end

end Cert.Proof.Qkv0
end
-- ==== Proof.Qkv0Reference.lean ====
/-
  The value of the projection formula of layer 0, as the reference program computes it: one point, whole arrays.
-/
module

public import proofs.«01_k».proof.Proof.Gen.QkvRef0Ideal.Value
public import proofs.«01_k».proof.Proof.QkvMath
public import Idealize.ShloMosaic.Lib.Pipeline.ValueKit

@[expose] public section

set_option maxRecDepth 16384

noncomputable section
namespace Cert.Proof.QkvRef0
open Idealize.ShloMosaic Idealize.SL.Sem Idealize.ShloMosaic.Pipeline Idealize.ShloMosaic.TcCoe
open Cert.QkvRef0Ideal Cert.QkvRef0Ideal.Gen

variable (m : (ℓ : Loc nD τ sig) → Buf (Elt Ideal) ℓ) (c : Dev nD) (t : Fin cfg0.N)

/-- The one point's blocks are whole arrays. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, token by column. -/
theorem lin6 (f : Fin 1152) (i : Fin 336) :
    k0_pay6 (iblk m c 0 t) (View.ld (iblk m c 1 t) r0_1) (View.ld (iblk m c 2 t) r0_2) (View.ld (iblk m c 3 t) r0_3)
      (View.ld (iblk m c 4 t) r0_3) (ix2 i f)
      = Qkv.lin 0 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay6]
  blk_point [iblk, V, idx t]

/-- The same, under the name the later stores read it by. -/
theorem lin17 (f : Fin 1152) (i : Fin 336) :
    k0_pay17 (iblk m c 0 t) (iblk m c 1 t) (iblk m c 2 t) (iblk m c 3 t) (iblk m c 4 t) (iblk m c 5 t) (iblk m c 6 t) (ix2 i f)
      = Qkv.lin 0 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay17, k0_pay6]
  blk_point [iblk, V, idx t]

/-- The block of the cosines is the whole array. -/
theorem w5 : iblk m c 5 t = m (c.tc.loc main_arg5) := by blk_ext! [iblk, V, idx t]

/-- The block of the sines is the whole array. -/
theorem w6 : iblk m c 6 t = m (c.tc.loc main_arg6) := by blk_ext! [iblk, V, idx t]

/-- The rotated key heads. -/
theorem key14 (i : Fin 336) (n : Fin 2) (d : Fin 64) :
    k0_pay14 (k0_pay17 (iblk m c 0 t) (iblk m c 1 t) (iblk m c 2 t) (iblk m c 3 t) (iblk m c 4 t) (iblk m c 5 t) (iblk m c 6 t))
      (iblk m c 5 t) (iblk m c 6 t) (ix3 i n d)
      = Qkv.key 0 (m (c.tc.loc main_arg0)) (m (c.tc.loc main_arg1)) (m (c.tc.loc main_arg2))
      (m (c.tc.loc main_arg3)) (m (c.tc.loc main_arg4)) (m (c.tc.loc main_arg5)) (m (c.tc.loc main_arg6)) n i d := by
  dsimp only [Qkv.key, Qkv.head, Qkv.rot]
  pointwise [k0_pay14]
  simp only [lin17, ← Nat.add_assoc]
  simp only [w5, w6]

/-- The value heads. -/
theorem value2 (i : Fin 336) (n : Fin 2) (d : Fin 64) :
    k0_pay2 (k0_pay17 (iblk m c 0 t) (iblk m c 1 t) (iblk m c 2 t) (iblk m c 3 t) (iblk m c 4 t) (iblk m c 5 t) (iblk m c 6 t)) (ix3 i n d)
      = Qkv.value 0 (m (c.tc.loc main_arg0)) (m (c.tc.loc main_arg1)) (m (c.tc.loc main_arg2))
      (m (c.tc.loc main_arg3)) (m (c.tc.loc main_arg4)) n i d := by
  dsimp only [Qkv.value]
  pointwise [k0_pay2]
  simp only [lin17, ← Nat.add_assoc]

/-- The scales of the keys, a column per head. -/
theorem scale15 (i : Fin 336) (n : Fin 2) (z : Fin 1) :
    k0_pay15 (k0_pay17 (iblk m c 0 t) (iblk m c 1 t) (iblk m c 2 t) (iblk m c 3 t) (iblk m c 4 t) (iblk m c 5 t) (iblk m c 6 t))
      (iblk m c 5 t) (iblk m c 6 t) (ix3 i n z)
      = Qkv.scale (Qkv.key 0 (m (c.tc.loc main_arg0)) (m (c.tc.loc main_arg1)) (m (c.tc.loc main_arg2))
      (m (c.tc.loc main_arg3)) (m (c.tc.loc main_arg4)) (m (c.tc.loc main_arg5)) (m (c.tc.loc main_arg6)) n i) := by
  dsimp only [Qkv.scale, Qkv.big]
  pointwise [k0_pay15]
  simp only [key14]
  rfl

/-- The scales of the values, a column per head. -/
theorem scale3 (i : Fin 336) (n : Fin 2) (z : Fin 1) :
    k0_pay3 (k0_pay17 (iblk m c 0 t) (iblk m c 1 t) (iblk m c 2 t) (iblk m c 3 t) (iblk m c 4 t) (iblk m c 5 t) (iblk m c 6 t)) (ix3 i n z)
      = Qkv.scale (Qkv.value 0 (m (c.tc.loc main_arg0)) (m (c.tc.loc main_arg1)) (m (c.tc.loc main_arg2))
      (m (c.tc.loc main_arg3)) (m (c.tc.loc main_arg4)) n i) := by
  dsimp only [Qkv.scale, Qkv.big]
  pointwise [k0_pay3]
  simp only [value2]
  rfl

/-- The queries after the point. -/
theorem after7 : (dats m 0 c).after 7 t
    = Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  obtain ⟨r, i, rfl⟩ : ∃ (r : Fin 896) (i : Fin 336), y = ix2 r i := ⟨y 0, y 1, eq_ix2 y⟩
  refine Eq.trans ?_ (Qkv.q_at (o := r.val / 64 * 64) (d := ⟨r.val % 64, by omega⟩) (i := i) (hd := by omega)
    (ho := by omega) (h0 := show r.val = _ by dsimp only; omega) (h1 := rfl) ..).symm
  dsimp only [Qkv.head, Qkv.rot]
  pointwise [k0_pay13, k0_pay8, k0_pay9, k0_pay7, k0_pay10, k0_pay11, k0_pay12]
  simp only [w5, w6, ← Nat.add_assoc, Nat.div_add_mod']
  split <;> exact congrArg₂ _ (congrArg (· * _) (lin6 _ _)) (congrArg (· * _) (lin6 _ _))

/-- The codes of the keys after the point. -/
theorem after8 : (dats m 0 c).after 8 t
    = Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  obtain ⟨r, i, rfl⟩ : ∃ (r : Fin 128) (i : Fin 336), y = ix2 r i := ⟨y 0, y 1, eq_ix2 y⟩
  dsimp only [Qkv.kc, Qkv.code]
  pointwise [k0_pay16]
  simp only [key14, scale15]

/-- The scales of the keys after the point. -/
theorem after9 : (dats m 0 c).after 9 t
    = Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  obtain ⟨r, i, rfl⟩ : ∃ (r : Fin 2) (i : Fin 336), y = ix2 r i := ⟨y 0, y 1, eq_ix2 y⟩
  dsimp only [Qkv.ks]
  pointwise [k0_pay1]
  simp only [scale15]

/-- The codes of the values after the point. -/
theorem after10 : (dats m 0 c).after 10 t
    = Qkv.vc 0 (m (c.tc.loc main_arg0)) (m (c.tc.loc main_arg1)) (m (c.tc.loc main_arg2))
      (m (c.tc.loc main_arg3)) (m (c.tc.loc main_arg4)) := by
  rw [after0_10]
  frame_out
  funext y
  obtain ⟨r, i, rfl⟩ : ∃ (r : Fin 128) (i : Fin 336), y = ix2 r i := ⟨y 0, y 1, eq_ix2 y⟩
  dsimp only [Qkv.vc, Qkv.code]
  pointwise [k0_pay4]
  simp only [value2, scale3]

/-- The scales of the values after the point. -/
theorem after11 : (dats m 0 c).after 11 t
    = Qkv.vs 0 (m (c.tc.loc main_arg0)) (m (c.tc.loc main_arg1)) (m (c.tc.loc main_arg2))
      (m (c.tc.loc main_arg3)) (m (c.tc.loc main_arg4)) := by
  rw [after0_11]
  frame_out
  funext y
  obtain ⟨r, i, rfl⟩ : ∃ (r : Fin 2) (i : Fin 336), y = ix2 r i := ⟨y 0, y 1, eq_ix2 y⟩
  dsimp only [Qkv.vs]
  pointwise [k0_pay5]
  simp only [scale3]

section
variable (m c)

/-- The queries after the run. -/
theorem result7 : (dats m 0 c).arrAt 7 cfg0.N
    = Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 0 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 0 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 0 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 0 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 0 (m (c.tc.loc main_arg0)) (m (c.tc.loc main_arg1)) (m (c.tc.loc main_arg2))
      (m (c.tc.loc main_arg3)) (m (c.tc.loc main_arg4)) = G
  blk_ext! [idx t]

end

end Cert.Proof.QkvRef0
end
-- ==== Proof.Qkv1Kernel.lean ====
/-
  The value of the projection kernel of layer 1: one point, which stores the queries, the codes and their scales head
  by head.
-/
module

public import proofs.«01_k».proof.Proof.Gen.Qkv1Ideal.Value
public import proofs.«01_k».proof.Proof.QkvMath
public import Idealize.ShloMosaic.Lib.Pipeline.ValueKit
public import Idealize.ShloMosaic.Lib.Pipeline.ReadBack

@[expose] public section

set_option maxRecDepth 16384

noncomputable section
namespace Cert.Proof.Qkv1
open Idealize.ShloMosaic Idealize.SL.Sem Idealize.ShloMosaic.Pipeline Idealize.ShloMosaic.TcCoe
open Cert.Qkv1Ideal Cert.Qkv1Ideal.Gen

variable (m : (ℓ : Loc nD τ sig) → Buf (Elt Ideal) ℓ) (c : Dev nD) (t : Fin cfg0.N)

/-- The one point's blocks are whole arrays, except the weights', which are those of layer 1. -/
theorem idx : ∀ t : Fin cfg0.N, win0_0.index t = ![0, 0] ∧ win0_1.index t = ![0, 0] ∧ win0_2.index t = ![1, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, feature by token. -/
theorem b40 (f : Fin 1152) (i : Fin 336) :
    k0_pay40 (iblk m c 0 t) (iblk m c 1 t) (iblk m c 2 t) (iblk m c 3 t) (iblk m c 4 t) (iblk m c 5 t) (iblk m c 6 t)
      (ix2 f i) = Qkv.lin 1 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay40, k0_pay4]
  blk_point [iblk, V, idx t]

/-- The same, as the first head's code states it. -/
theorem b4 (f : Fin 1152) (i : Fin 336) :
    k0_pay4 (iblk m c 0 t) (View.ld (iblk m c 1 t) r0_1) (iblk m c 2 t) (View.ld (iblk m c 3 t) r0_3)
      (View.ld (iblk m c 4 t) r0_3) (ix2 f i) = Qkv.lin 1 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay4]
  blk_point [iblk, V, idx t]

/-- The cosines, transposed. -/
theorem v0 (e : Fin 32) (i : Fin 336) : V m c main_v0 (ix2 e i) = m (c.tc.loc main_arg5) (ix2 i e) := by
  entry_read; pointwise; blk_ext

/-- The sines, transposed. -/
theorem v1 (e : Fin 32) (i : Fin 336) : V m c main_v1 (ix2 e i) = m (c.tc.loc main_arg6) (ix2 i e) := by
  entry_read; pointwise; blk_ext

/-- The block of the cosines is the whole array. -/
theorem w5 : iblk m c 5 t = V m c main_v0 := by blk_ext! [iblk, idx t]
/-- The block of the sines is the whole array. -/
theorem w6 : iblk m c 6 t = V m c main_v1 := by blk_ext! [iblk, idx t]

/-- Its entries. -/
theorem b5 (e : Fin 32) (i : Fin 336) : (iblk m c 5 t : Vec Ideal S32x336 .f32) (ix2 e i) = m (c.tc.loc main_arg5) (ix2 i e) := by
  rw [w5]
  exact v0 e i

/-- Its entries. -/
theorem b6 (e : Fin 32) (i : Fin 336) : (iblk m c 6 t : Vec Ideal S32x336 .f32) (ix2 e i) = m (c.tc.loc main_arg6) (ix2 i e) := by
  rw [w6]
  exact v1 e i

/-- The cosines as the body binds them. -/
theorem b41 (e : Fin 32) (i : Fin 336) :
    k0_pay41 (iblk m c 0 t) (iblk m c 1 t) (iblk m c 2 t) (iblk m c 3 t) (iblk m c 4 t) (iblk m c 5 t) (iblk m c 6 t)
      (ix2 e i) = m (c.tc.loc main_arg5) (ix2 i e) := by
  pointwise [k0_pay41, k0_pay5]
  exact b5 e i

/-- The sines as the body binds them. -/
theorem b42 (e : Fin 32) (i : Fin 336) :
    k0_pay42 (iblk m c 0 t) (iblk m c 1 t) (iblk m c 2 t) (iblk m c 3 t) (iblk m c 4 t) (iblk m c 5 t) (iblk m c 6 t)
      (ix2 e i) = m (c.tc.loc main_arg6) (ix2 i e) := by
  pointwise [k0_pay42, k0_pay6]
  exact b6 e i

/-- The queries after the point. -/
theorem after7 : (dats m 0 c).after 7 t
    = Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  canon_tiles x h using cover0_7 ..
  all_goals
    obtain ⟨d, i, rfl⟩ : ∃ (d : Fin 64) (i : Fin 336), x = ix2 d i := ⟨x 0, x 1, eq_ix2 x⟩
    refine Eq.trans ?_ (by
      first
      | exact (Qkv.q_at (d := d) (i := i) (h0 := h0) (h1 := h1) (hd := by norm_num) (ho := by norm_num) ..).symm
      | exact (Qkv.q_at (o := 0) (d := d) (i := i) (h0 := h0.trans (Nat.zero_add _).symm) (h1 := h1) (hd := by norm_num)
          (ho := by norm_num) ..).symm)
    dsimp only [Qkv.head, Qkv.rot]
    pointwise [k0_pay11, k0_pay7, k0_pay9, k0_pay10, k0_pay8, k0_pay5, k0_pay6, k0_pay12, k0_pay13, k0_pay14, k0_pay15,
      k0_pay16, k0_pay17, k0_pay18, k0_pay19, k0_pay20, k0_pay21, k0_pay22, k0_pay23, k0_pay24, k0_pay25, k0_pay26, k0_pay27,
      k0_pay28]
    simp only [b40, b41, b42, b5, b6]
    try split <;> exact congrArg₂ _ (congrArg (· * _) (b4 _ _)) (congrArg (· * _) (b4 _ _))

/-- The codes of the keys after the point. -/
theorem after8 : (dats m 0 c).after 8 t
    = Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  canon_tiles x h using cover0_8 ..
  · obtain ⟨d, i, rfl⟩ : ∃ (d : Fin 64) (i : Fin 336), x = ix2 d i := ⟨x 0, x 1, eq_ix2 x⟩
    refine Eq.trans ?_ (Qkv.kc_at (n := 1) (h0 := h0) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]
  · obtain ⟨d, i, rfl⟩ : ∃ (d : Fin 64) (i : Fin 336), x = ix2 d i := ⟨x 0, x 1, eq_ix2 x⟩
    refine Eq.trans ?_ (Qkv.kc_at (n := 0) (h0 := h0.trans (Nat.zero_add _).symm) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]

/-- The scales of the keys after the point. -/
theorem after9 : (dats m 0 c).after 9 t
    = Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  canon_tiles x h using cover0_9 ..
  · obtain ⟨d, i, rfl⟩ : ∃ (d : Fin 1) (i : Fin 336), x = ix2 d i := ⟨x 0, x 1, eq_ix2 x⟩
    refine Eq.trans ?_ (Qkv.ks_at (n := 1) (h0 := h0.trans (show 1 + d.val = 1 by omega)) (h1 := h1) ..).symm
    dsimp only [Qkv.code, Qkv.scale, Qkv.big, Qkv.key, Qkv.head, Qkv.rot]
    pointwise [k0_pay38, k0_pay37, k0_pay30, k0_pay29]
    simp only [b40, b41, b42]
  · obtain ⟨d, i, rfl⟩ : ∃ (d : Fin 1) (i : Fin 336), x = ix2 d i := ⟨x 0, x 1, eq_ix2 x⟩
    refine Eq.trans ?_ (Qkv.ks_at (n := 0) (h0 := h0.trans (show d.val = 0 by omega)) (h1 := h1) ..).symm
    dsimp only [Qkv.code, Qkv.scale, Qkv.big, Qkv.key, Qkv.head, Qkv.rot]
    pointwise [k0_pay38, k0_pay37, k0_pay30, k0_pay29]
    simp only [b40, b41, b42]

/-- The codes of the values after the point. -/
theorem after10 : (dats m 0 c).after 10 t
    = Qkv.vc 1 (m (c.tc.loc main_arg0)) (m (c.tc.loc main_arg1)) (m (c.tc.loc main_arg2))
      (m (c.tc.loc main_arg3)) (m (c.tc.loc main_arg4)) := by
  rw [after0_10]
  frame_out
  funext y
  canon_tiles x h using cover0_10 ..
  · obtain ⟨d, i, rfl⟩ : ∃ (d : Fin 64) (i : Fin 336), x = ix2 d i := ⟨x 0, x 1, eq_ix2 x⟩
    refine Eq.trans ?_ (Qkv.vc_at (n := 1) (h0 := h0) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]
  · obtain ⟨d, i, rfl⟩ : ∃ (d : Fin 64) (i : Fin 336), x = ix2 d i := ⟨x 0, x 1, eq_ix2 x⟩
    refine Eq.trans ?_ (Qkv.vc_at (n := 0) (h0 := h0.trans (Nat.zero_add _).symm) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]

/-- The scales of the values after the point. -/
theorem after11 : (dats m 0 c).after 11 t
    = Qkv.vs 1 (m (c.tc.loc main_arg0)) (m (c.tc.loc main_arg1)) (m (c.tc.loc main_arg2))
      (m (c.tc.loc main_arg3)) (m (c.tc.loc main_arg4)) := by
  rw [after0_11]
  frame_out
  funext y
  canon_tiles x h using cover0_11 ..
  · obtain ⟨d, i, rfl⟩ : ∃ (d : Fin 1) (i : Fin 336), x = ix2 d i := ⟨x 0, x 1, eq_ix2 x⟩
    refine Eq.trans ?_ (Qkv.vs_at (n := 1) (h0 := h0.trans (show 1 + d.val = 1 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]
  · obtain ⟨d, i, rfl⟩ : ∃ (d : Fin 1) (i : Fin 336), x = ix2 d i := ⟨x 0, x 1, eq_ix2 x⟩
    refine Eq.trans ?_ (Qkv.vs_at (n := 0) (h0 := h0.trans (show d.val = 0 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]

section
variable (m c)

/-- The queries after the run. -/
theorem result7 : (dats m 0 c).arrAt 7 cfg0.N
    = Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 1 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 1 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 1 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 1 (m (c.tc.loc main_arg0)) (m (c.tc.loc main_arg1)) (m (c.tc.loc main_arg2))
      (m (c.tc.loc main_arg3)) (m (c.tc.loc main_arg4)) = G
  blk_ext! [idx t]

end

end Cert.Proof.Qkv1
end
-- ==== Proof.Qkv1Reference.lean ====
/-
  The value of the projection formula of layer 1, as the reference program computes it: one point, whole arrays.
-/
module

public import proofs.«01_k».proof.Proof.Gen.QkvRef1Ideal.Value
public import proofs.«01_k».proof.Proof.QkvMath
public import Idealize.ShloMosaic.Lib.Pipeline.ValueKit

@[expose] public section

set_option maxRecDepth 16384

noncomputable section
namespace Cert.Proof.QkvRef1
open Idealize.ShloMosaic Idealize.SL.Sem Idealize.ShloMosaic.Pipeline Idealize.ShloMosaic.TcCoe
open Cert.QkvRef1Ideal Cert.QkvRef1Ideal.Gen

variable (m : (ℓ : Loc nD τ sig) → Buf (Elt Ideal) ℓ) (c : Dev nD) (t : Fin cfg0.N)

/-- The one point's blocks are whole arrays. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, token by column. -/
theorem lin6 (f : Fin 1152) (i : Fin 336) :
    k0_pay6 (iblk m c 0 t) (View.ld (iblk m c 1 t) r0_1) (View.ld (iblk m c 2 t) r0_2) (View.ld (iblk m c 3 t) r0_3)
      (View.ld (iblk m c 4 t) r0_3) (ix2 i f)
      = Qkv.lin 1 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay6]
  blk_point [iblk, V, idx t]

/-- The same, under the name the later stores read it by. -/
theorem lin17 (f : Fin 1152) (i : Fin 336) :
    k0_pay17 (iblk m c 0 t) (iblk m c 1 t) (iblk m c 2 t) (iblk m c 3 t) (iblk m c 4 t) (iblk m c 5 t) (iblk m c 6 t) (ix2 i f)
      = Qkv.lin 1 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay17, k0_pay6]
  blk_point [iblk, V, idx t]

/-- The block of the cosines is the whole array. -/
theorem w5 : iblk m c 5 t = m (c.tc.loc main_arg5) := by blk_ext! [iblk, V, idx t]

/-- The block of the sines is the whole array. -/
theorem w6 : iblk m c 6 t = m (c.tc.loc main_arg6) := by blk_ext! [iblk, V, idx t]

/-- The rotated key heads. -/
theorem key14 (i : Fin 336) (n : Fin 2) (d : Fin 64) :
    k0_pay14 (k0_pay17 (iblk m c 0 t) (iblk m c 1 t) (iblk m c 2 t) (iblk m c 3 t) (iblk m c 4 t) (iblk m c 5 t) (iblk m c 6 t))
      (iblk m c 5 t) (iblk m c 6 t) (ix3 i n d)
      = Qkv.key 1 (m (c.tc.loc main_arg0)) (m (c.tc.loc main_arg1)) (m (c.tc.loc main_arg2))
      (m (c.tc.loc main_arg3)) (m (c.tc.loc main_arg4)) (m (c.tc.loc main_arg5)) (m (c.tc.loc main_arg6)) n i d := by
  dsimp only [Qkv.key, Qkv.head, Qkv.rot]
  pointwise [k0_pay14]
  simp only [lin17, ← Nat.add_assoc]
  simp only [w5, w6]

/-- The value heads. -/
theorem value2 (i : Fin 336) (n : Fin 2) (d : Fin 64) :
    k0_pay2 (k0_pay17 (iblk m c 0 t) (iblk m c 1 t) (iblk m c 2 t) (iblk m c 3 t) (iblk m c 4 t) (iblk m c 5 t) (iblk m c 6 t)) (ix3 i n d)
      = Qkv.value 1 (m (c.tc.loc main_arg0)) (m (c.tc.loc main_arg1)) (m (c.tc.loc main_arg2))
      (m (c.tc.loc main_arg3)) (m (c.tc.loc main_arg4)) n i d := by
  dsimp only [Qkv.value]
  pointwise [k0_pay2]
  simp only [lin17, ← Nat.add_assoc]

/-- The scales of the keys, a column per head. -/
theorem scale15 (i : Fin 336) (n : Fin 2) (z : Fin 1) :
    k0_pay15 (k0_pay17 (iblk m c 0 t) (iblk m c 1 t) (iblk m c 2 t) (iblk m c 3 t) (iblk m c 4 t) (iblk m c 5 t) (iblk m c 6 t))
      (iblk m c 5 t) (iblk m c 6 t) (ix3 i n z)
      = Qkv.scale (Qkv.key 1 (m (c.tc.loc main_arg0)) (m (c.tc.loc main_arg1)) (m (c.tc.loc main_arg2))
      (m (c.tc.loc main_arg3)) (m (c.tc.loc main_arg4)) (m (c.tc.loc main_arg5)) (m (c.tc.loc main_arg6)) n i) := by
  dsimp only [Qkv.scale, Qkv.big]
  pointwise [k0_pay15]
  simp only [key14]
  rfl

/-- The scales of the values, a column per head. -/
theorem scale3 (i : Fin 336) (n : Fin 2) (z : Fin 1) :
    k0_pay3 (k0_pay17 (iblk m c 0 t) (iblk m c 1 t) (iblk m c 2 t) (iblk m c 3 t) (iblk m c 4 t) (iblk m c 5 t) (iblk m c 6 t)) (ix3 i n z)
      = Qkv.scale (Qkv.value 1 (m (c.tc.loc main_arg0)) (m (c.tc.loc main_arg1)) (m (c.tc.loc main_arg2))
      (m (c.tc.loc main_arg3)) (m (c.tc.loc main_arg4)) n i) := by
  dsimp only [Qkv.scale, Qkv.big]
  pointwise [k0_pay3]
  simp only [value2]
  rfl

/-- The queries after the point. -/
theorem after7 : (dats m 0 c).after 7 t
    = Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  obtain ⟨r, i, rfl⟩ : ∃ (r : Fin 896) (i : Fin 336), y = ix2 r i := ⟨y 0, y 1, eq_ix2 y⟩
  refine Eq.trans ?_ (Qkv.q_at (o := r.val / 64 * 64) (d := ⟨r.val % 64, by omega⟩) (i := i) (hd := by omega)
    (ho := by omega) (h0 := show r.val = _ by dsimp only; omega) (h1 := rfl) ..).symm
  dsimp only [Qkv.head, Qkv.rot]
  pointwise [k0_pay13, k0_pay8, k0_pay9, k0_pay7, k0_pay10, k0_pay11, k0_pay12]
  simp only [w5, w6, ← Nat.add_assoc, Nat.div_add_mod']
  split <;> exact congrArg₂ _ (congrArg (· * _) (lin6 _ _)) (congrArg (· * _) (lin6 _ _))

/-- The codes of the keys after the point. -/
theorem after8 : (dats m 0 c).after 8 t
    = Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  obtain ⟨r, i, rfl⟩ : ∃ (r : Fin 128) (i : Fin 336), y = ix2 r i := ⟨y 0, y 1, eq_ix2 y⟩
  dsimp only [Qkv.kc, Qkv.code]
  pointwise [k0_pay16]
  simp only [key14, scale15]

/-- The scales of the keys after the point. -/
theorem after9 : (dats m 0 c).after 9 t
    = Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  obtain ⟨r, i, rfl⟩ : ∃ (r : Fin 2) (i : Fin 336), y = ix2 r i := ⟨y 0, y 1, eq_ix2 y⟩
  dsimp only [Qkv.ks]
  pointwise [k0_pay1]
  simp only [scale15]

/-- The codes of the values after the point. -/
theorem after10 : (dats m 0 c).after 10 t
    = Qkv.vc 1 (m (c.tc.loc main_arg0)) (m (c.tc.loc main_arg1)) (m (c.tc.loc main_arg2))
      (m (c.tc.loc main_arg3)) (m (c.tc.loc main_arg4)) := by
  rw [after0_10]
  frame_out
  funext y
  obtain ⟨r, i, rfl⟩ : ∃ (r : Fin 128) (i : Fin 336), y = ix2 r i := ⟨y 0, y 1, eq_ix2 y⟩
  dsimp only [Qkv.vc, Qkv.code]
  pointwise [k0_pay4]
  simp only [value2, scale3]

/-- The scales of the values after the point. -/
theorem after11 : (dats m 0 c).after 11 t
    = Qkv.vs 1 (m (c.tc.loc main_arg0)) (m (c.tc.loc main_arg1)) (m (c.tc.loc main_arg2))
      (m (c.tc.loc main_arg3)) (m (c.tc.loc main_arg4)) := by
  rw [after0_11]
  frame_out
  funext y
  obtain ⟨r, i, rfl⟩ : ∃ (r : Fin 2) (i : Fin 336), y = ix2 r i := ⟨y 0, y 1, eq_ix2 y⟩
  dsimp only [Qkv.vs]
  pointwise [k0_pay5]
  simp only [scale3]

section
variable (m c)

/-- The queries after the run. -/
theorem result7 : (dats m 0 c).arrAt 7 cfg0.N
    = Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 1 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 1 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 1 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 1 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 1 (m (c.tc.loc main_arg0)) (m (c.tc.loc main_arg1)) (m (c.tc.loc main_arg2))
      (m (c.tc.loc main_arg3)) (m (c.tc.loc main_arg4)) = G
  blk_ext! [idx t]

end

end Cert.Proof.QkvRef1
end
-- ==== Proof.Qkv2Kernel.lean ====
/-
  The value of the projection kernel of layer 2: one point, which stores the queries, the codes and their scales head
  by head.
-/
module

public import proofs.«01_k».proof.Proof.Gen.Qkv2Ideal.Value
public import proofs.«01_k».proof.Proof.QkvMath
public import Idealize.ShloMosaic.Lib.Pipeline.ValueKit
public import Idealize.ShloMosaic.Lib.Pipeline.ReadBack

@[expose] public section

set_option maxRecDepth 16384

noncomputable section
namespace Cert.Proof.Qkv2
open Idealize.ShloMosaic Idealize.SL.Sem Idealize.ShloMosaic.Pipeline Idealize.ShloMosaic.TcCoe
open Cert.Qkv2Ideal Cert.Qkv2Ideal.Gen

variable (m : (ℓ : Loc nD τ sig) → Buf (Elt Ideal) ℓ) (c : Dev nD) (t : Fin cfg0.N)

/-- The one point's blocks are whole arrays, except the weights', which are those of layer 2. -/
theorem idx : ∀ t : Fin cfg0.N, win0_0.index t = ![0, 0] ∧ win0_1.index t = ![0, 0] ∧ win0_2.index t = ![2, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, feature by token. -/
theorem b40 (f : Fin 1152) (i : Fin 336) :
    k0_pay40 (iblk m c 0 t) (iblk m c 1 t) (iblk m c 2 t) (iblk m c 3 t) (iblk m c 4 t) (iblk m c 5 t) (iblk m c 6 t)
      (ix2 f i) = Qkv.lin 2 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay40, k0_pay4]
  blk_point [iblk, V, idx t]

/-- The same, as the first head's code states it. -/
theorem b4 (f : Fin 1152) (i : Fin 336) :
    k0_pay4 (iblk m c 0 t) (View.ld (iblk m c 1 t) r0_1) (iblk m c 2 t) (View.ld (iblk m c 3 t) r0_3)
      (View.ld (iblk m c 4 t) r0_3) (ix2 f i) = Qkv.lin 2 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay4]
  blk_point [iblk, V, idx t]

/-- The cosines, transposed. -/
theorem v0 (e : Fin 32) (i : Fin 336) : V m c main_v0 (ix2 e i) = m (c.tc.loc main_arg5) (ix2 i e) := by
  entry_read; pointwise; blk_ext

/-- The sines, transposed. -/
theorem v1 (e : Fin 32) (i : Fin 336) : V m c main_v1 (ix2 e i) = m (c.tc.loc main_arg6) (ix2 i e) := by
  entry_read; pointwise; blk_ext

/-- The block of the cosines is the whole array. -/
theorem w5 : iblk m c 5 t = V m c main_v0 := by blk_ext! [iblk, idx t]
/-- The block of the sines is the whole array. -/
theorem w6 : iblk m c 6 t = V m c main_v1 := by blk_ext! [iblk, idx t]

/-- Its entries. -/
theorem b5 (e : Fin 32) (i : Fin 336) : (iblk m c 5 t : Vec Ideal S32x336 .f32) (ix2 e i) = m (c.tc.loc main_arg5) (ix2 i e) := by
  rw [w5]
  exact v0 e i

/-- Its entries. -/
theorem b6 (e : Fin 32) (i : Fin 336) : (iblk m c 6 t : Vec Ideal S32x336 .f32) (ix2 e i) = m (c.tc.loc main_arg6) (ix2 i e) := by
  rw [w6]
  exact v1 e i

/-- The cosines as the body binds them. -/
theorem b41 (e : Fin 32) (i : Fin 336) :
    k0_pay41 (iblk m c 0 t) (iblk m c 1 t) (iblk m c 2 t) (iblk m c 3 t) (iblk m c 4 t) (iblk m c 5 t) (iblk m c 6 t)
      (ix2 e i) = m (c.tc.loc main_arg5) (ix2 i e) := by
  pointwise [k0_pay41, k0_pay5]
  exact b5 e i

/-- The sines as the body binds them. -/
theorem b42 (e : Fin 32) (i : Fin 336) :
    k0_pay42 (iblk m c 0 t) (iblk m c 1 t) (iblk m c 2 t) (iblk m c 3 t) (iblk m c 4 t) (iblk m c 5 t) (iblk m c 6 t)
      (ix2 e i) = m (c.tc.loc main_arg6) (ix2 i e) := by
  pointwise [k0_pay42, k0_pay6]
  exact b6 e i

/-- The queries after the point. -/
theorem after7 : (dats m 0 c).after 7 t
    = Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  canon_tiles x h using cover0_7 ..
  all_goals
    obtain ⟨d, i, rfl⟩ : ∃ (d : Fin 64) (i : Fin 336), x = ix2 d i := ⟨x 0, x 1, eq_ix2 x⟩
    refine Eq.trans ?_ (by
      first
      | exact (Qkv.q_at (d := d) (i := i) (h0 := h0) (h1 := h1) (hd := by norm_num) (ho := by norm_num) ..).symm
      | exact (Qkv.q_at (o := 0) (d := d) (i := i) (h0 := h0.trans (Nat.zero_add _).symm) (h1 := h1) (hd := by norm_num)
          (ho := by norm_num) ..).symm)
    dsimp only [Qkv.head, Qkv.rot]
    pointwise [k0_pay11, k0_pay7, k0_pay9, k0_pay10, k0_pay8, k0_pay5, k0_pay6, k0_pay12, k0_pay13, k0_pay14, k0_pay15,
      k0_pay16, k0_pay17, k0_pay18, k0_pay19, k0_pay20, k0_pay21, k0_pay22, k0_pay23, k0_pay24, k0_pay25, k0_pay26, k0_pay27,
      k0_pay28]
    simp only [b40, b41, b42, b5, b6]
    try split <;> exact congrArg₂ _ (congrArg (· * _) (b4 _ _)) (congrArg (· * _) (b4 _ _))

/-- The codes of the keys after the point. -/
theorem after8 : (dats m 0 c).after 8 t
    = Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  canon_tiles x h using cover0_8 ..
  · obtain ⟨d, i, rfl⟩ : ∃ (d : Fin 64) (i : Fin 336), x = ix2 d i := ⟨x 0, x 1, eq_ix2 x⟩
    refine Eq.trans ?_ (Qkv.kc_at (n := 1) (h0 := h0) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]
  · obtain ⟨d, i, rfl⟩ : ∃ (d : Fin 64) (i : Fin 336), x = ix2 d i := ⟨x 0, x 1, eq_ix2 x⟩
    refine Eq.trans ?_ (Qkv.kc_at (n := 0) (h0 := h0.trans (Nat.zero_add _).symm) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]

/-- The scales of the keys after the point. -/
theorem after9 : (dats m 0 c).after 9 t
    = Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  canon_tiles x h using cover0_9 ..
  · obtain ⟨d, i, rfl⟩ : ∃ (d : Fin 1) (i : Fin 336), x = ix2 d i := ⟨x 0, x 1, eq_ix2 x⟩
    refine Eq.trans ?_ (Qkv.ks_at (n := 1) (h0 := h0.trans (show 1 + d.val = 1 by omega)) (h1 := h1) ..).symm
    dsimp only [Qkv.code, Qkv.scale, Qkv.big, Qkv.key, Qkv.head, Qkv.rot]
    pointwise [k0_pay38, k0_pay37, k0_pay30, k0_pay29]
    simp only [b40, b41, b42]
  · obtain ⟨d, i, rfl⟩ : ∃ (d : Fin 1) (i : Fin 336), x = ix2 d i := ⟨x 0, x 1, eq_ix2 x⟩
    refine Eq.trans ?_ (Qkv.ks_at (n := 0) (h0 := h0.trans (show d.val = 0 by omega)) (h1 := h1) ..).symm
    dsimp only [Qkv.code, Qkv.scale, Qkv.big, Qkv.key, Qkv.head, Qkv.rot]
    pointwise [k0_pay38, k0_pay37, k0_pay30, k0_pay29]
    simp only [b40, b41, b42]

/-- The codes of the values after the point. -/
theorem after10 : (dats m 0 c).after 10 t
    = Qkv.vc 2 (m (c.tc.loc main_arg0)) (m (c.tc.loc main_arg1)) (m (c.tc.loc main_arg2))
      (m (c.tc.loc main_arg3)) (m (c.tc.loc main_arg4)) := by
  rw [after0_10]
  frame_out
  funext y
  canon_tiles x h using cover0_10 ..
  · obtain ⟨d, i, rfl⟩ : ∃ (d : Fin 64) (i : Fin 336), x = ix2 d i := ⟨x 0, x 1, eq_ix2 x⟩
    refine Eq.trans ?_ (Qkv.vc_at (n := 1) (h0 := h0) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]
  · obtain ⟨d, i, rfl⟩ : ∃ (d : Fin 64) (i : Fin 336), x = ix2 d i := ⟨x 0, x 1, eq_ix2 x⟩
    refine Eq.trans ?_ (Qkv.vc_at (n := 0) (h0 := h0.trans (Nat.zero_add _).symm) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]

/-- The scales of the values after the point. -/
theorem after11 : (dats m 0 c).after 11 t
    = Qkv.vs 2 (m (c.tc.loc main_arg0)) (m (c.tc.loc main_arg1)) (m (c.tc.loc main_arg2))
      (m (c.tc.loc main_arg3)) (m (c.tc.loc main_arg4)) := by
  rw [after0_11]
  frame_out
  funext y
  canon_tiles x h using cover0_11 ..
  · obtain ⟨d, i, rfl⟩ : ∃ (d : Fin 1) (i : Fin 336), x = ix2 d i := ⟨x 0, x 1, eq_ix2 x⟩
    refine Eq.trans ?_ (Qkv.vs_at (n := 1) (h0 := h0.trans (show 1 + d.val = 1 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]
  · obtain ⟨d, i, rfl⟩ : ∃ (d : Fin 1) (i : Fin 336), x = ix2 d i := ⟨x 0, x 1, eq_ix2 x⟩
    refine Eq.trans ?_ (Qkv.vs_at (n := 0) (h0 := h0.trans (show d.val = 0 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]

section
variable (m c)

/-- The queries after the run. -/
theorem result7 : (dats m 0 c).arrAt 7 cfg0.N
    = Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 2 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 2 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 2 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 2 (m (c.tc.loc main_arg0)) (m (c.tc.loc main_arg1)) (m (c.tc.loc main_arg2))
      (m (c.tc.loc main_arg3)) (m (c.tc.loc main_arg4)) = G
  blk_ext! [idx t]

end

end Cert.Proof.Qkv2
end
-- ==== Proof.Qkv2Reference.lean ====
/-
  The value of the projection formula of layer 2, as the reference program computes it: one point, whole arrays.
-/
module

public import proofs.«01_k».proof.Proof.Gen.QkvRef2Ideal.Value
public import proofs.«01_k».proof.Proof.QkvMath
public import Idealize.ShloMosaic.Lib.Pipeline.ValueKit

@[expose] public section

set_option maxRecDepth 16384

noncomputable section
namespace Cert.Proof.QkvRef2
open Idealize.ShloMosaic Idealize.SL.Sem Idealize.ShloMosaic.Pipeline Idealize.ShloMosaic.TcCoe
open Cert.QkvRef2Ideal Cert.QkvRef2Ideal.Gen

variable (m : (ℓ : Loc nD τ sig) → Buf (Elt Ideal) ℓ) (c : Dev nD) (t : Fin cfg0.N)

/-- The one point's blocks are whole arrays. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, token by column. -/
theorem lin6 (f : Fin 1152) (i : Fin 336) :
    k0_pay6 (iblk m c 0 t) (View.ld (iblk m c 1 t) r0_1) (View.ld (iblk m c 2 t) r0_2) (View.ld (iblk m c 3 t) r0_3)
      (View.ld (iblk m c 4 t) r0_3) (ix2 i f)
      = Qkv.lin 2 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay6]
  blk_point [iblk, V, idx t]

/-- The same, under the name the later stores read it by. -/
theorem lin17 (f : Fin 1152) (i : Fin 336) :
    k0_pay17 (iblk m c 0 t) (iblk m c 1 t) (iblk m c 2 t) (iblk m c 3 t) (iblk m c 4 t) (iblk m c 5 t) (iblk m c 6 t) (ix2 i f)
      = Qkv.lin 2 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay17, k0_pay6]
  blk_point [iblk, V, idx t]

/-- The block of the cosines is the whole array. -/
theorem w5 : iblk m c 5 t = m (c.tc.loc main_arg5) := by blk_ext! [iblk, V, idx t]

/-- The block of the sines is the whole array. -/
theorem w6 : iblk m c 6 t = m (c.tc.loc main_arg6) := by blk_ext! [iblk, V, idx t]

/-- The rotated key heads. -/
theorem key14 (i : Fin 336) (n : Fin 2) (d : Fin 64) :
    k0_pay14 (k0_pay17 (iblk m c 0 t) (iblk m c 1 t) (iblk m c 2 t) (iblk m c 3 t) (iblk m c 4 t) (iblk m c 5 t) (iblk m c 6 t))
      (iblk m c 5 t) (iblk m c 6 t) (ix3 i n d)
      = Qkv.key 2 (m (c.tc.loc main_arg0)) (m (c.tc.loc main_arg1)) (m (c.tc.loc main_arg2))
      (m (c.tc.loc main_arg3)) (m (c.tc.loc main_arg4)) (m (c.tc.loc main_arg5)) (m (c.tc.loc main_arg6)) n i d := by
  dsimp only [Qkv.key, Qkv.head, Qkv.rot]
  pointwise [k0_pay14]
  simp only [lin17, ← Nat.add_assoc]
  simp only [w5, w6]

/-- The value heads. -/
theorem value2 (i : Fin 336) (n : Fin 2) (d : Fin 64) :
    k0_pay2 (k0_pay17 (iblk m c 0 t) (iblk m c 1 t) (iblk m c 2 t) (iblk m c 3 t) (iblk m c 4 t) (iblk m c 5 t) (iblk m c 6 t)) (ix3 i n d)
      = Qkv.value 2 (m (c.tc.loc main_arg0)) (m (c.tc.loc main_arg1)) (m (c.tc.loc main_arg2))
      (m (c.tc.loc main_arg3)) (m (c.tc.loc main_arg4)) n i d := by
  dsimp only [Qkv.value]
  pointwise [k0_pay2]
  simp only [lin17, ← Nat.add_assoc]

/-- The scales of the keys, a column per head. -/
theorem scale15 (i : Fin 336) (n : Fin 2) (z : Fin 1) :
    k0_pay15 (k0_pay17 (iblk m c 0 t) (iblk m c 1 t) (iblk m c 2 t) (iblk m c 3 t) (iblk m c 4 t) (iblk m c 5 t) (iblk m c 6 t))
      (iblk m c 5 t) (iblk m c 6 t) (ix3 i n z)
      = Qkv.scale (Qkv.key 2 (m (c.tc.loc main_arg0)) (m (c.tc.loc main_arg1)) (m (c.tc.loc main_arg2))
      (m (c.tc.loc main_arg3)) (m (c.tc.loc main_arg4)) (m (c.tc.loc main_arg5)) (m (c.tc.loc main_arg6)) n i) := by
  dsimp only [Qkv.scale, Qkv.big]
  pointwise [k0_pay15]
  simp only [key14]
  rfl

/-- The scales of the values, a column per head. -/
theorem scale3 (i : Fin 336) (n : Fin 2) (z : Fin 1) :
    k0_pay3 (k0_pay17 (iblk m c 0 t) (iblk m c 1 t) (iblk m c 2 t) (iblk m c 3 t) (iblk m c 4 t) (iblk m c 5 t) (iblk m c 6 t)) (ix3 i n z)
      = Qkv.scale (Qkv.value 2 (m (c.tc.loc main_arg0)) (m (c.tc.loc main_arg1)) (m (c.tc.loc main_arg2))
      (m (c.tc.loc main_arg3)) (m (c.tc.loc main_arg4)) n i) := by
  dsimp only [Qkv.scale, Qkv.big]
  pointwise [k0_pay3]
  simp only [value2]
  rfl

/-- The queries after the point. -/
theorem after7 : (dats m 0 c).after 7 t
    = Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  obtain ⟨r, i, rfl⟩ : ∃ (r : Fin 896) (i : Fin 336), y = ix2 r i := ⟨y 0, y 1, eq_ix2 y⟩
  refine Eq.trans ?_ (Qkv.q_at (o := r.val / 64 * 64) (d := ⟨r.val % 64, by omega⟩) (i := i) (hd := by omega)
    (ho := by omega) (h0 := show r.val = _ by dsimp only; omega) (h1 := rfl) ..).symm
  dsimp only [Qkv.head, Qkv.rot]
  pointwise [k0_pay13, k0_pay8, k0_pay9, k0_pay7, k0_pay10, k0_pay11, k0_pay12]
  simp only [w5, w6, ← Nat.add_assoc, Nat.div_add_mod']
  split <;> exact congrArg₂ _ (congrArg (· * _) (lin6 _ _)) (congrArg (· * _) (lin6 _ _))

/-- The codes of the keys after the point. -/
theorem after8 : (dats m 0 c).after 8 t
    = Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  obtain ⟨r, i, rfl⟩ : ∃ (r : Fin 128) (i : Fin 336), y = ix2 r i := ⟨y 0, y 1, eq_ix2 y⟩
  dsimp only [Qkv.kc, Qkv.code]
  pointwise [k0_pay16]
  simp only [key14, scale15]

/-- The scales of the keys after the point. -/
theorem after9 : (dats m 0 c).after 9 t
    = Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  obtain ⟨r, i, rfl⟩ : ∃ (r : Fin 2) (i : Fin 336), y = ix2 r i := ⟨y 0, y 1, eq_ix2 y⟩
  dsimp only [Qkv.ks]
  pointwise [k0_pay1]
  simp only [scale15]

/-- The codes of the values after the point. -/
theorem after10 : (dats m 0 c).after 10 t
    = Qkv.vc 2 (m (c.tc.loc main_arg0)) (m (c.tc.loc main_arg1)) (m (c.tc.loc main_arg2))
      (m (c.tc.loc main_arg3)) (m (c.tc.loc main_arg4)) := by
  rw [after0_10]
  frame_out
  funext y
  obtain ⟨r, i, rfl⟩ : ∃ (r : Fin 128) (i : Fin 336), y = ix2 r i := ⟨y 0, y 1, eq_ix2 y⟩
  dsimp only [Qkv.vc, Qkv.code]
  pointwise [k0_pay4]
  simp only [value2, scale3]

/-- The scales of the values after the point. -/
theorem after11 : (dats m 0 c).after 11 t
    = Qkv.vs 2 (m (c.tc.loc main_arg0)) (m (c.tc.loc main_arg1)) (m (c.tc.loc main_arg2))
      (m (c.tc.loc main_arg3)) (m (c.tc.loc main_arg4)) := by
  rw [after0_11]
  frame_out
  funext y
  obtain ⟨r, i, rfl⟩ : ∃ (r : Fin 2) (i : Fin 336), y = ix2 r i := ⟨y 0, y 1, eq_ix2 y⟩
  dsimp only [Qkv.vs]
  pointwise [k0_pay5]
  simp only [scale3]

section
variable (m c)

/-- The queries after the run. -/
theorem result7 : (dats m 0 c).arrAt 7 cfg0.N
    = Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 2 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 2 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 2 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 2 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 2 (m (c.tc.loc main_arg0)) (m (c.tc.loc main_arg1)) (m (c.tc.loc main_arg2))
      (m (c.tc.loc main_arg3)) (m (c.tc.loc main_arg4)) = G
  blk_ext! [idx t]

end

end Cert.Proof.QkvRef2
end
-- ==== Proof.Qkv3Kernel.lean ====
/-
  The value of the projection kernel of layer 3: one point, which stores the queries, the codes and their scales head
  by head.
-/
module

public import proofs.«01_k».proof.Proof.Gen.Qkv3Ideal.Value
public import proofs.«01_k».proof.Proof.QkvMath
public import Idealize.ShloMosaic.Lib.Pipeline.ValueKit
public import Idealize.ShloMosaic.Lib.Pipeline.ReadBack

@[expose] public section

set_option maxRecDepth 16384

noncomputable section
namespace Cert.Proof.Qkv3
open Idealize.ShloMosaic Idealize.SL.Sem Idealize.ShloMosaic.Pipeline Idealize.ShloMosaic.TcCoe
open Cert.Qkv3Ideal Cert.Qkv3Ideal.Gen

variable (m : (ℓ : Loc nD τ sig) → Buf (Elt Ideal) ℓ) (c : Dev nD) (t : Fin cfg0.N)

/-- The one point's blocks are whole arrays, except the weights', which are those of layer 3. -/
theorem idx : ∀ t : Fin cfg0.N, win0_0.index t = ![0, 0] ∧ win0_1.index t = ![0, 0] ∧ win0_2.index t = ![3, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, feature by token. -/
theorem b40 (f : Fin 1152) (i : Fin 336) :
    k0_pay40 (iblk m c 0 t) (iblk m c 1 t) (iblk m c 2 t) (iblk m c 3 t) (iblk m c 4 t) (iblk m c 5 t) (iblk m c 6 t)
      (ix2 f i) = Qkv.lin 3 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay40, k0_pay4]
  blk_point [iblk, V, idx t]

/-- The same, as the first head's code states it. -/
theorem b4 (f : Fin 1152) (i : Fin 336) :
    k0_pay4 (iblk m c 0 t) (View.ld (iblk m c 1 t) r0_1) (iblk m c 2 t) (View.ld (iblk m c 3 t) r0_3)
      (View.ld (iblk m c 4 t) r0_3) (ix2 f i) = Qkv.lin 3 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay4]
  blk_point [iblk, V, idx t]

/-- The cosines, transposed. -/
theorem v0 (e : Fin 32) (i : Fin 336) : V m c main_v0 (ix2 e i) = m (c.tc.loc main_arg5) (ix2 i e) := by
  entry_read; pointwise; blk_ext

/-- The sines, transposed. -/
theorem v1 (e : Fin 32) (i : Fin 336) : V m c main_v1 (ix2 e i) = m (c.tc.loc main_arg6) (ix2 i e) := by
  entry_read; pointwise; blk_ext

/-- The block of the cosines is the whole array. -/
theorem w5 : iblk m c 5 t = V m c main_v0 := by blk_ext! [iblk, idx t]
/-- The block of the sines is the whole array. -/
theorem w6 : iblk m c 6 t = V m c main_v1 := by blk_ext! [iblk, idx t]

/-- Its entries. -/
theorem b5 (e : Fin 32) (i : Fin 336) : (iblk m c 5 t : Vec Ideal S32x336 .f32) (ix2 e i) = m (c.tc.loc main_arg5) (ix2 i e) := by
  rw [w5]
  exact v0 e i

/-- Its entries. -/
theorem b6 (e : Fin 32) (i : Fin 336) : (iblk m c 6 t : Vec Ideal S32x336 .f32) (ix2 e i) = m (c.tc.loc main_arg6) (ix2 i e) := by
  rw [w6]
  exact v1 e i

/-- The cosines as the body binds them. -/
theorem b41 (e : Fin 32) (i : Fin 336) :
    k0_pay41 (iblk m c 0 t) (iblk m c 1 t) (iblk m c 2 t) (iblk m c 3 t) (iblk m c 4 t) (iblk m c 5 t) (iblk m c 6 t)
      (ix2 e i) = m (c.tc.loc main_arg5) (ix2 i e) := by
  pointwise [k0_pay41, k0_pay5]
  exact b5 e i

/-- The sines as the body binds them. -/
theorem b42 (e : Fin 32) (i : Fin 336) :
    k0_pay42 (iblk m c 0 t) (iblk m c 1 t) (iblk m c 2 t) (iblk m c 3 t) (iblk m c 4 t) (iblk m c 5 t) (iblk m c 6 t)
      (ix2 e i) = m (c.tc.loc main_arg6) (ix2 i e) := by
  pointwise [k0_pay42, k0_pay6]
  exact b6 e i

/-- The queries after the point. -/
theorem after7 : (dats m 0 c).after 7 t
    = Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  canon_tiles x h using cover0_7 ..
  all_goals
    obtain ⟨d, i, rfl⟩ : ∃ (d : Fin 64) (i : Fin 336), x = ix2 d i := ⟨x 0, x 1, eq_ix2 x⟩
    refine Eq.trans ?_ (by
      first
      | exact (Qkv.q_at (d := d) (i := i) (h0 := h0) (h1 := h1) (hd := by norm_num) (ho := by norm_num) ..).symm
      | exact (Qkv.q_at (o := 0) (d := d) (i := i) (h0 := h0.trans (Nat.zero_add _).symm) (h1 := h1) (hd := by norm_num)
          (ho := by norm_num) ..).symm)
    dsimp only [Qkv.head, Qkv.rot]
    pointwise [k0_pay11, k0_pay7, k0_pay9, k0_pay10, k0_pay8, k0_pay5, k0_pay6, k0_pay12, k0_pay13, k0_pay14, k0_pay15,
      k0_pay16, k0_pay17, k0_pay18, k0_pay19, k0_pay20, k0_pay21, k0_pay22, k0_pay23, k0_pay24, k0_pay25, k0_pay26, k0_pay27,
      k0_pay28]
    simp only [b40, b41, b42, b5, b6]
    try split <;> exact congrArg₂ _ (congrArg (· * _) (b4 _ _)) (congrArg (· * _) (b4 _ _))

/-- The codes of the keys after the point. -/
theorem after8 : (dats m 0 c).after 8 t
    = Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  canon_tiles x h using cover0_8 ..
  · obtain ⟨d, i, rfl⟩ : ∃ (d : Fin 64) (i : Fin 336), x = ix2 d i := ⟨x 0, x 1, eq_ix2 x⟩
    refine Eq.trans ?_ (Qkv.kc_at (n := 1) (h0 := h0) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]
  · obtain ⟨d, i, rfl⟩ : ∃ (d : Fin 64) (i : Fin 336), x = ix2 d i := ⟨x 0, x 1, eq_ix2 x⟩
    refine Eq.trans ?_ (Qkv.kc_at (n := 0) (h0 := h0.trans (Nat.zero_add _).symm) (h1 := h1) ..).symm
    dsimp only [Qkv.code, Qkv.scale, Qkv.big, Qkv.key, Qkv.head, Qkv.rot]
    pointwise [k0_pay39, k0_pay38, k0_pay37, k0_pay31, k0_pay30, k0_pay29]
    simp only [b40, b41, b42]

/-- The scales of the keys after the point. -/
theorem after9 : (dats m 0 c).after 9 t
    = Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  canon_tiles x h using cover0_9 ..
  · obtain ⟨d, i, rfl⟩ : ∃ (d : Fin 1) (i : Fin 336), x = ix2 d i := ⟨x 0, x 1, eq_ix2 x⟩
    refine Eq.trans ?_ (Qkv.ks_at (n := 1) (h0 := h0.trans (show 1 + d.val = 1 by omega)) (h1 := h1) ..).symm
    dsimp only [Qkv.code, Qkv.scale, Qkv.big, Qkv.key, Qkv.head, Qkv.rot]
    pointwise [k0_pay38, k0_pay37, k0_pay30, k0_pay29]
    simp only [b40, b41, b42]
  · obtain ⟨d, i, rfl⟩ : ∃ (d : Fin 1) (i : Fin 336), x = ix2 d i := ⟨x 0, x 1, eq_ix2 x⟩
    refine Eq.trans ?_ (Qkv.ks_at (n := 0) (h0 := h0.trans (show d.val = 0 by omega)) (h1 := h1) ..).symm
    dsimp only [Qkv.code, Qkv.scale, Qkv.big, Qkv.key, Qkv.head, Qkv.rot]
    pointwise [k0_pay38, k0_pay37, k0_pay30, k0_pay29]
    simp only [b40, b41, b42]

/-- The codes of the values after the point. -/
theorem after10 : (dats m 0 c).after 10 t
    = Qkv.vc 3 (m (c.tc.loc main_arg0)) (m (c.tc.loc main_arg1)) (m (c.tc.loc main_arg2))
      (m (c.tc.loc main_arg3)) (m (c.tc.loc main_arg4)) := by
  rw [after0_10]
  frame_out
  funext y
  canon_tiles x h using cover0_10 ..
  · obtain ⟨d, i, rfl⟩ : ∃ (d : Fin 64) (i : Fin 336), x = ix2 d i := ⟨x 0, x 1, eq_ix2 x⟩
    refine Eq.trans ?_ (Qkv.vc_at (n := 1) (h0 := h0) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]
  · obtain ⟨d, i, rfl⟩ : ∃ (d : Fin 64) (i : Fin 336), x = ix2 d i := ⟨x 0, x 1, eq_ix2 x⟩
    refine Eq.trans ?_ (Qkv.vc_at (n := 0) (h0 := h0.trans (Nat.zero_add _).symm) (h1 := h1) ..).symm
    dsimp only [Qkv.code, Qkv.scale, Qkv.big, Qkv.value]
    pointwise [k0_pay3, k0_pay2, k0_pay1, k0_pay36, k0_pay35, k0_pay32, k0_pay43, k0_pay44, k0_pay33, k0_pay34]
    simp only [b40, b41, b42]

/-- The scales of the values after the point. -/
theorem after11 : (dats m 0 c).after 11 t
    = Qkv.vs 3 (m (c.tc.loc main_arg0)) (m (c.tc.loc main_arg1)) (m (c.tc.loc main_arg2))
      (m (c.tc.loc main_arg3)) (m (c.tc.loc main_arg4)) := by
  rw [after0_11]
  frame_out
  funext y
  canon_tiles x h using cover0_11 ..
  · obtain ⟨d, i, rfl⟩ : ∃ (d : Fin 1) (i : Fin 336), x = ix2 d i := ⟨x 0, x 1, eq_ix2 x⟩
    refine Eq.trans ?_ (Qkv.vs_at (n := 1) (h0 := h0.trans (show 1 + d.val = 1 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]
  · obtain ⟨d, i, rfl⟩ : ∃ (d : Fin 1) (i : Fin 336), x = ix2 d i := ⟨x 0, x 1, eq_ix2 x⟩
    refine Eq.trans ?_ (Qkv.vs_at (n := 0) (h0 := h0.trans (show d.val = 0 by omega)) (h1 := h1) ..).symm
    dsimp only [Qkv.code, Qkv.scale, Qkv.big, Qkv.value]
    pointwise [k0_pay2, k0_pay1, k0_pay35, k0_pay32, k0_pay43, k0_pay44, k0_pay33, k0_pay34]
    simp only [b40, b41, b42]

section
variable (m c)

/-- The queries after the run. -/
theorem result7 : (dats m 0 c).arrAt 7 cfg0.N
    = Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 3 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 3 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 3 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 3 (m (c.tc.loc main_arg0)) (m (c.tc.loc main_arg1)) (m (c.tc.loc main_arg2))
      (m (c.tc.loc main_arg3)) (m (c.tc.loc main_arg4)) = G
  blk_ext! [idx t]

end

end Cert.Proof.Qkv3
end
-- ==== Proof.Qkv3Reference.lean ====
/-
  The value of the projection formula of layer 3, as the reference program computes it: one point, whole arrays.
-/
module

public import proofs.«01_k».proof.Proof.Gen.QkvRef3Ideal.Value
public import proofs.«01_k».proof.Proof.QkvMath
public import Idealize.ShloMosaic.Lib.Pipeline.ValueKit

@[expose] public section

set_option maxRecDepth 16384

noncomputable section
namespace Cert.Proof.QkvRef3
open Idealize.ShloMosaic Idealize.SL.Sem Idealize.ShloMosaic.Pipeline Idealize.ShloMosaic.TcCoe
open Cert.QkvRef3Ideal Cert.QkvRef3Ideal.Gen

variable (m : (ℓ : Loc nD τ sig) → Buf (Elt Ideal) ℓ) (c : Dev nD) (t : Fin cfg0.N)

/-- The one point's blocks are whole arrays. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable {m c t}

/-- The projection, token by column. -/
theorem lin6 (f : Fin 1152) (i : Fin 336) :
    k0_pay6 (iblk m c 0 t) (View.ld (iblk m c 1 t) r0_1) (View.ld (iblk m c 2 t) r0_2) (View.ld (iblk m c 3 t) r0_3)
      (View.ld (iblk m c 4 t) r0_3) (ix2 i f)
      = Qkv.lin 3 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay6]
  blk_point [iblk, V, idx t]

/-- The same, under the name the later stores read it by. -/
theorem lin17 (f : Fin 1152) (i : Fin 336) :
    k0_pay17 (iblk m c 0 t) (iblk m c 1 t) (iblk m c 2 t) (iblk m c 3 t) (iblk m c 4 t) (iblk m c 5 t) (iblk m c 6 t) (ix2 i f)
      = Qkv.lin 3 (m (c.tc.loc main_arg0)) (m (c.tc.loc main_arg1)) (m (c.tc.loc main_arg2))
      (m (c.tc.loc main_arg3)) (m (c.tc.loc main_arg4)) f i := by
  dsimp only [Qkv.lin, Qkv.normed]
  pointwise [k0_pay17, k0_pay6]
  blk_point [iblk, V, idx t]

/-- The block of the cosines is the whole array. -/
theorem w5 : iblk m c 5 t = m (c.tc.loc main_arg5) := by blk_ext! [iblk, V, idx t]

/-- The block of the sines is the whole array. -/
theorem w6 : iblk m c 6 t = m (c.tc.loc main_arg6) := by blk_ext! [iblk, V, idx t]

/-- The rotated key heads. -/
theorem key14 (i : Fin 336) (n : Fin 2) (d : Fin 64) :
    k0_pay14 (k0_pay17 (iblk m c 0 t) (iblk m c 1 t) (iblk m c 2 t) (iblk m c 3 t) (iblk m c 4 t) (iblk m c 5 t) (iblk m c 6 t))
      (iblk m c 5 t) (iblk m c 6 t) (ix3 i n d)
      = Qkv.key 3 (m (c.tc.loc main_arg0)) (m (c.tc.loc main_arg1)) (m (c.tc.loc main_arg2))
      (m (c.tc.loc main_arg3)) (m (c.tc.loc main_arg4)) (m (c.tc.loc main_arg5)) (m (c.tc.loc main_arg6)) n i d := by
  dsimp only [Qkv.key, Qkv.head, Qkv.rot]
  pointwise [k0_pay14]
  simp only [lin17, ← Nat.add_assoc]
  simp only [w5, w6]

/-- The value heads. -/
theorem value2 (i : Fin 336) (n : Fin 2) (d : Fin 64) :
    k0_pay2 (k0_pay17 (iblk m c 0 t) (iblk m c 1 t) (iblk m c 2 t) (iblk m c 3 t) (iblk m c 4 t) (iblk m c 5 t) (iblk m c 6 t)) (ix3 i n d)
      = Qkv.value 3 (m (c.tc.loc main_arg0)) (m (c.tc.loc main_arg1)) (m (c.tc.loc main_arg2))
      (m (c.tc.loc main_arg3)) (m (c.tc.loc main_arg4)) n i d := by
  dsimp only [Qkv.value]
  pointwise [k0_pay2]
  simp only [lin17, ← Nat.add_assoc]

/-- The scales of the keys, a column per head. -/
theorem scale15 (i : Fin 336) (n : Fin 2) (z : Fin 1) :
    k0_pay15 (k0_pay17 (iblk m c 0 t) (iblk m c 1 t) (iblk m c 2 t) (iblk m c 3 t) (iblk m c 4 t) (iblk m c 5 t) (iblk m c 6 t))
      (iblk m c 5 t) (iblk m c 6 t) (ix3 i n z)
      = Qkv.scale (Qkv.key 3 (m (c.tc.loc main_arg0)) (m (c.tc.loc main_arg1)) (m (c.tc.loc main_arg2))
      (m (c.tc.loc main_arg3)) (m (c.tc.loc main_arg4)) (m (c.tc.loc main_arg5)) (m (c.tc.loc main_arg6)) n i) := by
  dsimp only [Qkv.scale, Qkv.big]
  pointwise [k0_pay15]
  simp only [key14]
  rfl

/-- The scales of the values, a column per head. -/
theorem scale3 (i : Fin 336) (n : Fin 2) (z : Fin 1) :
    k0_pay3 (k0_pay17 (iblk m c 0 t) (iblk m c 1 t) (iblk m c 2 t) (iblk m c 3 t) (iblk m c 4 t) (iblk m c 5 t) (iblk m c 6 t)) (ix3 i n z)
      = Qkv.scale (Qkv.value 3 (m (c.tc.loc main_arg0)) (m (c.tc.loc main_arg1)) (m (c.tc.loc main_arg2))
      (m (c.tc.loc main_arg3)) (m (c.tc.loc main_arg4)) n i) := by
  dsimp only [Qkv.scale, Qkv.big]
  pointwise [k0_pay3]
  simp only [value2]
  rfl

/-- The queries after the point. -/
theorem after7 : (dats m 0 c).after 7 t
    = Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_7]
  frame_out
  funext y
  obtain ⟨r, i, rfl⟩ : ∃ (r : Fin 896) (i : Fin 336), y = ix2 r i := ⟨y 0, y 1, eq_ix2 y⟩
  refine Eq.trans ?_ (Qkv.q_at (o := r.val / 64 * 64) (d := ⟨r.val % 64, by omega⟩) (i := i) (hd := by omega)
    (ho := by omega) (h0 := show r.val = _ by dsimp only; omega) (h1 := rfl) ..).symm
  dsimp only [Qkv.head, Qkv.rot]
  pointwise [k0_pay13, k0_pay8, k0_pay9, k0_pay7, k0_pay10, k0_pay11, k0_pay12]
  simp only [w5, w6, ← Nat.add_assoc, Nat.div_add_mod']
  split <;> exact congrArg₂ _ (congrArg (· * _) (lin6 _ _)) (congrArg (· * _) (lin6 _ _))

/-- The codes of the keys after the point. -/
theorem after8 : (dats m 0 c).after 8 t
    = Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_8]
  frame_out
  funext y
  obtain ⟨r, i, rfl⟩ : ∃ (r : Fin 128) (i : Fin 336), y = ix2 r i := ⟨y 0, y 1, eq_ix2 y⟩
  dsimp only [Qkv.kc, Qkv.code]
  pointwise [k0_pay16]
  simp only [key14, scale15]

/-- The scales of the keys after the point. -/
theorem after9 : (dats m 0 c).after 9 t
    = Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  rw [after0_9]
  frame_out
  funext y
  obtain ⟨r, i, rfl⟩ : ∃ (r : Fin 2) (i : Fin 336), y = ix2 r i := ⟨y 0, y 1, eq_ix2 y⟩
  dsimp only [Qkv.ks]
  pointwise [k0_pay1]
  simp only [scale15]

/-- The codes of the values after the point. -/
theorem after10 : (dats m 0 c).after 10 t
    = Qkv.vc 3 (m (c.tc.loc main_arg0)) (m (c.tc.loc main_arg1)) (m (c.tc.loc main_arg2))
      (m (c.tc.loc main_arg3)) (m (c.tc.loc main_arg4)) := by
  rw [after0_10]
  frame_out
  funext y
  obtain ⟨r, i, rfl⟩ : ∃ (r : Fin 128) (i : Fin 336), y = ix2 r i := ⟨y 0, y 1, eq_ix2 y⟩
  dsimp only [Qkv.vc, Qkv.code]
  pointwise [k0_pay4]
  simp only [value2, scale3]

/-- The scales of the values after the point. -/
theorem after11 : (dats m 0 c).after 11 t
    = Qkv.vs 3 (m (c.tc.loc main_arg0)) (m (c.tc.loc main_arg1)) (m (c.tc.loc main_arg2))
      (m (c.tc.loc main_arg3)) (m (c.tc.loc main_arg4)) := by
  rw [after0_11]
  frame_out
  funext y
  obtain ⟨r, i, rfl⟩ : ∃ (r : Fin 2) (i : Fin 336), y = ix2 r i := ⟨y 0, y 1, eq_ix2 y⟩
  dsimp only [Qkv.vs]
  pointwise [k0_pay5]
  simp only [scale3]

section
variable (m c)

/-- The queries after the run. -/
theorem result7 : (dats m 0 c).arrAt 7 cfg0.N
    = Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 7 _ (by decide +kernel) fun t hf y => ?_
  blk_simp
  rw [after7]
  generalize Qkv.q 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the keys after the run. -/
theorem result8 : (dats m 0 c).arrAt 8 cfg0.N
    = Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after8]
  generalize Qkv.kc 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The scales of the keys after the run. -/
theorem result9 : (dats m 0 c).arrAt 9 cfg0.N
    = Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) := by
  refine (dats m 0 c).arrAt_eq_of_covers 9 _ (by decide +kernel) fun t hf y => ?_
  blk_simp
  rw [after9]
  generalize Qkv.ks 3 (m (c.tc.loc main_arg0)) (m (c.tc.loc main_arg1)) (m (c.tc.loc main_arg2))
      (m (c.tc.loc main_arg3)) (m (c.tc.loc main_arg4)) (m (c.tc.loc main_arg5)) (m (c.tc.loc main_arg6)) = G
  blk_ext! [idx t]

/-- The codes of the values after the run. -/
theorem result10 : (dats m 0 c).arrAt 10 cfg0.N
    = Qkv.vc 3 (m (c.tc.loc main_arg0)) (m (c.tc.loc main_arg1)) (m (c.tc.loc main_arg2))
      (m (c.tc.loc main_arg3)) (m (c.tc.loc main_arg4)) := by
  refine (dats m 0 c).arrAt_eq_of_covers 10 _ (by decide +kernel) fun t hf y => ?_
  blk_simp
  rw [after10]
  generalize Qkv.vc 3 (m (c.tc.loc main_arg0)) (m (c.tc.loc main_arg1)) (m (c.tc.loc main_arg2))
      (m (c.tc.loc main_arg3)) (m (c.tc.loc main_arg4)) = G
  blk_ext! [idx t]

/-- The scales of the values after the run. -/
theorem result11 : (dats m 0 c).arrAt 11 cfg0.N
    = Qkv.vs 3 (m (c.tc.loc main_arg0)) (m (c.tc.loc main_arg1)) (m (c.tc.loc main_arg2))
      (m (c.tc.loc main_arg3)) (m (c.tc.loc main_arg4)) := by
  refine (dats m 0 c).arrAt_eq_of_covers 11 _ (by decide +kernel) fun t hf y => ?_
  blk_simp
  rw [after11]
  generalize Qkv.vs 3 (m (c.tc.loc main_arg0)) (m (c.tc.loc main_arg1)) (m (c.tc.loc main_arg2))
      (m (c.tc.loc main_arg3)) (m (c.tc.loc main_arg4)) = G
  blk_ext! [idx t]

end

end Cert.Proof.QkvRef3
end
-- ==== Proof.ChunkFromA.lean ====
/-
  The first step of a head, in the attention program: the run of its lines with the earlier contents of the scratch
  buffers as parameters.
-/
module

public import proofs.«01_k».proof.Proof.Gen.Chunk.Frame.Runs

@[expose] public section

-- membership in a rectangle of production extents (`View.cover_of_tiled`): the elaborator's structural look
-- recurses once per coordinate of the long axes
set_option maxRecDepth 16384

noncomputable section

namespace Cert.Chunk.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in case A, from given contents of the scratch buffers it does not yet know: the pieces it
    leaves in the output's staging memref and in the two scale scratches, with the proof. -/
noncomputable def runFrom_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 : BufTy.Contents (Elt F) arg13.view.ty) (fs1 : BufTy.Contents (Elt F) arg14.view.ty) (fs2 : BufTy.Contents (Elt F) arg15.view.ty) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (arg13.view.loc (c : Thread nD τ) ↦[arg13.view.set]{fullShare} fs0) ∗ (arg14.view.loc (c : Thread nD τ) ↦[arg14.view.set]{fullShare} fs1) ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_chunk_eq_skeleton]; unfold cc0_chunk_skel
    simp only [k0_part2_eq_skeleton, k0_part3_eq_skeleton, k0_part4_eq_skeleton, k0_part5_eq_skeleton]
    unfold k0_part2_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, HS1, HS2, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]; · iexists _; iexact HS0
    isplitl [HS1]; · iexists _; iexact HS1
    isplitl [HS2]
    · iexists _, _; isplitr; swap; · iexact HS2
      ipureintro; rfl
    iexact HT0

end Cert.Chunk.Gen

end
-- ==== Proof.ChunkFromB.lean ====
/-
  A later step of a head, in the attention program: the run of its lines with the earlier contents of the scratch
  buffers as parameters.
-/
module

public import proofs.«01_k».proof.Proof.Gen.Chunk.Frame.Runs

@[expose] public section

-- membership in a rectangle of production extents (`View.cover_of_tiled`): the elaborator's structural look
-- recurses once per coordinate of the long axes
set_option maxRecDepth 16384

noncomputable section

namespace Cert.Chunk.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in case B, from given contents of the scratch buffers it does not yet know: the pieces it
    leaves in the output's staging memref and in the two scale scratches, with the proof. -/
noncomputable def runFrom_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 : BufTy.Contents (Elt F) arg15.view.ty) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, [], [], fun E K => ?run⟩
  case run =>
    simp only [cc0_chunk_eq_skeleton]; unfold cc0_chunk_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, HS2, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs0; obtain rfl := harg14.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _; isplitr; · ipureintro; exact harg13.read_unread _
      iexact HS0
    isplitl [HS1]
    · iexists _; isplitr; · ipureintro; exact harg14.read_unread _
      iexact HS1
    isplitl [HS2]
    · iexists _, _; isplitr; swap; · iexact HS2
      ipureintro; rfl
    iexact HT0

end Cert.Chunk.Gen

end
-- ==== Proof.ChunkWrites.lean ====
/-
  Writes that cover a whole buffer leave the same contents whatever was there before.
-/
module

public import Idealize.ShloMosaic.Lib.Pipeline.FrameBody
public import Idealize.ShloMosaic.Lib.Ring

@[expose] public section

noncomputable section
namespace Cert.Proof.Chunk
open Idealize.ShloMosaic

/-- Writes that cover a whole buffer leave the same contents over `f` as over `g`. -/
theorem whole_writes {F : FTy → Type} [FloatOps F] {sig : RefSig} {κ : Kind} {sp : Space} {s : Shape} {e : EltTy}
    {a : Memref sig κ sp s e} (h : a.IsWhole) (f g : BufTy.Contents (Elt F) a.view.ty)
    (L : List (View.Piece (Elt F) s e)) (hc : ∀ y, ∃ p ∈ L, y ∈ p.1.set) :
    a.view.writes (Elt F) f L = a.view.writes (Elt F) g L :=
  (h.eq_unread (View.read_writes_eq_canon a.view f L hc)).trans
    (h.eq_unread (View.read_writes_eq_canon a.view g L hc)).symm

/-- From a family of runs that leave the same pieces, the pieces of one of them satisfy what each of them satisfies. -/
theorem pick {ι A B C : Type*} {P : ι → A → B → C → Prop} (r : ∀ i, Σ' (a : A), Σ' (b : B), { x : C // P i a b x })
    (j : ι) (e₁ : ∀ i, (r i).1 = (r j).1) (e₂ : ∀ i, (r i).2.1 = (r j).2.1) (e₃ : ∀ i, (r i).2.2.1 = (r j).2.2.1) (i : ι) :
    P i (r j).1 (r j).2.1 (r j).2.2.1 := by
  have h := (r i).2.2.2
  rw [e₃, e₂, e₁] at h
  exact h

end Cert.Proof.Chunk
end
-- ==== Proof.ChunkRun.lean ====
/-
  A step of the attention program: the run of its lines from any earlier contents of its scratch buffers, what it
  writes, and that the writes do not depend on those contents.
-/
module

public import proofs.«01_k».proof.Proof.ChunkFromA
public import proofs.«01_k».proof.Proof.ChunkFromB
public import proofs.«01_k».proof.Proof.ChunkWrites

@[expose] public section

-- membership in a rectangle of production extents (`View.cover_of_tiled`): the elaborator's structural look
-- recurses once per coordinate of the long axes
set_option maxRecDepth 16384

noncomputable section

namespace Cert.Chunk.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the run of case A stores in the output's block does not depend on what the scratch buffers held before:
    each is written over its whole extent before it is read. -/
theorem runFrom_A_block (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).1 := by
  unfold runFrom_A
  dsimp only
  unfold runFrom_A.sl.r_8 runFrom_A.sl.r_7 runFrom_A.sl.v145 runFrom_A.sl.v130 runFrom_A.sl.v115 runFrom_A.sl.r_6 runFrom_A.sl.r_3
  rw [Cert.Proof.Chunk.whole_writes harg13 fs0 gs0]
  rotate_left
  · exact fun y => View.cover_of_tiledL (s := S4480x128) _ S128x128.size (by sl_kernel_rfl) y
  rw [Cert.Proof.Chunk.whole_writes harg14 fs1 gs1]
  rotate_left
  · exact fun y => View.cover_of_tiledL (s := S4480x128) _ S128x128.size (by sl_kernel_rfl) y
  rw [Cert.Proof.Chunk.whole_writes harg15 fs2 gs2]
  rotate_left
  · exact fun y => View.cover_of_tiledL (s := S4480x256) _ S128x256.size (by sl_kernel_rfl) y

/-- Nor does what it stores in the first scratch buffer of scales. -/
theorem runFrom_A_first (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).2.1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).2.1 := by
  unfold runFrom_A
  dsimp only

/-- Nor does what it stores in the second scratch buffer of scales. -/
theorem runFrom_A_second (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).2.2.1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).2.2.1 := by
  unfold runFrom_A
  dsimp only

/-- The run of case A from any contents of the scratch buffers, when it is known from each of them. -/
theorem anyScratch_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (L9 : List (View.Piece (Elt F) S1x64x256 .bf16)) (LS0 LS1 : List (View.Piece (Elt F) S4480x128 .f32))
    (run : ∀ (fs0 fs1 fs2), ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (arg13.view.loc (c : Thread nD τ) ↦[arg13.view.set]{fullShare} fs0) ∗ (arg14.view.loc (c : Thread nD τ) ↦[arg14.view.set]{fullShare} fs1) ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K := by
  intro E K
  unfold owns at run ⊢
  iintro ⟨H0, H1, H2, H3, H4, H5, H6, H7, H8, H9, ⟨%d0, %fs0, -, HS0⟩, ⟨%d1, %fs1, -, HS1⟩, ⟨%d2, %fs2, -, HS2⟩, HT0, Hk⟩
  iapply (run fs0 fs1 fs2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  iexact Hk

/-- The body's run in case A, the scratch buffers holding anything before: the pieces it leaves, with the proof. -/
noncomputable def kernelRun0_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } :=
  let q := Cert.Proof.Chunk.pick (ι := BufTy.Contents (Elt F) arg13.view.ty × BufTy.Contents (Elt F) arg14.view.ty × BufTy.Contents (Elt F) arg15.view.ty) (fun f => runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 f.2.1 f.2.2) (arg13.view.junk, arg14.view.junk, arg15.view.junk)
    (fun f => runFrom_A_block c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
    (fun f => runFrom_A_first c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
    (fun f => runFrom_A_second c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
  ⟨(runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).1, (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).2.1, (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).2.2.1,
    anyScratch_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 _ _ _ (fun fs0 fs1 fs2 => q (fs0, fs1, fs2))⟩

set_option maxHeartbeats 1000000 in
/-- What the run of case B stores in the output's block does not depend on what the scratch buffers held before:
    each is written over its whole extent before it is read. -/
theorem runFrom_B_block (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).1 := by
  unfold runFrom_B
  dsimp only
  unfold runFrom_B.sl.r_7 runFrom_B.sl.r_6
  rw [Cert.Proof.Chunk.whole_writes harg15 fs2 gs2]
  rotate_left
  · exact fun y => View.cover_of_tiledL (s := S4480x256) _ S128x256.size (by sl_kernel_rfl) y

/-- Nor does what it stores in the first scratch buffer of scales. -/
theorem runFrom_B_first (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).2.1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).2.1 := by
  unfold runFrom_B
  dsimp only

/-- Nor does what it stores in the second scratch buffer of scales. -/
theorem runFrom_B_second (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).2.2.1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).2.2.1 := by
  unfold runFrom_B
  dsimp only

/-- The run of case B from any contents of the scratch buffers, when it is known from each of them. -/
theorem anyScratch_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (L9 : List (View.Piece (Elt F) S1x64x256 .bf16)) (LS0 LS1 : List (View.Piece (Elt F) S4480x128 .f32))
    (run : ∀ (fs2), ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K := by
  intro E K
  unfold owns at run ⊢
  iintro ⟨H0, H1, H2, H3, H4, H5, H6, H7, H8, H9, HS0, HS1, ⟨%d2, %fs2, -, HS2⟩, HT0, Hk⟩
  iapply (run fs2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  iexact Hk

/-- The body's run in case B, the scratch buffers holding anything before: the pieces it leaves, with the proof. -/
noncomputable def kernelRun0_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } :=
  let q := Cert.Proof.Chunk.pick (ι := BufTy.Contents (Elt F) arg15.view.ty) (fun f => runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f) (arg15.view.junk)
    (fun f => runFrom_B_block c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
    (fun f => runFrom_B_first c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
    (fun f => runFrom_B_second c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
  ⟨(runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).1, (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).2.1, (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).2.2.1,
    anyScratch_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 _ [] [] (fun fs2 => q fs2)⟩

end Cert.Chunk.Gen

end
-- ==== Proof.ChunkFrame.lean ====
/-
  The frame of the attention program: what each step leaves in its output block and in the two buffers of scales
  that are carried from step to step, that the step's run leaves it, and so that every run of the program ends, without
  a fault, with the arguments unchanged. It holds for every contents of the table. The statements are those of the
  frames generated for the other programs; only the runs of a step, of which ChunkWrites.lean and the two From modules
  say what they leave, are stated from given earlier contents of the scratch buffers.
-/
module

public import proofs.«01_k».proof.Proof.ChunkRun
public import Idealize.ShloMosaic.Lib.Claim

@[expose] public section

-- membership in a rectangle of production extents (`View.cover_of_tiled`): the elaborator's structural look
-- recurses once per coordinate of the long axes
set_option maxRecDepth 16384

noncomputable section

namespace Cert.Chunk.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S1x64x256`, checked by the kernel's evaluation: Lib/Ring.lean `Piece.tiledL`, linear in the pieces, through a loop's `@[irreducible]` trip theorem too), so they cover it. -/
theorem cover0_A_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S1x64x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1 S1x64x256.size (by sl_kernel_rfl) y

/-- What case A leaves in output 9's staging buffer: its pieces read back over junk. -/
def out0_A_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S1x64x256 .bf16 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1)

/-- Case A's pieces for scratch `arg13`, which the kernel carries between points, cover it: 35 pieces of `S128x128` tiling it (Lib/Ring.lean `Piece.tiledL`). -/
theorem scover0_A_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S4480x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1 S128x128.size (by sl_kernel_rfl) y

/-- What case A leaves in scratch `arg13`: its pieces read back over junk. -/
def sout0_A_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S4480x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1)

/-- Case A's pieces for scratch `arg14`, which the kernel carries between points, cover it: 35 pieces of `S128x128` tiling it (Lib/Ring.lean `Piece.tiledL`). -/
theorem scover0_A_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S4480x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1 S128x128.size (by sl_kernel_rfl) y

/-- What case A leaves in scratch `arg14`: its pieces read back over junk. -/
def sout0_A_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S4480x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1)

/-- Case B's pieces for output 9 tile its block (1 store of `S1x64x256`, checked by the kernel's evaluation: Lib/Ring.lean `Piece.tiledL`, linear in the pieces, through a loop's `@[irreducible]` trip theorem too), so they cover it. -/
theorem cover0_B_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) (y : S1x64x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1 S1x64x256.size (by sl_kernel_rfl) y

/-- What case B leaves in output 9's staging buffer: its pieces read back over junk. -/
def out0_B_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S1x64x256 .bf16 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1)

/-- Case B stores nothing into scratch `arg13`: it holds what the point before left. -/
def sout0_B_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S4480x128 .f32 := xs0

/-- Case B stores nothing into scratch `arg14`: it holds what the point before left. -/
def sout0_B_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S4480x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x64x256 .bf16 × Vec F S4480x128 .f32 × Vec F S4480x128 .f32
  | 0, hn => (out0_A_9 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0))
  | n + 1, hn =>
    if h0 : (n + 1) % 9 = 0 then
      (out0_A_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0))
    else
      (out0_B_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2)

/-- `outsAt0` at a point of case A: that case's contents. -/
theorem outsAt0_A (hO : Ok m) (c : Dev nD) (t : Fin (cfgM m hO).N) (h0 : t.val % 9 = 0) :
    outsAt0 m hO c t.val t.isLt = (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 9 = 0) :
    outsAt0 m hO c t.val t.isLt = (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d)) ∗ (∃ r, prngReg c r)) ∗ Pipeline.ΦT pre0 (tbl m) c)

/-- Before the first step the carried buffers may hold anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- What window 1's memory holds after a step. -/
theorem after0_1 (hO : Ok m) (c : Dev nD) (t : Fin (cfgM m hO).N) : (dats m hO 0 c).after 1 t = iblk m hO c 1 t := by dsimp only [dats]; try rfl
/-- What window 2's memory holds after a step. -/
theorem after0_2 (hO : Ok m) (c : Dev nD) (t : Fin (cfgM m hO).N) : (dats m hO 0 c).after 2 t = iblk m hO c 2 t := by dsimp only [dats]; try rfl
/-- What window 3's memory holds after a step. -/
theorem after0_3 (hO : Ok m) (c : Dev nD) (t : Fin (cfgM m hO).N) : (dats m hO 0 c).after 3 t = iblk m hO c 3 t := by dsimp only [dats]; try rfl
/-- What window 4's memory holds after a step. -/
theorem after0_4 (hO : Ok m) (c : Dev nD) (t : Fin (cfgM m hO).N) : (dats m hO 0 c).after 4 t = iblk m hO c 4 t := by dsimp only [dats]; try rfl
/-- What window 5's memory holds after a step. -/
theorem after0_5 (hO : Ok m) (c : Dev nD) (t : Fin (cfgM m hO).N) : (dats m hO 0 c).after 5 t = iblk m hO c 5 t := by dsimp only [dats]; try rfl
/-- What window 6's memory holds after a step. -/
theorem after0_6 (hO : Ok m) (c : Dev nD) (t : Fin (cfgM m hO).N) : (dats m hO 0 c).after 6 t = iblk m hO c 6 t := by dsimp only [dats]; try rfl
/-- What window 7's memory holds after a step. -/
theorem after0_7 (hO : Ok m) (c : Dev nD) (t : Fin (cfgM m hO).N) : (dats m hO 0 c).after 7 t = iblk m hO c 7 t := by dsimp only [dats]; try rfl
/-- What window 8's memory holds after a step. -/
theorem after0_8 (hO : Ok m) (c : Dev nD) (t : Fin (cfgM m hO).N) : (dats m hO 0 c).after 8 t = iblk m hO c 8 t := by dsimp only [dats]; try rfl
/-- What window 9's memory holds after a step. -/
theorem after0_9 (hO : Ok m) (c : Dev nD) (t : Fin (cfgM m hO).N) : (dats m hO 0 c).after 9 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- What window 1's memory holds before a step. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- What window 2's memory holds before a step. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- What window 3's memory holds before a step. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- What window 4's memory holds before a step. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- What window 5's memory holds before a step. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- What window 6's memory holds before a step. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- What window 7's memory holds before a step. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- What window 8's memory holds before a step. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9]
  rw [show (dats m hO 0 c).Φ t.succ = PhiS m hO c (t.val + 1) t.isLt from rfl, PhiS_succ, PhiT0_eq]
  have hN : t.val < 18 := lt_of_lt_of_eq t.isLt (show (cfgM m hO).N = 18 from N_0)
  by_cases h0 : t.val % 9 = 0
  · by_cases hz : t.val = 0
    · rw [PhiS_castSucc m hO c t, PhiS_zero m hO c _ _ hz, PhiT0_eq, PhiA0_eq]
      rw [outsAt0_A m hO c t h0]
      unfold out0_A_9 sout0_A_0 sout0_A_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HT0]; · iexact HT0
      iintro ⟨H0, H1, H2, H3, H4, H5, H6, H7, H8, ⟨%e9, H9⟩, ⟨%es0, HS0⟩, ⟨%es1, HS1⟩, HS2, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
    · rw [PhiS_castSucc m hO c t, PhiS_pos m hO c _ _ hz, PhiT0_eq]
      rw [outsAt0_A m hO c t h0]
      unfold out0_A_9 sout0_A_0 sout0_A_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      isplitl [HS1]; · iexists _; iexact HS1
      isplitl [HS2]; · iexact HS2
      isplitl [HT0]; · iexact HT0
      iintro ⟨H0, H1, H2, H3, H4, H5, H6, H7, H8, ⟨%e9, H9⟩, ⟨%es0, HS0⟩, ⟨%es1, HS1⟩, HS2, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
  · by_cases hz : t.val = 0
    · exfalso; have hN : t.val < 18 := lt_of_lt_of_eq t.isLt (show (cfgM m hO).N = 18 from N_0); omega
    · rw [PhiS_castSucc m hO c t, PhiS_pos m hO c _ _ hz, PhiT0_eq]
      rw [outsAt0_B m hO c t h0]
      unfold out0_B_9 sout0_B_0 sout0_B_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HT0]; · iexact HT0
      iintro ⟨H0, H1, H2, H3, H4, H5, H6, H7, H8, ⟨%e9, H9⟩, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 18 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- THE FRAME: `Cert.quiescent_Chunk`'s statement (Defs.lean) at any `F` — Proof.lean cites it at `Bits`:
    `theorem Cert.Proof.claim : Cert.Claim := ⟨Cert.Chunk.Gen.facts, fun m ρ _ => Cert.Chunk.Gen.frame m ρ⟩`; here for every contents of the PREFETCHED TABLES, UNDER `Gen.Ok m` (the pipeline's side condition of
    them), which Proof.lean proves from the precondition: `⟨…, fun m ρ h => Cert.Chunk.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Chunk.Gen

end
-- ==== Proof.ChunkMath.lean ====
/-
  Attention of the chunk's rows as one function of its arrays, entry by entry over the extended reals, and the facts
  of summation that the kernel's order of work rests on.
-/
module

public import Idealize.ShloMosaic.Lib.Pointwise

@[expose] public section

noncomputable section
namespace Cert.Proof.Chunk
open Idealize.ShloMosaic

/-- The score of a token that is not seen. -/
abbrev unseen : EReal := Ideal.ofBits .f32 0xFF800000#32

/-- The largest of some scores. -/
def top {A : ℕ} (s : Fin A → EReal) : EReal := Finset.univ.fold max unseen fun a => s a

/-- Attention of one row over the scores `sC` of the cached tokens and `sN` of the new ones: the values `vC`, `vN` with
    their scales `wC`, `wN`, weighted by powers of two. -/
def attend {A B : ℕ} (sC : Fin A → EReal) (sN : Fin B → EReal) (wC vC : Fin A → EReal) (wN vN : Fin B → EReal) :
    EReal :=
  Ideal.div
    ((∑ a, Ideal.exp2 (sC a - Ideal.liftRound Int.ceil (max (top sC) (top sN))) * wC a * vC a)
      + ∑ b, Ideal.exp2 (sN b - Ideal.liftRound Int.ceil (max (top sC) (top sN))) * wN b * vN b)
    ((∑ a, Ideal.exp2 (sC a - Ideal.liftRound Int.ceil (max (top sC) (top sN))))
      + ∑ b, Ideal.exp2 (sN b - Ideal.liftRound Int.ceil (max (top sC) (top sN))))

/-- A score if the token is seen. -/
def seen (p : BitVec 1) (dot scale : EReal) : EReal :=
  Scalar.select p (dot * (scale * Ideal.ofBits .f32 0x3E000000#32) * Ideal.ofBits .f32 0x3FB8AA3B#32) unseen

section Arrays
variable (n : Vec Ideal ⟨1, ![1]⟩ .i32) (q : Vec Ideal ⟨2, ![896, 336]⟩ .bf16)
  (kc vc : Vec Ideal ⟨3, ![2, 64, 4096]⟩ .bf16) (kcs vcs : Vec Ideal ⟨3, ![2, 32, 128]⟩ .f32)
  (kn : Vec Ideal ⟨2, ![128, 336]⟩ .bf16) (kns : Vec Ideal ⟨2, ![2, 336]⟩ .f32)
  (vn : Vec Ideal ⟨2, ![128, 336]⟩ .bf16) (vns : Vec Ideal ⟨2, ![2, 336]⟩ .f32)

/-- The score of cached token `t` for head `h` of row `i`: token `t` lies in place `t % 32` of page `t / 32`, the
    cache holding place by place. It is seen if it is below the cached length. -/
def scoreC (h : Fin 14) (i : Fin 320) : Fin 4096 → EReal := fun t =>
  seen (IntOp.cmpi .slt (BitVec.ofNat 32 t) (n (ix1 0)))
    (∑ d : Fin 64, q (ix2 ⟨h * 64 + d, by omega⟩ ⟨i, by omega⟩)
      * kc (ix3 ⟨h / 7, by omega⟩ d ⟨t % 32 * 128 + t / 32, by omega⟩))
    (kcs (ix3 ⟨h / 7, by omega⟩ ⟨t % 32, by omega⟩ ⟨t / 32, by omega⟩))

/-- The score of new token `u`, seen by its own row and the rows after it. -/
def scoreN (h : Fin 14) (i : Fin 320) : Fin 320 → EReal := fun u =>
  seen (IntOp.cmpi .sle (BitVec.ofNat 32 u) (BitVec.ofNat 32 i))
    (∑ d : Fin 64, q (ix2 ⟨h * 64 + d, by omega⟩ ⟨i, by omega⟩) * kn (ix2 ⟨h / 7 * 64 + d, by omega⟩ ⟨u, by omega⟩))
    (kns (ix2 ⟨h / 7, by omega⟩ ⟨u, by omega⟩))

/-- Entry `d` of head `h` of row `i` of the attention output. -/
def entry (i : Fin 320) (h : Fin 14) (d : Fin 64) : EReal :=
  attend (scoreC n q kc kcs h i) (scoreN q kn kns h i)
    (fun t => vcs (ix3 ⟨h / 7, by omega⟩ ⟨t % 32, by omega⟩ ⟨t / 32, by omega⟩))
    (fun t => vc (ix3 ⟨h / 7, by omega⟩ d ⟨t % 32 * 128 + t / 32, by omega⟩))
    (fun u => vns (ix2 ⟨h / 7, by omega⟩ ⟨u, by omega⟩))
    (fun u => vn (ix2 ⟨h / 7 * 64 + d, by omega⟩ ⟨u, by omega⟩))

/-- The attention output of the chunk. -/
def call : Vec Ideal ⟨3, ![320, 14, 64]⟩ .bf16 := fun y => entry n q kc vc kcs vcs kn kns vn vns (y 0) (y 1) (y 2)

end Arrays

end Cert.Proof.Chunk
end
-- ==== Proof.ChunkTiles.lean ====
/-
  Reading buffers that were written tile of rows by tile of rows.
-/
module

public import proofs.«01_k».proof.Proof.ChunkWrites
public import Idealize.ShloMosaic.Lib.Pointwise
public import Idealize.ShloMosaic.Lib.WholeRead

@[expose] public section

set_option maxRecDepth 16384

noncomputable section
namespace Cert.Proof.Chunk
open Idealize.ShloMosaic

/-- Indices of two axes are equal when their places are. -/
theorem idx2_ext {d : Fin 2 → ℕ} {x y : (⟨2, d⟩ : Shape).Idx} (h0 : (x 0).val = (y 0).val) (h1 : (x 1).val = (y 1).val) :
    x = y := by
  funext a
  match a with
  | ⟨0, _⟩ => exact Fin.ext h0
  | ⟨1, _⟩ => exact Fin.ext h1

/-- Indices of three axes are equal when their places are. -/
theorem idx3_ext {d : Fin 3 → ℕ} {x y : (⟨3, d⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- A read of written places is a read of the contents the writes leave. -/
theorem readCov_unread {sig : RefSig} {κ : Kind} {sp : Space} {s : Shape} {e : EltTy}
    {a : Memref sig κ sp s e} (h : a.IsWhole) (L : List (View.Piece (Elt Ideal) s e)) (hc : ∀ y, ∃ p ∈ L, y ∈ p.1.set)
    (B : LoadRect s) : a.view.readCov L B = View.readAt (Elt Ideal) a.view B (h.unread (View.canon L)) := by
  rw [View.readCov_eq_canon a.view L B fun j => hc _]
  funext j
  exact (h.readAt_unread _ B j).symm

/-- Writes that cover a whole buffer leave the contents they say. -/
theorem writes_unread {sig : RefSig} {κ : Kind} {sp : Space} {s : Shape} {e : EltTy}
    {a : Memref sig κ sp s e} (h : a.IsWhole) (f : BufTy.Contents (Elt Ideal) a.view.ty)
    (L : List (View.Piece (Elt Ideal) s e)) (hc : ∀ y, ∃ p ∈ L, y ∈ p.1.set) :
    a.view.writes (Elt Ideal) f L = h.unread (View.canon L) :=
  h.eq_unread (View.read_writes_eq_canon a.view f L hc)

/-- What a write of 128 rows leaves, row by row. -/
theorem canon_tile {C : ℕ} (o : ℕ) (off : Fin 2 → ℕ) (ho : off = ![o, 0])
    (hb : ∀ a, off a + (![128, C] : Fin 2 → ℕ) a ≤ (⟨2, ![4480, C]⟩ : Shape).size a)
    (w : (Rect.unit (s := ⟨2, ![4480, C]⟩) off ![128, C] hb).shape.Idx → Elt Ideal .f32)
    (L : List (View.Piece (Elt Ideal) ⟨2, ![4480, C]⟩ .f32)) (r : Fin 4480) (j : Fin C) :
    View.canon (⟨Rect.unit (s := ⟨2, ![4480, C]⟩) off ![128, C] hb, w⟩ :: L) (ix2 r j)
      = if h : o ≤ r ∧ r < o + 128 then w (ix2 (⟨r - o, by omega⟩ : Fin 128) j) else View.canon L (ix2 r j) := by
  subst ho
  split
  · rename_i h
    have e : (ix2 r j : (⟨2, ![4480, C]⟩ : Shape).Idx)
        = (Rect.unit (s := ⟨2, ![4480, C]⟩) ![o, 0] ![128, C] hb).emb (ix2 (⟨r - o, by omega⟩ : Fin 128) j) := by
      refine idx2_ext ?_ ?_
      · change (r : ℕ) = o + 1 * (r - o); omega
      · change (j : ℕ) = 0 + 1 * j; omega
    rw [e]
    exact View.canon_cons_emb ..
  · rename_i h
    refine View.canon_cons_of_not_mem _ _ fun hm => h ?_
    have b := (Rect.mem_set_unit (inb := hb)).mp hm 0
    exact ⟨b.1, b.2⟩

/-- A read of 128 rows. -/
theorem read_tile {sig : RefSig} {κ : Kind} {sp : Space} {C : ℕ} {a : Memref sig κ sp ⟨2, ![4480, C]⟩ .f32} (h : a.IsWhole)
    (X : (⟨2, ![4480, C]⟩ : Shape).Idx → Elt Ideal .f32) (o : ℕ) (off : Fin 2 → ℕ) (ho : off = ![o, 0])
    (hb : ∀ a, off a + (![128, C] : Fin 2 → ℕ) a ≤ (⟨2, ![4480, C]⟩ : Shape).size a) (x : Fin 128) (j : Fin C) :
    View.readAt (Elt Ideal) a.view (Rect.unit (s := ⟨2, ![4480, C]⟩) off ![128, C] hb).toLoadRect (h.unread X) (ix2 x j)
      = X (ix2 (⟨o + x, by subst ho; have := hb 0; simp at this; omega⟩ : Fin 4480) j) := by
  subst ho
  rw [h.readAt_unread]
  congr 1
  refine idx2_ext ?_ ?_
  · change o + 1 * (x : ℕ) = o + x; omega
  · change 0 + 1 * (j : ℕ) = j; omega

/-- A read of 128 columns of the only slab of a three-axis buffer. -/
theorem read_cols {sig : RefSig} {κ : Kind} {sp : Space} {R N : ℕ} {e : EltTy} {a : Memref sig κ sp ⟨3, ![1, R, N]⟩ e}
    (h : a.IsWhole) (X : (⟨3, ![1, R, N]⟩ : Shape).Idx → Elt Ideal e) (o : ℕ) (off : Fin 3 → ℕ) (ho : off = ![0, 0, o])
    (hb : ∀ a, off a + (![1, R, 128] : Fin 3 → ℕ) a ≤ (⟨3, ![1, R, N]⟩ : Shape).size a) (d : Fin R) (x : Fin 128) :
    View.readAt (Elt Ideal) a.view (Rect.unit (s := ⟨3, ![1, R, N]⟩) off ![1, R, 128] hb).toLoadRect (h.unread X) (ix3 0 d x)
      = X (ix3 0 d (⟨o + x, by subst ho; have := hb 2; simp at this; omega⟩ : Fin N)) := by
  subst ho
  rw [h.readAt_unread]
  congr 1
  refine idx3_ext ?_ ?_ ?_
  · rfl
  · change 0 + 1 * (d : ℕ) = d; omega
  · change o + 1 * (x : ℕ) = o + x; omega

/-- A read of one row of the only slab of a three-axis buffer. -/
theorem read_row {sig : RefSig} {κ : Kind} {sp : Space} {R : ℕ} {a : Memref sig κ sp ⟨3, ![1, R, 128]⟩ .f32}
    (h : a.IsWhole) (X : (⟨3, ![1, R, 128]⟩ : Shape).Idx → Elt Ideal .f32) (o : ℕ) (off : Fin 3 → ℕ) (ho : off = ![0, o, 0])
    (hb : ∀ a, off a + (![1, 1, 128] : Fin 3 → ℕ) a ≤ (⟨3, ![1, R, 128]⟩ : Shape).size a) (x : Fin 128) :
    View.readAt (Elt Ideal) a.view (Rect.unit (s := ⟨3, ![1, R, 128]⟩) off ![1, 1, 128] hb).toLoadRect (h.unread X) (ix3 0 0 x)
      = X (ix3 0 (⟨o, by subst ho; have := hb 1; simp at this; omega⟩ : Fin R) x) := by
  subst ho
  rw [h.readAt_unread]
  congr 1
  refine idx3_ext ?_ ?_ ?_
  · rfl
  · change o + 1 * 0 = o; omega
  · change 0 + 1 * (x : ℕ) = x; omega

end Cert.Proof.Chunk
end
-- ==== Proof.ChunkReferencePay.lean ====
/-
  The value of the chunk attention's formula, as the reference program computes it: one point, whole arrays.
-/
module

public import proofs.«01_k».proof.Proof.Gen.ChunkRefIdeal.Value
public import proofs.«01_k».proof.Proof.ChunkMath
public import proofs.«01_k».proof.Proof.ChunkTiles
public import Idealize.ShloMosaic.Lib.Pipeline.ValueKit

@[expose] public section

set_option maxRecDepth 16384

noncomputable section
namespace Cert.Proof.ChunkRef
open Idealize.ShloMosaic Idealize.SL.Sem Idealize.ShloMosaic.Pipeline Idealize.ShloMosaic.TcCoe
open Cert.ChunkRefIdeal Cert.ChunkRefIdeal.Gen

variable (v1 v2 : IVec S14x320x320 32) (v21 : FVec Ideal S14x320x4096 .f32) (v32 : FVec Ideal S14x320x320 .f32)
/-- A masked score of a cached token. -/
theorem p2 (q : Vec Ideal S14x320x64 .bf16) (k : Vec Ideal S14x4096x64 .bf16) (s : Vec Ideal S14x1x4096 .f32) (n : Vec Ideal S1x1x1 .i32)
   (h : Fin 14) (i : Fin 320) (t : Fin 4096) : k0_pay2 q k s n (ix3 h i t) = Chunk.seen (IntOp.cmpi .slt (BitVec.ofNat 32 t) (n (ix3 0 0 0))) (∑ e : Fin 64, q (ix3 h i e) * k (ix3 h t e)) (s (ix3 h 0 t)) := by
  dsimp only [Chunk.seen]
  pointwise [k0_pay2]
/-- A score of a new token. -/
theorem p3 (q : Vec Ideal S14x320x64 .bf16) (k : Vec Ideal S14x320x64 .bf16) (s : Vec Ideal S14x1x320 .f32)
   (h : Fin 14) (i : Fin 320) (t : Fin 320) : k0_pay3 q k s (ix3 h i t) = (∑ e : Fin 64, q (ix3 h i e) * k (ix3 h t e)) * ((s (ix3 h 0 t)) * Ideal.ofBits .f32 0x3E000000#32) := by
  pointwise [k0_pay3]
/-- A masked score of a new token. -/
theorem p4 (h : Fin 14) (i : Fin 320) (t : Fin 320) : k0_pay4 v1 v2 v32 (ix3 h i t) = Scalar.select (IntOp.cmpi .sle (v2 (ix3 h i t)) (v1 (ix3 h i t))) (v32 (ix3 h i t) * Ideal.ofBits .f32 0x3FB8AA3B#32) Chunk.unseen := by
  pointwise [k0_pay4]
/-- The larger of two numbers, rounded up. -/
theorem roof (A B : FVec Ideal S14x320 .f32) (h : Fin 14) (i : Fin 320) :
    ceil (maximumf (shapeCast S14x320x1 A shapeCasts_S14x320_S14x320x1) (shapeCast S14x320x1 B shapeCasts_S14x320_S14x320x1)) (ix3 h i 0)
      = Ideal.liftRound Int.ceil (max (A (ix2 h i)) (B (ix2 h i))) := by
  pointwise
/-- The largest score of the cached tokens. -/
theorem topC (v : FVec Ideal S14x320x4096 .f32) (h : Fin 14) (i : Fin 320) :
    multiReduction .maximumf [2] S14x320 v 0xFF800000#32 reduces_S14x320x4096_S14x320 (.inl rfl) rfl (ix2 h i)
      = Chunk.top fun t => v (ix3 h i t) := by
  refine (Ideal.multiReduction_maximumf_single v 0xFF800000#32 reduces_S14x320x4096_S14x320 (.inl rfl) rfl (ix2 h i)).trans ?_
  exact congrArg (Finset.univ.fold max Chunk.unseen) (funext fun t => congrArg v (Chunk.idx3_ext rfl rfl rfl))
/-- The largest score of the new tokens. -/
theorem topN (v : FVec Ideal S14x320x320 .f32) (h : Fin 14) (i : Fin 320) :
    multiReduction .maximumf [2] S14x320 v 0xFF800000#32 reduces_S14x320x320_S14x320 (.inl rfl) rfl (ix2 h i)
      = Chunk.top fun t => v (ix3 h i t) := by
  refine (Ideal.multiReduction_maximumf_single v 0xFF800000#32 reduces_S14x320x320_S14x320 (.inl rfl) rfl (ix2 h i)).trans ?_
  exact congrArg (Finset.univ.fold max Chunk.unseen) (funext fun t => congrArg v (Chunk.idx3_ext rfl rfl rfl))
/-- The roof of a row's scores. -/
theorem p5 (h : Fin 14) (i : Fin 320) : k0_pay5 v1 v2 v21 v32 (ix3 h i 0) = Ideal.liftRound Int.ceil (max (Chunk.top fun t => v21 (ix3 h i t)) (Chunk.top fun t => k0_pay4 v1 v2 v32 (ix3 h i t))) := by
  unfold k0_pay5
  refine (roof _ _ h i).trans ?_
  rw [topC, topN]
/-- The weight of a cached token. -/
theorem p6 (h : Fin 14) (i : Fin 320) (t) : k0_pay6 v1 v2 v21 v32 (ix3 h i t) = FloatOps.exp2 (F := Ideal) (φ := .f32) (v21 (ix3 h i t) - k0_pay5 v1 v2 v21 v32 (ix3 h i 0)) := by
  pointwise [k0_pay6]
/-- The weight of a new token. -/
theorem p7 (h : Fin 14) (i : Fin 320) (t) : k0_pay7 v1 v2 v21 v32 (ix3 h i t) = FloatOps.exp2 (F := Ideal) (φ := .f32) (k0_pay4 v1 v2 v32 (ix3 h i t) - k0_pay5 v1 v2 v21 v32 (ix3 h i 0)) := by
  pointwise [k0_pay7]
/-- The weighted sum of the cached values. -/
theorem p8 (wC : Vec Ideal S14x1x4096 .f32) (vC : Vec Ideal S14x4096x64 .bf16) (wN : Vec Ideal S14x1x320 .f32) (vN : Vec Ideal S14x320x64 .bf16) (h : Fin 14) (i : Fin 320) (d : Fin 64) : k0_pay8 v1 v2 v21 v32 wC vC wN vN (ix3 h i d)
    = (∑ t, k0_pay6 v1 v2 v21 v32 (ix3 h i t) * wC (ix3 h 0 t) * vC (ix3 h t d)) + ∑ t, k0_pay7 v1 v2 v21 v32 (ix3 h i t) * wN (ix3 h 0 t) * vN (ix3 h t d) := by
  pointwise [k0_pay8]
/-- The sum of the weights. -/
theorem p9 (h : Fin 14) (i : Fin 320) (d : Fin 64) : k0_pay9 v1 v2 v21 v32 (ix3 h i d)
    = (∑ t, k0_pay6 v1 v2 v21 v32 (ix3 h i t)) + ∑ t, k0_pay7 v1 v2 v21 v32 (ix3 h i t) := by
  pointwise [k0_pay9]
/-- The axes in the order of the result. -/
theorem p1 (a b : FVec Ideal S14x320x64 .f32) (h : Fin 14) (i : Fin 320) (d : Fin 64) : k0_pay1 a b (ix3 i h d) = Ideal.div (a (ix3 h i d)) (b (ix3 h i d)) := by
  pointwise [k0_pay1]
/-- An entry of what the reference stores. -/
theorem p10 (x0 : Vec Ideal S1x1x1 .i32) (x1 x2 x4 : Vec Ideal S14x320x64 .bf16) (x3 x5 : Vec Ideal S14x1x320 .f32) (x6 x8 : Vec Ideal S14x4096x64 .bf16) (x7 x9 : Vec Ideal S14x1x4096 .f32) (h : Fin 14) (i : Fin 320) (d : Fin 64) :
    k0_pay1 (k0_pay8 (k0_pay10 x0 x1 x2 x3 x4 x5 x6 x7 x8 x9) (k0_pay11 x0 x1 x2 x3 x4 x5 x6 x7 x8 x9) (k0_pay12 x0 x1 x2 x3 x4 x5 x6 x7 x8 x9) (k0_pay13 x0 x1 x2 x3 x4 x5 x6 x7 x8 x9) x9 x8 x5 x4)
      (k0_pay9 (k0_pay10 x0 x1 x2 x3 x4 x5 x6 x7 x8 x9) (k0_pay11 x0 x1 x2 x3 x4 x5 x6 x7 x8 x9) (k0_pay12 x0 x1 x2 x3 x4 x5 x6 x7 x8 x9) (k0_pay13 x0 x1 x2 x3 x4 x5 x6 x7 x8 x9)) (ix3 i h d)
    = Chunk.attend (fun t => Chunk.seen (IntOp.cmpi .slt (BitVec.ofNat 32 t) (x0 (ix3 0 0 0))) (∑ e : Fin 64, x1 (ix3 h i e) * x6 (ix3 h t e)) (x7 (ix3 h 0 t)))
        (fun u => Chunk.seen (IntOp.cmpi .sle (BitVec.ofNat 32 u) (BitVec.ofNat 32 i)) (∑ e : Fin 64, x1 (ix3 h i e) * x2 (ix3 h u e)) (x3 (ix3 h 0 u)))
        (fun t => x9 (ix3 h 0 t)) (fun t => x8 (ix3 h t d)) (fun u => x5 (ix3 h 0 u)) (fun u => x4 (ix3 h u d)) := by
  have e2 : ∀ t, k0_pay12 x0 x1 x2 x3 x4 x5 x6 x7 x8 x9 (ix3 h i t) = Chunk.seen (IntOp.cmpi .slt (BitVec.ofNat 32 t) (x0 (ix3 0 0 0))) (∑ e : Fin 64, x1 (ix3 h i e) * x6 (ix3 h t e)) (x7 (ix3 h 0 t)) := by
    intro t
    unfold k0_pay12
    frame_out
    exact p2 x1 x6 x7 x0 h i t
  have e3 : ∀ u, k0_pay4 (k0_pay10 x0 x1 x2 x3 x4 x5 x6 x7 x8 x9) (k0_pay11 x0 x1 x2 x3 x4 x5 x6 x7 x8 x9) (k0_pay13 x0 x1 x2 x3 x4 x5 x6 x7 x8 x9) (ix3 h i u) = Chunk.seen (IntOp.cmpi .sle (BitVec.ofNat 32 u) (BitVec.ofNat 32 i)) (∑ e : Fin 64, x1 (ix3 h i e) * x2 (ix3 h u e)) (x3 (ix3 h 0 u)) := by
    intro u
    rw [p4]
    have e4 : k0_pay13 x0 x1 x2 x3 x4 x5 x6 x7 x8 x9 (ix3 h i u) = (∑ e : Fin 64, x1 (ix3 h i e) * x2 (ix3 h u e)) * (x3 (ix3 h 0 u) * Ideal.ofBits .f32 0x3E000000#32) := by
      unfold k0_pay13
      frame_out
      exact p3 x1 x2 x3 h i u
    have e5 : k0_pay11 x0 x1 x2 x3 x4 x5 x6 x7 x8 x9 (ix3 h i u) = BitVec.ofNat 32 u := by
      unfold k0_pay11; pointwise
    have e6 : k0_pay10 x0 x1 x2 x3 x4 x5 x6 x7 x8 x9 (ix3 h i u) = BitVec.ofNat 32 i := by
      unfold k0_pay10; pointwise
    rw [e4, e5, e6]
    rfl
  rw [p1, p8, p9]
  simp only [p6, p7, p5, e2, e3]
  rfl

end Cert.Proof.ChunkRef
end
-- ==== Proof.ChunkReference.lean ====
/-
  The value of the chunk attention's formula, as the reference program computes it: one point, whole arrays.
-/
module

public import proofs.«01_k».proof.Proof.Gen.ChunkRefIdeal.Value
public import proofs.«01_k».proof.Proof.ChunkMath
public import proofs.«01_k».proof.Proof.ChunkTiles
public import proofs.«01_k».proof.Proof.ChunkReferencePay
public import Idealize.ShloMosaic.Lib.Pipeline.ValueKit

@[expose] public section

set_option maxRecDepth 16384

noncomputable section
namespace Cert.Proof.ChunkRef
open Idealize.ShloMosaic Idealize.SL.Sem Idealize.ShloMosaic.Pipeline Idealize.ShloMosaic.TcCoe
open Cert.ChunkRefIdeal Cert.ChunkRefIdeal.Gen

/-- Attention of the arrays as the reference lays them out. -/
theorem attend_entry (n : Vec Ideal ⟨1, ![1]⟩ .i32) (q : Vec Ideal ⟨2, ![896, 336]⟩ .bf16)
    (kc vc : Vec Ideal ⟨3, ![2, 64, 4096]⟩ .bf16) (kcs vcs : Vec Ideal ⟨3, ![2, 32, 128]⟩ .f32)
    (kn : Vec Ideal ⟨2, ![128, 336]⟩ .bf16) (kns : Vec Ideal ⟨2, ![2, 336]⟩ .f32)
    (vn : Vec Ideal ⟨2, ![128, 336]⟩ .bf16) (vns : Vec Ideal ⟨2, ![2, 336]⟩ .f32)
    (x0 : Vec Ideal S1x1x1 .i32) (x1 x2 x4 : Vec Ideal S14x320x64 .bf16) (x3 x5 : Vec Ideal S14x1x320 .f32)
    (x6 x8 : Vec Ideal S14x4096x64 .bf16) (x7 x9 : Vec Ideal S14x1x4096 .f32)
    (e0 : x0 (ix3 0 0 0) = n (ix1 0))
    (e1 : ∀ (h : Fin 14) (i : Fin 320) (d : Fin 64), x1 (ix3 h i d) = q (ix2 ⟨h * 64 + d, by omega⟩ ⟨i, by omega⟩))
    (e2 : ∀ (h : Fin 14) (i : Fin 320) (d : Fin 64), x2 (ix3 h i d) = kn (ix2 ⟨h / 7 * 64 + d, by omega⟩ ⟨i, by omega⟩))
    (e3 : ∀ (h : Fin 14) (i : Fin 320), x3 (ix3 h 0 i) = kns (ix2 ⟨h / 7, by omega⟩ ⟨i, by omega⟩))
    (e4 : ∀ (h : Fin 14) (i : Fin 320) (d : Fin 64), x4 (ix3 h i d) = vn (ix2 ⟨h / 7 * 64 + d, by omega⟩ ⟨i, by omega⟩))
    (e5 : ∀ (h : Fin 14) (i : Fin 320), x5 (ix3 h 0 i) = vns (ix2 ⟨h / 7, by omega⟩ ⟨i, by omega⟩))
    (e6 : ∀ (h : Fin 14) (t : Fin 4096) (d : Fin 64), x6 (ix3 h t d) = kc (ix3 ⟨h / 7, by omega⟩ d ⟨t % 32 * 128 + t / 32, by omega⟩))
    (e7 : ∀ (h : Fin 14) (t : Fin 4096), x7 (ix3 h 0 t) = kcs (ix3 ⟨h / 7, by omega⟩ ⟨t % 32, by omega⟩ ⟨t / 32, by omega⟩))
    (e8 : ∀ (h : Fin 14) (t : Fin 4096) (d : Fin 64), x8 (ix3 h t d) = vc (ix3 ⟨h / 7, by omega⟩ d ⟨t % 32 * 128 + t / 32, by omega⟩))
    (e9 : ∀ (h : Fin 14) (t : Fin 4096), x9 (ix3 h 0 t) = vcs (ix3 ⟨h / 7, by omega⟩ ⟨t % 32, by omega⟩ ⟨t / 32, by omega⟩))
    (h : Fin 14) (i : Fin 320) (d : Fin 64) :
    Chunk.attend (fun t => Chunk.seen (IntOp.cmpi .slt (BitVec.ofNat 32 t) (x0 (ix3 0 0 0))) (∑ e : Fin 64, x1 (ix3 h i e) * x6 (ix3 h t e)) (x7 (ix3 h 0 t)))
        (fun u => Chunk.seen (IntOp.cmpi .sle (BitVec.ofNat 32 u) (BitVec.ofNat 32 i)) (∑ e : Fin 64, x1 (ix3 h i e) * x2 (ix3 h u e)) (x3 (ix3 h 0 u)))
        (fun t => x9 (ix3 h 0 t)) (fun t => x8 (ix3 h t d)) (fun u => x5 (ix3 h 0 u)) (fun u => x4 (ix3 h u d))
      = Chunk.call n q kc vc kcs vcs kn kns vn vns (ix3 i h d) := by
  simp only [e0, e1, e2, e3, e4, e5, e6, e7, e8, e9]
  rfl

variable (m : (ℓ : Loc nD τ sig) → Buf (Elt Ideal) ℓ) (c : Dev nD)

/-- The cached length as the reference holds it. -/
theorem v0  :
    V m c main_v0 (ix3 0 0 0) = m (c.tc.loc main_arg0) (ix1 0) := by
  entry_read; pointwise; blk_ext

/-- An entry of the reference's queries. -/
theorem v3 (h : Fin 14) (i : Fin 320) (d : Fin 64) :
    V m c main_v3 (ix3 h i d) = m (c.tc.loc main_arg1) (ix2 ⟨h * 64 + d, by omega⟩ ⟨i, by omega⟩) := by
  entry_read; pointwise; blk_ext

/-- An entry of the reference's new keys. -/
theorem v8 (h : Fin 14) (i : Fin 320) (d : Fin 64) :
    V m c main_v8 (ix3 h i d) = m (c.tc.loc main_arg6) (ix2 ⟨h / 7 * 64 + d, by omega⟩ ⟨i, by omega⟩) := by
  entry_read; pointwise; blk_ext

/-- An entry of the reference's new values. -/
theorem v17 (h : Fin 14) (i : Fin 320) (d : Fin 64) :
    V m c main_v17 (ix3 h i d) = m (c.tc.loc main_arg8) (ix2 ⟨h / 7 * 64 + d, by omega⟩ ⟨i, by omega⟩) := by
  entry_read; pointwise; blk_ext

/-- An entry of the reference's new keys' scales. -/
theorem v12 (h : Fin 14) (i : Fin 320) :
    V m c main_v12 (ix3 h 0 i) = m (c.tc.loc main_arg7) (ix2 ⟨h / 7, by omega⟩ ⟨i, by omega⟩) := by
  entry_read; pointwise; blk_ext

/-- An entry of the reference's new values' scales. -/
theorem v21 (h : Fin 14) (i : Fin 320) :
    V m c main_v21 (ix3 h 0 i) = m (c.tc.loc main_arg9) (ix2 ⟨h / 7, by omega⟩ ⟨i, by omega⟩) := by
  entry_read; pointwise; blk_ext

/-- An entry of the reference's cached keys. -/
theorem v26 (h : Fin 14) (t : Fin 4096) (d : Fin 64) :
    V m c main_v26 (ix3 h t d) = m (c.tc.loc main_arg2)
      (ix3 ⟨h / 7, by omega⟩ d ⟨t % 32 * 128 + t / 32, by omega⟩) := by
  entry_read; pointwise; blk_ext

/-- An entry of the reference's cached values. -/
theorem v35 (h : Fin 14) (t : Fin 4096) (d : Fin 64) :
    V m c main_v35 (ix3 h t d) = m (c.tc.loc main_arg3)
      (ix3 ⟨h / 7, by omega⟩ d ⟨t % 32 * 128 + t / 32, by omega⟩) := by
  entry_read; pointwise; blk_ext

/-- An entry of the reference's cached keys' scales. -/
theorem v30 (h : Fin 14) (t : Fin 4096) :
    V m c main_v30 (ix3 h 0 t) = m (c.tc.loc main_arg4)
      (ix3 ⟨h / 7, by omega⟩ ⟨t % 32, by omega⟩ ⟨t / 32, by omega⟩) := by
  entry_read; pointwise; blk_ext

/-- An entry of the reference's cached values' scales. -/
theorem v39 (h : Fin 14) (t : Fin 4096) :
    V m c main_v39 (ix3 h 0 t) = m (c.tc.loc main_arg5)
      (ix3 ⟨h / 7, by omega⟩ ⟨t % 32, by omega⟩ ⟨t / 32, by omega⟩) := by
  entry_read; pointwise; blk_ext

/-- Every window of the reference is its whole array. -/
theorem idx : ∀ t : Fin grid0.N, (win0_0.index t = ![0, 0, 0] ∧ win0_1.index t = ![0, 0, 0]
    ∧ win0_2.index t = ![0, 0, 0] ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, 0, 0] ∧ win0_10.index t = ![0, 0, 0]) := by decide +kernel

/-- Window 0 of the reference holds its whole array. -/
theorem blk0 (t : Fin grid0.N) : iblk m c 0 t = V m c main_v0 := by
  blk_ext! [iblk, idx t]

/-- Window 1 of the reference holds its whole array. -/
theorem blk1 (t : Fin grid0.N) : iblk m c 1 t = V m c main_v3 := by
  blk_ext! [iblk, idx t]

/-- Window 2 of the reference holds its whole array. -/
theorem blk2 (t : Fin grid0.N) : iblk m c 2 t = V m c main_v8 := by
  blk_ext! [iblk, idx t]

/-- Window 3 of the reference holds its whole array. -/
theorem blk3 (t : Fin grid0.N) : iblk m c 3 t = V m c main_v12 := by
  blk_ext! [iblk, idx t]

/-- Window 4 of the reference holds its whole array. -/
theorem blk4 (t : Fin grid0.N) : iblk m c 4 t = V m c main_v17 := by
  blk_ext! [iblk, idx t]

/-- Window 5 of the reference holds its whole array. -/
theorem blk5 (t : Fin grid0.N) : iblk m c 5 t = V m c main_v21 := by
  blk_ext! [iblk, idx t]

/-- Window 6 of the reference holds its whole array. -/
theorem blk6 (t : Fin grid0.N) : iblk m c 6 t = V m c main_v26 := by
  blk_ext! [iblk, idx t]

/-- Window 7 of the reference holds its whole array. -/
theorem blk7 (t : Fin grid0.N) : iblk m c 7 t = V m c main_v30 := by
  blk_ext! [iblk, idx t]

/-- Window 8 of the reference holds its whole array. -/
theorem blk8 (t : Fin grid0.N) : iblk m c 8 t = V m c main_v35 := by
  blk_ext! [iblk, idx t]

/-- Window 9 of the reference holds its whole array. -/
theorem blk9 (t : Fin grid0.N) : iblk m c 9 t = V m c main_v39 := by
  blk_ext! [iblk, idx t]

set_option maxHeartbeats 2000000 in
/-- The reference program computes the formula. -/
theorem result : (dats m 0 c).arrAt 10 cfg0.N
    = Chunk.call (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (m (c.tc.loc main_arg9)) := by
  refine (dats m 0 c).arrAt_eq_of_covers 10 _ (by decide +kernel) fun t hf y => ?_
  blk_simp
  rw [after0_10]
  frame_out
  rw [blk0, blk1, blk2, blk3, blk4, blk5, blk6, blk7, blk8, blk9]
  obtain ⟨i, h, d, rfl⟩ : ∃ i h d, y = (ix3 i h d : S320x14x64.Idx) := ⟨y 0, y 1, y 2, by blk_ext!⟩
  refine (p10 ..).trans ?_
  have e : ((View.whole main_v40).slice (win0_10.rect t)).emb (ix3 i h d : S320x14x64.Idx) = (ix3 i h d : S320x14x64.Idx) := by
    have i10 : win0_10.index t = ![0, 0, 0] := (idx t).2.2.2.2.2.2.2.2.2.2
    blk_ext! [i10]
  refine Eq.trans ?_ (congrArg _ e).symm
  exact attend_entry _ _ _ _ _ _ _ _ _ _ _ _ _ _ _ _ _ _ _ _ (v0 m c) (v3 m c) (v8 m c) (v12 m c) (v17 m c) (v21 m c) (v26 m c) (v30 m c) (v35 m c) (v39 m c) h i d
end Cert.Proof.ChunkRef
end
-- ==== Proof.ChunkIdealFromA.lean ====
/-
  The first step of a head, in the ideal form of the attention program: the run of its lines with the earlier contents of the scratch
  buffers as parameters.
-/
module

public import proofs.«01_k».proof.Proof.Gen.ChunkIdeal.Frame.Runs

@[expose] public section

-- membership in a rectangle of production extents (`View.cover_of_tiled`): the elaborator's structural look
-- recurses once per coordinate of the long axes
set_option maxRecDepth 16384

noncomputable section

namespace Cert.ChunkIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in case A, from given contents of the scratch buffers it does not yet know: the pieces it
    leaves in the output's staging memref and in the two scale scratches, with the proof. -/
noncomputable def runFrom_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 : BufTy.Contents (Elt F) arg13.view.ty) (fs1 : BufTy.Contents (Elt F) arg14.view.ty) (fs2 : BufTy.Contents (Elt F) arg15.view.ty) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (arg13.view.loc (c : Thread nD τ) ↦[arg13.view.set]{fullShare} fs0) ∗ (arg14.view.loc (c : Thread nD τ) ↦[arg14.view.set]{fullShare} fs1) ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_chunk_eq_skeleton]; unfold cc0_chunk_skel
    simp only [k0_part2_eq_skeleton, k0_part3_eq_skeleton, k0_part4_eq_skeleton, k0_part5_eq_skeleton]
    unfold k0_part2_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HS0, HS1, HS2, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]; · iexists _; iexact HS0
    isplitl [HS1]; · iexists _; iexact HS1
    isplitl [HS2]
    · iexists _, _; isplitr; swap; · iexact HS2
      ipureintro; rfl
    iexact HT0

end Cert.ChunkIdeal.Gen

end
-- ==== Proof.ChunkIdealFromB.lean ====
/-
  A later step of a head, in the ideal form of the attention program: the run of its lines with the earlier contents of the scratch
  buffers as parameters.
-/
module

public import proofs.«01_k».proof.Proof.Gen.ChunkIdeal.Frame.Runs

@[expose] public section

-- membership in a rectangle of production extents (`View.cover_of_tiled`): the elaborator's structural look
-- recurses once per coordinate of the long axes
set_option maxRecDepth 16384

noncomputable section

namespace Cert.ChunkIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in case B, from given contents of the scratch buffers it does not yet know: the pieces it
    leaves in the output's staging memref and in the two scale scratches, with the proof. -/
noncomputable def runFrom_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 : BufTy.Contents (Elt F) arg15.view.ty) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, [], [], fun E K => ?run⟩
  case run =>
    simp only [cc0_chunk_eq_skeleton]; unfold cc0_chunk_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, HS2, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs0; obtain rfl := harg14.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _; isplitr; · ipureintro; exact harg13.read_unread _
      iexact HS0
    isplitl [HS1]
    · iexists _; isplitr; · ipureintro; exact harg14.read_unread _
      iexact HS1
    isplitl [HS2]
    · iexists _, _; isplitr; swap; · iexact HS2
      ipureintro; rfl
    iexact HT0

end Cert.ChunkIdeal.Gen

end
-- ==== Proof.ChunkBlock.lean ====
/-
  What one grid step of the chunk's attention stores, as one function of its blocks and of the two buffers of scales,
  in the form both kinds of step share.
-/
module

public import proofs.«01_k».proof.Proof.ChunkIdealFromA
public import proofs.«01_k».proof.Proof.ChunkIdealFromB
public import proofs.«01_k».proof.Proof.ChunkTiles

@[expose] public section

set_option maxRecDepth 16384

noncomputable section
namespace Cert.ChunkIdeal.Gen
open Idealize.ShloMosaic Idealize.ShloMosaic.TcCoe Idealize.ShloMosaic.Tactic Idealize.SL Idealize.SL.Sem Idealize.ShloMosaic.Pipeline

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32)

/-- The cached length. -/
def cached : Elt Ideal .i32 := runFrom_B.sl.r c xt0

/-- The loop over the cached tiles' scores. -/
def scores (k : ℕ) := st_k0_t2 Variants.none c none i tbM0_0 htbM0_0 a3 h3 a4 h4 a5 h5 a6 h6 a7 h7 a8 h8 a9 h9 a10 h10 a11 h11 a12 h12 a13 h13 a14 h14 a15 h15 (cached c xt0) (runFrom_B.sl.r_1 c a3 h3 x0)
  runFrom_B.sl.v6 (k0_pay12 i) (k0_pay13 i) (k0_pay14 i) (1920#32) (h4.unread x1) (h13.unread K) k0_pay16 k

/-- The chunk's rows of each column. -/
def rows : IVec S128x256 32 := k0_pay15 (k0_pay12 i) (k0_pay13 i) (k0_pay14 i) 1920#32

/-- A tile of new keys. -/
def newK0 := View.readAt (Elt Ideal) a8.view (Rect.unit (s := S1x64x384) ![0, 0, 0] S1x64x128.size inb_S1x64x384_S1x64x128_0_0_0).toLoadRect (h8.unread x5)
def newK1 := View.readAt (Elt Ideal) a8.view (Rect.unit (s := S1x64x384) ![0, 0, 128] S1x64x128.size inb_S1x64x384_S1x64x128_0_0_128).toLoadRect (h8.unread x5)
def newK2 := View.readAt (Elt Ideal) a8.view (Rect.unit (s := S1x64x384) ![0, 0, 256] S1x64x128.size inb_S1x64x384_S1x64x128_0_0_256).toLoadRect (h8.unread x5)
/-- A tile of new values. -/
def newV0 := View.readAt (Elt Ideal) a9.view (Rect.unit (s := S1x64x384) ![0, 0, 0] S1x64x128.size inb_S1x64x384_S1x64x128_0_0_0).toLoadRect (h9.unread x6)
def newV1 := View.readAt (Elt Ideal) a9.view (Rect.unit (s := S1x64x384) ![0, 0, 128] S1x64x128.size inb_S1x64x384_S1x64x128_0_0_128).toLoadRect (h9.unread x6)
def newV2 := View.readAt (Elt Ideal) a9.view (Rect.unit (s := S1x64x384) ![0, 0, 256] S1x64x128.size inb_S1x64x384_S1x64x128_0_0_256).toLoadRect (h9.unread x6)
/-- A tile of the new keys' scales. -/
def scale0 := View.readAt (Elt Ideal) a13.view (Rect.unit (s := S4480x128) ![4096, 0] S128x128.size inb_S4480x128_S128x128_4096_0).toLoadRect (h13.unread K)
def scale1 := View.readAt (Elt Ideal) a13.view (Rect.unit (s := S4480x128) ![4224, 0] S128x128.size inb_S4480x128_S128x128_4224_0).toLoadRect (h13.unread K)
def scale2 := View.readAt (Elt Ideal) a13.view (Rect.unit (s := S4480x128) ![4352, 0] S128x128.size inb_S4480x128_S128x128_4352_0).toLoadRect (h13.unread K)
/-- A tile of the new values' scales. -/
def weight0 := View.readAt (Elt Ideal) a14.view (Rect.unit (s := S4480x128) ![4096, 0] S128x128.size inb_S4480x128_S128x128_4096_0).toLoadRect (h14.unread W)
def weight1 := View.readAt (Elt Ideal) a14.view (Rect.unit (s := S4480x128) ![4224, 0] S128x128.size inb_S4480x128_S128x128_4224_0).toLoadRect (h14.unread W)
def weight2 := View.readAt (Elt Ideal) a14.view (Rect.unit (s := S4480x128) ![4352, 0] S128x128.size inb_S4480x128_S128x128_4352_0).toLoadRect (h14.unread W)

/-- All the scores, as they are stored: the tiles of the new rows after those of the cached ones. -/
def stored : List (View.Piece (Elt Ideal) S4480x256 .f32) :=
  ⟨Rect.unit (s := S4480x256) ![4352, 0] S128x256.size inb_S4480x256_S128x256_4352_0, k0_pay28 (runFrom_B.sl.r_1 c a3 h3 x0) runFrom_B.sl.v6 (rows i) (newK2 a8 h8 x5) (scale2 a13 h13 K)⟩
  :: ⟨Rect.unit (s := S4480x256) ![4224, 0] S128x256.size inb_S4480x256_S128x256_4224_0, k0_pay26 (rows i) (k0_pay23 (runFrom_B.sl.r_1 c a3 h3 x0) (newK1 a8 h8 x5)) (k0_pay24 runFrom_B.sl.v6) (scale1 a13 h13 K)⟩
  :: ⟨Rect.unit (s := S4480x256) ![4096, 0] S128x256.size inb_S4480x256_S128x256_4096_0, k0_pay21 (runFrom_B.sl.r_1 c a3 h3 x0) runFrom_B.sl.v6 (k0_pay12 i) (k0_pay13 i) (k0_pay14 i) (1920#32) (newK0 a8 h8 x5) (scale0 a13 h13 K)⟩
  :: (scores c i a3 h3 a4 h4 a5 h5 a6 h6 a7 h7 a8 h8 a9 h9 a10 h10 a11 h11 a12 h12 a13 h13 a14 h14 a15 h15 x0 x1 xt0 K 32).2

/-- The columns' largest scores, rounded up. -/
def ceiling : FVec Ideal S1x256 .f32 :=
  k0_pay29 (runFrom_B.sl.r_1 c a3 h3 x0) runFrom_B.sl.v6 (rows i)
    (k0_pay22 (runFrom_B.sl.r_1 c a3 h3 x0) runFrom_B.sl.v6 (k0_pay12 i) (k0_pay13 i) (k0_pay14 i) (1920#32)
      (scores c i a3 h3 a4 h4 a5 h5 a6 h6 a7 h7 a8 h8 a9 h9 a10 h10 a11 h11 a12 h12 a13 h13 a14 h14 a15 h15 x0 x1 xt0 K 32).1 (newK0 a8 h8 x5) (scale0 a13 h13 K))
    (k0_pay23 (runFrom_B.sl.r_1 c a3 h3 x0) (newK1 a8 h8 x5)) (k0_pay24 runFrom_B.sl.v6)
    (scale1 a13 h13 K) (newK2 a8 h8 x5) (scale2 a13 h13 K)

/-- The contents of the buffer of scores. -/
def board : Vec Ideal S4480x256 .f32 := View.canon (stored c i a3 h3 a4 h4 a5 h5 a6 h6 a7 h7 a8 h8 a9 h9 a10 h10 a11 h11 a12 h12 a13 h13 a14 h14 a15 h15 x0 x1 x5 xt0 K)

/-- A tile of the new rows' scores, read back. -/
def tile0 := View.readAt (Elt Ideal) a15.view (Rect.unit (s := S4480x256) ![4096, 0] S128x256.size inb_S4480x256_S128x256_4096_0).toLoadRect (h15.unread (board c i a3 h3 a4 h4 a5 h5 a6 h6 a7 h7 a8 h8 a9 h9 a10 h10 a11 h11 a12 h12 a13 h13 a14 h14 a15 h15 x0 x1 x5 xt0 K))
def tile1 := View.readAt (Elt Ideal) a15.view (Rect.unit (s := S4480x256) ![4224, 0] S128x256.size inb_S4480x256_S128x256_4224_0).toLoadRect (h15.unread (board c i a3 h3 a4 h4 a5 h5 a6 h6 a7 h7 a8 h8 a9 h9 a10 h10 a11 h11 a12 h12 a13 h13 a14 h14 a15 h15 x0 x1 x5 xt0 K))
def tile2 := View.readAt (Elt Ideal) a15.view (Rect.unit (s := S4480x256) ![4352, 0] S128x256.size inb_S4480x256_S128x256_4352_0).toLoadRect (h15.unread (board c i a3 h3 a4 h4 a5 h5 a6 h6 a7 h7 a8 h8 a9 h9 a10 h10 a11 h11 a12 h12 a13 h13 a14 h14 a15 h15 x0 x1 x5 xt0 K))

/-- The loop over the cached tiles' weights and values. -/
def weighed (k : ℕ) := st_k0_t3 Variants.none c none i tbM0_0 htbM0_0 a3 h3 a4 h4 a5 h5 a6 h6 a7 h7 a8 h8 a9 h9 a10 h10 a11 h11 a12 h12 a13 h13 a14 h14 a15 h15 (ceiling c i a3 h3 a4 h4 a5 h5 a6 h6 a7 h7 a8 h8 a9 h9 a10 h10 a11 h11 a12 h12 a13 h13 a14 h14 a15 h15 x0 x1 x5 xt0 K) k0_pay30 (h5.unread x2)
  (h14.unread W) (h15.unread (board c i a3 h3 a4 h4 a5 h5 a6 h6 a7 h7 a8 h8 a9 h9 a10 h10 a11 h11 a12 h12 a13 h13 a14 h14 a15 h15 x0 x1 x5 xt0 K)) (k0_pay30, k0_pay31) k

/-- The block the step stores. -/
def blockVal : FVec Ideal S1x64x256 .bf16 :=
  k0_pay1 (ceiling c i a3 h3 a4 h4 a5 h5 a6 h6 a7 h7 a8 h8 a9 h9 a10 h10 a11 h11 a12 h12 a13 h13 a14 h14 a15 h15 x0 x1 x5 xt0 K)
    (k0_pay37 (ceiling c i a3 h3 a4 h4 a5 h5 a6 h6 a7 h7 a8 h8 a9 h9 a10 h10 a11 h11 a12 h12 a13 h13 a14 h14 a15 h15 x0 x1 x5 xt0 K) (weighed c i a3 h3 a4 h4 a5 h5 a6 h6 a7 h7 a8 h8 a9 h9 a10 h10 a11 h11 a12 h12 a13 h13 a14 h14 a15 h15 x0 x1 x2 x5 xt0 K W 32).1
      (tile0 c i a3 h3 a4 h4 a5 h5 a6 h6 a7 h7 a8 h8 a9 h9 a10 h10 a11 h11 a12 h12 a13 h13 a14 h14 a15 h15 x0 x1 x5 xt0 K) (tile1 c i a3 h3 a4 h4 a5 h5 a6 h6 a7 h7 a8 h8 a9 h9 a10 h10 a11 h11 a12 h12 a13 h13 a14 h14 a15 h15 x0 x1 x5 xt0 K))
    (k0_pay38 (ceiling c i a3 h3 a4 h4 a5 h5 a6 h6 a7 h7 a8 h8 a9 h9 a10 h10 a11 h11 a12 h12 a13 h13 a14 h14 a15 h15 x0 x1 x5 xt0 K) (weighed c i a3 h3 a4 h4 a5 h5 a6 h6 a7 h7 a8 h8 a9 h9 a10 h10 a11 h11 a12 h12 a13 h13 a14 h14 a15 h15 x0 x1 x2 x5 xt0 K W 32).2
      (newV0 a9 h9 x6) (tile0 c i a3 h3 a4 h4 a5 h5 a6 h6 a7 h7 a8 h8 a9 h9 a10 h10 a11 h11 a12 h12 a13 h13 a14 h14 a15 h15 x0 x1 x5 xt0 K) (weight0 a14 h14 W) (newV1 a9 h9 x6)
      (tile1 c i a3 h3 a4 h4 a5 h5 a6 h6 a7 h7 a8 h8 a9 h9 a10 h10 a11 h11 a12 h12 a13 h13 a14 h14 a15 h15 x0 x1 x5 xt0 K) (weight1 a14 h14 W))
    (newV2 a9 h9 x6) (tile2 c i a3 h3 a4 h4 a5 h5 a6 h6 a7 h7 a8 h8 a9 h9 a10 h10 a11 h11 a12 h12 a13 h13 a14 h14 a15 h15 x0 x1 x5 xt0 K) (weight2 a14 h14 W)

set_option maxHeartbeats 1000000 in
/-- A step that finds the scales in their buffers stores that block. -/
theorem block_B (hc0 : ¬cond0_0 i) (fs2) :
    (runFrom_B (F := Ideal) c i a3 h3 a4 h4 a5 h5 a6 h6 a7 h7 a8 h8 a9 h9 a10 h10 a11 h11 a12 h12 a13 h13 a14 h14 a15 h15 hc0 x0 x1 x2 x3 x4 x5 x6 x7 x8 xt0 K W fs2).1
      = [⟨Rect.unit (s := S1x64x256) ![0, 0, 0] S1x64x256.size inb_S1x64x256_S1x64x256_0_0_0, blockVal c i a3 h3 a4 h4 a5 h5 a6 h6 a7 h7 a8 h8 a9 h9 a10 h10 a11 h11 a12 h12 a13 h13 a14 h14 a15 h15 x0 x1 x2 x5 x6 xt0 K W⟩] := by
  unfold runFrom_B
  dsimp only
  unfold runFrom_B.sl.r_7 runFrom_B.sl.r_6 runFrom_B.sl.v145 runFrom_B.sl.v130 runFrom_B.sl.v115
  rw [Cert.Proof.Chunk.writes_unread h15 fs2, Cert.Proof.Chunk.readCov_unread h15, Cert.Proof.Chunk.readCov_unread h15, Cert.Proof.Chunk.readCov_unread h15]
  · rfl
  all_goals exact fun y => View.cover_of_tiledL (s := S4480x256) _ S128x256.size (by sl_kernel_rfl) y

/-- What the first step of a head leaves in the buffer of key scales. -/
def keyScales (hc0 : cond0_0 i) : List (View.Piece (Elt Ideal) S4480x128 .f32) :=
  (⟨Rect.unit (s := S4480x128) ![4352, 0] ![128, 128] inb_S4480x128_S128x128_4352_0, k0_pay9 (View.readAt (Elt Ideal) a10.view (Rect.unit (s := S1x1x384) ![0, 0, 256] ![1, 1, 128] inb_S1x1x384_S1x1x128_0_0_256).toLoadRect (h10.unread x7))⟩ :: ⟨Rect.unit (s := S4480x128) ![4224, 0] S128x128.size inb_S4480x128_S128x128_4224_0, k0_pay6 (View.readAt (Elt Ideal) a10.view (Rect.unit (s := S1x1x384) ![0, 0, 128] S1x1x128.size inb_S1x1x384_S1x1x128_0_0_128).toLoadRect (h10.unread x7))⟩ :: ⟨Rect.unit (s := S4480x128) ![4096, 0] S128x128.size inb_S4480x128_S128x128_4096_0, k0_pay4 (View.readAt (Elt Ideal) a10.view (Rect.unit (s := S1x1x384) ![0, 0, 0] S1x1x128.size inb_S1x1x384_S1x1x128_0_0_0).toLoadRect (h10.unread x7))⟩ :: (pb_k0_t1 Variants.none c none i tbM0_0 htbM0_0 a3 h3 a4 h4 a5 h5 a6 h6 a7 h7 a8 h8 a9 h9 a10 h10 a11 h11 a12 h12 a13 h13 a14 h14 a15 h15 hc0 (h6.unread x3) (h7.unread x4) (Scf.trips k0_t1_loop.lb k0_t1_loop.ub k0_t1_loop.st)).1)

/-- What it leaves in the buffer of value scales. -/
def valueScales (hc0 : cond0_0 i) : List (View.Piece (Elt Ideal) S4480x128 .f32) :=
  (⟨Rect.unit (s := S4480x128) ![4352, 0] ![128, 128] inb_S4480x128_S128x128_4352_0, k0_pay10 (View.readAt (Elt Ideal) a11.view (Rect.unit (s := S1x1x384) ![0, 0, 256] ![1, 1, 128] inb_S1x1x384_S1x1x128_0_0_256).toLoadRect (h11.unread x8))⟩ :: ⟨Rect.unit (s := S4480x128) ![4224, 0] ![128, 128] inb_S4480x128_S128x128_4224_0, k0_pay8 (runFrom_A.sl.r c a11 h11 x8)⟩ :: ⟨Rect.unit (s := S4480x128) ![4096, 0] S128x128.size inb_S4480x128_S128x128_4096_0, k0_pay5 (View.readAt (Elt Ideal) a11.view (Rect.unit (s := S1x1x384) ![0, 0, 0] S1x1x128.size inb_S1x1x384_S1x1x128_0_0_0).toLoadRect (h11.unread x8))⟩ :: (pb_k0_t1 Variants.none c none i tbM0_0 htbM0_0 a3 h3 a4 h4 a5 h5 a6 h6 a7 h7 a8 h8 a9 h9 a10 h10 a11 h11 a12 h12 a13 h13 a14 h14 a15 h15 hc0 (h6.unread x3) (h7.unread x4) (Scf.trips k0_t1_loop.lb k0_t1_loop.ub k0_t1_loop.st)).2)

set_option maxHeartbeats 1000000 in
/-- What a head's first step writes into its two buffers of scales. -/
theorem scales_A (hc0 : cond0_0 i) (fs0 fs1 fs2) :
    (runFrom_A (F := Ideal) c i a3 h3 a4 h4 a5 h5 a6 h6 a7 h7 a8 h8 a9 h9 a10 h10 a11 h11 a12 h12 a13 h13 a14 h14 a15 h15 hc0 x0 x1 x2 x3 x4 x5 x6 x7 x8 xt0 fs0 fs1 fs2).2.1 = keyScales c i a3 h3 a4 h4 a5 h5 a6 h6 a7 h7 a8 h8 a9 h9 a10 h10 a11 h11 a12 h12 a13 h13 a14 h14 a15 h15 x3 x4 x7 hc0
    ∧ (runFrom_A (F := Ideal) c i a3 h3 a4 h4 a5 h5 a6 h6 a7 h7 a8 h8 a9 h9 a10 h10 a11 h11 a12 h12 a13 h13 a14 h14 a15 h15 hc0 x0 x1 x2 x3 x4 x5 x6 x7 x8 xt0 fs0 fs1 fs2).2.2.1 = valueScales c i a3 h3 a4 h4 a5 h5 a6 h6 a7 h7 a8 h8 a9 h9 a10 h10 a11 h11 a12 h12 a13 h13 a14 h14 a15 h15 x3 x4 x8 hc0 := by
  unfold runFrom_A
  dsimp only
  exact ⟨rfl, rfl⟩

/-- The writes of the keys' scales reach every place of their buffer. -/
theorem keyScales_cover (hc0 : cond0_0 i) (y) : ∃ p ∈ keyScales c i a3 h3 a4 h4 a5 h5 a6 h6 a7 h7 a8 h8 a9 h9 a10 h10 a11 h11 a12 h12 a13 h13 a14 h14 a15 h15 x3 x4 x7 hc0, y ∈ p.1.set :=
  View.cover_of_tiledL (s := S4480x128) _ S128x128.size (by unfold keyScales; sl_kernel_rfl) y

/-- The writes of the values' scales reach every place of their buffer. -/
theorem valueScales_cover (hc0 : cond0_0 i) (y) : ∃ p ∈ valueScales c i a3 h3 a4 h4 a5 h5 a6 h6 a7 h7 a8 h8 a9 h9 a10 h10 a11 h11 a12 h12 a13 h13 a14 h14 a15 h15 x3 x4 x8 hc0, y ∈ p.1.set :=
  View.cover_of_tiledL (s := S4480x128) _ S128x128.size (by unfold valueScales; sl_kernel_rfl) y

set_option maxHeartbeats 1000000 in
/-- A step that fills the buffers of scales stores the same block, of what it fills them with. -/
theorem block_A (hc0 : cond0_0 i) (fs0 fs1 fs2) :
    (runFrom_A (F := Ideal) c i a3 h3 a4 h4 a5 h5 a6 h6 a7 h7 a8 h8 a9 h9 a10 h10 a11 h11 a12 h12 a13 h13 a14 h14 a15 h15 hc0 x0 x1 x2 x3 x4 x5 x6 x7 x8 xt0 fs0 fs1 fs2).1
      = [⟨Rect.unit (s := S1x64x256) ![0, 0, 0] S1x64x256.size inb_S1x64x256_S1x64x256_0_0_0, blockVal c i a3 h3 a4 h4 a5 h5 a6 h6 a7 h7 a8 h8 a9 h9 a10 h10 a11 h11 a12 h12 a13 h13 a14 h14 a15 h15 x0 x1 x2 x5 x6 xt0
          (View.canon (keyScales c i a3 h3 a4 h4 a5 h5 a6 h6 a7 h7 a8 h8 a9 h9 a10 h10 a11 h11 a12 h12 a13 h13 a14 h14 a15 h15 x3 x4 x7 hc0)) (View.canon (valueScales c i a3 h3 a4 h4 a5 h5 a6 h6 a7 h7 a8 h8 a9 h9 a10 h10 a11 h11 a12 h12 a13 h13 a14 h14 a15 h15 x3 x4 x8 hc0))⟩] := by
  unfold runFrom_A
  dsimp only
  unfold runFrom_A.sl.r_8 runFrom_A.sl.r_7 runFrom_A.sl.v145 runFrom_A.sl.v130 runFrom_A.sl.v115 runFrom_A.sl.r_6 runFrom_A.sl.r_3
  have e0 := Cert.Proof.Chunk.writes_unread h13 fs0 _ (keyScales_cover c i a3 h3 a4 h4 a5 h5 a6 h6 a7 h7 a8 h8 a9 h9 a10 h10 a11 h11 a12 h12 a13 h13 a14 h14 a15 h15 x3 x4 x7 hc0)
  have e1 := Cert.Proof.Chunk.writes_unread h14 fs1 _ (valueScales_cover c i a3 h3 a4 h4 a5 h5 a6 h6 a7 h7 a8 h8 a9 h9 a10 h10 a11 h11 a12 h12 a13 h13 a14 h14 a15 h15 x3 x4 x8 hc0)
  have ev55 : runFrom_A.sl.v55 c i a3 h3 a4 h4 a5 h5 a6 h6 a7 h7 a8 h8 a9 h9 a10 h10 a11 h11 a12 h12 a13 h13 a14 h14 a15 h15 hc0 x3 x4 x7 = scale0 a13 h13 (View.canon (keyScales c i a3 h3 a4 h4 a5 h5 a6 h6 a7 h7 a8 h8 a9 h9 a10 h10 a11 h11 a12 h12 a13 h13 a14 h14 a15 h15 x3 x4 x7 hc0)) :=
    Cert.Proof.Chunk.readCov_unread h13 _ (keyScales_cover c i a3 h3 a4 h4 a5 h5 a6 h6 a7 h7 a8 h8 a9 h9 a10 h10 a11 h11 a12 h12 a13 h13 a14 h14 a15 h15 x3 x4 x7 hc0) _
  have ev74 : runFrom_A.sl.v74 c i a3 h3 a4 h4 a5 h5 a6 h6 a7 h7 a8 h8 a9 h9 a10 h10 a11 h11 a12 h12 a13 h13 a14 h14 a15 h15 hc0 x3 x4 x7 = scale1 a13 h13 (View.canon (keyScales c i a3 h3 a4 h4 a5 h5 a6 h6 a7 h7 a8 h8 a9 h9 a10 h10 a11 h11 a12 h12 a13 h13 a14 h14 a15 h15 x3 x4 x7 hc0)) :=
    Cert.Proof.Chunk.readCov_unread h13 _ (keyScales_cover c i a3 h3 a4 h4 a5 h5 a6 h6 a7 h7 a8 h8 a9 h9 a10 h10 a11 h11 a12 h12 a13 h13 a14 h14 a15 h15 x3 x4 x7 hc0) _
  have ev93 : runFrom_A.sl.v93 c i a3 h3 a4 h4 a5 h5 a6 h6 a7 h7 a8 h8 a9 h9 a10 h10 a11 h11 a12 h12 a13 h13 a14 h14 a15 h15 hc0 x3 x4 x7 = scale2 a13 h13 (View.canon (keyScales c i a3 h3 a4 h4 a5 h5 a6 h6 a7 h7 a8 h8 a9 h9 a10 h10 a11 h11 a12 h12 a13 h13 a14 h14 a15 h15 x3 x4 x7 hc0)) :=
    Cert.Proof.Chunk.readCov_unread h13 _ (keyScales_cover c i a3 h3 a4 h4 a5 h5 a6 h6 a7 h7 a8 h8 a9 h9 a10 h10 a11 h11 a12 h12 a13 h13 a14 h14 a15 h15 x3 x4 x7 hc0) _
  have ev122 : runFrom_A.sl.v122 c i a3 h3 a4 h4 a5 h5 a6 h6 a7 h7 a8 h8 a9 h9 a10 h10 a11 h11 a12 h12 a13 h13 a14 h14 a15 h15 hc0 x3 x4 x8 = weight0 a14 h14 (View.canon (valueScales c i a3 h3 a4 h4 a5 h5 a6 h6 a7 h7 a8 h8 a9 h9 a10 h10 a11 h11 a12 h12 a13 h13 a14 h14 a15 h15 x3 x4 x8 hc0)) :=
    Cert.Proof.Chunk.readCov_unread h14 _ (valueScales_cover c i a3 h3 a4 h4 a5 h5 a6 h6 a7 h7 a8 h8 a9 h9 a10 h10 a11 h11 a12 h12 a13 h13 a14 h14 a15 h15 x3 x4 x8 hc0) _
  have ev137 : runFrom_A.sl.v137 c i a3 h3 a4 h4 a5 h5 a6 h6 a7 h7 a8 h8 a9 h9 a10 h10 a11 h11 a12 h12 a13 h13 a14 h14 a15 h15 hc0 x3 x4 x8 = weight1 a14 h14 (View.canon (valueScales c i a3 h3 a4 h4 a5 h5 a6 h6 a7 h7 a8 h8 a9 h9 a10 h10 a11 h11 a12 h12 a13 h13 a14 h14 a15 h15 x3 x4 x8 hc0)) :=
    Cert.Proof.Chunk.readCov_unread h14 _ (valueScales_cover c i a3 h3 a4 h4 a5 h5 a6 h6 a7 h7 a8 h8 a9 h9 a10 h10 a11 h11 a12 h12 a13 h13 a14 h14 a15 h15 x3 x4 x8 hc0) _
  have ev152 : runFrom_A.sl.v152 c i a3 h3 a4 h4 a5 h5 a6 h6 a7 h7 a8 h8 a9 h9 a10 h10 a11 h11 a12 h12 a13 h13 a14 h14 a15 h15 hc0 x3 x4 x8 = weight2 a14 h14 (View.canon (valueScales c i a3 h3 a4 h4 a5 h5 a6 h6 a7 h7 a8 h8 a9 h9 a10 h10 a11 h11 a12 h12 a13 h13 a14 h14 a15 h15 x3 x4 x8 hc0)) :=
    Cert.Proof.Chunk.readCov_unread h14 _ (valueScales_cover c i a3 h3 a4 h4 a5 h5 a6 h6 a7 h7 a8 h8 a9 h9 a10 h10 a11 h11 a12 h12 a13 h13 a14 h14 a15 h15 x3 x4 x8 hc0) _
  generalize View.canon (keyScales c i a3 h3 a4 h4 a5 h5 a6 h6 a7 h7 a8 h8 a9 h9 a10 h10 a11 h11 a12 h12 a13 h13 a14 h14 a15 h15 x3 x4 x7 hc0) = KK at *
  generalize View.canon (valueScales c i a3 h3 a4 h4 a5 h5 a6 h6 a7 h7 a8 h8 a9 h9 a10 h10 a11 h11 a12 h12 a13 h13 a14 h14 a15 h15 x3 x4 x8 hc0) = WW at *
  unfold keyScales at e0
  unfold valueScales at e1
  rw [e0, e1, ev55, ev74, ev93, ev122, ev137, ev152]
  rw [Cert.Proof.Chunk.writes_unread h15 fs2, Cert.Proof.Chunk.readCov_unread h15, Cert.Proof.Chunk.readCov_unread h15, Cert.Proof.Chunk.readCov_unread h15]
  · rfl
  all_goals exact fun y => View.cover_of_tiledL (s := S4480x256) _ S128x256.size (by sl_kernel_rfl) y

end
end Cert.ChunkIdeal.Gen
end
-- ==== Proof.ChunkPayloads.lean ====
/-
  The values the chunk kernel's lines compute, entry by entry.
-/
module

public import proofs.«01_k».proof.Proof.Gen.ChunkIdeal.Skeleton
public import proofs.«01_k».proof.Proof.ChunkMath
public import proofs.«01_k».proof.Proof.ChunkTiles
public import Idealize.ShloMosaic.Lib.Pointwise
public import Idealize.ShloMosaic.PureOps.Ideal.Laws

@[expose] public section

set_option maxRecDepth 16384

noncomputable section
namespace Cert.Proof.Chunk
open Idealize.ShloMosaic
open Cert.ChunkIdeal Cert.ChunkIdeal.Gen

/-- The factor on a score's scale. -/
abbrev factor : EReal := Ideal.ofBits .f32 0x3E38AA3B#32

/-- Two copies side by side of an array whose rows are constant. -/
theorem twice (v : FVec Ideal S128x128 .f32) (s : Fin 128 → EReal) (hv : ∀ x l, v (ix2 x l) = s x) :
    concatenate S128x256 1 [⟨S128x128, v⟩, ⟨S128x128, v⟩] concatenates_S128x128_S128x128_S128x256_d1
      = fun y : S128x256.Idx => s (y 0) := by
  obtain rfl : v = fun y : S128x128.Idx => s (y 0) := funext fun y => by
    obtain ⟨x, l, rfl⟩ : ∃ x l, y = (ix2 x l : S128x128.Idx) := ⟨y 0, y 1, idx2_ext rfl rfl⟩
    exact hv x l
  funext y
  obtain ⟨x, l, rfl⟩ : ∃ x l, y = (ix2 x l : S128x256.Idx) := ⟨y 0, y 1, idx2_ext rfl rfl⟩
  pointwise
  exact ite_self _

section
variable (q : FVec Ideal S64x256 .bf16) (lane : IVec S128x256 32) (k : Vec Ideal S1x64x128 .bf16) (sc : Vec Ideal S128x128 .f32)
  (s : Fin 128 → EReal)

/-- The queries without their unit axis. -/
theorem pay11 (x : Vec Ideal S1x64x256 .bf16) (d : Fin 64) (j : Fin 256) : k0_pay11 x (ix2 d j) = x (ix3 0 d j) := by
  pointwise [k0_pay11]

/-- A tile of masked cached scores. -/
theorem pay17 (n : Elt Ideal .i32) (t : Fin k0_t2_loop.trips) (hs : ∀ x l, sc (ix2 x l) = s x) (x : Fin 128) (j : Fin 256) :
    k0_pay17 n q lane t k sc (ix2 x j)
      = Scalar.select (IntOp.cmpi .slt (IntOp.addi (IntOp.muli (lane (ix2 x j)) 32#32) (Scf.iv 0#32 1#32 t)) n)
          ((∑ d : Fin 64, k (ix3 0 d x) * q (ix2 d j)) * (s x * factor)) unseen := by
  unfold k0_pay17
  try dsimp only
  rw [twice (mulf sc (broadcast S128x128 (Scalar.ofBits (F := Ideal) .f32 0x3E38AA3B#32))) (fun x => s x * factor)
    (fun x l => congrArg (· * factor) (hs x l))]
  pointwise

/-- The largest cached score so far. -/
theorem pay18 (n : Elt Ideal .i32) (t : Fin k0_t2_loop.trips) : k0_pay18 n q lane t k sc = k0_pay17 n q lane t k sc := by
  funext y
  obtain ⟨x, l, rfl⟩ : ∃ x l, y = (ix2 x l : S128x256.Idx) := ⟨y 0, y 1, idx2_ext rfl rfl⟩
  pointwise [k0_pay18]

/-- The chunk's row of a column, from its number. -/
theorem pay20 (i1 i2 : IVec S128x256 32) (b : IVec S128x256 1) (w : BitVec 32) (hs : ∀ x l, sc (ix2 x l) = s x) (x : Fin 128)
    (j : Fin 256) :
    k0_pay20 q lane i1 i2 b w k sc (ix2 x j)
      = Scalar.select (IntOp.cmpi .sle (IntOp.addi (lane (ix2 x j)) 0#32) (k0_pay15 i1 i2 b w (ix2 x j)))
          ((∑ d : Fin 64, k (ix3 0 d x) * q (ix2 d j)) * (s x * factor)) unseen := by
  unfold k0_pay20
  try dsimp only
  rw [twice (mulf sc (broadcast S128x128 (Scalar.ofBits (F := Ideal) .f32 0x3E38AA3B#32))) (fun x => s x * factor)
    (fun x l => congrArg (· * factor) (hs x l))]
  generalize k0_pay15 i1 i2 b w = z
  pointwise

/-- A tile of masked new scores, from the row of each column. -/
theorem pay21 (i1 i2 : IVec S128x256 32) (b : IVec S128x256 1) (w : BitVec 32) :
    k0_pay21 q lane i1 i2 b w k sc = k0_pay20 q lane i1 i2 b w k sc := by
  funext y
  obtain ⟨x, l, rfl⟩ : ∃ x l, y = (ix2 x l : S128x256.Idx) := ⟨y 0, y 1, idx2_ext rfl rfl⟩
  pointwise [k0_pay21]

/-- A tile of masked new scores. -/
theorem pay25 (row : IVec S128x256 32) (hs : ∀ x l, sc (ix2 x l) = s x) (x : Fin 128) (j : Fin 256) :
    k0_pay25 row (k0_pay23 q k) (k0_pay24 lane) sc (ix2 x j)
      = Scalar.select (IntOp.cmpi .sle (IntOp.addi (lane (ix2 x j)) 128#32) (row (ix2 x j)))
          ((∑ d : Fin 64, k (ix3 0 d x) * q (ix2 d j)) * (s x * factor)) unseen := by
  unfold k0_pay25 k0_pay23 k0_pay24
  try dsimp only
  rw [twice (mulf sc (broadcast S128x128 (Scalar.ofBits (F := Ideal) .f32 0x3E38AA3B#32))) (fun x => s x * factor)
    (fun x l => congrArg (· * factor) (hs x l))]
  pointwise

/-- The largest score with a tile of new ones. -/
theorem pay26 (row l' : IVec S128x256 32) (d : FVec Ideal S128x256 .f32) : k0_pay26 row d l' sc = k0_pay25 row d l' sc := by
  funext y
  obtain ⟨x, l, rfl⟩ : ∃ x l, y = (ix2 x l : S128x256.Idx) := ⟨y 0, y 1, idx2_ext rfl rfl⟩
  pointwise [k0_pay26]

/-- The last tile of masked new scores. -/
theorem pay27 (row : IVec S128x256 32) (hs : ∀ x l, sc (ix2 x l) = s x) (x : Fin 128) (j : Fin 256) :
    k0_pay27 q lane row k sc (ix2 x j)
      = Scalar.select (IntOp.cmpi .sle (IntOp.addi (lane (ix2 x j)) 256#32) (row (ix2 x j)))
          ((∑ d : Fin 64, k (ix3 0 d x) * q (ix2 d j)) * (s x * factor)) unseen := by
  unfold k0_pay27
  try dsimp only
  rw [twice (mulf sc (broadcast S128x128 (Scalar.ofBits (F := Ideal) .f32 0x3E38AA3B#32))) (fun x => s x * factor)
    (fun x l => congrArg (· * factor) (hs x l))]
  pointwise

/-- The last tile is stored as it was computed. -/
theorem pay28 (row : IVec S128x256 32) : k0_pay28 q lane row k sc = k0_pay27 q lane row k sc := by
  funext y
  obtain ⟨x, l, rfl⟩ : ∃ x l, y = (ix2 x l : S128x256.Idx) := ⟨y 0, y 1, idx2_ext rfl rfl⟩
  pointwise [k0_pay28]
end

section
variable (M : FVec Ideal S1x256 .f32) (t t' : Vec Ideal S128x256 .f32) (v v' : Vec Ideal S1x64x128 .bf16) (w w' : Vec Ideal S128x128 .f32)
  (s s' : Fin 128 → EReal)

/-- A weight. -/
abbrev heft (a b : EReal) : EReal := FloatOps.exp2 (F := Ideal) (φ := .f32) (a - b)

/-- The sum of weights with a cached tile. -/
theorem pay33 (acc : FVec Ideal S8x256 .f32) (a : Fin 8) (j : Fin 256) :
    k0_pay33 M acc t (ix2 a j) = acc (ix2 a j) + ∑ b : Fin 16, heft (t (ix2 ⟨b * 8 + a, by omega⟩ j)) (M (ix2 0 j)) := by
  pointwise [k0_pay33, k0_pay32]

/-- The weighted sum of values with a cached tile. -/
theorem pay34 (hw : ∀ x l, w (ix2 x l) = s x) (acc : FVec Ideal S64x256 .f32) (d : Fin 64) (j : Fin 256) :
    k0_pay34 M acc v t w (ix2 d j)
      = acc (ix2 d j) + ∑ x : Fin 128, v (ix3 0 d x) * (heft (t (ix2 x j)) (M (ix2 0 j)) * s x) := by
  unfold k0_pay34
  try dsimp only
  rw [twice w s hw]
  pointwise [k0_pay32]

/-- The sum of weights with a new tile. -/
theorem pay37 (acc : FVec Ideal S8x256 .f32) (a : Fin 8) (j : Fin 256) :
    k0_pay37 M acc t t' (ix2 a j) = acc (ix2 a j) + (∑ b : Fin 16, heft (t (ix2 ⟨b * 8 + a, by omega⟩ j)) (M (ix2 0 j)))
      + ∑ b : Fin 16, heft (t' (ix2 ⟨b * 8 + a, by omega⟩ j)) (M (ix2 0 j)) := by
  pointwise [k0_pay37, k0_pay35, k0_pay36]

/-- The weighted sum of values with two new tiles. -/
theorem pay38 (hw : ∀ x l, w (ix2 x l) = s x) (hw' : ∀ x l, w' (ix2 x l) = s' x) (acc : FVec Ideal S64x256 .f32) (d : Fin 64)
    (j : Fin 256) : k0_pay38 M acc v t w v' t' w' (ix2 d j)
      = acc (ix2 d j) + (∑ x : Fin 128, v (ix3 0 d x) * (heft (t (ix2 x j)) (M (ix2 0 j)) * s x))
        + ∑ x : Fin 128, v' (ix3 0 d x) * (heft (t' (ix2 x j)) (M (ix2 0 j)) * s' x) := by
  unfold k0_pay38
  try dsimp only
  rw [twice w s hw, twice w' s' hw']
  pointwise [k0_pay35, k0_pay36]

/-- The quotient a step stores. -/
theorem pay1 (hw : ∀ x l, w (ix2 x l) = s x) (den : FVec Ideal S8x256 .f32) (acc : FVec Ideal S64x256 .f32) (d : Fin 64) (j : Fin 256) :
    k0_pay1 M den acc v t w (ix3 0 d j)
      = Ideal.div (acc (ix2 d j) + ∑ x : Fin 128, v (ix3 0 d x) * (heft (t (ix2 x j)) (M (ix2 0 j)) * s x))
          (∑ a : Fin 8, (den (ix2 a j) + ∑ b : Fin 16, heft (t (ix2 ⟨b * 8 + a, by omega⟩ j)) (M (ix2 0 j)))) := by
  unfold k0_pay1
  try dsimp only
  rw [twice w s hw]
  pointwise
end

section
variable (x : Vec Ideal S1x1x128 .f32) (a b : Fin 128)
/-- A row of scales, one to each row of a tile. -/
theorem pay2 : k0_pay2 x (ix2 a b) = x (ix3 0 0 a) := by pointwise [k0_pay2]
/-- A row of scales, one to each row of a tile. -/
theorem pay3 : k0_pay3 x (ix2 a b) = x (ix3 0 0 a) := by pointwise [k0_pay3]
/-- A row of scales, one to each row of a tile. -/
theorem pay4 : k0_pay4 x (ix2 a b) = x (ix3 0 0 a) := by pointwise [k0_pay4]
/-- A row of scales, one to each row of a tile. -/
theorem pay5 : k0_pay5 x (ix2 a b) = x (ix3 0 0 a) := by pointwise [k0_pay5]
/-- A row of scales, one to each row of a tile. -/
theorem pay6 : k0_pay6 x (ix2 a b) = x (ix3 0 0 a) := by pointwise [k0_pay6]
/-- A row of scales, one to each row of a tile. -/
theorem pay8 : k0_pay8 (k0_pay7 x) (ix2 a b) = x (ix3 0 0 a) := by pointwise [k0_pay8, k0_pay7]
/-- A row of scales, one to each row of a tile. -/
theorem pay9 : k0_pay9 x (ix2 a b) = x (ix3 0 0 a) := by pointwise [k0_pay9]
/-- A row of scales, one to each row of a tile. -/
theorem pay10 : k0_pay10 x (ix2 a b) = x (ix3 0 0 a) := by pointwise [k0_pay10]
end

/-- The largest entry, column by column, of the entries eight apart. -/
theorem eighth (v : FVec Ideal S128x256 .f32) (z : EReal) (a : Fin 8) (j : Fin 256) :
    multiReduction .maximumf [0] S8x256 (shapeCast S16x8x256 v shapeCasts_S128x256_S16x8x256) 0xFF800000#32
        reduces_S16x8x256_S8x256 (.inl rfl) rfl (ix2 a j) ≤ z
      ↔ unseen ≤ z ∧ ∀ b : Fin 16, v (ix2 ⟨b * 8 + a, by omega⟩ j) ≤ z := by
  refine (iff_of_eq (congrArg (· ≤ z) (Ideal.multiReduction_maximumf_single
    (shapeCast S16x8x256 v shapeCasts_S128x256_S16x8x256) 0xFF800000#32 reduces_S16x8x256_S8x256 (.inl rfl) rfl (ix2 a j)))).trans ?_
  refine (Finset.fold_max_le z).trans ?_
  have e : ∀ b : Fin 16, shapeCast S16x8x256 v shapeCasts_S128x256_S16x8x256 (reduces_S16x8x256_S8x256.lift (ix2 a j) b)
      = v (ix2 ⟨b * 8 + a, by omega⟩ j) := fun b => by
    rw [(idx3_ext rfl rfl rfl : reduces_S16x8x256_S8x256.lift (ix2 a j) b = ix3 b a j)]
    pointwise
  exact and_congr Iff.rfl ⟨fun h b => le_of_eq_of_le (e b).symm (h b (Finset.mem_univ _)),
    fun h b _ => le_of_eq_of_le (e b) (h b)⟩

/-- The largest of eight entries of each column. -/
theorem eight (v : FVec Ideal S8x256 .f32) (z : EReal) (j : Fin 256) :
    multiReduction .maximumf [0] S256 v 0xFF800000#32 reduces_S8x256_S256 (.inl rfl) rfl (ix1 j) ≤ z
      ↔ unseen ≤ z ∧ ∀ a : Fin 8, v (ix2 a j) ≤ z := by
  refine (iff_of_eq (congrArg (· ≤ z) (Ideal.multiReduction_maximumf_single v 0xFF800000#32 reduces_S8x256_S256 (.inl rfl) rfl
    (ix1 j)))).trans ?_
  refine (Finset.fold_max_le z).trans ?_
  have e : ∀ a : Fin 8, v (reduces_S8x256_S256.lift (ix1 j) a) = v (ix2 a j) := fun a =>
    congrArg v (idx2_ext rfl rfl)
  exact and_congr Iff.rfl ⟨fun h b => le_of_eq_of_le (e b).symm (h b (Finset.mem_univ _)),
    fun h b _ => le_of_eq_of_le (e b) (h b)⟩

end Cert.Proof.Chunk
end
-- ==== Proof.ChunkLoops.lean ====
/-
  What the loops of the chunk kernel leave: the scores, their largest, and the weighted sums.
-/
module

public import proofs.«01_k».proof.Proof.ChunkBlock
public import proofs.«01_k».proof.Proof.ChunkPayloads

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk

/-- Where the loops' access 1 starts, from the number of the turn. -/
theorem off1 : ∀ k, k0_off1 k = ![0, (k : ℕ), 0] := by decide +kernel
/-- Where the loops' access 2 starts, from the number of the turn. -/
theorem off2 : ∀ k, k0_off2 k = ![128 * (k : ℕ), 0] := by decide +kernel
/-- Where the loops' access 3 starts, from the number of the turn. -/
theorem off3 : ∀ k, k0_off3 k = ![0, 0, 128 * (k : ℕ)] := by decide +kernel
/-- Where the loops' access 4 starts, from the number of the turn. -/
theorem off4 : ∀ k, k0_off4 k = ![128 * (k : ℕ), 0] := by decide +kernel
/-- Where the loops' access 5 starts, from the number of the turn. -/
theorem off5 : ∀ k, k0_off5 k = ![128 * (k : ℕ), 0] := by decide +kernel
/-- Where the loops' access 6 starts, from the number of the turn. -/
theorem off6 : ∀ k, k0_off6 k = ![0, 0, 128 * (k : ℕ)] := by decide +kernel
/-- Where the loops' access 7 starts, from the number of the turn. -/
theorem off7 : ∀ k, k0_off7 k = ![128 * (k : ℕ), 0] := by decide +kernel
/-- Where the loops' access 8 starts, from the number of the turn. -/
theorem off8 : ∀ k, k0_off8 k = ![128 * (k : ℕ), 0] := by decide +kernel
/-- The loop over the scales has 32 turns. -/
theorem trips1 : k0_t1_loop.trips = 32 := by decide +kernel
/-- The loop over the cached scores has 32 turns. -/
theorem trips2 : k0_t2_loop.trips = 32 := by decide +kernel
/-- The loop over the cached weights has 32 turns. -/
theorem trips3 : k0_t3_loop.trips = 32 := by decide +kernel
/-- The loop's counter as a word. -/
theorem turn : ∀ k : Fin k0_t2_loop.trips, Scf.iv 0#32 1#32 k = BitVec.ofNat 32 k := by decide +kernel

/-- The chunk's row of column `j`. -/
def rowAt (i : grid0.Coords) (j : Fin 256) : BitVec 32 := rows i (ix2 0 j)

/-- The chunk's row of a column is the same in every row of a tile. -/
theorem rows_eq (i : grid0.Coords) (x : Fin 128) (j : Fin 256) : rows i (ix2 x j) = rowAt i j := by
  unfold rowAt
  pointwise [rows, k0_pay15, k0_pay14, k0_pay13, k0_pay12]

/-- The number of a row within its tile. -/
theorem lane (x : Fin 128) (j : Fin 256) : runFrom_B.sl.v6 (ix2 x j) = BitVec.ofNat 32 x := by
  pointwise [runFrom_B.sl.v6]

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32) (ks ws : Fin 4480 → EReal)

/-- The query's block. -/
theorem queries (d : Fin 64) (j : Fin 256) : runFrom_B.sl.r_1 c a3 h3 x0 (ix2 d j) = x0 (ix3 0 d j) := by
  refine (pay11 _ d j).trans ?_
  rw [h3.readAt_unread]
  congr 1
  refine idx3_ext ?_ ?_ ?_
  · rfl
  · change 0 + 1 * (d : ℕ) = d; omega
  · change 0 + 1 * (j : ℕ) = j; omega

/-- The score of column `j` for the token in row `r` of the buffer of scores. -/
def point (r : ℕ) (j : Fin 256) : EReal :=
  if h : r < 4096 then
    Scalar.select (IntOp.cmpi .slt (BitVec.ofNat 32 (r % 128 * 32 + r / 128)) (cached c xt0))
      ((∑ d : Fin 64, x1 (ix3 0 d ⟨r, h⟩) * x0 (ix3 0 d j)) * (ks ⟨r, by omega⟩ * factor)) unseen
  else if h' : r < 4480 then
    Scalar.select (IntOp.cmpi .sle (BitVec.ofNat 32 (r - 4096)) (rowAt i j))
      ((∑ d : Fin 64, x5 (ix3 0 d ⟨r - 4096, by omega⟩) * x0 (ix3 0 d j)) * (ks ⟨r, h'⟩ * factor)) unseen
  else 0

/-- A tile of cached keys. -/
def keyTile (k : Fin k0_t2_loop.trips) : Vec Ideal S1x64x128 .bf16 :=
  View.readAt (Elt Ideal) a4.view (Rect.unit (s := S1x64x4096) (k0_off3 k) ![1, 64, 128] (k0_off3_inb k)).toLoadRect (h4.unread x1)

/-- A tile of their scales. -/
def scaleTile (k : Fin k0_t2_loop.trips) : Vec Ideal S128x128 .f32 :=
  View.readAt (Elt Ideal) a13.view (Rect.unit (s := S4480x128) (k0_off4 k) ![128, 128] (k0_off4_inb k)).toLoadRect (h13.unread K)

/-- One turn of the loop over the cached scores. -/
theorem scores_step (k : Fin k0_t2_loop.trips) : scores c i a3 h3 a4 h4 a5 h5 a6 h6 a7 h7 a8 h8 a9 h9 a10 h10 a11 h11 a12 h12 a13 h13 a14 h14 a15 h15 x0 x1 xt0 K (k + 1)
    = (k0_pay19 (cached c xt0) (runFrom_B.sl.r_1 c a3 h3 x0) runFrom_B.sl.v6 k (scores c i a3 h3 a4 h4 a5 h5 a6 h6 a7 h7 a8 h8 a9 h9 a10 h10 a11 h11 a12 h12 a13 h13 a14 h14 a15 h15 x0 x1 xt0 K k).1
        (keyTile a4 h4 x1 k)
        (scaleTile a13 h13 K k),
      ⟨Rect.unit (s := S4480x256) (k0_off5 k) ![128, 256] (k0_off5_inb k), k0_pay18 (cached c xt0) (runFrom_B.sl.r_1 c a3 h3 x0) runFrom_B.sl.v6 k
        (keyTile a4 h4 x1 k)
        (scaleTile a13 h13 K k)⟩ :: (scores c i a3 h3 a4 h4 a5 h5 a6 h6 a7 h7 a8 h8 a9 h9 a10 h10 a11 h11 a12 h12 a13 h13 a14 h14 a15 h15 x0 x1 xt0 K k).2) := by
  unfold scores
  refine (st_k0_t2_succ ..).trans ?_
  unfold tripR_k0_t2 tripL_k0_t2 trip_k0_t2
  rfl

/-- A cached tile's scores. -/
theorem tile_score (hK : ∀ r l, K (ix2 r l) = ks r) (k : Fin k0_t2_loop.trips) (x : Fin 128) (j : Fin 256) :
    k0_pay17 (cached c xt0) (runFrom_B.sl.r_1 c a3 h3 x0) runFrom_B.sl.v6 k
      (keyTile a4 h4 x1 k)
      (scaleTile a13 h13 K k) (ix2 x j)
    = point c i x0 x1 x5 xt0 ks (128 * k + x) j := by
  have hk : (k : ℕ) < 32 := lt_of_lt_of_eq k.isLt trips2
  have hx := x.isLt
  refine (pay17 _ _ _ (scaleTile a13 h13 K k) (fun x => ks ⟨128 * k + x, by have := x.isLt; omega⟩) _ k
    (fun x l => (read_tile h13 K (128 * k) _ (off4 k) _ x l).trans (hK _ _)) x j).trans ?_
  rw [point, dif_pos (by omega), lane, turn]
  have e : (128 * (k : ℕ) + x) % 128 * 32 + (128 * k + x) / 128 = x * 32 + k := by omega
  rw [e]
  have e2 : ∀ d : Fin 64, keyTile a4 h4 x1 k (ix3 0 d x)
      = x1 (ix3 0 d ⟨128 * k + x, by omega⟩) := fun d => read_cols h4 x1 (128 * k) _ (off3 k) _ d x
  simp only [e2, queries]
  congr 2
  change BitVec.ofNat 32 x * BitVec.ofNat 32 32 + BitVec.ofNat 32 k = _
  rw [← BitVec.ofNat_mul, ← BitVec.ofNat_add]

/-- The buffer's rows that the loop has written. -/
theorem scores_rows (hK : ∀ r l, K (ix2 r l) = ks r) (k : ℕ) (hk : k ≤ 32) (r : Fin 4480) (hr : (r : ℕ) < 128 * k) (j : Fin 256) :
    View.canon (scores c i a3 h3 a4 h4 a5 h5 a6 h6 a7 h7 a8 h8 a9 h9 a10 h10 a11 h11 a12 h12 a13 h13 a14 h14 a15 h15 x0 x1 xt0 K k).2 (ix2 r j) = point c i x0 x1 x5 xt0 ks r j := by
  induction k with
  | zero => omega
  | succ k ih =>
    rw [scores_step c i a3 h3 a4 h4 a5 h5 a6 h6 a7 h7 a8 h8 a9 h9 a10 h10 a11 h11 a12 h12 a13 h13 a14 h14 a15 h15 x0 x1 xt0 K ⟨k, lt_of_lt_of_eq (by omega : k < 32) trips2.symm⟩]
    dsimp only
    rw [canon_tile (128 * k) _ (off5 _) _ _ _ r j]
    split
    · rename_i h
      rw [pay18]
      refine (tile_score c i a3 h3 a4 h4 a13 h13 x0 x1 x5 xt0 K ks hK _ _ j).trans ?_
      congr 1
      change 128 * k + ((r : ℕ) - 128 * k) = r
      omega
    · exact ih (by omega) (by omega)

/-- The largest scores the loop has seen, of the rows eight apart. -/
theorem scores_top (hK : ∀ r l, K (ix2 r l) = ks r) (k : ℕ) (hk : k ≤ 32) (a : Fin 8) (j : Fin 256) (z : EReal) :
    (scores c i a3 h3 a4 h4 a5 h5 a6 h6 a7 h7 a8 h8 a9 h9 a10 h10 a11 h11 a12 h12 a13 h13 a14 h14 a15 h15 x0 x1 xt0 K k).1 (ix2 a j) ≤ z
      ↔ unseen ≤ z ∧ ∀ r : ℕ, r < 128 * k → r % 8 = a → point c i x0 x1 x5 xt0 ks r j ≤ z := by
  induction k with
  | zero =>
    have e : (scores c i a3 h3 a4 h4 a5 h5 a6 h6 a7 h7 a8 h8 a9 h9 a10 h10 a11 h11 a12 h12 a13 h13 a14 h14 a15 h15 x0 x1 xt0 K 0).1 (ix2 a j) = unseen := by
      change k0_pay16 (F := Ideal) (ix2 a j) = _
      pointwise [k0_pay16]
    rw [e]
    exact ⟨fun h => ⟨h, fun r hr => by omega⟩, fun h => h.1⟩
  | succ k ih =>
    rw [scores_step c i a3 h3 a4 h4 a5 h5 a6 h6 a7 h7 a8 h8 a9 h9 a10 h10 a11 h11 a12 h12 a13 h13 a14 h14 a15 h15 x0 x1 xt0 K ⟨k, lt_of_lt_of_eq (by omega : k < 32) trips2.symm⟩]
    dsimp only
    have e : ∀ (u v : FVec Ideal S8x256 .f32), maximumf u v (ix2 a j) ≤ z ↔ u (ix2 a j) ≤ z ∧ v (ix2 a j) ≤ z :=
      fun u v => max_le_iff
    unfold k0_pay19
    dsimp only
    rw [e, eighth, ih (by omega)]
    simp only [tile_score c i a3 h3 a4 h4 a13 h13 x0 x1 x5 xt0 K ks hK]
    constructor
    · rintro ⟨⟨h0, h1⟩, -, h2⟩
      refine ⟨h0, fun r hr ha => ?_⟩
      by_cases h : r < 128 * k
      · exact h1 r h ha
      · refine le_of_eq_of_le ?_ (h2 ⟨(r - 128 * k) / 8, by omega⟩)
        congr 1
        change r = 128 * k + ((r - 128 * k) / 8 * 8 + a)
        omega
    · rintro ⟨h0, h1⟩
      refine ⟨⟨h0, fun r hr ha => h1 r (by omega) ha⟩, h0, fun b => h1 _ ?_ ?_⟩
      · change 128 * k + ((b : ℕ) * 8 + a) < 128 * (k + 1); omega
      · change (128 * k + ((b : ℕ) * 8 + a)) % 8 = a; omega

end
end Cert.ChunkIdeal.Gen
end
-- ==== Proof.ChunkStep.lean ====
/-
  One block of the chunk's attention as a quotient of two sums over the rows of the buffer of scores.
-/
module

public import proofs.«01_k».proof.Proof.ChunkLoops

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk

/-- A sum of small words is the word of the sum. -/
theorem add_words (a b c : ℕ) (h : a + b = c) : IntOp.addi (BitVec.ofNat 32 a) (BitVec.ofNat 32 b) = BitVec.ofNat 32 c := by
  subst h
  exact (BitVec.ofNat_add ..).symm

/-- Places are equal when their numbers are. -/
theorem fin_eq {n a b : ℕ} {ha : a < n} {hb : b < n} (h : a = b) : (⟨a, ha⟩ : Fin n) = ⟨b, hb⟩ := by
  subst h; rfl

/-- A sum over 128 rows, eight apart first. -/
theorem sum_eights (f : ℕ → EReal) (o : ℕ) :
    ∑ a : Fin 8, ∑ b : Fin 16, f (o + (b * 8 + a)) = ∑ x ∈ Finset.range 128, f (o + x) := by
  rw [Finset.sum_comm, Finset.sum_range, ← Fintype.sum_prod_type']
  refine Fintype.sum_equiv (finProdFinEquiv (m := 16) (n := 8)) _ _ fun x => ?_
  change f (o + (x.1 * 8 + x.2)) = f (o + (x.2 + 8 * x.1))
  congr 1
  omega

/-- The first tile of new scores, by whether the row may see the token. -/
theorem pay22_le (q : FVec Ideal S64x256 .bf16) (lane i1 i2 : IVec S128x256 32) (b : IVec S128x256 1) (w : BitVec 32) (u : FVec Ideal S8x256 .f32)
    (k : Vec Ideal S1x64x128 .bf16) (sc : Vec Ideal S128x128 .f32) (a : Fin 8) (j : Fin 256) (z : EReal) :
    k0_pay22 q lane i1 i2 b w u k sc (ix2 a j) ≤ z
      ↔ u (ix2 a j) ≤ z ∧ unseen ≤ z ∧ ∀ e : Fin 16, k0_pay20 q lane i1 i2 b w k sc (ix2 ⟨e * 8 + a, by omega⟩ j) ≤ z := by
  have e : ∀ (u v : FVec Ideal S8x256 .f32), maximumf (F := Ideal) (φ := .f32) u v (ix2 a j) ≤ z ↔ u (ix2 a j) ≤ z ∧ v (ix2 a j) ≤ z :=
    fun _ _ => max_le_iff
  unfold k0_pay22
  dsimp only
  rw [e, eighth]

/-- The last tile of new scores, by whether the row may see the token. -/
theorem pay29_le (q : FVec Ideal S64x256 .bf16) (lane row l' : IVec S128x256 32) (u : FVec Ideal S8x256 .f32) (v70 : FVec Ideal S128x256 .f32)
    (sc sc' : Vec Ideal S128x128 .f32) (k : Vec Ideal S1x64x128 .bf16) (j : Fin 256) :
    ∃ L : EReal, k0_pay29 q lane row u v70 l' sc k sc' (ix2 0 j) = Ideal.liftRound Int.ceil L
      ∧ ∀ z, L ≤ z ↔ unseen ≤ z ∧ ∀ a : Fin 8, (u (ix2 a j) ≤ z
        ∧ unseen ≤ z ∧ ∀ e : Fin 16, k0_pay25 row v70 l' sc (ix2 ⟨e * 8 + a, by omega⟩ j) ≤ z)
        ∧ unseen ≤ z ∧ ∀ e : Fin 16, k0_pay27 q lane row k sc' (ix2 ⟨e * 8 + a, by omega⟩ j) ≤ z := by
  unfold k0_pay29
  dsimp only
  generalize hT : multiReduction .maximumf [0] S256 (_ : FVec Ideal S8x256 .f32) 0xFF800000#32 reduces_S8x256_S256 (.inl rfl) rfl = T
  refine ⟨T (ix1 j), ?_, fun z => ?_⟩
  · clear hT
    pointwise
  · subst hT
    have e : ∀ (a : Fin 8) (u v : FVec Ideal S8x256 .f32), maximumf (F := Ideal) (φ := .f32) u v (ix2 a j) ≤ z ↔ u (ix2 a j) ≤ z ∧ v (ix2 a j) ≤ z :=
      fun _ _ _ => max_le_iff
    rw [eight]
    refine and_congr Iff.rfl (forall_congr' fun a => ?_)
    rw [e, e, eighth, eighth]

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32) (ks ws : Fin 4480 → EReal)

/-- The first tile of new scores. -/
theorem new_score0 (hK : ∀ r l, K (ix2 r l) = ks r) (x : Fin 128) (j : Fin 256) :
    k0_pay20 (runFrom_B.sl.r_1 c a3 h3 x0) runFrom_B.sl.v6 (k0_pay12 i) (k0_pay13 i) (k0_pay14 i) (1920#32) (newK0 a8 h8 x5) (scale0 a13 h13 K) (ix2 x j)
      = point c i x0 x1 x5 xt0 ks (4096 + x) j := by
  have hx := x.isLt
  refine (pay20 _ _ _ (scale0 a13 h13 K) (fun x => ks ⟨4096 + x, by have := x.isLt; omega⟩) _ _ _ _
    (fun x l => (read_tile h13 K 4096 _ rfl _ x l).trans (hK _ _)) x j).trans ?_
  rw [point, dif_neg (by omega), dif_pos (by omega), lane]
  have e2 : ∀ d : Fin 64, newK0 a8 h8 x5 (ix3 0 d x) = x5 (ix3 0 d ⟨4096 + x - 4096, by omega⟩) := fun d =>
    (read_cols h8 x5 0 _ rfl _ d x).trans (congrArg (fun z => x5 (ix3 0 d z)) (fin_eq (show 0 + (x : ℕ) = 4096 + x - 4096 by omega)))
  simp only [e2, queries]
  have e3 := rows_eq i x j
  unfold rows at e3
  rw [e3]
  exact congrArg (fun w => Scalar.select (IntOp.cmpi .sle w (rowAt i j)) _ unseen) (add_words x 0 _ (by omega))

/-- The second tile of new scores. -/
theorem new_score1 (hK : ∀ r l, K (ix2 r l) = ks r) (x : Fin 128) (j : Fin 256) :
    k0_pay25 (rows i) (k0_pay23 (runFrom_B.sl.r_1 c a3 h3 x0) (newK1 a8 h8 x5)) (k0_pay24 runFrom_B.sl.v6) (scale1 a13 h13 K) (ix2 x j)
      = point c i x0 x1 x5 xt0 ks (4224 + x) j := by
  have hx := x.isLt
  refine (pay25 _ _ _ (scale1 a13 h13 K) (fun x => ks ⟨4224 + x, by have := x.isLt; omega⟩) _
    (fun x l => (read_tile h13 K 4224 _ rfl _ x l).trans (hK _ _)) x j).trans ?_
  rw [point, dif_neg (by omega), dif_pos (by omega), lane, rows_eq]
  have e2 : ∀ d : Fin 64, newK1 a8 h8 x5 (ix3 0 d x) = x5 (ix3 0 d ⟨4224 + x - 4096, by omega⟩) := fun d =>
    (read_cols h8 x5 128 _ rfl _ d x).trans (congrArg (fun z => x5 (ix3 0 d z)) (fin_eq (show 128 + (x : ℕ) = 4224 + x - 4096 by omega)))
  simp only [e2, queries]
  exact congrArg (fun w => Scalar.select (IntOp.cmpi .sle w (rowAt i j)) _ unseen) (add_words x 128 _ (by omega))

/-- The third tile of new scores. -/
theorem new_score2 (hK : ∀ r l, K (ix2 r l) = ks r) (x : Fin 128) (j : Fin 256) :
    k0_pay27 (runFrom_B.sl.r_1 c a3 h3 x0) runFrom_B.sl.v6 (rows i) (newK2 a8 h8 x5) (scale2 a13 h13 K) (ix2 x j) = point c i x0 x1 x5 xt0 ks (4352 + x) j := by
  have hx := x.isLt
  refine (pay27 _ _ _ (scale2 a13 h13 K) (fun x => ks ⟨4352 + x, by have := x.isLt; omega⟩) _
    (fun x l => (read_tile h13 K 4352 _ rfl _ x l).trans (hK _ _)) x j).trans ?_
  rw [point, dif_neg (by omega), dif_pos (by omega), lane, rows_eq]
  have e2 : ∀ d : Fin 64, newK2 a8 h8 x5 (ix3 0 d x) = x5 (ix3 0 d ⟨4352 + x - 4096, by omega⟩) := fun d =>
    (read_cols h8 x5 256 _ rfl _ d x).trans (congrArg (fun z => x5 (ix3 0 d z)) (fin_eq (show 256 + (x : ℕ) = 4352 + x - 4096 by omega)))
  simp only [e2, queries]
  exact congrArg (fun w => Scalar.select (IntOp.cmpi .sle w (rowAt i j)) _ unseen) (add_words x 256 _ (by omega))

/-- The buffer of scores holds them row by row. -/
theorem board_eq (hK : ∀ r l, K (ix2 r l) = ks r) (r : Fin 4480) (j : Fin 256) : board c i a3 h3 a4 h4 a5 h5 a6 h6 a7 h7 a8 h8 a9 h9 a10 h10 a11 h11 a12 h12 a13 h13 a14 h14 a15 h15 x0 x1 x5 xt0 K (ix2 r j) = point c i x0 x1 x5 xt0 ks r j := by
  have hr := r.isLt
  unfold board stored
  rw [canon_tile 4352 _ rfl _ _ _ r j]
  split
  · rw [pay28]
    refine (new_score2 c i a3 h3 a8 h8 a13 h13 x0 x1 x5 xt0 K ks hK _ j).trans ?_
    exact congrArg (fun r => point c i x0 x1 x5 xt0 ks r j) (show 4352 + ((r : ℕ) - 4352) = r by omega)
  rw [canon_tile 4224 _ rfl _ _ _ r j]
  split
  · rw [pay26]
    refine (new_score1 c i a3 h3 a8 h8 a13 h13 x0 x1 x5 xt0 K ks hK _ j).trans ?_
    exact congrArg (fun r => point c i x0 x1 x5 xt0 ks r j) (show 4224 + ((r : ℕ) - 4224) = r by omega)
  rw [canon_tile 4096 _ rfl _ _ _ r j]
  split
  · rw [pay21]
    refine (new_score0 c i a3 h3 a8 h8 a13 h13 x0 x1 x5 xt0 K ks hK _ j).trans ?_
    exact congrArg (fun r => point c i x0 x1 x5 xt0 ks r j) (show 4096 + ((r : ℕ) - 4096) = r by omega)
  exact scores_rows c i a3 h3 a4 h4 a5 h5 a6 h6 a7 h7 a8 h8 a9 h9 a10 h10 a11 h11 a12 h12 a13 h13 a14 h14 a15 h15 x0 x1 x5 xt0 K ks hK 32 le_rfl r (by omega) j

/-- The columns' shifts are their largest scores, rounded up. -/
theorem ceiling_eq (hK : ∀ r l, K (ix2 r l) = ks r) (j : Fin 256) :
    ∃ L : EReal, ceiling c i a3 h3 a4 h4 a5 h5 a6 h6 a7 h7 a8 h8 a9 h9 a10 h10 a11 h11 a12 h12 a13 h13 a14 h14 a15 h15 x0 x1 x5 xt0 K (ix2 0 j) = Ideal.liftRound Int.ceil L
      ∧ ∀ z, L ≤ z ↔ unseen ≤ z ∧ ∀ r : ℕ, r < 4480 → point c i x0 x1 x5 xt0 ks r j ≤ z := by
  obtain ⟨L, e, h⟩ := pay29_le (runFrom_B.sl.r_1 c a3 h3 x0) runFrom_B.sl.v6 (rows i) (k0_pay24 runFrom_B.sl.v6)
    (k0_pay22 (runFrom_B.sl.r_1 c a3 h3 x0) runFrom_B.sl.v6 (k0_pay12 i) (k0_pay13 i) (k0_pay14 i) (1920#32)
      (scores c i a3 h3 a4 h4 a5 h5 a6 h6 a7 h7 a8 h8 a9 h9 a10 h10 a11 h11 a12 h12 a13 h13 a14 h14 a15 h15 x0 x1 xt0 K 32).1 (newK0 a8 h8 x5) (scale0 a13 h13 K)) (k0_pay23 (runFrom_B.sl.r_1 c a3 h3 x0) (newK1 a8 h8 x5))
    (scale1 a13 h13 K) (scale2 a13 h13 K) (newK2 a8 h8 x5) j
  refine ⟨L, e, fun z => (h z).trans ?_⟩
  simp only [pay22_le, scores_top c i a3 h3 a4 h4 a5 h5 a6 h6 a7 h7 a8 h8 a9 h9 a10 h10 a11 h11 a12 h12 a13 h13 a14 h14 a15 h15 x0 x1 x5 xt0 K ks hK 32 le_rfl, new_score0 c i a3 h3 a8 h8 a13 h13 x0 x1 x5 xt0 K ks hK,
    new_score1 c i a3 h3 a8 h8 a13 h13 x0 x1 x5 xt0 K ks hK, new_score2 c i a3 h3 a8 h8 a13 h13 x0 x1 x5 xt0 K ks hK]
  constructor
  · rintro ⟨h0, h1⟩
    refine ⟨h0, fun r hr => ?_⟩
    obtain ⟨⟨⟨⟨-, h2⟩, -, h3⟩, -, h4⟩, -, h5⟩ := h1 ⟨r % 8, by omega⟩
    by_cases g : r < 128 * 32
    · exact h2 r g rfl
    by_cases g1 : r < 4224
    · refine le_of_eq_of_le ?_ (h3 ⟨(r - 4096) / 8, by omega⟩)
      exact congrArg (fun r => point c i x0 x1 x5 xt0 ks r j) (show r = 4096 + ((r - 4096) / 8 * 8 + r % 8) by omega)
    by_cases g2 : r < 4352
    · refine le_of_eq_of_le ?_ (h4 ⟨(r - 4224) / 8, by omega⟩)
      exact congrArg (fun r => point c i x0 x1 x5 xt0 ks r j) (show r = 4224 + ((r - 4224) / 8 * 8 + r % 8) by omega)
    · refine le_of_eq_of_le ?_ (h5 ⟨(r - 4352) / 8, by omega⟩)
      exact congrArg (fun r => point c i x0 x1 x5 xt0 ks r j) (show r = 4352 + ((r - 4352) / 8 * 8 + r % 8) by omega)
  · rintro ⟨h0, h1⟩
    refine ⟨h0, fun a => ⟨⟨⟨⟨h0, fun r hr _ => h1 r (by omega)⟩, h0, fun b => h1 _ ?_⟩, h0, fun b => h1 _ ?_⟩, h0, fun b => h1 _ ?_⟩⟩
    · change 4096 + ((b : ℕ) * 8 + a) < 4480; omega
    · change 4224 + ((b : ℕ) * 8 + a) < 4480; omega
    · change 4352 + ((b : ℕ) * 8 + a) < 4480; omega

/-- A row's weight. -/
def mass (r : ℕ) (j : Fin 256) : EReal := heft (point c i x0 x1 x5 xt0 ks r j) (ceiling c i a3 h3 a4 h4 a5 h5 a6 h6 a7 h7 a8 h8 a9 h9 a10 h10 a11 h11 a12 h12 a13 h13 a14 h14 a15 h15 x0 x1 x5 xt0 K (ix2 0 j))

/-- The weights of a tile summed eight rows apart. -/
theorem mass_eights (o : ℕ) (j : Fin 256) : ∑ x ∈ Finset.range 128, mass c i a3 h3 a4 h4 a5 h5 a6 h6 a7 h7 a8 h8 a9 h9 a10 h10 a11 h11 a12 h12 a13 h13 a14 h14 a15 h15 x0 x1 x5 xt0 K ks (o + x) j
    = ∑ a : Fin 8, ∑ b : Fin 16, mass c i a3 h3 a4 h4 a5 h5 a6 h6 a7 h7 a8 h8 a9 h9 a10 h10 a11 h11 a12 h12 a13 h13 a14 h14 a15 h15 x0 x1 x5 xt0 K ks (o + (b * 8 + a)) j :=
  (sum_eights (fun r => mass c i a3 h3 a4 h4 a5 h5 a6 h6 a7 h7 a8 h8 a9 h9 a10 h10 a11 h11 a12 h12 a13 h13 a14 h14 a15 h15 x0 x1 x5 xt0 K ks r j) o).symm

/-- A row's part of the output. -/
def part (d : Fin 64) (r : ℕ) (j : Fin 256) : EReal :=
  if h : r < 4096 then x2 (ix3 0 d ⟨r, h⟩) * (mass c i a3 h3 a4 h4 a5 h5 a6 h6 a7 h7 a8 h8 a9 h9 a10 h10 a11 h11 a12 h12 a13 h13 a14 h14 a15 h15 x0 x1 x5 xt0 K ks r j * ws ⟨r, by omega⟩)
  else if h' : r < 4480 then x6 (ix3 0 d ⟨r - 4096, by omega⟩) * (mass c i a3 h3 a4 h4 a5 h5 a6 h6 a7 h7 a8 h8 a9 h9 a10 h10 a11 h11 a12 h12 a13 h13 a14 h14 a15 h15 x0 x1 x5 xt0 K ks r j * ws ⟨r, h'⟩)
  else 0

/-- A tile of cached values. -/
def valueTile (k : Fin k0_t3_loop.trips) : Vec Ideal S1x64x128 .bf16 :=
  View.readAt (Elt Ideal) a5.view (Rect.unit (s := S1x64x4096) (k0_off6 k) ![1, 64, 128] (k0_off6_inb k)).toLoadRect (h5.unread x2)

/-- A tile of scores, read back. -/
def boardTile (X : Vec Ideal S4480x256 .f32) (k : Fin k0_t3_loop.trips) : Vec Ideal S128x256 .f32 :=
  View.readAt (Elt Ideal) a15.view (Rect.unit (s := S4480x256) (k0_off7 k) ![128, 256] (k0_off7_inb k)).toLoadRect (h15.unread X)

/-- A tile of the values' scales. -/
def weightTile (k : Fin k0_t3_loop.trips) : Vec Ideal S128x128 .f32 :=
  View.readAt (Elt Ideal) a14.view (Rect.unit (s := S4480x128) (k0_off8 k) ![128, 128] (k0_off8_inb k)).toLoadRect (h14.unread W)

/-- One turn of the loop over the cached weights. -/
theorem weighed_step (k : Fin k0_t3_loop.trips) : weighed c i a3 h3 a4 h4 a5 h5 a6 h6 a7 h7 a8 h8 a9 h9 a10 h10 a11 h11 a12 h12 a13 h13 a14 h14 a15 h15 x0 x1 x2 x5 xt0 K W (k + 1)
    = (k0_pay33 (ceiling c i a3 h3 a4 h4 a5 h5 a6 h6 a7 h7 a8 h8 a9 h9 a10 h10 a11 h11 a12 h12 a13 h13 a14 h14 a15 h15 x0 x1 x5 xt0 K) (weighed c i a3 h3 a4 h4 a5 h5 a6 h6 a7 h7 a8 h8 a9 h9 a10 h10 a11 h11 a12 h12 a13 h13 a14 h14 a15 h15 x0 x1 x2 x5 xt0 K W k).1 (boardTile a15 h15 (board c i a3 h3 a4 h4 a5 h5 a6 h6 a7 h7 a8 h8 a9 h9 a10 h10 a11 h11 a12 h12 a13 h13 a14 h14 a15 h15 x0 x1 x5 xt0 K) k),
      k0_pay34 (ceiling c i a3 h3 a4 h4 a5 h5 a6 h6 a7 h7 a8 h8 a9 h9 a10 h10 a11 h11 a12 h12 a13 h13 a14 h14 a15 h15 x0 x1 x5 xt0 K) (weighed c i a3 h3 a4 h4 a5 h5 a6 h6 a7 h7 a8 h8 a9 h9 a10 h10 a11 h11 a12 h12 a13 h13 a14 h14 a15 h15 x0 x1 x2 x5 xt0 K W k).2 (valueTile a5 h5 x2 k) (boardTile a15 h15 (board c i a3 h3 a4 h4 a5 h5 a6 h6 a7 h7 a8 h8 a9 h9 a10 h10 a11 h11 a12 h12 a13 h13 a14 h14 a15 h15 x0 x1 x5 xt0 K) k) (weightTile a14 h14 W k)) := by
  unfold weighed
  refine (st_k0_t3_succ ..).trans ?_
  unfold tripR_k0_t3 trip_k0_t3
  rfl

/-- The sum of weights starts from zero. -/
theorem zero8 (a : Fin 8) (j : Fin 256) : k0_pay30 (F := Ideal) (ix2 a j) = 0 := by
  pointwise [k0_pay30]

/-- The weighted sum starts from zero. -/
theorem zero64 (a : Fin 64) (j : Fin 256) : k0_pay31 (F := Ideal) (ix2 a j) = 0 := by
  pointwise [k0_pay31]

/-- The sum of weights after some trips. -/
theorem weighed_den (hK : ∀ r l, K (ix2 r l) = ks r) (k : ℕ) (hk : k ≤ 32) (j : Fin 256) :
    ∑ a : Fin 8, (weighed c i a3 h3 a4 h4 a5 h5 a6 h6 a7 h7 a8 h8 a9 h9 a10 h10 a11 h11 a12 h12 a13 h13 a14 h14 a15 h15 x0 x1 x2 x5 xt0 K W k).1 (ix2 a j) = ∑ r ∈ Finset.range (128 * k), mass c i a3 h3 a4 h4 a5 h5 a6 h6 a7 h7 a8 h8 a9 h9 a10 h10 a11 h11 a12 h12 a13 h13 a14 h14 a15 h15 x0 x1 x5 xt0 K ks r j := by
  induction k with
  | zero =>
    refine (Finset.sum_eq_zero fun a _ => ?_).trans (Finset.sum_range_zero _).symm
    exact zero8 a j
  | succ k ih =>
    have hk' : k < k0_t3_loop.trips := lt_of_lt_of_eq (by omega : k < 32) trips3.symm
    rw [weighed_step c i a3 h3 a4 h4 a5 h5 a6 h6 a7 h7 a8 h8 a9 h9 a10 h10 a11 h11 a12 h12 a13 h13 a14 h14 a15 h15 x0 x1 x2 x5 xt0 K W ⟨k, hk'⟩]
    simp only [pay33]
    rw [Finset.sum_add_distrib, ih (by omega), Nat.mul_succ, Finset.sum_range_add, mass_eights]
    refine congrArg₂ (· + ·) rfl (Finset.sum_congr rfl fun a _ => Finset.sum_congr rfl fun b _ => ?_)
    refine congrArg (heft · _) ?_
    refine (read_tile h15 _ (128 * k) _ (off7 ⟨k, hk'⟩) _ _ j).trans ?_
    exact board_eq c i a3 h3 a4 h4 a5 h5 a6 h6 a7 h7 a8 h8 a9 h9 a10 h10 a11 h11 a12 h12 a13 h13 a14 h14 a15 h15 x0 x1 x5 xt0 K ks hK _ j

/-- The weighted values after some trips. -/
theorem weighed_acc (hK : ∀ r l, K (ix2 r l) = ks r) (hW : ∀ r l, W (ix2 r l) = ws r) (k : ℕ) (hk : k ≤ 32) (d : Fin 64) (j : Fin 256) :
    (weighed c i a3 h3 a4 h4 a5 h5 a6 h6 a7 h7 a8 h8 a9 h9 a10 h10 a11 h11 a12 h12 a13 h13 a14 h14 a15 h15 x0 x1 x2 x5 xt0 K W k).2 (ix2 d j) = ∑ r ∈ Finset.range (128 * k), part c i a3 h3 a4 h4 a5 h5 a6 h6 a7 h7 a8 h8 a9 h9 a10 h10 a11 h11 a12 h12 a13 h13 a14 h14 a15 h15 x0 x1 x2 x5 x6 xt0 K ks ws d r j := by
  induction k with
  | zero => exact (zero64 d j).trans (Finset.sum_range_zero _).symm
  | succ k ih =>
    have hk' : k < k0_t3_loop.trips := lt_of_lt_of_eq (by omega : k < 32) trips3.symm
    rw [weighed_step c i a3 h3 a4 h4 a5 h5 a6 h6 a7 h7 a8 h8 a9 h9 a10 h10 a11 h11 a12 h12 a13 h13 a14 h14 a15 h15 x0 x1 x2 x5 xt0 K W ⟨k, hk'⟩]
    dsimp only
    refine (pay34 _ _ _ (weightTile a14 h14 W ⟨k, hk'⟩) (fun x => ws ⟨128 * k + x, by have := x.isLt; omega⟩)
      (fun x l => (read_tile h14 W (128 * k) _ (off8 ⟨k, hk'⟩) _ x l).trans (hW _ _)) _ d j).trans ?_
    rw [ih (by omega), Nat.mul_succ, Finset.sum_range_add]
    congr 1
    rw [Finset.sum_range]
    refine Finset.sum_congr rfl fun x _ => ?_
    have hx := x.isLt
    rw [part, dif_pos (by omega)]
    congr 1
    · exact read_cols h5 x2 (128 * k) _ (off6 ⟨k, hk'⟩) _ d x
    · congr 1
      unfold mass
      congr 1
      refine (read_tile h15 _ (128 * k) _ (off7 ⟨k, hk'⟩) _ x j).trans ?_
      exact board_eq c i a3 h3 a4 h4 a5 h5 a6 h6 a7 h7 a8 h8 a9 h9 a10 h10 a11 h11 a12 h12 a13 h13 a14 h14 a15 h15 x0 x1 x5 xt0 K ks hK _ j

/-- A sum over all the rows, the last three tiles apart. -/
theorem sum_tiles (f : ℕ → EReal) : ∑ r ∈ Finset.range 4480, f r = (∑ r ∈ Finset.range (128 * 32), f r)
    + (∑ x ∈ Finset.range 128, f (4096 + x)) + (∑ x ∈ Finset.range 128, f (4224 + x)) + ∑ x ∈ Finset.range 128, f (4352 + x) := by
  rw [show 4480 = 4096 + 128 + 128 + 128 from rfl, Finset.sum_range_add, Finset.sum_range_add, Finset.sum_range_add]

/-- The block the step stores, entry by entry. -/
theorem blockVal_eq (hK : ∀ r l, K (ix2 r l) = ks r) (hW : ∀ r l, W (ix2 r l) = ws r) (d : Fin 64) (j : Fin 256) :
    blockVal c i a3 h3 a4 h4 a5 h5 a6 h6 a7 h7 a8 h8 a9 h9 a10 h10 a11 h11 a12 h12 a13 h13 a14 h14 a15 h15 x0 x1 x2 x5 x6 xt0 K W (ix3 0 d j)
      = Ideal.div (∑ r ∈ Finset.range 4480, part c i a3 h3 a4 h4 a5 h5 a6 h6 a7 h7 a8 h8 a9 h9 a10 h10 a11 h11 a12 h12 a13 h13 a14 h14 a15 h15 x0 x1 x2 x5 x6 xt0 K ks ws d r j)
          (∑ r ∈ Finset.range 4480, mass c i a3 h3 a4 h4 a5 h5 a6 h6 a7 h7 a8 h8 a9 h9 a10 h10 a11 h11 a12 h12 a13 h13 a14 h14 a15 h15 x0 x1 x5 xt0 K ks r j) := by
  have t0 : ∀ (x : Fin 128), tile0 c i a3 h3 a4 h4 a5 h5 a6 h6 a7 h7 a8 h8 a9 h9 a10 h10 a11 h11 a12 h12 a13 h13 a14 h14 a15 h15 x0 x1 x5 xt0 K (ix2 x j) = point c i x0 x1 x5 xt0 ks (4096 + x) j := fun x =>
    (read_tile h15 _ 4096 _ rfl _ x j).trans (board_eq c i a3 h3 a4 h4 a5 h5 a6 h6 a7 h7 a8 h8 a9 h9 a10 h10 a11 h11 a12 h12 a13 h13 a14 h14 a15 h15 x0 x1 x5 xt0 K ks hK _ j)
  have t1 : ∀ (x : Fin 128), tile1 c i a3 h3 a4 h4 a5 h5 a6 h6 a7 h7 a8 h8 a9 h9 a10 h10 a11 h11 a12 h12 a13 h13 a14 h14 a15 h15 x0 x1 x5 xt0 K (ix2 x j) = point c i x0 x1 x5 xt0 ks (4224 + x) j := fun x =>
    (read_tile h15 _ 4224 _ rfl _ x j).trans (board_eq c i a3 h3 a4 h4 a5 h5 a6 h6 a7 h7 a8 h8 a9 h9 a10 h10 a11 h11 a12 h12 a13 h13 a14 h14 a15 h15 x0 x1 x5 xt0 K ks hK _ j)
  have t2 : ∀ (x : Fin 128), tile2 c i a3 h3 a4 h4 a5 h5 a6 h6 a7 h7 a8 h8 a9 h9 a10 h10 a11 h11 a12 h12 a13 h13 a14 h14 a15 h15 x0 x1 x5 xt0 K (ix2 x j) = point c i x0 x1 x5 xt0 ks (4352 + x) j := fun x =>
    (read_tile h15 _ 4352 _ rfl _ x j).trans (board_eq c i a3 h3 a4 h4 a5 h5 a6 h6 a7 h7 a8 h8 a9 h9 a10 h10 a11 h11 a12 h12 a13 h13 a14 h14 a15 h15 x0 x1 x5 xt0 K ks hK _ j)
  have g0 : ∀ x l, weight0 a14 h14 W (ix2 x l) = (fun x : Fin 128 => ws ⟨4096 + x, by have := x.isLt; omega⟩) x := fun x l =>
    (read_tile h14 W 4096 _ rfl _ x l).trans (hW _ _)
  have g1 : ∀ x l, weight1 a14 h14 W (ix2 x l) = (fun x : Fin 128 => ws ⟨4224 + x, by have := x.isLt; omega⟩) x := fun x l =>
    (read_tile h14 W 4224 _ rfl _ x l).trans (hW _ _)
  have g2 : ∀ x l, weight2 a14 h14 W (ix2 x l) = (fun x : Fin 128 => ws ⟨4352 + x, by have := x.isLt; omega⟩) x := fun x l =>
    (read_tile h14 W 4352 _ rfl _ x l).trans (hW _ _)
  unfold blockVal
  rw [pay1 _ _ _ _ _ g2, pay38 _ _ _ _ _ _ _ _ _ g0 g1]
  simp only [pay37]
  rw [weighed_acc c i a3 h3 a4 h4 a5 h5 a6 h6 a7 h7 a8 h8 a9 h9 a10 h10 a11 h11 a12 h12 a13 h13 a14 h14 a15 h15 x0 x1 x2 x5 x6 xt0 K W ks ws hK hW 32 le_rfl]
  congr 1
  · rw [sum_tiles]
    congr 1
    · congr 1
      · congr 1
        rw [Finset.sum_range]
        refine Finset.sum_congr rfl fun x _ => ?_
        have hx := x.isLt
        rw [part, dif_neg (by omega), dif_pos (by omega), t0]
        congr 1
        exact (read_cols h9 x6 0 _ rfl _ d x).trans (congrArg (fun z => x6 (ix3 0 d z)) (fin_eq (show 0 + (x : ℕ) = 4096 + x - 4096 by omega)))
      · rw [Finset.sum_range]
        refine Finset.sum_congr rfl fun x _ => ?_
        have hx := x.isLt
        rw [part, dif_neg (by omega), dif_pos (by omega), t1]
        congr 1
        exact (read_cols h9 x6 128 _ rfl _ d x).trans (congrArg (fun z => x6 (ix3 0 d z)) (fin_eq (show 128 + (x : ℕ) = 4224 + x - 4096 by omega)))
    · rw [Finset.sum_range]
      refine Finset.sum_congr rfl fun x _ => ?_
      have hx := x.isLt
      rw [part, dif_neg (by omega), dif_pos (by omega), t2]
      congr 1
      exact (read_cols h9 x6 256 _ rfl _ d x).trans (congrArg (fun z => x6 (ix3 0 d z)) (fin_eq (show 256 + (x : ℕ) = 4352 + x - 4096 by omega)))
  · simp only [Finset.sum_add_distrib]
    rw [weighed_den c i a3 h3 a4 h4 a5 h5 a6 h6 a7 h7 a8 h8 a9 h9 a10 h10 a11 h11 a12 h12 a13 h13 a14 h14 a15 h15 x0 x1 x2 x5 xt0 K W ks hK 32 le_rfl, sum_tiles, mass_eights, mass_eights, mass_eights]
    simp only [t0, t1, t2]
    rfl

end
end Cert.ChunkIdeal.Gen
end
-- ==== Proof.ChunkScales.lean ====
/-
  What the first step of a head leaves in its two buffers of scales, row by row.
-/
module

public import proofs.«01_k».proof.Proof.ChunkStep

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk

/-- The scale of a row: those of the cached tokens before those of the new ones. -/
def rowScale (C : Vec Ideal S1x32x128 .f32) (N : Vec Ideal S1x1x384 .f32) (r : Fin 4480) : EReal :=
  if h : (r : ℕ) < 4096 then C (ix3 0 ⟨r / 128, by omega⟩ ⟨r % 128, by omega⟩) else N (ix3 0 0 ⟨r - 4096, by omega⟩)

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32)

/-- The loop that spreads the cached tokens' scales over the lanes. -/
def fill (hc0 : cond0_0 i) (k : ℕ) := pb_k0_t1 Variants.none c none i tbM0_0 htbM0_0 a3 h3 a4 h4 a5 h5 a6 h6 a7 h7 a8 h8 a9 h9 a10 h10 a11 h11 a12 h12 a13 h13 a14 h14 a15 h15 hc0 (h6.unread x3) (h7.unread x4) k

/-- One turn of the loop over the scales. -/
theorem fill_step (hc0 : cond0_0 i) (k : Fin k0_t1_loop.trips) : fill c i a3 h3 a4 h4 a5 h5 a6 h6 a7 h7 a8 h8 a9 h9 a10 h10 a11 h11 a12 h12 a13 h13 a14 h14 a15 h15 x3 x4 hc0 (k + 1)
    = (⟨Rect.unit (s := S4480x128) (k0_off2 k) ![128, 128] (k0_off2_inb i k hc0), k0_pay2 (View.readAt (Elt Ideal) a6.view (Rect.unit (s := S1x32x128) (k0_off1 k) ![1, 1, 128] (k0_off1_inb i k hc0)).toLoadRect (h6.unread x3))⟩
          :: (fill c i a3 h3 a4 h4 a5 h5 a6 h6 a7 h7 a8 h8 a9 h9 a10 h10 a11 h11 a12 h12 a13 h13 a14 h14 a15 h15 x3 x4 hc0 k).1,
      ⟨Rect.unit (s := S4480x128) (k0_off2 k) ![128, 128] (k0_off2_inb i k hc0), k0_pay3 (View.readAt (Elt Ideal) a7.view (Rect.unit (s := S1x32x128) (k0_off1 k) ![1, 1, 128] (k0_off1_inb i k hc0)).toLoadRect (h7.unread x4))⟩
          :: (fill c i a3 h3 a4 h4 a5 h5 a6 h6 a7 h7 a8 h8 a9 h9 a10 h10 a11 h11 a12 h12 a13 h13 a14 h14 a15 h15 x3 x4 hc0 k).2) := by
  unfold fill
  refine (pb_k0_t1_succ ..).trans ?_
  unfold tripL_k0_t1 trip_k0_t1
  rfl

/-- The rows the loop has filled. -/
theorem fill_rows (hc0 : cond0_0 i) (k : ℕ) (hk : k ≤ 32) (r : Fin 4480) (hr : (r : ℕ) < 128 * k) (l : Fin 128) :
    View.canon (fill c i a3 h3 a4 h4 a5 h5 a6 h6 a7 h7 a8 h8 a9 h9 a10 h10 a11 h11 a12 h12 a13 h13 a14 h14 a15 h15 x3 x4 hc0 k).1 (ix2 r l) = x3 (ix3 0 ⟨r / 128, by omega⟩ ⟨r % 128, by omega⟩)
      ∧ View.canon (fill c i a3 h3 a4 h4 a5 h5 a6 h6 a7 h7 a8 h8 a9 h9 a10 h10 a11 h11 a12 h12 a13 h13 a14 h14 a15 h15 x3 x4 hc0 k).2 (ix2 r l) = x4 (ix3 0 ⟨r / 128, by omega⟩ ⟨r % 128, by omega⟩) := by
  induction k with
  | zero => omega
  | succ k ih =>
    have hk' : k < k0_t1_loop.trips := lt_of_lt_of_eq (by omega : k < 32) trips1.symm
    rw [fill_step c i a3 h3 a4 h4 a5 h5 a6 h6 a7 h7 a8 h8 a9 h9 a10 h10 a11 h11 a12 h12 a13 h13 a14 h14 a15 h15 x3 x4 hc0 ⟨k, hk'⟩]
    dsimp only
    rw [canon_tile (128 * k) _ (off2 _) _ _ _ r l, canon_tile (128 * k) _ (off2 _) _ _ _ r l]
    split
    · rename_i h
      constructor
      · rw [pay2]
        exact (read_row h6 x3 k _ (off1 ⟨k, hk'⟩) _ _).trans
          (congrArg₂ (fun u v => x3 (ix3 0 u v)) (fin_eq (show k = r / 128 by omega)) (fin_eq (show (r : ℕ) - 128 * k = r % 128 by omega)))
      · rw [pay3]
        exact (read_row h7 x4 k _ (off1 ⟨k, hk'⟩) _ _).trans
          (congrArg₂ (fun u v => x4 (ix3 0 u v)) (fin_eq (show k = r / 128 by omega)) (fin_eq (show (r : ℕ) - 128 * k = r % 128 by omega)))
    · exact ih (by omega) (by omega)

/-- The scales of the keys, row by row. -/
theorem keyScales_eq (hc0 : cond0_0 i) (r : Fin 4480) (l : Fin 128) :
    View.canon (keyScales c i a3 h3 a4 h4 a5 h5 a6 h6 a7 h7 a8 h8 a9 h9 a10 h10 a11 h11 a12 h12 a13 h13 a14 h14 a15 h15 x3 x4 x7 hc0) (ix2 r l) = rowScale x3 x7 r := by
  have hr := r.isLt
  unfold keyScales rowScale
  rw [canon_tile 4352 _ rfl _ _ _ r l]
  split
  · rw [dif_neg (by omega)]
    rw [pay9]
    exact (read_cols h10 x7 256 _ rfl _ 0 _).trans (congrArg (fun z => x7 (ix3 0 0 z)) (fin_eq (show 256 + ((r : ℕ) - 4352) = r - 4096 by omega)))
  rw [canon_tile 4224 _ rfl _ _ _ r l]
  split
  · rw [dif_neg (by omega)]
    rw [pay6]
    exact (read_cols h10 x7 128 _ rfl _ 0 _).trans (congrArg (fun z => x7 (ix3 0 0 z)) (fin_eq (show 128 + ((r : ℕ) - 4224) = r - 4096 by omega)))
  rw [canon_tile 4096 _ rfl _ _ _ r l]
  split
  · rw [dif_neg (by omega)]
    rw [pay4]
    exact (read_cols h10 x7 0 _ rfl _ 0 _).trans (congrArg (fun z => x7 (ix3 0 0 z)) (fin_eq (show 0 + ((r : ℕ) - 4096) = r - 4096 by omega)))
  rw [dif_pos (by omega)]
  refine Eq.trans (congrArg (fun k => View.canon (fill c i a3 h3 a4 h4 a5 h5 a6 h6 a7 h7 a8 h8 a9 h9 a10 h10 a11 h11 a12 h12 a13 h13 a14 h14 a15 h15 x3 x4 hc0 k).1 (ix2 r l)) (trips1 : Scf.trips k0_t1_loop.lb k0_t1_loop.ub k0_t1_loop.st = 32)) ?_
  exact (fill_rows c i a3 h3 a4 h4 a5 h5 a6 h6 a7 h7 a8 h8 a9 h9 a10 h10 a11 h11 a12 h12 a13 h13 a14 h14 a15 h15 x3 x4 hc0 32 le_rfl r (by omega) l).1

/-- The scales of the values, row by row. -/
theorem valueScales_eq (hc0 : cond0_0 i) (r : Fin 4480) (l : Fin 128) :
    View.canon (valueScales c i a3 h3 a4 h4 a5 h5 a6 h6 a7 h7 a8 h8 a9 h9 a10 h10 a11 h11 a12 h12 a13 h13 a14 h14 a15 h15 x3 x4 x8 hc0) (ix2 r l) = rowScale x4 x8 r := by
  have hr := r.isLt
  unfold valueScales rowScale
  rw [canon_tile 4352 _ rfl _ _ _ r l]
  split
  · rw [dif_neg (by omega)]
    rw [pay10]
    exact (read_cols h11 x8 256 _ rfl _ 0 _).trans (congrArg (fun z => x8 (ix3 0 0 z)) (fin_eq (show 256 + ((r : ℕ) - 4352) = r - 4096 by omega)))
  rw [canon_tile 4224 _ rfl _ _ _ r l]
  split
  · rw [dif_neg (by omega)]
    unfold runFrom_A.sl.r
    rw [pay8]
    exact (read_cols h11 x8 128 _ rfl _ 0 _).trans (congrArg (fun z => x8 (ix3 0 0 z)) (fin_eq (show 128 + ((r : ℕ) - 4224) = r - 4096 by omega)))
  rw [canon_tile 4096 _ rfl _ _ _ r l]
  split
  · rw [dif_neg (by omega)]
    rw [pay5]
    exact (read_cols h11 x8 0 _ rfl _ 0 _).trans (congrArg (fun z => x8 (ix3 0 0 z)) (fin_eq (show 0 + ((r : ℕ) - 4096) = r - 4096 by omega)))
  rw [dif_pos (by omega)]
  refine Eq.trans (congrArg (fun k => View.canon (fill c i a3 h3 a4 h4 a5 h5 a6 h6 a7 h7 a8 h8 a9 h9 a10 h10 a11 h11 a12 h12 a13 h13 a14 h14 a15 h15 x3 x4 hc0 k).2 (ix2 r l)) (trips1 : Scf.trips k0_t1_loop.lb k0_t1_loop.ub k0_t1_loop.st = 32)) ?_
  exact (fill_rows c i a3 h3 a4 h4 a5 h5 a6 h6 a7 h7 a8 h8 a9 h9 a10 h10 a11 h11 a12 h12 a13 h13 a14 h14 a15 h15 x3 x4 hc0 32 le_rfl r (by omega) l).2

end
end Cert.ChunkIdeal.Gen
end
-- ==== Proof.ChunkSums.lean ====
/-
  Attention over the rows of the buffer of scores: the rows hold the cached tokens place by place, then the new tokens,
  then some rows that no token fills.
-/
module

public import proofs.«01_k».proof.Proof.ChunkMath

@[expose] public section

noncomputable section
namespace Cert.Proof.Chunk
open Idealize.ShloMosaic

/-- The score of a token that is not seen is minus infinity. -/
theorem unseen_eq : unseen = ⊥ := by
  simp [unseen, Ideal.ofBits, Ideal.ieee]

/-- The token a row of the cache holds. -/
def token (r : ℕ) (h : r < 4096) : Fin 4096 := ⟨r % 128 * 32 + r / 128, by omega⟩

/-- Rows and tokens of the cache match one to one. -/
def tokens : Fin 4096 ≃ Fin 4096 where
  toFun r := token r r.isLt
  invFun t := ⟨t % 32 * 128 + t / 32, by omega⟩
  left_inv r := by ext; simp only [token]; omega
  right_inv t := by ext; simp only [token]; omega

/-- A sum over the rows of the buffer is one over the cached and one over the new tokens. -/
theorem sum_rows (f : ℕ → EReal) (g : Fin 4096 → EReal) (g' : Fin 320 → EReal) (hg : ∀ r h, f r = g (token r h))
    (hg' : ∀ u (h : u < 320), f (4096 + u) = g' ⟨u, h⟩) (h0 : ∀ u, 320 ≤ u → u < 384 → f (4096 + u) = 0) :
    ∑ r ∈ Finset.range 4480, f r = (∑ t, g t) + ∑ u, g' u := by
  rw [show 4480 = 4096 + 320 + 64 from rfl, Finset.sum_range_add, Finset.sum_range_add]
  have e0 : ∑ x ∈ Finset.range 64, f (4096 + 320 + x) = 0 := Finset.sum_eq_zero fun x hx => by
    have := Finset.mem_range.mp hx
    rw [Nat.add_assoc]
    exact h0 _ (by omega) (by omega)
  rw [e0, add_zero, Finset.sum_range, Finset.sum_range]
  refine congrArg₂ (· + ·) ?_ ?_
  · exact Fintype.sum_equiv tokens _ _ fun r => hg r r.isLt
  · exact Fintype.sum_congr _ _ fun u => hg' u u.isLt

/-- What bounds the largest score bounds every score. -/
theorem top_le {A : ℕ} (s : Fin A → EReal) (z : EReal) : top s ≤ z ↔ unseen ≤ z ∧ ∀ a, s a ≤ z := by
  unfold top
  refine (Finset.fold_max_le z).trans ?_
  simp

/-- The quotient of the sums over all the rows is the attention. -/
theorem attend_rows (P v w : ℕ → EReal) (L : EReal) (hL : ∀ z, L ≤ z ↔ unseen ≤ z ∧ ∀ r : ℕ, r < 4480 → P r ≤ z)
    (sC wC vC : Fin 4096 → EReal) (sN wN vN : Fin 320 → EReal)
    (hC : ∀ r h, P r = sC (token r h)) (hN : ∀ u (h : u < 320), P (4096 + u) = sN ⟨u, h⟩)
    (hX : ∀ u, 320 ≤ u → u < 384 → P (4096 + u) = unseen)
    (hvC : ∀ r h, v r = vC (token r h)) (hvN : ∀ u (h : u < 320), v (4096 + u) = vN ⟨u, h⟩)
    (hwC : ∀ r h, w r = wC (token r h)) (hwN : ∀ u (h : u < 320), w (4096 + u) = wN ⟨u, h⟩) :
    Ideal.div (∑ r ∈ Finset.range 4480, v r * (Ideal.exp2 (P r - Ideal.liftRound Int.ceil L) * w r))
        (∑ r ∈ Finset.range 4480, Ideal.exp2 (P r - Ideal.liftRound Int.ceil L))
      = attend sC sN wC vC wN vN := by
  have eL : L = max (top sC) (top sN) := by
    refine eq_of_forall_ge_iff fun z => ?_
    rw [hL, max_le_iff, top_le, top_le]
    constructor
    · rintro ⟨h0, h1⟩
      refine ⟨⟨h0, fun t => ?_⟩, h0, fun u => ?_⟩
      · have e := hC (tokens.symm t) (tokens.symm t).isLt
        have e' : token (tokens.symm t) (tokens.symm t).isLt = t := tokens.apply_symm_apply t
        rw [e'] at e
        exact e ▸ h1 _ (lt_trans (tokens.symm t).isLt (by norm_num))
      · exact hN u u.isLt ▸ h1 _ (by omega)
    · rintro ⟨⟨h0, h1⟩, -, h2⟩
      refine ⟨h0, fun r hr => ?_⟩
      by_cases g : r < 4096
      · exact hC r g ▸ h1 _
      by_cases g' : r - 4096 < 320
      · have e := hN (r - 4096) g'
        rw [show 4096 + (r - 4096) = r by omega] at e
        exact e ▸ h2 _
      · have e := hX (r - 4096) (by omega) (by omega)
        rw [show 4096 + (r - 4096) = r by omega] at e
        exact e ▸ h0
  rw [eL]
  clear eL hL
  have z : ∀ u, 320 ≤ u → u < 384 → Ideal.exp2 (P (4096 + u) - Ideal.liftRound Int.ceil (max (top sC) (top sN))) = 0 := by
    intro u h h'
    rw [hX u h h', unseen_eq, EReal.bot_sub, Ideal.exp2_bot]
  have e1 := sum_rows (fun r => v r * (Ideal.exp2 (P r - Ideal.liftRound Int.ceil (max (top sC) (top sN))) * w r))
    (fun a => Ideal.exp2 (sC a - Ideal.liftRound Int.ceil (max (top sC) (top sN))) * wC a * vC a)
    (fun b => Ideal.exp2 (sN b - Ideal.liftRound Int.ceil (max (top sC) (top sN))) * wN b * vN b)
    (fun r h => by beta_reduce; rw [hC r h, hvC r h, hwC r h, mul_comm])
    (fun u h => by beta_reduce; rw [hN u h, hvN u h, hwN u h, mul_comm])
    (fun u h h' => by beta_reduce; rw [z u h h', zero_mul, mul_zero])
  have e2 := sum_rows (fun r => Ideal.exp2 (P r - Ideal.liftRound Int.ceil (max (top sC) (top sN))))
    (fun a => Ideal.exp2 (sC a - Ideal.liftRound Int.ceil (max (top sC) (top sN))))
    (fun b => Ideal.exp2 (sN b - Ideal.liftRound Int.ceil (max (top sC) (top sN))))
    (fun r h => by beta_reduce; rw [hC r h])
    (fun u h => by beta_reduce; rw [hN u h])
    (fun u h h' => z u h h')
  rw [e1, e2]
  rfl

/-- A row below the new tokens' end but past the tokens is not seen. -/
theorem not_seen (u i : ℕ) (hi : i < 320) (hu : 320 ≤ u) (hu' : u < 384) :
    IntOp.cmpi .sle (BitVec.ofNat 32 u) (BitVec.ofNat 32 i) = 0#1 := by
  have e : (BitVec.ofNat 32 u).sle (BitVec.ofNat 32 i) = false := by
    rw [BitVec.sle_eq_decide, decide_eq_false_iff_not, BitVec.toInt_ofNat', BitVec.toInt_ofNat']
    norm_num [Int.bmod]
    omega
  unfold IntOp.cmpi
  dsimp only
  rw [e]
  rfl

/-- The two constants of the scores are one. -/
theorem factors : Ideal.ofBits .f32 0x3E38AA3B#32 = Ideal.ofBits .f32 0x3E000000#32 * Ideal.ofBits .f32 0x3FB8AA3B#32 := by
  simp [Ideal.ofBits, Ideal.ieee, -EReal.coe_mul]
  rw [← EReal.coe_mul]
  norm_num

end Cert.Proof.Chunk
end
-- ==== Proof.ChunkPoint.lean ====
/-
  One block of the chunk's attention, entry by entry, is the formula of the arrays its blocks hold.
-/
module

public import proofs.«01_k».proof.Proof.ChunkScales
public import proofs.«01_k».proof.Proof.ChunkSums

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk

/-- The value in a row: those of the cached tokens before those of the new ones. -/
def rowValue (C : Vec Ideal S1x64x4096 .bf16) (N : Vec Ideal S1x64x384 .bf16) (d : Fin 64) (r : ℕ) : EReal :=
  if h : r < 4096 then C (ix3 0 d ⟨r, h⟩) else if h' : r < 4480 then N (ix3 0 d ⟨r - 4096, by omega⟩) else 0

/-- The scale of a row, by number. -/
def scaleOf (s : Fin 4480 → EReal) (r : ℕ) : EReal := if h : r < 4480 then s ⟨r, h⟩ else 0

/-- The two constants multiply a score in either order. -/
theorem score_eq (a k : EReal) : a * (k * factor)
    = a * (k * Ideal.ofBits .f32 0x3E000000#32) * Ideal.ofBits .f32 0x3FB8AA3B#32 := by
  rw [show factor = Ideal.ofBits .f32 0x3E000000#32 * Ideal.ofBits .f32 0x3FB8AA3B#32 from factors, ← mul_assoc k, ← mul_assoc]

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32)
  (n : Vec Ideal ⟨1, ![1]⟩ .i32) (q : Vec Ideal ⟨2, ![896, 336]⟩ .bf16)
  (kc vc : Vec Ideal ⟨3, ![2, 64, 4096]⟩ .bf16) (kcs vcs : Vec Ideal ⟨3, ![2, 32, 128]⟩ .f32)
  (kn : Vec Ideal ⟨2, ![128, 336]⟩ .bf16) (kns : Vec Ideal ⟨2, ![2, 336]⟩ .f32)
  (vn : Vec Ideal ⟨2, ![128, 336]⟩ .bf16) (vns : Vec Ideal ⟨2, ![2, 336]⟩ .f32)

/-- An entry of a step's block is the formula's, when the step's blocks hold the arrays of its head. -/
theorem block_entry (hK : ∀ r l, K (ix2 r l) = rowScale x3 x7 r) (hW : ∀ r l, W (ix2 r l) = rowScale x4 x8 r)
    (h : Fin 14) (u : Fin 320) (j : Fin 256) (d : Fin 64)
    (hq : ∀ e : Fin 64, x0 (ix3 0 e j) = q (ix2 ⟨h * 64 + e, by omega⟩ ⟨u, by omega⟩))
    (hkc : ∀ (e : Fin 64) r, x1 (ix3 0 e r) = kc (ix3 ⟨h / 7, by omega⟩ e r))
    (hvc : ∀ (e : Fin 64) r, x2 (ix3 0 e r) = vc (ix3 ⟨h / 7, by omega⟩ e r))
    (hkcs : ∀ a b, x3 (ix3 0 a b) = kcs (ix3 ⟨h / 7, by omega⟩ a b))
    (hvcs : ∀ a b, x4 (ix3 0 a b) = vcs (ix3 ⟨h / 7, by omega⟩ a b))
    (hkn : ∀ (e : Fin 64) (b : Fin 320), x5 (ix3 0 e ⟨b, by omega⟩) = kn (ix2 ⟨h / 7 * 64 + e, by omega⟩ ⟨b, by omega⟩))
    (hvn : ∀ (e : Fin 64) (b : Fin 320), x6 (ix3 0 e ⟨b, by omega⟩) = vn (ix2 ⟨h / 7 * 64 + e, by omega⟩ ⟨b, by omega⟩))
    (hkns : ∀ b : Fin 320, x7 (ix3 0 0 ⟨b, by omega⟩) = kns (ix2 ⟨h / 7, by omega⟩ ⟨b, by omega⟩))
    (hvns : ∀ b : Fin 320, x8 (ix3 0 0 ⟨b, by omega⟩) = vns (ix2 ⟨h / 7, by omega⟩ ⟨b, by omega⟩))
    (hn : cached c xt0 = n (ix1 0)) (hr : rowAt i j = BitVec.ofNat 32 u) :
    blockVal c i a3 h3 a4 h4 a5 h5 a6 h6 a7 h7 a8 h8 a9 h9 a10 h10 a11 h11 a12 h12 a13 h13 a14 h14 a15 h15 x0 x1 x2 x5 x6 xt0 K W (ix3 0 d j) = Cert.Proof.Chunk.entry n q kc vc kcs vcs kn kns vn vns u h d := by
  obtain ⟨L, eL, hL⟩ := ceiling_eq c i a3 h3 a4 h4 a5 h5 a6 h6 a7 h7 a8 h8 a9 h9 a10 h10 a11 h11 a12 h12 a13 h13 a14 h14 a15 h15 x0 x1 x5 xt0 K (rowScale x3 x7) hK j
  have sC : ∀ r (g : r < 4096), point c i x0 x1 x5 xt0 (rowScale x3 x7) r j = scoreC n q kc kcs h u (Cert.Proof.Chunk.token r g) := by
    intro r g
    rw [point, dif_pos g, score_eq, hn]
    unfold scoreC seen
    have eK : rowScale x3 x7 ⟨r, by omega⟩ = kcs (ix3 ⟨h / 7, by omega⟩ ⟨(Cert.Proof.Chunk.token r g : ℕ) % 32, by omega⟩ ⟨(Cert.Proof.Chunk.token r g : ℕ) / 32, by omega⟩) := by
      rw [rowScale, dif_pos g, hkcs]
      unfold Cert.Proof.Chunk.token
      exact congrArg₂ (fun a b => kcs (ix3 ⟨h / 7, by omega⟩ a b)) (fin_eq (show r / 128 = (r % 128 * 32 + r / 128) % 32 by omega))
        (fin_eq (show r % 128 = (r % 128 * 32 + r / 128) / 32 by omega))
    have eS : ∑ e : Fin 64, x1 (ix3 0 e ⟨r, g⟩) * x0 (ix3 0 e j)
        = ∑ e : Fin 64, q (ix2 ⟨h * 64 + e, by omega⟩ ⟨u, by omega⟩)
          * kc (ix3 ⟨h / 7, by omega⟩ e ⟨(Cert.Proof.Chunk.token r g : ℕ) % 32 * 128 + (Cert.Proof.Chunk.token r g : ℕ) / 32, by omega⟩) := by
      refine Finset.sum_congr rfl fun e _ => ?_
      rw [hq, hkc, mul_comm]
      unfold Cert.Proof.Chunk.token
      exact congrArg (fun z => q (ix2 ⟨h * 64 + e, by omega⟩ ⟨u, by omega⟩) * kc (ix3 ⟨h / 7, by omega⟩ e z))
        (fin_eq (show r = (r % 128 * 32 + r / 128) % 32 * 128 + (r % 128 * 32 + r / 128) / 32 by omega))
    rw [eK, eS]
    rfl
  have nS : ∀ b (g : b < 384), point c i x0 x1 x5 xt0 (rowScale x3 x7) (4096 + b) j
      = Scalar.select (IntOp.cmpi .sle (BitVec.ofNat 32 b) (BitVec.ofNat 32 u))
        ((∑ e : Fin 64, x5 (ix3 0 e ⟨b, g⟩) * x0 (ix3 0 e j)) * (x7 (ix3 0 0 ⟨b, g⟩) * factor)) unseen := by
    intro b g
    rw [point, dif_neg (by omega), dif_pos (by omega), hr, rowScale, dif_neg (by dsimp only; omega)]
    have e5 : ∀ e : Fin 64, x5 (ix3 0 e ⟨4096 + b - 4096, by omega⟩) = x5 (ix3 0 e ⟨b, g⟩) := fun e =>
      congrArg (fun z => x5 (ix3 0 e z)) (fin_eq (show 4096 + b - 4096 = b by omega))
    have e7 : x7 (ix3 0 0 ⟨4096 + b - 4096, by omega⟩) = x7 (ix3 0 0 ⟨b, g⟩) :=
      congrArg (fun z => x7 (ix3 0 0 z)) (fin_eq (show 4096 + b - 4096 = b by omega))
    have eb : BitVec.ofNat 32 (4096 + b - 4096) = BitVec.ofNat 32 b := congrArg (BitVec.ofNat 32) (by omega)
    simp only [e5, e7, eb]
  have sN : ∀ b (g : b < 320), point c i x0 x1 x5 xt0 (rowScale x3 x7) (4096 + b) j = scoreN q kn kns h u ⟨b, g⟩ := by
    intro b g
    rw [nS b (by omega), score_eq]
    unfold scoreN seen
    have eS : ∑ e : Fin 64, x5 (ix3 0 e ⟨b, by omega⟩) * x0 (ix3 0 e j)
        = ∑ e : Fin 64, q (ix2 ⟨h * 64 + e, by omega⟩ ⟨u, by omega⟩) * kn (ix2 ⟨h / 7 * 64 + e, by omega⟩ ⟨b, by omega⟩) := by
      refine Finset.sum_congr rfl fun e _ => ?_
      rw [hq, hkn e ⟨b, g⟩, mul_comm]
    rw [eS, hkns ⟨b, g⟩]
  have sX : ∀ b, 320 ≤ b → b < 384 → point c i x0 x1 x5 xt0 (rowScale x3 x7) (4096 + b) j = unseen := by
    intro b g g'
    rw [nS b g', not_seen b u u.isLt g g']
    rfl
  have vC : ∀ r (g : r < 4096), rowValue x2 x6 d r = vc (ix3 ⟨h / 7, by omega⟩ d ⟨(Cert.Proof.Chunk.token r g : ℕ) % 32 * 128 + (Cert.Proof.Chunk.token r g : ℕ) / 32, by omega⟩) := by
    intro r g
    rw [rowValue, dif_pos g, hvc]
    unfold Cert.Proof.Chunk.token
    exact congrArg (fun z => vc (ix3 ⟨h / 7, by omega⟩ d z))
      (fin_eq (show r = (r % 128 * 32 + r / 128) % 32 * 128 + (r % 128 * 32 + r / 128) / 32 by omega))
  have vN : ∀ b (g : b < 320), rowValue x2 x6 d (4096 + b) = vn (ix2 ⟨h / 7 * 64 + d, by omega⟩ ⟨b, by omega⟩) := by
    intro b g
    rw [rowValue, dif_neg (by omega), dif_pos (by omega)]
    exact (congrArg (fun z => x6 (ix3 0 d z)) (fin_eq (show 4096 + b - 4096 = b by omega))).trans (hvn d ⟨b, g⟩)
  have wC : ∀ r (g : r < 4096), scaleOf (rowScale x4 x8) r = vcs (ix3 ⟨h / 7, by omega⟩ ⟨(Cert.Proof.Chunk.token r g : ℕ) % 32, by omega⟩ ⟨(Cert.Proof.Chunk.token r g : ℕ) / 32, by omega⟩) := by
    intro r g
    rw [scaleOf, dif_pos (by omega), rowScale, dif_pos g, hvcs]
    unfold Cert.Proof.Chunk.token
    exact congrArg₂ (fun a b => vcs (ix3 ⟨h / 7, by omega⟩ a b)) (fin_eq (show r / 128 = (r % 128 * 32 + r / 128) % 32 by omega))
      (fin_eq (show r % 128 = (r % 128 * 32 + r / 128) / 32 by omega))
  have wN : ∀ b (g : b < 320), scaleOf (rowScale x4 x8) (4096 + b) = vns (ix2 ⟨h / 7, by omega⟩ ⟨b, by omega⟩) := by
    intro b g
    rw [scaleOf, dif_pos (by omega), rowScale, dif_neg (by dsimp only; omega)]
    exact (congrArg (fun z => x8 (ix3 0 0 z)) (fin_eq (show 4096 + b - 4096 = b by omega))).trans (hvns ⟨b, g⟩)
  rw [blockVal_eq c i a3 h3 a4 h4 a5 h5 a6 h6 a7 h7 a8 h8 a9 h9 a10 h10 a11 h11 a12 h12 a13 h13 a14 h14 a15 h15 x0 x1 x2 x5 x6 xt0 K W (rowScale x3 x7) (rowScale x4 x8) hK hW d j]
  have hm : ∀ r, mass c i a3 h3 a4 h4 a5 h5 a6 h6 a7 h7 a8 h8 a9 h9 a10 h10 a11 h11 a12 h12 a13 h13 a14 h14 a15 h15 x0 x1 x5 xt0 K (rowScale x3 x7) r j
      = Ideal.exp2 (point c i x0 x1 x5 xt0 (rowScale x3 x7) r j - Ideal.liftRound Int.ceil L) := by
    intro r
    unfold mass
    rw [eL]
    rfl
  have key := attend_rows (fun r => point c i x0 x1 x5 xt0 (rowScale x3 x7) r j) (rowValue x2 x6 d) (scaleOf (rowScale x4 x8)) L hL
    (scoreC n q kc kcs h u)
    (fun t => vcs (ix3 ⟨h / 7, by omega⟩ ⟨t % 32, by omega⟩ ⟨t / 32, by omega⟩))
    (fun t => vc (ix3 ⟨h / 7, by omega⟩ d ⟨t % 32 * 128 + t / 32, by omega⟩))
    (scoreN q kn kns h u)
    (fun b => vns (ix2 ⟨h / 7, by omega⟩ ⟨b, by omega⟩))
    (fun b => vn (ix2 ⟨h / 7 * 64 + d, by omega⟩ ⟨b, by omega⟩)) sC sN sX vC vN wC wN
  unfold Cert.Proof.Chunk.entry
  refine Eq.trans ?_ key
  refine congrArg₂ Ideal.div (Finset.sum_congr rfl fun r hr => ?_) (Finset.sum_congr rfl fun r _ => hm r)
  have hr' : r < 4480 := Finset.mem_range.mp hr
  rw [← hm]
  unfold part rowValue scaleOf
  by_cases g : r < 4096
  · rw [dif_pos g, dif_pos g, dif_pos hr']
  · rw [dif_neg g, dif_neg g, dif_pos hr', dif_pos hr', dif_pos hr']

end
end Cert.ChunkIdeal.Gen
end
-- ==== Proof.ChunkIdealRun.lean ====
/-
  A step of the ideal form of the attention program: the run of its lines from any earlier contents of its scratch buffers, what it
  writes, and that the writes do not depend on those contents.
-/
module

public import proofs.«01_k».proof.Proof.ChunkIdealFromA
public import proofs.«01_k».proof.Proof.ChunkIdealFromB
public import proofs.«01_k».proof.Proof.ChunkWrites

@[expose] public section

-- membership in a rectangle of production extents (`View.cover_of_tiled`): the elaborator's structural look
-- recurses once per coordinate of the long axes
set_option maxRecDepth 16384

noncomputable section

namespace Cert.ChunkIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the run of case A stores in the output's block does not depend on what the scratch buffers held before:
    each is written over its whole extent before it is read. -/
theorem runFrom_A_block (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).1 := by
  unfold runFrom_A
  dsimp only
  unfold runFrom_A.sl.r_8 runFrom_A.sl.r_7 runFrom_A.sl.v145 runFrom_A.sl.v130 runFrom_A.sl.v115 runFrom_A.sl.r_6 runFrom_A.sl.r_3
  rw [Cert.Proof.Chunk.whole_writes harg13 fs0 gs0]
  rotate_left
  · exact fun y => View.cover_of_tiledL (s := S4480x128) _ S128x128.size (by sl_kernel_rfl) y
  rw [Cert.Proof.Chunk.whole_writes harg14 fs1 gs1]
  rotate_left
  · exact fun y => View.cover_of_tiledL (s := S4480x128) _ S128x128.size (by sl_kernel_rfl) y
  rw [Cert.Proof.Chunk.whole_writes harg15 fs2 gs2]
  rotate_left
  · exact fun y => View.cover_of_tiledL (s := S4480x256) _ S128x256.size (by sl_kernel_rfl) y

/-- Nor does what it stores in the first scratch buffer of scales. -/
theorem runFrom_A_first (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).2.1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).2.1 := by
  unfold runFrom_A
  dsimp only

/-- Nor does what it stores in the second scratch buffer of scales. -/
theorem runFrom_A_second (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (fs0 gs0 : BufTy.Contents (Elt F) arg13.view.ty) (fs1 gs1 : BufTy.Contents (Elt F) arg14.view.ty) (fs2 gs2 : BufTy.Contents (Elt F) arg15.view.ty) :
    (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 fs0 fs1 fs2).2.2.1 = (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 gs0 gs1 gs2).2.2.1 := by
  unfold runFrom_A
  dsimp only

/-- The run of case A from any contents of the scratch buffers, when it is known from each of them. -/
theorem anyScratch_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0)
    (L9 : List (View.Piece (Elt F) S1x64x256 .bf16)) (LS0 LS1 : List (View.Piece (Elt F) S4480x128 .f32))
    (run : ∀ (fs0 fs1 fs2), ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (arg13.view.loc (c : Thread nD τ) ↦[arg13.view.set]{fullShare} fs0) ∗ (arg14.view.loc (c : Thread nD τ) ↦[arg14.view.set]{fullShare} fs1) ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K := by
  intro E K
  unfold owns at run ⊢
  iintro ⟨H0, H1, H2, H3, H4, H5, H6, H7, H8, H9, ⟨%d0, %fs0, -, HS0⟩, ⟨%d1, %fs1, -, HS1⟩, ⟨%d2, %fs2, -, HS2⟩, HT0, Hk⟩
  iapply (run fs0 fs1 fs2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  iexact Hk

/-- The body's run in case A, the scratch buffers holding anything before: the pieces it leaves, with the proof. -/
noncomputable def kernelRun0_A (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } :=
  let q := Cert.Proof.Chunk.pick (ι := BufTy.Contents (Elt F) arg13.view.ty × BufTy.Contents (Elt F) arg14.view.ty × BufTy.Contents (Elt F) arg15.view.ty) (fun f => runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 f.2.1 f.2.2) (arg13.view.junk, arg14.view.junk, arg15.view.junk)
    (fun f => runFrom_A_block c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
    (fun f => runFrom_A_first c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
    (fun f => runFrom_A_second c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 f.1 arg13.view.junk f.2.1 arg14.view.junk f.2.2 arg15.view.junk)
  ⟨(runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).1, (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).2.1, (runFrom_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 arg13.view.junk arg14.view.junk arg15.view.junk).2.2.1,
    anyScratch_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 _ _ _ (fun fs0 fs1 fs2 => q (fs0, fs1, fs2))⟩

set_option maxHeartbeats 1000000 in
/-- What the run of case B stores in the output's block does not depend on what the scratch buffers held before:
    each is written over its whole extent before it is read. -/
theorem runFrom_B_block (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).1 := by
  unfold runFrom_B
  dsimp only
  unfold runFrom_B.sl.r_7 runFrom_B.sl.r_6
  rw [Cert.Proof.Chunk.whole_writes harg15 fs2 gs2]
  rotate_left
  · exact fun y => View.cover_of_tiledL (s := S4480x256) _ S128x256.size (by sl_kernel_rfl) y

/-- Nor does what it stores in the first scratch buffer of scales. -/
theorem runFrom_B_first (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).2.1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).2.1 := by
  unfold runFrom_B
  dsimp only

/-- Nor does what it stores in the second scratch buffer of scales. -/
theorem runFrom_B_second (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (fs2 gs2 : BufTy.Contents (Elt F) arg15.view.ty) :
    (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 fs2).2.2.1 = (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 gs2).2.2.1 := by
  unfold runFrom_B
  dsimp only

/-- The run of case B from any contents of the scratch buffers, when it is known from each of them. -/
theorem anyScratch_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32)
    (L9 : List (View.Piece (Elt F) S1x64x256 .bf16)) (LS0 LS1 : List (View.Piece (Elt F) S4480x128 .f32))
    (run : ∀ (fs2), ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (arg15.view.loc (c : Thread nD τ) ↦[arg15.view.set]{fullShare} fs2) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K := by
  intro E K
  unfold owns at run ⊢
  iintro ⟨H0, H1, H2, H3, H4, H5, H6, H7, H8, H9, HS0, HS1, ⟨%d2, %fs2, -, HS2⟩, HT0, Hk⟩
  iapply (run fs2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  iexact Hk

/-- The body's run in case B, the scratch buffers holding anything before: the pieces it leaves, with the proof. -/
noncomputable def kernelRun0_B (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) :
    Σ' (L9 : List (View.Piece (Elt F) S1x64x256 .bf16)), Σ' (LS0 : List (View.Piece (Elt F) S4480x128 .f32)), { LS1 : List (View.Piece (Elt F) S4480x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ owns (c : Thread nD τ) arg13 fullShare xs0 ∗ owns (c : Thread nD τ) arg14 fullShare xs1 ∗ (∃ d, owns (c : Thread nD τ) arg15 fullShare d) ∗ tbPt0 c tbM0_0 xt0) -∗ K ⟨⟩))
          ⊢ wp frame (wpE (defs₀ (F := F)) Variants.none c none) E (cc0_chunk i tbM0_0 htbM0_0 arg3 harg3 arg4 harg4 arg5 harg5 arg6 harg6 arg7 harg7 arg8 harg8 arg9 harg9 arg10 harg10 arg11 harg11 arg12 harg12 arg13 harg13 arg14 harg14 arg15 harg15) K } :=
  let q := Cert.Proof.Chunk.pick (ι := BufTy.Contents (Elt F) arg15.view.ty) (fun f => runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f) (arg15.view.junk)
    (fun f => runFrom_B_block c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
    (fun f => runFrom_B_first c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
    (fun f => runFrom_B_second c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 f arg15.view.junk)
  ⟨(runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).1, (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).2.1, (runFrom_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 arg15.view.junk).2.2.1,
    anyScratch_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1 _ [] [] (fun fs2 => q fs2)⟩

end Cert.ChunkIdeal.Gen

end
-- ==== Proof.ChunkIdealFrame.lean ====
/-
  The frame of the ideal form of the attention program: what each step leaves in its output block and in the two buffers of scales
  that are carried from step to step, that the step's run leaves it, and so that every run of the program ends, without
  a fault, with the arguments unchanged. It holds for every contents of the table. The statements are those of the
  frames generated for the other programs; only the runs of a step, of which ChunkWrites.lean and the two From modules
  say what they leave, are stated from given earlier contents of the scratch buffers.
-/
module

public import proofs.«01_k».proof.Proof.ChunkIdealRun
public import Idealize.ShloMosaic.Lib.Claim

@[expose] public section

-- membership in a rectangle of production extents (`View.cover_of_tiled`): the elaborator's structural look
-- recurses once per coordinate of the long axes
set_option maxRecDepth 16384

noncomputable section

namespace Cert.ChunkIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S1x64x256`, checked by the kernel's evaluation: Lib/Ring.lean `Piece.tiledL`, linear in the pieces, through a loop's `@[irreducible]` trip theorem too), so they cover it. -/
theorem cover0_A_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S1x64x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1 S1x64x256.size (by sl_kernel_rfl) y

/-- What case A leaves in output 9's staging buffer: its pieces read back over junk. -/
def out0_A_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S1x64x256 .bf16 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).1)

/-- Case A's pieces for scratch `arg13`, which the kernel carries between points, cover it: 35 pieces of `S128x128` tiling it (Lib/Ring.lean `Piece.tiledL`). -/
theorem scover0_A_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S4480x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1 S128x128.size (by sl_kernel_rfl) y

/-- What case A leaves in scratch `arg13`: its pieces read back over junk. -/
def sout0_A_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S4480x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.1)

/-- Case A's pieces for scratch `arg14`, which the kernel carries between points, cover it: 35 pieces of `S128x128` tiling it (Lib/Ring.lean `Piece.tiledL`). -/
theorem scover0_A_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (y : S4480x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1 S128x128.size (by sl_kernel_rfl) y

/-- What case A leaves in scratch `arg14`: its pieces read back over junk. -/
def sout0_A_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) : Vec F S4480x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0).2.2.1)

/-- Case B's pieces for output 9 tile its block (1 store of `S1x64x256`, checked by the kernel's evaluation: Lib/Ring.lean `Piece.tiledL`, linear in the pieces, through a loop's `@[irreducible]` trip theorem too), so they cover it. -/
theorem cover0_B_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) (y : S1x64x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1 S1x64x256.size (by sl_kernel_rfl) y

/-- What case B leaves in output 9's staging buffer: its pieces read back over junk. -/
def out0_B_9 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S1x64x256 .bf16 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xt0 xs0 xs1).1)

/-- Case B stores nothing into scratch `arg13`: it holds what the point before left. -/
def sout0_B_0 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S4480x128 .f32 := xs0

/-- Case B stores nothing into scratch `arg14`: it holds what the point before left. -/
def sout0_B_1 (c : Dev nD) (i : grid0.Coords) (arg3 : Memref sig .tc .vmem S1x64x256 .bf16) (harg3 : arg3.IsWhole) (arg4 : Memref sig .tc .vmem S1x64x4096 .bf16) (harg4 : arg4.IsWhole) (arg5 : Memref sig .tc .vmem S1x64x4096 .bf16) (harg5 : arg5.IsWhole) (arg6 : Memref sig .tc .vmem S1x32x128 .f32) (harg6 : arg6.IsWhole) (arg7 : Memref sig .tc .vmem S1x32x128 .f32) (harg7 : arg7.IsWhole) (arg8 : Memref sig .tc .vmem S1x64x384 .bf16) (harg8 : arg8.IsWhole) (arg9 : Memref sig .tc .vmem S1x64x384 .bf16) (harg9 : arg9.IsWhole) (arg10 : Memref sig .tc .vmem S1x1x384 .f32) (harg10 : arg10.IsWhole) (arg11 : Memref sig .tc .vmem S1x1x384 .f32) (harg11 : arg11.IsWhole) (arg12 : Memref sig .tc .vmem S1x64x256 .bf16) (harg12 : arg12.IsWhole) (arg13 : Memref sig .tc .vmem S4480x128 .f32) (harg13 : arg13.IsWhole) (arg14 : Memref sig .tc .vmem S4480x128 .f32) (harg14 : arg14.IsWhole) (arg15 : Memref sig .tc .vmem S4480x256 .f32) (harg15 : arg15.IsWhole) (hc0 : ¬cond0_0 i)
    (x0 : Vec F S1x64x256 .bf16) (x1 : Vec F S1x64x4096 .bf16) (x2 : Vec F S1x64x4096 .bf16) (x3 : Vec F S1x32x128 .f32) (x4 : Vec F S1x32x128 .f32) (x5 : Vec F S1x64x384 .bf16) (x6 : Vec F S1x64x384 .bf16) (x7 : Vec F S1x1x384 .f32) (x8 : Vec F S1x1x384 .f32) (xt0 : TbBuf0 (F := F) c tbM0_0) (xs0 : Vec F S4480x128 .f32) (xs1 : Vec F S4480x128 .f32) : Vec F S4480x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x64x256 .bf16 × Vec F S4480x128 .f32 × Vec F S4480x128 .f32
  | 0, hn => (out0_A_9 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (tbl m 0))
  | n + 1, hn =>
    if h0 : (n + 1) % 9 = 0 then
      (out0_A_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0))
    else
      (out0_B_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (tbl m 0) (outsAt0 hO c n (Nat.lt_of_succ_lt hn)).2.1 (outsAt0 hO c n (Nat.lt_of_succ_lt hn)).2.2)

/-- `outsAt0` at a point of case A: that case's contents. -/
theorem outsAt0_A (hO : Ok m) (c : Dev nD) (t : Fin (cfgM m hO).N) (h0 : t.val % 9 = 0) :
    outsAt0 m hO c t.val t.isLt = (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 9 = 0) :
    outsAt0 m hO c t.val t.isLt = (out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d)) ∗ (∃ r, prngReg c r)) ∗ Pipeline.ΦT pre0 (tbl m) c)

/-- Before the first step the carried buffers may hold anything. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- What window 1's memory holds after a step. -/
theorem after0_1 (hO : Ok m) (c : Dev nD) (t : Fin (cfgM m hO).N) : (dats m hO 0 c).after 1 t = iblk m hO c 1 t := by dsimp only [dats]; try rfl
/-- What window 2's memory holds after a step. -/
theorem after0_2 (hO : Ok m) (c : Dev nD) (t : Fin (cfgM m hO).N) : (dats m hO 0 c).after 2 t = iblk m hO c 2 t := by dsimp only [dats]; try rfl
/-- What window 3's memory holds after a step. -/
theorem after0_3 (hO : Ok m) (c : Dev nD) (t : Fin (cfgM m hO).N) : (dats m hO 0 c).after 3 t = iblk m hO c 3 t := by dsimp only [dats]; try rfl
/-- What window 4's memory holds after a step. -/
theorem after0_4 (hO : Ok m) (c : Dev nD) (t : Fin (cfgM m hO).N) : (dats m hO 0 c).after 4 t = iblk m hO c 4 t := by dsimp only [dats]; try rfl
/-- What window 5's memory holds after a step. -/
theorem after0_5 (hO : Ok m) (c : Dev nD) (t : Fin (cfgM m hO).N) : (dats m hO 0 c).after 5 t = iblk m hO c 5 t := by dsimp only [dats]; try rfl
/-- What window 6's memory holds after a step. -/
theorem after0_6 (hO : Ok m) (c : Dev nD) (t : Fin (cfgM m hO).N) : (dats m hO 0 c).after 6 t = iblk m hO c 6 t := by dsimp only [dats]; try rfl
/-- What window 7's memory holds after a step. -/
theorem after0_7 (hO : Ok m) (c : Dev nD) (t : Fin (cfgM m hO).N) : (dats m hO 0 c).after 7 t = iblk m hO c 7 t := by dsimp only [dats]; try rfl
/-- What window 8's memory holds after a step. -/
theorem after0_8 (hO : Ok m) (c : Dev nD) (t : Fin (cfgM m hO).N) : (dats m hO 0 c).after 8 t = iblk m hO c 8 t := by dsimp only [dats]; try rfl
/-- What window 9's memory holds after a step. -/
theorem after0_9 (hO : Ok m) (c : Dev nD) (t : Fin (cfgM m hO).N) : (dats m hO 0 c).after 9 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- What window 1's memory holds before a step. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- What window 2's memory holds before a step. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- What window 3's memory holds before a step. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- What window 4's memory holds before a step. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- What window 5's memory holds before a step. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- What window 6's memory holds before a step. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- What window 7's memory holds before a step. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- What window 8's memory holds before a step. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9]
  rw [show (dats m hO 0 c).Φ t.succ = PhiS m hO c (t.val + 1) t.isLt from rfl, PhiS_succ, PhiT0_eq]
  have hN : t.val < 18 := lt_of_lt_of_eq t.isLt (show (cfgM m hO).N = 18 from N_0)
  by_cases h0 : t.val % 9 = 0
  · by_cases hz : t.val = 0
    · rw [PhiS_castSucc m hO c t, PhiS_zero m hO c _ _ hz, PhiT0_eq, PhiA0_eq]
      rw [outsAt0_A m hO c t h0]
      unfold out0_A_9 sout0_A_0 sout0_A_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HT0]; · iexact HT0
      iintro ⟨H0, H1, H2, H3, H4, H5, H6, H7, H8, ⟨%e9, H9⟩, ⟨%es0, HS0⟩, ⟨%es1, HS1⟩, HS2, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
    · rw [PhiS_castSucc m hO c t, PhiS_pos m hO c _ _ hz, PhiT0_eq]
      rw [outsAt0_A m hO c t h0]
      unfold out0_A_9 sout0_A_0 sout0_A_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexists _; iexact HS0
      isplitl [HS1]; · iexists _; iexact HS1
      isplitl [HS2]; · iexact HS2
      isplitl [HT0]; · iexact HT0
      iintro ⟨H0, H1, H2, H3, H4, H5, H6, H7, H8, ⟨%e9, H9⟩, ⟨%es0, HS0⟩, ⟨%es1, HS1⟩, HS2, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
  · by_cases hz : t.val = 0
    · exfalso; have hN : t.val < 18 := lt_of_lt_of_eq t.isLt (show (cfgM m hO).N = 18 from N_0); omega
    · rw [PhiS_castSucc m hO c t, PhiS_pos m hO c _ _ hz, PhiT0_eq]
      rw [outsAt0_B m hO c t h0]
      unfold out0_B_9 sout0_B_0 sout0_B_1; (try dsimp only)
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HT0]; · iexact HT0
      iintro ⟨H0, H1, H2, H3, H4, H5, H6, H7, H8, ⟨%e9, H9⟩, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 18 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- THE FRAME: `Cert.quiescent_ChunkIdeal`'s statement (Defs.lean) at any `F` — Proof.lean cites it at `Bits`:
    `theorem Cert.Proof.claim : Cert.Claim := ⟨Cert.ChunkIdeal.Gen.facts, fun m ρ _ => Cert.ChunkIdeal.Gen.frame m ρ⟩`; here for every contents of the PREFETCHED TABLES, UNDER `Gen.Ok m` (the pipeline's side condition of
    them), which Proof.lean proves from the precondition: `⟨…, fun m ρ h => Cert.ChunkIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.ChunkIdeal.Gen

end
-- ==== Proof.ChunkHost.lean ====
/-
  The arrays the kernel's region is entered with.
-/
module

public import proofs.«01_k».proof.Proof.ChunkIdealFrame
public import proofs.«01_k».proof.Proof.ChunkTiles
public import Idealize.ShloMosaic.Lib.Pipeline.ValueKit
public import Idealize.ShloMosaic.Lib.KernelVsHost

@[expose] public section

set_option maxRecDepth 16384

noncomputable section
namespace Cert.Proof.ChunkHost
open Idealize.ShloMosaic Idealize.SL.Sem Idealize.ShloMosaic.Pipeline Idealize.ShloMosaic.TcCoe
open Cert.ChunkIdeal Cert.ChunkIdeal.Gen

/-- The queries, a column for each row and head, padded. -/
def queryCols (x : Vec Ideal S896x336 .bf16) : Vec Ideal S2x64x2304 .bf16 :=
  pad S2x64x2304 ![0, 0, 0] ![0, 0, 64] ![0, 0, 0]
    (shapeCast S2x64x2240 (transpose S2x64x7x320 [0, 2, 1, 3]
      (extractStridedSlice S2x7x64x320 ![0, 0, 0, 0] (shapeCast S2x7x64x336 x shapeCasts_S896x336_S2x7x64x336)
        slices_S2x7x64x336_S2x7x64x320_0_0_0_0) transposes_S2x7x64x320_S2x64x7x320_0_2_1_3) shapeCasts_S2x64x7x320_S2x64x2240)
    (sitofp (F := Ideal) .bf16 (constantI S_ 32 0#32)) pads_S2x64x2240_S2x64x2304_000_000_0640 h_S_

/-- An entry of the padded queries. -/
theorem queryCols_eq (x : Vec Ideal S896x336 .bf16) (a : Fin 2) (d : Fin 64) (u : Fin 2240) :
    queryCols x (ix3 a d ⟨u, by omega⟩) = x (ix2 ⟨(7 * a + u / 320) * 64 + d, by omega⟩ ⟨u % 320, by omega⟩) := by
  unfold queryCols
  refine (pad_apply_of_inside _ _ _ _ _ _ _ _ (ix3 a d u) ?_).trans ?_
  · intro b
    match b with
    | ⟨0, _⟩ => exact (Nat.zero_add _).trans (Nat.mul_one _) |>.symm
    | ⟨1, _⟩ => exact (Nat.zero_add _).trans (Nat.mul_one _) |>.symm
    | ⟨2, _⟩ => exact (Nat.zero_add _).trans (Nat.mul_one _) |>.symm
  · pointwise
    blk_ext

/-- The new codes, a row for each place of each head, padded. -/
def codeCols (x : Vec Ideal S128x336 .bf16) : Vec Ideal S2x64x384 .bf16 :=
  pad S2x64x384 ![0, 0, 0] ![0, 0, 64] ![0, 0, 0]
    (extractStridedSlice S2x64x320 ![0, 0, 0] (shapeCast S2x64x336 x shapeCasts_S128x336_S2x64x336) slices_S2x64x336_S2x64x320_0_0_0)
    (sitofp (F := Ideal) .bf16 (constantI S_ 32 0#32)) pads_S2x64x320_S2x64x384_000_000_0640 h_S_

/-- An entry of the padded new codes. -/
theorem codeCols_eq (x : Vec Ideal S128x336 .bf16) (a : Fin 2) (d : Fin 64) (u : Fin 320) :
    codeCols x (ix3 a d ⟨u, by omega⟩) = x (ix2 ⟨a * 64 + d, by omega⟩ ⟨u, by omega⟩) := by
  unfold codeCols
  refine (pad_apply_of_inside _ _ _ _ _ _ _ _ (ix3 a d u) ?_).trans ?_
  · intro b
    match b with
    | ⟨0, _⟩ => exact (Nat.zero_add _).trans (Nat.mul_one _) |>.symm
    | ⟨1, _⟩ => exact (Nat.zero_add _).trans (Nat.mul_one _) |>.symm
    | ⟨2, _⟩ => exact (Nat.zero_add _).trans (Nat.mul_one _) |>.symm
  · pointwise
    blk_ext

/-- The new scales, padded. -/
def scaleCols (x : Vec Ideal S2x336 .f32) : Vec Ideal S2x1x384 .f32 :=
  pad S2x1x384 ![0, 0, 0] ![0, 0, 64] ![0, 0, 0]
    (extractStridedSlice S2x1x320 ![0, 0, 0] (broadcastInDim S2x1x336 ![0, 2] bcast_S2x336_S2x1x336_0_2 x) slices_S2x1x336_S2x1x320_0_0_0)
    (sitofp (F := Ideal) .f32 (constantI S_ 32 0#32)) pads_S2x1x320_S2x1x384_000_000_0640 h_S_

/-- An entry of the padded new scales. -/
theorem scaleCols_eq (x : Vec Ideal S2x336 .f32) (a : Fin 2) (u : Fin 320) :
    scaleCols x (ix3 a 0 ⟨u, by omega⟩) = x (ix2 a ⟨u, by omega⟩) := by
  unfold scaleCols
  refine (pad_apply_of_inside _ _ _ _ _ _ _ _ (ix3 a 0 u) ?_).trans ?_
  · intro b
    match b with
    | ⟨0, _⟩ => exact (Nat.zero_add _).trans (Nat.mul_one _) |>.symm
    | ⟨1, _⟩ => exact (Nat.zero_add _).trans (Nat.mul_one _) |>.symm
    | ⟨2, _⟩ => exact (Nat.zero_add _).trans (Nat.mul_one _) |>.symm
  · pointwise
    blk_ext

variable (m : (ℓ : Loc nD τ sig) → Buf (Elt Ideal) ℓ) (c : Dev nD)

/-- The host's lines that lay out the queries. -/
theorem v4 : V m c main_v4 = queryCols (m (c.tc.loc main_arg1)) := by
  dsimp only [V, V0, hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The host's lines that lay out the new keys' codes. -/
theorem v7 : V m c main_v7 = codeCols (m (c.tc.loc main_arg6)) := by
  dsimp only [V, V0, hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The host's lines that lay out the new values' codes. -/
theorem v10 : V m c main_v10 = codeCols (m (c.tc.loc main_arg8)) := by
  dsimp only [V, V0, hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The host's lines that lay out the new keys' scales. -/
theorem v13 : V m c main_v13 = scaleCols (m (c.tc.loc main_arg7)) := by
  dsimp only [V, V0, hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The host's lines that lay out the new values' scales. -/
theorem v16 : V m c main_v16 = scaleCols (m (c.tc.loc main_arg9)) := by
  dsimp only [V, V0, hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The blocks a step works on: each window's, from the number of the step. -/
theorem idx : ∀ t : Fin grid0.N, cc0_transform_0 (grid0.coords t) = ![(t : ℕ) / 9, 0, (t : ℕ) % 9]
    ∧ cc0_transform_1 (grid0.coords t) = ![(t : ℕ) / 9, 0, 0] ∧ cc0_transform_2 (grid0.coords t) = ![(t : ℕ) / 9, 0, 0]
    ∧ cc0_transform_3 (grid0.coords t) = ![(t : ℕ) / 9, 0, 0] ∧ cc0_transform_4 (grid0.coords t) = ![(t : ℕ) / 9, 0, 0]
    ∧ cc0_transform_5 (grid0.coords t) = ![(t : ℕ) / 9, 0, 0] ∧ cc0_transform_6 (grid0.coords t) = ![(t : ℕ) / 9, 0, 0]
    ∧ cc0_transform_7 (grid0.coords t) = ![(t : ℕ) / 9, 0, 0] ∧ cc0_transform_8 (grid0.coords t) = ![(t : ℕ) / 9, 0, 0]
    ∧ cc0_transform_9 (grid0.coords t) = ![(t : ℕ) / 9, 0, (t : ℕ) % 9] := by decide +kernel

/-- No window's place depends on the table, so nothing is asked of it. -/
theorem ok : Ok m := True.intro

/-- The key and value head of a step. -/
def kv (t : Fin grid0.N) : Fin 2 := ⟨(t : ℕ) / 9, by have := t.isLt; have e : grid0.N = 18 := rfl; omega⟩

variable (hO : Ok m) (t : Fin grid0.N)

/-- A place in the first block. -/
theorem at0 {k w x : ℕ} (h : k = 0) : k * w + x = x := by subst h; omega
/-- A place in a later block. -/
theorem atk {k s x : ℕ} (h : k = s) : k * 256 + x = 256 * s + x := by subst h; omega

/-- The block of window 0 at a step. -/
theorem place0 : (pcfg0.win (adm m hO) 0).index t = ![(t : ℕ) / 9, 0, (t : ℕ) % 9] := (idx t).1

/-- The block of window 1 at a step. -/
theorem place1 : (pcfg0.win (adm m hO) 1).index t = ![(t : ℕ) / 9, 0, 0] := (idx t).2.1

/-- The block of window 2 at a step. -/
theorem place2 : (pcfg0.win (adm m hO) 2).index t = ![(t : ℕ) / 9, 0, 0] := (idx t).2.2.1

/-- The block of window 3 at a step. -/
theorem place3 : (pcfg0.win (adm m hO) 3).index t = ![(t : ℕ) / 9, 0, 0] := (idx t).2.2.2.1

/-- The block of window 4 at a step. -/
theorem place4 : (pcfg0.win (adm m hO) 4).index t = ![(t : ℕ) / 9, 0, 0] := (idx t).2.2.2.2.1

/-- The block of window 5 at a step. -/
theorem place5 : (pcfg0.win (adm m hO) 5).index t = ![(t : ℕ) / 9, 0, 0] := (idx t).2.2.2.2.2.1

/-- The block of window 6 at a step. -/
theorem place6 : (pcfg0.win (adm m hO) 6).index t = ![(t : ℕ) / 9, 0, 0] := (idx t).2.2.2.2.2.2.1

/-- The block of window 7 at a step. -/
theorem place7 : (pcfg0.win (adm m hO) 7).index t = ![(t : ℕ) / 9, 0, 0] := (idx t).2.2.2.2.2.2.2.1

/-- The block of window 8 at a step. -/
theorem place8 : (pcfg0.win (adm m hO) 8).index t = ![(t : ℕ) / 9, 0, 0] := (idx t).2.2.2.2.2.2.2.2.1

/-- The block of window 9 at a step. -/
theorem place9 : (pcfg0.win (adm m hO) 9).index t = ![(t : ℕ) / 9, 0, (t : ℕ) % 9] := (idx t).2.2.2.2.2.2.2.2.2

/-- An entry of window 1's block is one of its array, of the step's head. -/
theorem blk1 (d : Fin 64) (r : Fin 4096) : iblk m hO c 1 t (ix3 0 d r : S1x64x4096.Idx) = V m c main_arg2 (ix3 (kv t) d r) := by
  unfold iblk kv
  blk_ext! []
  all_goals first | exact congrFun (place1 m hO t) 0 | exact at0 (congrFun (place1 m hO t) 1) | exact at0 (congrFun (place1 m hO t) 2) | exact atk (congrFun (place1 m hO t) 2) | exact congrFun (place1 m hO t) 1

/-- An entry of window 2's block is one of its array, of the step's head. -/
theorem blk2 (d : Fin 64) (r : Fin 4096) : iblk m hO c 2 t (ix3 0 d r : S1x64x4096.Idx) = V m c main_arg3 (ix3 (kv t) d r) := by
  unfold iblk kv
  blk_ext! []
  all_goals first | exact congrFun (place2 m hO t) 0 | exact at0 (congrFun (place2 m hO t) 1) | exact at0 (congrFun (place2 m hO t) 2) | exact atk (congrFun (place2 m hO t) 2) | exact congrFun (place2 m hO t) 1

/-- An entry of window 3's block is one of its array, of the step's head. -/
theorem blk3 (d : Fin 32) (r : Fin 128) : iblk m hO c 3 t (ix3 0 d r : S1x32x128.Idx) = V m c main_arg4 (ix3 (kv t) d r) := by
  unfold iblk kv
  blk_ext! []
  all_goals first | exact congrFun (place3 m hO t) 0 | exact at0 (congrFun (place3 m hO t) 1) | exact at0 (congrFun (place3 m hO t) 2) | exact atk (congrFun (place3 m hO t) 2) | exact congrFun (place3 m hO t) 1

/-- An entry of window 4's block is one of its array, of the step's head. -/
theorem blk4 (d : Fin 32) (r : Fin 128) : iblk m hO c 4 t (ix3 0 d r : S1x32x128.Idx) = V m c main_arg5 (ix3 (kv t) d r) := by
  unfold iblk kv
  blk_ext! []
  all_goals first | exact congrFun (place4 m hO t) 0 | exact at0 (congrFun (place4 m hO t) 1) | exact at0 (congrFun (place4 m hO t) 2) | exact atk (congrFun (place4 m hO t) 2) | exact congrFun (place4 m hO t) 1

/-- An entry of window 5's block is one of its array, of the step's head. -/
theorem blk5 (d : Fin 64) (r : Fin 384) : iblk m hO c 5 t (ix3 0 d r : S1x64x384.Idx) = V m c main_v7 (ix3 (kv t) d r) := by
  unfold iblk kv
  blk_ext! []
  all_goals first | exact congrFun (place5 m hO t) 0 | exact at0 (congrFun (place5 m hO t) 1) | exact at0 (congrFun (place5 m hO t) 2) | exact atk (congrFun (place5 m hO t) 2) | exact congrFun (place5 m hO t) 1

/-- An entry of window 6's block is one of its array, of the step's head. -/
theorem blk6 (d : Fin 64) (r : Fin 384) : iblk m hO c 6 t (ix3 0 d r : S1x64x384.Idx) = V m c main_v10 (ix3 (kv t) d r) := by
  unfold iblk kv
  blk_ext! []
  all_goals first | exact congrFun (place6 m hO t) 0 | exact at0 (congrFun (place6 m hO t) 1) | exact at0 (congrFun (place6 m hO t) 2) | exact atk (congrFun (place6 m hO t) 2) | exact congrFun (place6 m hO t) 1

/-- An entry of window 7's block is one of its array, of the step's head. -/
theorem blk7 (r : Fin 384) : iblk m hO c 7 t (ix3 0 0 r : S1x1x384.Idx) = V m c main_v13 (ix3 (kv t) 0 r) := by
  unfold iblk kv
  blk_ext! []
  all_goals first | exact congrFun (place7 m hO t) 0 | exact at0 (congrFun (place7 m hO t) 1) | exact at0 (congrFun (place7 m hO t) 2) | exact atk (congrFun (place7 m hO t) 2) | exact congrFun (place7 m hO t) 1

/-- An entry of window 8's block is one of its array, of the step's head. -/
theorem blk8 (r : Fin 384) : iblk m hO c 8 t (ix3 0 0 r : S1x1x384.Idx) = V m c main_v16 (ix3 (kv t) 0 r) := by
  unfold iblk kv
  blk_ext! []
  all_goals first | exact congrFun (place8 m hO t) 0 | exact at0 (congrFun (place8 m hO t) 1) | exact at0 (congrFun (place8 m hO t) 2) | exact atk (congrFun (place8 m hO t) 2) | exact congrFun (place8 m hO t) 1

/-- An entry of window 0's block is one of its array, of the step's head. -/
theorem blk0 (d : Fin 64) (j : Fin 256) : iblk m hO c 0 t (ix3 0 d j : S1x64x256.Idx)
    = V m c main_v4 (ix3 (kv t) d ⟨256 * ((t : ℕ) % 9) + j, by omega⟩) := by
  unfold iblk kv
  blk_ext! []
  all_goals first | exact congrFun (place0 m hO t) 0 | exact at0 (congrFun (place0 m hO t) 1) | exact at0 (congrFun (place0 m hO t) 2) | exact atk (congrFun (place0 m hO t) 2) | exact congrFun (place0 m hO t) 1

end Cert.Proof.ChunkHost
end
-- ==== Proof.ChunkCall.lean ====
/-
  What the chunk's kernel leaves, entry by entry: the scales it keeps between the steps of a head, the blocks its
  steps store, the array they fill, and the result the host lays out of it.
-/
module

public import proofs.«01_k».proof.Proof.ChunkPoint
public import proofs.«01_k».proof.Proof.ChunkHost

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk
open Cert.Proof.ChunkHost

section
variable (c : Dev nD) (i : grid0.Coords) (a3 : Memref sig .tc .vmem S1x64x256 .bf16) (h3 : a3.IsWhole) (a4 : Memref sig .tc .vmem S1x64x4096 .bf16) (h4 : a4.IsWhole) (a5 : Memref sig .tc .vmem S1x64x4096 .bf16) (h5 : a5.IsWhole) (a6 : Memref sig .tc .vmem S1x32x128 .f32) (h6 : a6.IsWhole) (a7 : Memref sig .tc .vmem S1x32x128 .f32) (h7 : a7.IsWhole) (a8 : Memref sig .tc .vmem S1x64x384 .bf16) (h8 : a8.IsWhole) (a9 : Memref sig .tc .vmem S1x64x384 .bf16) (h9 : a9.IsWhole) (a10 : Memref sig .tc .vmem S1x1x384 .f32) (h10 : a10.IsWhole) (a11 : Memref sig .tc .vmem S1x1x384 .f32) (h11 : a11.IsWhole) (a12 : Memref sig .tc .vmem S1x64x256 .bf16) (h12 : a12.IsWhole) (a13 : Memref sig .tc .vmem S4480x128 .f32) (h13 : a13.IsWhole) (a14 : Memref sig .tc .vmem S4480x128 .f32) (h14 : a14.IsWhole) (a15 : Memref sig .tc .vmem S4480x256 .f32) (h15 : a15.IsWhole)
  (x0 : Vec Ideal S1x64x256 .bf16) (x1 : Vec Ideal S1x64x4096 .bf16) (x2 : Vec Ideal S1x64x4096 .bf16)
  (x3 : Vec Ideal S1x32x128 .f32) (x4 : Vec Ideal S1x32x128 .f32) (x5 : Vec Ideal S1x64x384 .bf16)
  (x6 : Vec Ideal S1x64x384 .bf16) (x7 : Vec Ideal S1x1x384 .f32) (x8 : Vec Ideal S1x1x384 .f32)
  (xt0 : TbBuf0 (F := Ideal) c tbM0_0) (K W : Vec Ideal S4480x128 .f32)

/-- After a head's first step the first buffer holds the scales of its keys. -/
theorem first_keys (hc0 : cond0_0 i) : sout0_A_0 c i a3 h3 a4 h4 a5 h5 a6 h6 a7 h7 a8 h8 a9 h9 a10 h10 a11 h11 a12 h12 a13 h13 a14 h14 a15 h15 hc0 x0 x1 x2 x3 x4 x5 x6 x7 x8 xt0 = View.canon (keyScales c i a3 h3 a4 h4 a5 h5 a6 h6 a7 h7 a8 h8 a9 h9 a10 h10 a11 h11 a12 h12 a13 h13 a14 h14 a15 h15 x3 x4 x7 hc0) := by
  unfold sout0_A_0
  rw [View.read_writes_eq_canon VS0_0 _ _ (scover0_A_0 c i a3 h3 a4 h4 a5 h5 a6 h6 a7 h7 a8 h8 a9 h9 a10 h10 a11 h11 a12 h12 a13 h13 a14 h14 a15 h15 hc0 x0 x1 x2 x3 x4 x5 x6 x7 x8 xt0)]
  unfold kernelRun0_A
  dsimp only
  rw [(scales_A c i a3 h3 a4 h4 a5 h5 a6 h6 a7 h7 a8 h8 a9 h9 a10 h10 a11 h11 a12 h12 a13 h13 a14 h14 a15 h15 x0 x1 x2 x3 x4 x5 x6 x7 x8 xt0 hc0 _ _ _).1]

/-- After a head's first step the second buffer holds the scales of its values. -/
theorem first_values (hc0 : cond0_0 i) : sout0_A_1 c i a3 h3 a4 h4 a5 h5 a6 h6 a7 h7 a8 h8 a9 h9 a10 h10 a11 h11 a12 h12 a13 h13 a14 h14 a15 h15 hc0 x0 x1 x2 x3 x4 x5 x6 x7 x8 xt0 = View.canon (valueScales c i a3 h3 a4 h4 a5 h5 a6 h6 a7 h7 a8 h8 a9 h9 a10 h10 a11 h11 a12 h12 a13 h13 a14 h14 a15 h15 x3 x4 x8 hc0) := by
  unfold sout0_A_1
  rw [View.read_writes_eq_canon VS0_1 _ _ (scover0_A_1 c i a3 h3 a4 h4 a5 h5 a6 h6 a7 h7 a8 h8 a9 h9 a10 h10 a11 h11 a12 h12 a13 h13 a14 h14 a15 h15 hc0 x0 x1 x2 x3 x4 x5 x6 x7 x8 xt0)]
  unfold kernelRun0_A
  dsimp only
  rw [(scales_A c i a3 h3 a4 h4 a5 h5 a6 h6 a7 h7 a8 h8 a9 h9 a10 h10 a11 h11 a12 h12 a13 h13 a14 h14 a15 h15 x0 x1 x2 x3 x4 x5 x6 x7 x8 xt0 hc0 _ _ _).2]

/-- A store of a whole block leaves it. -/
theorem whole_block (w : FVec Ideal S1x64x256 .bf16) (d : Fin 64) (j : Fin 256) :
    View.canon (Val := Elt Ideal) (s := S1x64x256) (e := .bf16) [⟨Rect.unit (s := S1x64x256) ![0, 0, 0] S1x64x256.size inb_S1x64x256_S1x64x256_0_0_0, w⟩] (ix3 0 d j) = w (ix3 0 d j) := by
  have e : (ix3 0 d j : S1x64x256.Idx)
      = (Rect.unit (s := S1x64x256) ![0, 0, 0] S1x64x256.size inb_S1x64x256_S1x64x256_0_0_0).emb (ix3 0 d j : S1x64x256.Idx) := by
    refine idx3_ext rfl ?_ ?_
    · change (d : ℕ) = 0 + 1 * d; omega
    · change (j : ℕ) = 0 + 1 * j; omega
  refine (congrArg (View.canon _) e).trans ?_
  exact View.canon_cons_emb ..

/-- The block a head's first step stores. -/
theorem first_block (hc0 : cond0_0 i) (d : Fin 64) (j : Fin 256) : out0_A_9 c i a3 h3 a4 h4 a5 h5 a6 h6 a7 h7 a8 h8 a9 h9 a10 h10 a11 h11 a12 h12 a13 h13 a14 h14 a15 h15 hc0 x0 x1 x2 x3 x4 x5 x6 x7 x8 xt0 (ix3 0 d j)
    = blockVal c i a3 h3 a4 h4 a5 h5 a6 h6 a7 h7 a8 h8 a9 h9 a10 h10 a11 h11 a12 h12 a13 h13 a14 h14 a15 h15 x0 x1 x2 x5 x6 xt0 (View.canon (keyScales c i a3 h3 a4 h4 a5 h5 a6 h6 a7 h7 a8 h8 a9 h9 a10 h10 a11 h11 a12 h12 a13 h13 a14 h14 a15 h15 x3 x4 x7 hc0)) (View.canon (valueScales c i a3 h3 a4 h4 a5 h5 a6 h6 a7 h7 a8 h8 a9 h9 a10 h10 a11 h11 a12 h12 a13 h13 a14 h14 a15 h15 x3 x4 x8 hc0)) (ix3 0 d j) := by
  unfold out0_A_9
  rw [View.read_writes_eq_canon VO0_9 _ _ (cover0_A_9 c i a3 h3 a4 h4 a5 h5 a6 h6 a7 h7 a8 h8 a9 h9 a10 h10 a11 h11 a12 h12 a13 h13 a14 h14 a15 h15 hc0 x0 x1 x2 x3 x4 x5 x6 x7 x8 xt0)]
  unfold kernelRun0_A
  dsimp only
  rw [block_A c i a3 h3 a4 h4 a5 h5 a6 h6 a7 h7 a8 h8 a9 h9 a10 h10 a11 h11 a12 h12 a13 h13 a14 h14 a15 h15 x0 x1 x2 x3 x4 x5 x6 x7 x8 xt0 hc0 _ _ _]
  exact whole_block _ d j

/-- The block a later step of a head stores. -/
theorem later_block (hc0 : ¬cond0_0 i) (d : Fin 64) (j : Fin 256) : out0_B_9 c i a3 h3 a4 h4 a5 h5 a6 h6 a7 h7 a8 h8 a9 h9 a10 h10 a11 h11 a12 h12 a13 h13 a14 h14 a15 h15 hc0 x0 x1 x2 x3 x4 x5 x6 x7 x8 xt0 K W (ix3 0 d j)
    = blockVal c i a3 h3 a4 h4 a5 h5 a6 h6 a7 h7 a8 h8 a9 h9 a10 h10 a11 h11 a12 h12 a13 h13 a14 h14 a15 h15 x0 x1 x2 x5 x6 xt0 K W (ix3 0 d j) := by
  unfold out0_B_9
  rw [View.read_writes_eq_canon VO0_9 _ _ (cover0_B_9 c i a3 h3 a4 h4 a5 h5 a6 h6 a7 h7 a8 h8 a9 h9 a10 h10 a11 h11 a12 h12 a13 h13 a14 h14 a15 h15 hc0 x0 x1 x2 x3 x4 x5 x6 x7 x8 xt0 K W)]
  unfold kernelRun0_B
  dsimp only
  rw [block_B c i a3 h3 a4 h4 a5 h5 a6 h6 a7 h7 a8 h8 a9 h9 a10 h10 a11 h11 a12 h12 a13 h13 a14 h14 a15 h15 x0 x1 x2 x3 x4 x5 x6 x7 x8 xt0 K W hc0 _]
  exact whole_block _ d j

end

section
variable (m : (ℓ : Loc nD τ sig) → Buf (Elt Ideal) ℓ) (c : Dev nD) (hO : Ok m)

/-- The scales of a head's keys. -/
def keysAt (a : Fin 2) (r : Fin 4480) : EReal :=
  if h : (r : ℕ) < 4096 then V m c main_arg4 (ix3 a ⟨r / 128, by omega⟩ ⟨r % 128, by omega⟩)
  else V m c main_v13 (ix3 a 0 ⟨r - 4096, by omega⟩)

/-- The scales of a head's values. -/
def valuesAt (a : Fin 2) (r : Fin 4480) : EReal :=
  if h : (r : ℕ) < 4096 then V m c main_arg5 (ix3 a ⟨r / 128, by omega⟩ ⟨r % 128, by omega⟩)
  else V m c main_v16 (ix3 a 0 ⟨r - 4096, by omega⟩)

/-- The scales of a head's keys, read from the step's blocks. -/
theorem rowScale_keys (t : Fin grid0.N) (r : Fin 4480) : rowScale (iblk m hO c 3 t) (iblk m hO c 7 t) r = keysAt m c (kv t) r := by
  by_cases h : (r : ℕ) < 4096
  · exact (dif_pos h).trans ((blk3 m c hO t _ _).trans (by unfold keysAt; rw [dif_pos h]))
  · exact (dif_neg h).trans ((blk7 m c hO t _).trans (by unfold keysAt; rw [dif_neg h]))

/-- The scales of a head's values, read from the step's blocks. -/
theorem rowScale_values (t : Fin grid0.N) (r : Fin 4480) : rowScale (iblk m hO c 4 t) (iblk m hO c 8 t) r = valuesAt m c (kv t) r := by
  by_cases h : (r : ℕ) < 4096
  · exact (dif_pos h).trans ((blk4 m c hO t _ _).trans (by unfold valuesAt; rw [dif_pos h]))
  · exact (dif_neg h).trans ((blk8 m c hO t _).trans (by unfold valuesAt; rw [dif_neg h]))

/-- The two buffers after a head's first step. -/
theorem kept_first (t : Fin (cfgM m hO).N) (h0 : t.val % 9 = 0) (r : Fin 4480) (l : Fin 128) :
    (outsAt0 m hO c t.val t.isLt).2.1 (ix2 r l) = keysAt m c (kv t) r ∧ (outsAt0 m hO c t.val t.isLt).2.2 (ix2 r l) = valuesAt m c (kv t) r := by
  constructor
  · refine (congrArg (fun o => o.2.1 (ix2 r l)) (outsAt0_A m hO c t h0)).trans ?_
    refine (congrFun (first_keys c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) ((hcond0_0 t).mpr h0)) (ix2 r l)).trans ?_
    exact (keyScales_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 3 t) (iblk m hO c 4 t) (iblk m hO c 7 t) ((hcond0_0 t).mpr h0) r l).trans (rowScale_keys m c hO t r)
  · refine (congrArg (fun o => o.2.2 (ix2 r l)) (outsAt0_A m hO c t h0)).trans ?_
    refine (congrFun (first_values c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) ((hcond0_0 t).mpr h0)) (ix2 r l)).trans ?_
    exact (valueScales_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 3 t) (iblk m hO c 4 t) (iblk m hO c 8 t) ((hcond0_0 t).mpr h0) r l).trans (rowScale_values m c hO t r)

/-- The two buffers hold the head's scales after every step. -/
theorem kept (n : ℕ) : ∀ (t : Fin (cfgM m hO).N), (t : ℕ) = n → ∀ r l,
    (outsAt0 m hO c t.val t.isLt).2.1 (ix2 r l) = keysAt m c (kv t) r ∧ (outsAt0 m hO c t.val t.isLt).2.2 (ix2 r l) = valuesAt m c (kv t) r := by
  induction n with
  | zero =>
    intro t ht r l
    have h0 : t.val % 9 = 0 := by omega
    exact kept_first m c hO t h0 r l
  | succ n ih =>
    intro t ht r l
    by_cases h0 : t.val % 9 = 0
    · exact kept_first m c hO t h0 r l
    · have hp := ih ⟨t.val - 1, Nat.lt_of_le_of_lt (Nat.sub_le _ _) t.isLt⟩ (by dsimp only; omega) r l
      have hk : kv ⟨t.val - 1, Nat.lt_of_le_of_lt (Nat.sub_le _ _) t.isLt⟩ = kv t :=
        fin_eq (show (t.val - 1) / 9 = t.val / 9 by omega)
      rw [hk] at hp
      constructor
      · refine (congrArg (fun o => o.2.1 (ix2 r l)) (outsAt0_B m hO c t h0)).trans ?_
        exact hp.1
      · refine (congrArg (fun o => o.2.2 (ix2 r l)) (outsAt0_B m hO c t h0)).trans ?_
        exact hp.2

/-- The chunk's row that a column of a step's block belongs to. -/
theorem row_of : ∀ (t : Fin grid0.N) (j : Fin 256), 256 * ((t : ℕ) % 9) + j < 2240 →
    rowAt (grid0.coords t) j = BitVec.ofNat 32 ((256 * ((t : ℕ) % 9) + j) % 320) := by
  decide +kernel

/-- The cached length the kernel reads is the argument's. -/
theorem length_of : cached c (tbl m 0) = m (c.tc.loc main_arg0) (ix1 0) := by
  obtain rfl : c = 0 := Subsingleton.elim _ _
  have e : tbl m 0 = m ((0 : Dev nD).tc.loc main_arg0) := V_main_arg0 m 0
  rw [e]
  unfold cached runFrom_B.sl.r
  refine congrArg (m ((0 : Dev nD).tc.loc main_arg0)) ?_
  funext a
  match a with
  | 0 => rfl

/-- The block of a head's first step. -/
theorem first_at (t : Fin (cfgM m hO).N) (h0 : t.val % 9 = 0) (d : Fin 64) (j : Fin 256) :
    (outsAt0 m hO c t.val t.isLt).1 (ix3 0 d j) = blockVal c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 5 t) (iblk m hO c 6 t) (tbl m 0)
      (View.canon (keyScales c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 3 t) (iblk m hO c 4 t) (iblk m hO c 7 t) ((hcond0_0 t).mpr h0))) (View.canon (valueScales c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 3 t) (iblk m hO c 4 t) (iblk m hO c 8 t) ((hcond0_0 t).mpr h0))) (ix3 0 d j) := by
  have e2 := first_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) ((hcond0_0 t).mpr h0) d j
  have e3 := congrFun (congrArg Prod.fst (outsAt0_A m hO c t h0)) (ix3 0 d j : S1x64x256.Idx)
  dsimp only at e3
  exact e3.trans e2

/-- The block of a later step of a head, of the scales the step before left. -/
theorem later_at (t : Fin (cfgM m hO).N) (h0 : ¬t.val % 9 = 0) (d : Fin 64) (j : Fin 256) :
    (outsAt0 m hO c t.val t.isLt).1 (ix3 0 d j) = blockVal c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 5 t) (iblk m hO c 6 t) (tbl m 0)
      (outsAt0 m hO c (t.val - 1) (Nat.lt_of_le_of_lt (Nat.sub_le _ _) t.isLt)).2.1 (outsAt0 m hO c (t.val - 1) (Nat.lt_of_le_of_lt (Nat.sub_le _ _) t.isLt)).2.2 (ix3 0 d j) := by
  have e2 := later_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2 (fun h => h0 ((hcond0_0 t).mp h)) d j
  have e3 := congrFun (congrArg Prod.fst (outsAt0_B m hO c t h0)) (ix3 0 d j : S1x64x256.Idx)
  dsimp only at e3
  exact e3.trans e2

/-- The block of a step, entry by entry. -/
theorem block_at (t : Fin (cfgM m hO).N) (d : Fin 64) (j : Fin 256) (h : Fin 14) (u : Fin 320)
    (hj : 256 * ((t : ℕ) % 9) + j < 2240) (hh : (h : ℕ) = 7 * ((t : ℕ) / 9) + (256 * ((t : ℕ) % 9) + j) / 320)
    (hu : (u : ℕ) = (256 * ((t : ℕ) % 9) + j) % 320) :
    (outsAt0 m hO c t.val t.isLt).1 (ix3 0 d j)
      = Cert.Proof.Chunk.entry (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (m (c.tc.loc main_arg9)) u h d := by
  have hk : kv t = ⟨h / 7, by omega⟩ := fin_eq (show (t : ℕ) / 9 = h / 7 by omega)
  have hq : ∀ e : Fin 64, iblk m hO c 0 t (ix3 0 e j : S1x64x256.Idx) = m (c.tc.loc main_arg1) (ix2 ⟨h * 64 + e, by omega⟩ ⟨u, by omega⟩) := by
    intro e
    rw [blk0, v4]
    refine (queryCols_eq _ (kv t) e ⟨256 * ((t : ℕ) % 9) + j, hj⟩).trans ?_
    exact congrArg₂ (fun a b => m (c.tc.loc main_arg1) (ix2 a b))
      (fin_eq (show (7 * ((t : ℕ) / 9) + (256 * ((t : ℕ) % 9) + j) / 320) * 64 + e = h * 64 + e by omega))
      (fin_eq (show (256 * ((t : ℕ) % 9) + j) % 320 = u by omega))
  have hkc : ∀ (e : Fin 64) r, iblk m hO c 1 t (ix3 0 e r : S1x64x4096.Idx) = m (c.tc.loc main_arg2) (ix3 ⟨h / 7, by omega⟩ e r) := by
    intro e r
    rw [blk1, hk]; exact congrFun (V_main_arg2 m c) _
  have hvc : ∀ (e : Fin 64) r, iblk m hO c 2 t (ix3 0 e r : S1x64x4096.Idx) = m (c.tc.loc main_arg3) (ix3 ⟨h / 7, by omega⟩ e r) := by
    intro e r
    rw [blk2, hk]; exact congrFun (V_main_arg3 m c) _
  have hkcs : ∀ a b, iblk m hO c 3 t (ix3 0 a b : S1x32x128.Idx) = m (c.tc.loc main_arg4) (ix3 ⟨h / 7, by omega⟩ a b) := by
    intro a b
    rw [blk3, hk]; exact congrFun (V_main_arg4 m c) _
  have hvcs : ∀ a b, iblk m hO c 4 t (ix3 0 a b : S1x32x128.Idx) = m (c.tc.loc main_arg5) (ix3 ⟨h / 7, by omega⟩ a b) := by
    intro a b
    rw [blk4, hk]; exact congrFun (V_main_arg5 m c) _
  have hkn : ∀ (e : Fin 64) (b : Fin 320), iblk m hO c 5 t (ix3 0 e ⟨b, by omega⟩ : S1x64x384.Idx) = m (c.tc.loc main_arg6) (ix2 ⟨h / 7 * 64 + e, by omega⟩ ⟨b, by omega⟩) := by
    intro e b
    rw [blk5, hk, v7]; exact codeCols_eq _ _ e b
  have hvn : ∀ (e : Fin 64) (b : Fin 320), iblk m hO c 6 t (ix3 0 e ⟨b, by omega⟩ : S1x64x384.Idx) = m (c.tc.loc main_arg8) (ix2 ⟨h / 7 * 64 + e, by omega⟩ ⟨b, by omega⟩) := by
    intro e b
    rw [blk6, hk, v10]; exact codeCols_eq _ _ e b
  have hkns : ∀ b : Fin 320, iblk m hO c 7 t (ix3 0 0 ⟨b, by omega⟩ : S1x1x384.Idx) = m (c.tc.loc main_arg7) (ix2 ⟨h / 7, by omega⟩ ⟨b, by omega⟩) := by
    intro b
    rw [blk7, hk, v13]; exact scaleCols_eq _ _ b
  have hvns : ∀ b : Fin 320, iblk m hO c 8 t (ix3 0 0 ⟨b, by omega⟩ : S1x1x384.Idx) = m (c.tc.loc main_arg9) (ix2 ⟨h / 7, by omega⟩ ⟨b, by omega⟩) := by
    intro b
    rw [blk8, hk, v16]; exact scaleCols_eq _ _ b
  have hr : rowAt (grid0.coords t) j = BitVec.ofNat 32 u := by
    rw [row_of t j hj, hu]
  by_cases h0 : t.val % 9 = 0
  · refine (first_at m c hO t h0 d j).trans ?_
    exact block_entry c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _ _ (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (m (c.tc.loc main_arg9))
      (fun r l => keyScales_eq ..) (fun r l => valueScales_eq ..) h u j d hq hkc hvc hkcs hvcs hkn hvn hkns hvns (length_of m c) hr
  · refine (later_at m c hO t h0 d j).trans ?_
    have hp := kept m c hO (t.val - 1) ⟨t.val - 1, Nat.lt_of_le_of_lt (Nat.sub_le _ _) t.isLt⟩ rfl
    have hk' : kv ⟨t.val - 1, Nat.lt_of_le_of_lt (Nat.sub_le _ _) t.isLt⟩ = kv t :=
      fin_eq (show (t.val - 1) / 9 = t.val / 9 by omega)
    rw [hk'] at hp
    exact block_entry c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) _ _ (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (m (c.tc.loc main_arg9))
      (fun r l => (hp r l).1.trans (rowScale_keys m c hO t r).symm) (fun r l => (hp r l).2.trans (rowScale_values m c hO t r).symm)
      h u j d hq hkc hvc hkcs hvcs hkn hvn hkns hvns (length_of m c) hr

/-- Every entry of the array is in a block that is written back. -/
theorem covers : ((cfgM m hO).win 9).Covers := of_decide_eq_true (by sl_kernel_rfl)

/-- The array the calls' steps fill. -/
def filled : Vec Ideal S2x64x2304 .bf16 := fun y =>
  (outsAt0 m hO c (9 * (y 0 : ℕ) + (y 2 : ℕ) / 256) (by have h := (y 0).isLt; have h' := (y 2).isLt; change _ < 18; change _ < 2 at h; change _ < 2304 at h'; omega)).1
    (ix3 0 (y 1) ⟨(y 2 : ℕ) % 256, by omega⟩)

/-- What the calls' steps store depends on their number alone. -/
theorem outs_at (n n' : ℕ) (hn) (hn') (e : n = n') (d : Fin 64) (j j' : Fin 256) (ej : j = j') :
    (outsAt0 m hO c n hn).1 (ix3 0 d j) = (outsAt0 m hO c n' hn').1 (ix3 0 d j') := by
  subst e ej; rfl

end
end Cert.ChunkIdeal.Gen
end
-- ==== Proof.ChunkResult.lean ====
/-
  The chunk's kernel computes the reference's attention.
-/
module

public import proofs.«01_k».proof.Proof.ChunkCall
public import proofs.«01_k».proof.Proof.ChunkReference

@[expose] public section

set_option maxRecDepth 16384

noncomputable section
namespace Cert.ChunkIdeal.Gen
open Idealize.ShloMosaic Idealize.ShloMosaic.TcCoe Idealize.SL Idealize.SL.Sem Idealize.ShloMosaic.Pipeline
open Cert.Proof.Chunk
open Cert.Proof.ChunkHost
variable (m : (ℓ : Loc nD τ sig) → Buf (Elt Ideal) ℓ) (c : Dev nD) (hO : Ok m)

/-- An index of a block has a place on two axes. -/
theorem block_index (y : S1x64x256.Idx) : ∃ (d : Fin 64) (j : Fin 256), y = ix3 0 d j := by
  refine ⟨y 1, y 2, (eq_ix3 (n0 := 1) (n1 := 64) (n2 := 256) y).trans ?_⟩
  exact congrArg (fun a : Fin 1 => (ix3 a (y 1) (y 2) : S1x64x256.Idx)) (Subsingleton.elim _ _)

/-- The call fills its array block by block. -/
theorem region_out : (dats m hO 0 c).arrAt 9 (cfgM m hO).N = filled m c hO := by
  refine (dats m hO 0 c).arrAt_eq_of_covers 9 _ (covers m hO) fun t hf y => ?_
  obtain ⟨d, j, rfl⟩ := block_index y
  have e : ((((cfgM m hO).win 9).blk t).view.emb (ix3 0 d j : S1x64x256.Idx) : S2x64x2304.Idx)
      = ix3 (kv t) d ⟨256 * ((t : ℕ) % 9) + j, by omega⟩ := by
    unfold kv
    blk_ext! []
    all_goals first | exact congrFun (place9 m hO t) 0 | exact at0 (congrFun (place9 m hO t) 1) | exact atk (congrFun (place9 m hO t) 2)
  refine Eq.trans ?_ (congrArg (filled m c hO) e).symm
  unfold filled
  refine Eq.trans ?_ (outs_at m c hO t.val _ t.isLt _ ?_ d j _ ?_)
  · exact congrFun (after0_9 m hO c t) (ix3 0 d j : S1x64x256.Idx)
  · change (t : ℕ) = 9 * ((t : ℕ) / 9) + (256 * ((t : ℕ) % 9) + j) / 256
    omega
  · exact fin_eq (show (j : ℕ) = (256 * ((t : ℕ) % 9) + j) % 256 by omega)

/-- The rows of the array as the host lays them out. -/
def laidOut (x : Vec Ideal S2x64x2304 .bf16) : Vec Ideal S320x14x64 .bf16 :=
  fun y => x (ix3 ⟨(y 1 : ℕ) / 7, by have h := (y 1).isLt; change _ < 14 at h; omega⟩ (y 2)
    ⟨(y 1 : ℕ) % 7 * 320 + (y 0 : ℕ), by have h := (y 0).isLt; change _ < 320 at h; omega⟩)

/-- The host's lines after the call. -/
def hostRows (x : Vec Ideal S2x64x2304 .bf16) : Vec Ideal S320x14x64 .bf16 :=
  shapeCast S320x14x64 (transpose S320x2x7x64 [3, 0, 2, 1]
    (shapeCast S2x64x7x320 (extractStridedSlice S2x64x2240 ![0, 0, 0] x slices_S2x64x2304_S2x64x2240_0_0_0) shapeCasts_S2x64x2240_S2x64x7x320)
    transposes_S2x64x7x320_S320x2x7x64_3_0_2_1) shapeCasts_S320x2x7x64_S320x14x64

/-- The host's lines, entry by entry. -/
theorem hostRows_eq (x : Vec Ideal S2x64x2304 .bf16) : hostRows x = laidOut x := by
  funext y
  obtain ⟨i, h, d, rfl⟩ : ∃ (i : Fin 320) (h : Fin 14) (d : Fin 64), y = ix3 i h d := ⟨y 0, y 1, y 2, eq_ix3 (n0 := 320) (n1 := 14) (n2 := 64) y⟩
  unfold hostRows laidOut
  pointwise []

/-- The result is the call's array as the host lays it out. -/
theorem tail : Pipeline.afterTail pcfgs (fun _ => adm m hO) (dats m hO) 0 (V0 m) [hostOps1] c main_v21
    = laidOut (filled m c hO) := by
  unfold Pipeline.afterTail
  rw [show [hostOps1].flatten = (hostOps1 : List (HloOp τ sig (Elt Ideal))) from rfl]
  unfold hostOps1
  after_results
  have e : withArrays (pin pcfgs (fun _ => adm m hO) 0).spec c (V0 m c) (fun w => (dats m hO 0 c).arrAt w (pin pcfgs (fun _ => adm m hO) 0).N)
      (Proc.devRef .tc main_v17) = filled m c hO :=
    (withArrays_arr (pin pcfgs (fun _ => adm m hO) 0).spec (of_decide_eq_true (by sl_kernel_rfl)) c (V0 m c) _ 9).trans (region_out m c hO)
  rw [e]
  exact hostRows_eq _

/-- The step and the place in its block of a column. -/
theorem column (f X : ℕ) (hX : X < 2240) : 256 * ((9 * f + X / 256) % 9) + X % 256 = X ∧ (9 * f + X / 256) / 9 = f := by
  constructor <;> omega

/-- The result is the formula, entry by entry. -/
theorem laidOut_eq : laidOut (filled m c hO) = Cert.Proof.Chunk.call (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (m (c.tc.loc main_arg9)) := by
  funext y
  have h0 : (y 0 : ℕ) < 320 := (y 0).isLt
  have h1 : (y 1 : ℕ) < 14 := (y 1).isLt
  have hX : (y 1 : ℕ) % 7 * 320 + (y 0 : ℕ) < 2240 := by omega
  have hc := column ((y 1 : ℕ) / 7) _ hX
  unfold laidOut filled Cert.Proof.Chunk.call
  exact block_at m c hO ⟨9 * ((y 1 : ℕ) / 7) + ((y 1 : ℕ) % 7 * 320 + (y 0 : ℕ)) / 256, by change _ < 18; omega⟩ (y 2) ⟨((y 1 : ℕ) % 7 * 320 + (y 0 : ℕ)) % 256, by omega⟩
    (y 1) (y 0) (by dsimp only; rw [hc.1]; exact hX) (by dsimp only; rw [hc.1, hc.2]; omega) (by dsimp only; rw [hc.1]; omega)

/-- Every run ends with the attention in the result and the arguments unchanged. -/
theorem run_result (g : Dev nD → PrngReg) : θ_run defs (onTc (τ := τ) (main (F := Ideal))) ⟨m, fun _ => 0, g⟩ (fun r => ∀ c : Dev nD,
      r.2.mem ((c.tc : Thread nD τ).loc main_v21) = Cert.Proof.Chunk.call (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (m (c.tc.loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨((h.1 c).2 main_v21 (Pipeline.mem_restRefs_of main_v21 (by decide) (of_decide_eq_true (by sl_kernel_rfl)))).trans ((tail m c (ok m)).trans (laidOut_eq m c (ok m))), h.2 c⟩)
    (θ_run_and (run_main m g (ok m)) (unchanged m g (ok m)))

end Cert.ChunkIdeal.Gen
end
-- ==== Proof.lean ====
/-
  The claims about the calls of one transformer layer: each kernel program's frame, and that over the extended reals
  it computes the formula that its reference program states.
-/
module

public import proofs.«01_k».proof.Proof.Gen.Ffn0Ideal.Value
public import proofs.«01_k».proof.Proof.Gen.FfnRef0Ideal.Value
public import proofs.«01_k».proof.Defs
public import proofs.«01_k».proof.Proof.Gen.Ffn0
public import proofs.«01_k».proof.Proof.Gen.Ffn0.Skeleton
public import proofs.«01_k».proof.Proof.Gen.Ffn0.Launch
public import proofs.«01_k».proof.Proof.Gen.Ffn0.Points
public import proofs.«01_k».proof.Proof.Gen.Ffn0.Frame
public import proofs.«01_k».proof.Proof.Gen.Ffn0Ideal
public import proofs.«01_k».proof.Proof.Gen.Ffn0Ideal.Skeleton
public import proofs.«01_k».proof.Proof.Gen.Ffn0Ideal.Launch
public import proofs.«01_k».proof.Proof.Gen.Ffn0Ideal.Points
public import proofs.«01_k».proof.Proof.Gen.Ffn0Ideal.Frame
public import proofs.«01_k».proof.Proof.Gen.FfnRef0Ideal
public import proofs.«01_k».proof.Proof.Gen.FfnRef0Ideal.Skeleton
public import proofs.«01_k».proof.Proof.Gen.FfnRef0Ideal.Launch
public import proofs.«01_k».proof.Proof.Gen.FfnRef0Ideal.Points
public import proofs.«01_k».proof.Proof.Gen.FfnRef0Ideal.Frame
public import Idealize.ShloMosaic.Adequacy
public import Idealize.ShloMosaic.Init
public import proofs.«01_k».proof.Proof.Ffn0Kernel
public import proofs.«01_k».proof.Proof.Ffn0Reference
public import proofs.«01_k».proof.Proof.Gen.Ffn1Ideal.Value
public import proofs.«01_k».proof.Proof.Gen.FfnRef1Ideal.Value
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.FfnRef1Ideal
public import proofs.«01_k».proof.Proof.Gen.FfnRef1Ideal.Skeleton
public import proofs.«01_k».proof.Proof.Gen.FfnRef1Ideal.Launch
public import proofs.«01_k».proof.Proof.Gen.FfnRef1Ideal.Points
public import proofs.«01_k».proof.Proof.Gen.FfnRef1Ideal.Frame
public import proofs.«01_k».proof.Proof.Ffn1Kernel
public import proofs.«01_k».proof.Proof.Ffn1Reference
public import proofs.«01_k».proof.Proof.Gen.Ffn2Ideal.Value
public import proofs.«01_k».proof.Proof.Gen.FfnRef2Ideal.Value
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.FfnRef2Ideal
public import proofs.«01_k».proof.Proof.Gen.FfnRef2Ideal.Skeleton
public import proofs.«01_k».proof.Proof.Gen.FfnRef2Ideal.Launch
public import proofs.«01_k».proof.Proof.Gen.FfnRef2Ideal.Points
public import proofs.«01_k».proof.Proof.Gen.FfnRef2Ideal.Frame
public import proofs.«01_k».proof.Proof.Ffn2Kernel
public import proofs.«01_k».proof.Proof.Ffn2Reference
public import proofs.«01_k».proof.Proof.Gen.Ffn3Ideal.Value
public import proofs.«01_k».proof.Proof.Gen.FfnRef3Ideal.Value
public import proofs.«01_k».proof.Proof.Gen.Ffn3
public import proofs.«01_k».proof.Proof.Gen.Ffn3.Skeleton
public import proofs.«01_k».proof.Proof.Gen.Ffn3.Launch
public import proofs.«01_k».proof.Proof.Gen.Ffn3.Points
public import proofs.«01_k».proof.Proof.Gen.Ffn3.Frame
public import proofs.«01_k».proof.Proof.Gen.Ffn3Ideal
public import proofs.«01_k».proof.Proof.Gen.Ffn3Ideal.Skeleton
public import proofs.«01_k».proof.Proof.Gen.Ffn3Ideal.Launch
public import proofs.«01_k».proof.Proof.Gen.Ffn3Ideal.Points
public import proofs.«01_k».proof.Proof.Gen.Ffn3Ideal.Frame
public import proofs.«01_k».proof.Proof.Gen.FfnRef3Ideal
public import proofs.«01_k».proof.Proof.Gen.FfnRef3Ideal.Skeleton
public import proofs.«01_k».proof.Proof.Gen.FfnRef3Ideal.Launch
public import proofs.«01_k».proof.Proof.Gen.FfnRef3Ideal.Points
public import proofs.«01_k».proof.Proof.Gen.FfnRef3Ideal.Frame
public import proofs.«01_k».proof.Proof.Ffn3Kernel
public import proofs.«01_k».proof.Proof.Ffn3Reference
public import proofs.«01_k».proof.Proof.Gen.Qkv0
public import proofs.«01_k».proof.Proof.Gen.Qkv0.Skeleton
public import proofs.«01_k».proof.Proof.Gen.Qkv0.Launch
public import proofs.«01_k».proof.Proof.Gen.Qkv0.Points
public import proofs.«01_k».proof.Proof.Gen.Qkv0.Frame
public import proofs.«01_k».proof.Proof.Gen.Qkv0Ideal
public import proofs.«01_k».proof.Proof.Gen.Qkv0Ideal.Skeleton
public import proofs.«01_k».proof.Proof.Gen.Qkv0Ideal.Launch
public import proofs.«01_k».proof.Proof.Gen.Qkv0Ideal.Points
public import proofs.«01_k».proof.Proof.Gen.Qkv0Ideal.Frame
public import proofs.«01_k».proof.Proof.Gen.Qkv0Ideal.Value
public import proofs.«01_k».proof.Proof.Gen.QkvRef0Ideal
public import proofs.«01_k».proof.Proof.Gen.QkvRef0Ideal.Skeleton
public import proofs.«01_k».proof.Proof.Gen.QkvRef0Ideal.Launch
public import proofs.«01_k».proof.Proof.Gen.QkvRef0Ideal.Points
public import proofs.«01_k».proof.Proof.Gen.QkvRef0Ideal.Frame
public import proofs.«01_k».proof.Proof.Gen.QkvRef0Ideal.Value
public import proofs.«01_k».proof.Proof.Qkv0Kernel
public import proofs.«01_k».proof.Proof.Qkv0Reference
public import proofs.«01_k».proof.Proof.Gen.Qkv1
public import proofs.«01_k».proof.Proof.Gen.Qkv1.Skeleton
public import proofs.«01_k».proof.Proof.Gen.Qkv1.Launch
public import proofs.«01_k».proof.Proof.Gen.Qkv1.Points
public import proofs.«01_k».proof.Proof.Gen.Qkv1.Frame
public import proofs.«01_k».proof.Proof.Gen.Qkv1Ideal
public import proofs.«01_k».proof.Proof.Gen.Qkv1Ideal.Skeleton
public import proofs.«01_k».proof.Proof.Gen.Qkv1Ideal.Launch
public import proofs.«01_k».proof.Proof.Gen.Qkv1Ideal.Points
public import proofs.«01_k».proof.Proof.Gen.Qkv1Ideal.Frame
public import proofs.«01_k».proof.Proof.Gen.Qkv1Ideal.Value
public import proofs.«01_k».proof.Proof.Gen.QkvRef1Ideal
public import proofs.«01_k».proof.Proof.Gen.QkvRef1Ideal.Skeleton
public import proofs.«01_k».proof.Proof.Gen.QkvRef1Ideal.Launch
public import proofs.«01_k».proof.Proof.Gen.QkvRef1Ideal.Points
public import proofs.«01_k».proof.Proof.Gen.QkvRef1Ideal.Frame
public import proofs.«01_k».proof.Proof.Gen.QkvRef1Ideal.Value
public import proofs.«01_k».proof.Proof.Qkv1Kernel
public import proofs.«01_k».proof.Proof.Qkv1Reference
public import proofs.«01_k».proof.Proof.Gen.Qkv2
public import proofs.«01_k».proof.Proof.Gen.Qkv2.Skeleton
public import proofs.«01_k».proof.Proof.Gen.Qkv2.Launch
public import proofs.«01_k».proof.Proof.Gen.Qkv2.Points
public import proofs.«01_k».proof.Proof.Gen.Qkv2.Frame
public import proofs.«01_k».proof.Proof.Gen.Qkv2Ideal
public import proofs.«01_k».proof.Proof.Gen.Qkv2Ideal.Skeleton
public import proofs.«01_k».proof.Proof.Gen.Qkv2Ideal.Launch
public import proofs.«01_k».proof.Proof.Gen.Qkv2Ideal.Points
public import proofs.«01_k».proof.Proof.Gen.Qkv2Ideal.Frame
public import proofs.«01_k».proof.Proof.Gen.Qkv2Ideal.Value
public import proofs.«01_k».proof.Proof.Gen.QkvRef2Ideal
public import proofs.«01_k».proof.Proof.Gen.QkvRef2Ideal.Skeleton
public import proofs.«01_k».proof.Proof.Gen.QkvRef2Ideal.Launch
public import proofs.«01_k».proof.Proof.Gen.QkvRef2Ideal.Points
public import proofs.«01_k».proof.Proof.Gen.QkvRef2Ideal.Frame
public import proofs.«01_k».proof.Proof.Gen.QkvRef2Ideal.Value
public import proofs.«01_k».proof.Proof.Qkv2Kernel
public import proofs.«01_k».proof.Proof.Qkv2Reference
public import proofs.«01_k».proof.Proof.Gen.Qkv3
public import proofs.«01_k».proof.Proof.Gen.Qkv3.Skeleton
public import proofs.«01_k».proof.Proof.Gen.Qkv3.Launch
public import proofs.«01_k».proof.Proof.Gen.Qkv3.Points
public import proofs.«01_k».proof.Proof.Gen.Qkv3.Frame
public import proofs.«01_k».proof.Proof.Gen.Qkv3Ideal
public import proofs.«01_k».proof.Proof.Gen.Qkv3Ideal.Skeleton
public import proofs.«01_k».proof.Proof.Gen.Qkv3Ideal.Launch
public import proofs.«01_k».proof.Proof.Gen.Qkv3Ideal.Points
public import proofs.«01_k».proof.Proof.Gen.Qkv3Ideal.Frame
public import proofs.«01_k».proof.Proof.Gen.Qkv3Ideal.Value
public import proofs.«01_k».proof.Proof.Gen.QkvRef3Ideal
public import proofs.«01_k».proof.Proof.Gen.QkvRef3Ideal.Skeleton
public import proofs.«01_k».proof.Proof.Gen.QkvRef3Ideal.Launch
public import proofs.«01_k».proof.Proof.Gen.QkvRef3Ideal.Points
public import proofs.«01_k».proof.Proof.Gen.QkvRef3Ideal.Frame
public import proofs.«01_k».proof.Proof.Gen.QkvRef3Ideal.Value
public import proofs.«01_k».proof.Proof.Qkv3Kernel
public import proofs.«01_k».proof.Proof.Qkv3Reference
public import proofs.«01_k».proof.Proof.Gen.ChunkRefIdeal.Value
public import proofs.«01_k».proof.Proof.Gen.Chunk
public import proofs.«01_k».proof.Proof.Gen.Chunk.Skeleton
public import proofs.«01_k».proof.Proof.Gen.Chunk.Loops
public import proofs.«01_k».proof.Proof.Gen.Chunk.Launch
public import proofs.«01_k».proof.Proof.Gen.Chunk.Points
public import proofs.«01_k».proof.Proof.Gen.ChunkIdeal
public import proofs.«01_k».proof.Proof.Gen.ChunkIdeal.Skeleton
public import proofs.«01_k».proof.Proof.Gen.ChunkIdeal.Loops
public import proofs.«01_k».proof.Proof.Gen.ChunkIdeal.Launch
public import proofs.«01_k».proof.Proof.Gen.ChunkIdeal.Points
public import proofs.«01_k».proof.Proof.Gen.ChunkRefIdeal
public import proofs.«01_k».proof.Proof.Gen.ChunkRefIdeal.Skeleton
public import proofs.«01_k».proof.Proof.Gen.ChunkRefIdeal.Launch
public import proofs.«01_k».proof.Proof.Gen.ChunkRefIdeal.Points
public import proofs.«01_k».proof.Proof.Gen.ChunkRefIdeal.Frame
public import proofs.«01_k».proof.Proof.ChunkFrame
public import proofs.«01_k».proof.Proof.ChunkReference
public import proofs.«01_k».proof.Proof.ChunkResult

@[expose] public section

noncomputable section

namespace Cert.Proof

open Idealize.ShloMosaic Idealize.SL.Sem

/-- The feed-forward kernel of layer 0 and its formula leave the same array, from the same arguments. -/
theorem ffn0 : Cert.algebraic_Ffn0Ideal_FfnRef0Ideal := by
  intro m g m' g' _ hag
  refine ⟨_, Cert.Ffn0Ideal.Value.run_blocks m g, (θ_run _ _ _).mono (fun r h c => ⟨(h c).1.trans ?_, (h c).2⟩)
    (Cert.FfnRef0Ideal.Value.run_blocks m' g')⟩
  obtain ⟨e0, e1, e2, e3, e4, e5, e6, e7, e8⟩ := hag c
  rw [FfnRef0.result, e0, e1, e2, e3, e4, e5, e6, e7, e8]
  exact (Ffn0.result m c).symm

/-- The feed-forward kernel of layer 1 and its formula leave the same array, from the same arguments. -/
theorem ffn1 : Cert.algebraic_Ffn1Ideal_FfnRef1Ideal := by
  intro m g m' g' _ hag
  refine ⟨_, Cert.Ffn1Ideal.Value.run_blocks m g, (θ_run _ _ _).mono (fun r h c => ⟨(h c).1.trans ?_, (h c).2⟩)
    (Cert.FfnRef1Ideal.Value.run_blocks m' g')⟩
  obtain ⟨e0, e1, e2, e3, e4, e5, e6, e7, e8⟩ := hag c
  rw [FfnRef1.result, e0, e1, e2, e3, e4, e5, e6, e7, e8]
  exact (Ffn1.result m c).symm

/-- The feed-forward kernel of layer 2 and its formula leave the same array, from the same arguments. -/
theorem ffn2 : Cert.algebraic_Ffn2Ideal_FfnRef2Ideal := by
  intro m g m' g' _ hag
  refine ⟨_, Cert.Ffn2Ideal.Value.run_blocks m g, (θ_run _ _ _).mono (fun r h c => ⟨(h c).1.trans ?_, (h c).2⟩)
    (Cert.FfnRef2Ideal.Value.run_blocks m' g')⟩
  obtain ⟨e0, e1, e2, e3, e4, e5, e6, e7, e8⟩ := hag c
  rw [FfnRef2.result, e0, e1, e2, e3, e4, e5, e6, e7, e8]
  exact (Ffn2.result m c).symm

/-- The feed-forward kernel of layer 3 and its formula leave the same array, from the same arguments. -/
theorem ffn3 : Cert.algebraic_Ffn3Ideal_FfnRef3Ideal := by
  intro m g m' g' _ hag
  refine ⟨_, Cert.Ffn3Ideal.Value.run_blocks m g, (θ_run _ _ _).mono (fun r h c => ⟨(h c).1.trans ?_, (h c).2⟩)
    (Cert.FfnRef3Ideal.Value.run_blocks m' g')⟩
  obtain ⟨e0, e1, e2, e3, e4, e5, e6, e7, e8⟩ := hag c
  rw [FfnRef3.result, e0, e1, e2, e3, e4, e5, e6, e7, e8]
  exact (Ffn3.result m c).symm

/-- The projection kernel of layer 0 and its formula leave the same five arrays, from the same arguments. -/
theorem qkv0 : Cert.algebraic_Qkv0Ideal_QkvRef0Ideal := by
  intro m g m' g' _ hag
  refine ⟨_, _, _, _, _, Cert.Qkv0Ideal.Value.run_blocks m g, (θ_run _ _ _).mono (fun r h c => ?_)
    (Cert.QkvRef0Ideal.Value.run_blocks m' g')⟩
  obtain ⟨e0, e1, e2, e3, e4, e5, e6⟩ := hag c
  obtain ⟨h7, h8, h9, h10, h11, kept⟩ := h c
  refine ⟨h7.trans ?_, h8.trans ?_, h9.trans ?_, h10.trans ?_, h11.trans ?_, kept⟩
  · rw [QkvRef0.result7, e0, e1, e2, e3, e4, e5, e6]; exact (Qkv0.result7 m c).symm
  · rw [QkvRef0.result8, e0, e1, e2, e3, e4, e5, e6]; exact (Qkv0.result8 m c).symm
  · rw [QkvRef0.result9, e0, e1, e2, e3, e4, e5, e6]; exact (Qkv0.result9 m c).symm
  · rw [QkvRef0.result10, e0, e1, e2, e3, e4]; exact (Qkv0.result10 m c).symm
  · rw [QkvRef0.result11, e0, e1, e2, e3, e4]; exact (Qkv0.result11 m c).symm

/-- The projection kernel of layer 1 and its formula leave the same five arrays, from the same arguments. -/
theorem qkv1 : Cert.algebraic_Qkv1Ideal_QkvRef1Ideal := by
  intro m g m' g' _ hag
  refine ⟨_, _, _, _, _, Cert.Qkv1Ideal.Value.run_blocks m g, (θ_run _ _ _).mono (fun r h c => ?_)
    (Cert.QkvRef1Ideal.Value.run_blocks m' g')⟩
  obtain ⟨e0, e1, e2, e3, e4, e5, e6⟩ := hag c
  obtain ⟨h7, h8, h9, h10, h11, kept⟩ := h c
  refine ⟨h7.trans ?_, h8.trans ?_, h9.trans ?_, h10.trans ?_, h11.trans ?_, kept⟩
  · rw [QkvRef1.result7, e0, e1, e2, e3, e4, e5, e6]; exact (Qkv1.result7 m c).symm
  · rw [QkvRef1.result8, e0, e1, e2, e3, e4, e5, e6]; exact (Qkv1.result8 m c).symm
  · rw [QkvRef1.result9, e0, e1, e2, e3, e4, e5, e6]; exact (Qkv1.result9 m c).symm
  · rw [QkvRef1.result10, e0, e1, e2, e3, e4]; exact (Qkv1.result10 m c).symm
  · rw [QkvRef1.result11, e0, e1, e2, e3, e4]; exact (Qkv1.result11 m c).symm

/-- The projection kernel of layer 2 and its formula leave the same five arrays, from the same arguments. -/
theorem qkv2 : Cert.algebraic_Qkv2Ideal_QkvRef2Ideal := by
  intro m g m' g' _ hag
  refine ⟨_, _, _, _, _, Cert.Qkv2Ideal.Value.run_blocks m g, (θ_run _ _ _).mono (fun r h c => ?_)
    (Cert.QkvRef2Ideal.Value.run_blocks m' g')⟩
  obtain ⟨e0, e1, e2, e3, e4, e5, e6⟩ := hag c
  obtain ⟨h7, h8, h9, h10, h11, kept⟩ := h c
  refine ⟨h7.trans ?_, h8.trans ?_, h9.trans ?_, h10.trans ?_, h11.trans ?_, kept⟩
  · rw [QkvRef2.result7, e0, e1, e2, e3, e4, e5, e6]; exact (Qkv2.result7 m c).symm
  · rw [QkvRef2.result8, e0, e1, e2, e3, e4, e5, e6]; exact (Qkv2.result8 m c).symm
  · rw [QkvRef2.result9, e0, e1, e2, e3, e4, e5, e6]; exact (Qkv2.result9 m c).symm
  · rw [QkvRef2.result10, e0, e1, e2, e3, e4]; exact (Qkv2.result10 m c).symm
  · rw [QkvRef2.result11, e0, e1, e2, e3, e4]; exact (Qkv2.result11 m c).symm

/-- The projection kernel of layer 3 and its formula leave the same five arrays, from the same arguments. -/
theorem qkv3 : Cert.algebraic_Qkv3Ideal_QkvRef3Ideal := by
  intro m g m' g' _ hag
  refine ⟨_, _, _, _, _, Cert.Qkv3Ideal.Value.run_blocks m g, (θ_run _ _ _).mono (fun r h c => ?_)
    (Cert.QkvRef3Ideal.Value.run_blocks m' g')⟩
  obtain ⟨e0, e1, e2, e3, e4, e5, e6⟩ := hag c
  obtain ⟨h7, h8, h9, h10, h11, kept⟩ := h c
  refine ⟨h7.trans ?_, h8.trans ?_, h9.trans ?_, h10.trans ?_, h11.trans ?_, kept⟩
  · rw [QkvRef3.result7, e0, e1, e2, e3, e4, e5, e6]; exact (Qkv3.result7 m c).symm
  · rw [QkvRef3.result8, e0, e1, e2, e3, e4, e5, e6]; exact (Qkv3.result8 m c).symm
  · rw [QkvRef3.result9, e0, e1, e2, e3, e4, e5, e6]; exact (Qkv3.result9 m c).symm
  · rw [QkvRef3.result10, e0, e1, e2, e3, e4]; exact (Qkv3.result10 m c).symm
  · rw [QkvRef3.result11, e0, e1, e2, e3, e4]; exact (Qkv3.result11 m c).symm

/-- The attention kernel of the prefill chunk and the formula leave the same array, from the same arguments. -/
theorem chunk : Cert.algebraic_ChunkIdeal_ChunkRefIdeal := by
  intro m g m' g' _ hag
  refine ⟨_, Cert.ChunkIdeal.Gen.run_result m g, (θ_run _ _ _).mono (fun r h c => ?_)
    (Cert.ChunkRefIdeal.Value.run_blocks m' g')⟩
  obtain ⟨e0, e1, e2, e3, e4, e5, e6, e7, e8, e9⟩ := hag c
  obtain ⟨h0, kept⟩ := h c
  refine ⟨h0.trans ?_, kept⟩
  rw [ChunkRef.result, e0, e1, e2, e3, e4, e5, e6, e7, e8, e9]

/-- Every claim, in the order in which they are stated. -/
theorem claim : Cert.Claim := ⟨
  Cert.Ffn0.Gen.facts, Cert.Ffn0Ideal.Gen.facts, Cert.FfnRef0Ideal.Gen.facts,
  Cert.Ffn1.Gen.facts, Cert.Ffn1Ideal.Gen.facts, Cert.FfnRef1Ideal.Gen.facts,
  Cert.Ffn2.Gen.facts, Cert.Ffn2Ideal.Gen.facts, Cert.FfnRef2Ideal.Gen.facts,
  Cert.Ffn3.Gen.facts, Cert.Ffn3Ideal.Gen.facts, Cert.FfnRef3Ideal.Gen.facts,
  Cert.Qkv0.Gen.facts, Cert.Qkv0Ideal.Gen.facts, Cert.QkvRef0Ideal.Gen.facts,
  Cert.Qkv1.Gen.facts, Cert.Qkv1Ideal.Gen.facts, Cert.QkvRef1Ideal.Gen.facts,
  Cert.Qkv2.Gen.facts, Cert.Qkv2Ideal.Gen.facts, Cert.QkvRef2Ideal.Gen.facts,
  Cert.Qkv3.Gen.facts, Cert.Qkv3Ideal.Gen.facts, Cert.QkvRef3Ideal.Gen.facts,
  Cert.Chunk.Gen.facts, Cert.ChunkIdeal.Gen.facts, Cert.ChunkRefIdeal.Gen.facts,
  fun m ρ _ => Cert.Ffn0.Gen.frame m ρ,
  fun m ρ _ => Cert.Ffn0Ideal.Gen.frame m ρ,
  fun m ρ _ => Cert.FfnRef0Ideal.Gen.frame m ρ,
  fun m ρ _ => Cert.Ffn1.Gen.frame m ρ,
  fun m ρ _ => Cert.Ffn1Ideal.Gen.frame m ρ,
  fun m ρ _ => Cert.FfnRef1Ideal.Gen.frame m ρ,
  fun m ρ _ => Cert.Ffn2.Gen.frame m ρ,
  fun m ρ _ => Cert.Ffn2Ideal.Gen.frame m ρ,
  fun m ρ _ => Cert.FfnRef2Ideal.Gen.frame m ρ,
  fun m ρ _ => Cert.Ffn3.Gen.frame m ρ,
  fun m ρ _ => Cert.Ffn3Ideal.Gen.frame m ρ,
  fun m ρ _ => Cert.FfnRef3Ideal.Gen.frame m ρ,
  fun m ρ _ => Cert.Qkv0.Gen.frame m ρ,
  fun m ρ _ => Cert.Qkv0Ideal.Gen.frame m ρ,
  fun m ρ _ => Cert.QkvRef0Ideal.Gen.frame m ρ,
  fun m ρ _ => Cert.Qkv1.Gen.frame m ρ,
  fun m ρ _ => Cert.Qkv1Ideal.Gen.frame m ρ,
  fun m ρ _ => Cert.QkvRef1Ideal.Gen.frame m ρ,
  fun m ρ _ => Cert.Qkv2.Gen.frame m ρ,
  fun m ρ _ => Cert.Qkv2Ideal.Gen.frame m ρ,
  fun m ρ _ => Cert.QkvRef2Ideal.Gen.frame m ρ,
  fun m ρ _ => Cert.Qkv3.Gen.frame m ρ,
  fun m ρ _ => Cert.Qkv3Ideal.Gen.frame m ρ,
  fun m ρ _ => Cert.QkvRef3Ideal.Gen.frame m ρ,
  fun m ρ _ => Cert.Chunk.Gen.frame m ρ True.intro,
  fun m ρ _ => Cert.ChunkIdeal.Gen.frame m ρ True.intro,
  fun m ρ _ => Cert.ChunkRefIdeal.Gen.frame m ρ,
  trivial, ffn0, trivial, ffn1, trivial, ffn2, trivial, ffn3,
  trivial, qkv0, trivial, qkv1, trivial, qkv2, trivial, qkv3,
  trivial, chunk⟩

end Cert.Proof

end
